-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32x8192 : Shape := ⟨3, ![128, 32, 8192]⟩
abbrev S32x8192 : Shape := ⟨2, ![32, 8192]⟩
abbrev S_ : Shape := ⟨0, ![]⟩
abbrev S1 : Shape := ⟨1, ![1]⟩
abbrev S2 : Shape := ⟨1, ![2]⟩
abbrev S3 : Shape := ⟨1, ![3]⟩
abbrev S3x1 : Shape := ⟨2, ![3, 1]⟩
abbrev S3x2 : Shape := ⟨2, ![3, 2]⟩
abbrev S1x2 : Shape := ⟨2, ![1, 2]⟩
abbrev S1x1 : Shape := ⟨2, ![1, 1]⟩
abbrev S128x8192 : Shape := ⟨2, ![128, 8192]⟩
abbrev S128 : Shape := ⟨1, ![128]⟩
abbrev S1x1x1 : Shape := ⟨3, ![1, 1, 1]⟩
abbrev S128x8192x32 : Shape := ⟨3, ![128, 8192, 32]⟩
abbrev S8x32x8192 : Shape := ⟨3, ![8, 32, 8192]⟩
abbrev S1x32x8192 : Shape := ⟨3, ![1, 32, 8192]⟩
abbrev S8192 : Shape := ⟨1, ![8192]⟩
abbrev S1x8192 : Shape := ⟨2, ![1, 8192]⟩
abbrev S32x32 : Shape := ⟨2, ![32, 32]⟩
abbrev S1x32x32 : Shape := ⟨3, ![1, 32, 32]⟩

abbrev nBuf : Space → Nat
  | .hbm => 1066
  | .vmem => 7
  | .smem => 4
  | _ => 0

abbrev hbmTy0_0 (i : Nat) : BufTy := match i % 128 with
  | 0 => ⟨S128x32x8192, .f32⟩
  | 1 => ⟨S32x8192, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S1, .i32⟩
  | 13 => ⟨S_, .i32⟩
  | 14 => ⟨S1, .i32⟩
  | 15 => ⟨S_, .i32⟩
  | 16 => ⟨S3, .i64⟩
  | 17 => ⟨S_, .i64⟩
  | 18 => ⟨S3, .i64⟩
  | 19 => ⟨S3, .i64⟩
  | 20 => ⟨S_, .i64⟩
  | 21 => ⟨S3, .i64⟩
  | 22 => ⟨S3, .i64⟩
  | 23 => ⟨S3, .i32⟩
  | 24 => ⟨S3, .i32⟩
  | 25 => ⟨S_, .i32⟩
  | 26 => ⟨S_, .i32⟩
  | 27 => ⟨S_, .i32⟩
  | 28 => ⟨S3, .i32⟩
  | 29 => ⟨S3, .i32⟩
  | 30 => ⟨S3, .i32⟩
  | 31 => ⟨S3, .i32⟩
  | 32 => ⟨S3, .i32⟩
  | 33 => ⟨S_, .i32⟩
  | 34 => ⟨S3, .i32⟩
  | 35 => ⟨S3, .i32⟩
  | 36 => ⟨S_, .i32⟩
  | 37 => ⟨S3, .i32⟩
  | 38 => ⟨S3, .i32⟩
  | 39 => ⟨S3, .i32⟩
  | 40 => ⟨S3, .i32⟩
  | 41 => ⟨S3, .i32⟩
  | 42 => ⟨S_, .i32⟩
  | 43 => ⟨S3, .i32⟩
  | 44 => ⟨S3, .i32⟩
  | 45 => ⟨S_, .i32⟩
  | 46 => ⟨S3, .i32⟩
  | 47 => ⟨S3, .i32⟩
  | 48 => ⟨S3, .i32⟩
  | 49 => ⟨S3, .i32⟩
  | 50 => ⟨S3, .i32⟩
  | 51 => ⟨S_, .i32⟩
  | 52 => ⟨S3, .i32⟩
  | 53 => ⟨S3, .i32⟩
  | 54 => ⟨S_, .i32⟩
  | 55 => ⟨S3, .i32⟩
  | 56 => ⟨S3, .i32⟩
  | 57 => ⟨S3, .i32⟩
  | 58 => ⟨S3, .i32⟩
  | 59 => ⟨S3, .i32⟩
  | 60 => ⟨S_, .i32⟩
  | 61 => ⟨S3, .i32⟩
  | 62 => ⟨S3, .i32⟩
  | 63 => ⟨S_, .i32⟩
  | 64 => ⟨S3, .i32⟩
  | 65 => ⟨S3, .i32⟩
  | 66 => ⟨S3, .i32⟩
  | 67 => ⟨S3, .i32⟩
  | 68 => ⟨S3, .i32⟩
  | 69 => ⟨S3, .i32⟩
  | 70 => ⟨S3, .i32⟩
  | 71 => ⟨S3, .i32⟩
  | 72 => ⟨S_, .i32⟩
  | 73 => ⟨S3, .i32⟩
  | 74 => ⟨S3, .i32⟩
  | 75 => ⟨S3, .i32⟩
  | 76 => ⟨S_, .i32⟩
  | 77 => ⟨S3, .i32⟩
  | 78 => ⟨S3, .i32⟩
  | 79 => ⟨S_, .i32⟩
  | 80 => ⟨S3, .i32⟩
  | 81 => ⟨S3, .i32⟩
  | 82 => ⟨S3, .i32⟩
  | 83 => ⟨S3, .i32⟩
  | 84 => ⟨S3, .i32⟩
  | 85 => ⟨S_, .i32⟩
  | 86 => ⟨S3, .i32⟩
  | 87 => ⟨S3, .i32⟩
  | 88 => ⟨S_, .i32⟩
  | 89 => ⟨S3, .i32⟩
  | 90 => ⟨S3, .i32⟩
  | 91 => ⟨S3, .i32⟩
  | 92 => ⟨S3, .i32⟩
  | 93 => ⟨S3, .i32⟩
  | 94 => ⟨S_, .i32⟩
  | 95 => ⟨S3, .i32⟩
  | 96 => ⟨S3, .i32⟩
  | 97 => ⟨S_, .i32⟩
  | 98 => ⟨S3, .i32⟩
  | 99 => ⟨S3, .i32⟩
  | 100 => ⟨S3, .i32⟩
  | 101 => ⟨S3, .i32⟩
  | 102 => ⟨S3, .i32⟩
  | 103 => ⟨S_, .i32⟩
  | 104 => ⟨S3, .i32⟩
  | 105 => ⟨S3, .i32⟩
  | 106 => ⟨S_, .i32⟩
  | 107 => ⟨S3, .i32⟩
  | 108 => ⟨S3, .i32⟩
  | 109 => ⟨S3, .i32⟩
  | 110 => ⟨S3, .i32⟩
  | 111 => ⟨S3, .i32⟩
  | 112 => ⟨S3, .i32⟩
  | 113 => ⟨S3, .i32⟩
  | 114 => ⟨S3, .i32⟩
  | 115 => ⟨S_, .i32⟩
  | 116 => ⟨S3, .i32⟩
  | 117 => ⟨S3, .i32⟩
  | 118 => ⟨S3, .i32⟩
  | 119 => ⟨S_, .i32⟩
  | 120 => ⟨S3, .i32⟩
  | 121 => ⟨S3, .i32⟩
  | 122 => ⟨S_, .i32⟩
  | 123 => ⟨S3, .i32⟩
  | 124 => ⟨S3, .i32⟩
  | 125 => ⟨S3, .i32⟩
  | 126 => ⟨S3, .i32⟩
  | 127 => ⟨S3, .i32⟩
  | _ => ⟨S128x32x8192, .f32⟩

abbrev hbmTy0_1 (i : Nat) : BufTy := match i % 128 with
  | 0 => ⟨S_, .i32⟩
  | 1 => ⟨S3, .i32⟩
  | 2 => ⟨S3, .i32⟩
  | 3 => ⟨S_, .i32⟩
  | 4 => ⟨S3, .i32⟩
  | 5 => ⟨S3, .i32⟩
  | 6 => ⟨S3, .i32⟩
  | 7 => ⟨S3, .i32⟩
  | 8 => ⟨S3, .i32⟩
  | 9 => ⟨S_, .i32⟩
  | 10 => ⟨S3, .i32⟩
  | 11 => ⟨S3, .i32⟩
  | 12 => ⟨S_, .i32⟩
  | 13 => ⟨S3, .i32⟩
  | 14 => ⟨S3, .i32⟩
  | 15 => ⟨S3, .i32⟩
  | 16 => ⟨S3, .i32⟩
  | 17 => ⟨S3, .i32⟩
  | 18 => ⟨S_, .i32⟩
  | 19 => ⟨S3, .i32⟩
  | 20 => ⟨S3, .i32⟩
  | 21 => ⟨S_, .i32⟩
  | 22 => ⟨S3, .i32⟩
  | 23 => ⟨S3, .i32⟩
  | 24 => ⟨S3, .i32⟩
  | 25 => ⟨S3, .i32⟩
  | 26 => ⟨S3, .i32⟩
  | 27 => ⟨S3, .i32⟩
  | 28 => ⟨S3, .i32⟩
  | 29 => ⟨S3, .i32⟩
  | 30 => ⟨S_, .i32⟩
  | 31 => ⟨S3, .i32⟩
  | 32 => ⟨S3, .i32⟩
  | 33 => ⟨S3, .i32⟩
  | 34 => ⟨S_, .i32⟩
  | 35 => ⟨S3, .i32⟩
  | 36 => ⟨S3, .i32⟩
  | 37 => ⟨S_, .i32⟩
  | 38 => ⟨S3, .i32⟩
  | 39 => ⟨S3, .i32⟩
  | 40 => ⟨S3, .i32⟩
  | 41 => ⟨S3, .i32⟩
  | 42 => ⟨S3, .i32⟩
  | 43 => ⟨S_, .i32⟩
  | 44 => ⟨S3, .i32⟩
  | 45 => ⟨S3, .i32⟩
  | 46 => ⟨S_, .i32⟩
  | 47 => ⟨S3, .i32⟩
  | 48 => ⟨S3, .i32⟩
  | 49 => ⟨S3, .i32⟩
  | 50 => ⟨S3, .i32⟩
  | 51 => ⟨S3, .i32⟩
  | 52 => ⟨S_, .i32⟩
  | 53 => ⟨S3, .i32⟩
  | 54 => ⟨S3, .i32⟩
  | 55 => ⟨S_, .i32⟩
  | 56 => ⟨S3, .i32⟩
  | 57 => ⟨S3, .i32⟩
  | 58 => ⟨S3, .i32⟩
  | 59 => ⟨S3, .i32⟩
  | 60 => ⟨S3, .i32⟩
  | 61 => ⟨S_, .i32⟩
  | 62 => ⟨S3, .i32⟩
  | 63 => ⟨S3, .i32⟩
  | 64 => ⟨S_, .i32⟩
  | 65 => ⟨S3, .i32⟩
  | 66 => ⟨S3, .i32⟩
  | 67 => ⟨S3, .i32⟩
  | 68 => ⟨S3, .i32⟩
  | 69 => ⟨S3, .i32⟩
  | 70 => ⟨S3, .i32⟩
  | 71 => ⟨S3, .i32⟩
  | 72 => ⟨S3, .i32⟩
  | 73 => ⟨S_, .i32⟩
  | 74 => ⟨S3, .i32⟩
  | 75 => ⟨S3, .i32⟩
  | 76 => ⟨S3, .i32⟩
  | 77 => ⟨S_, .i32⟩
  | 78 => ⟨S3, .i32⟩
  | 79 => ⟨S3, .i32⟩
  | 80 => ⟨S_, .i32⟩
  | 81 => ⟨S3, .i32⟩
  | 82 => ⟨S3, .i32⟩
  | 83 => ⟨S3, .i32⟩
  | 84 => ⟨S3, .i32⟩
  | 85 => ⟨S3, .i32⟩
  | 86 => ⟨S_, .i32⟩
  | 87 => ⟨S3, .i32⟩
  | 88 => ⟨S3, .i32⟩
  | 89 => ⟨S_, .i32⟩
  | 90 => ⟨S3, .i32⟩
  | 91 => ⟨S3, .i32⟩
  | 92 => ⟨S3, .i32⟩
  | 93 => ⟨S3, .i32⟩
  | 94 => ⟨S3, .i32⟩
  | 95 => ⟨S_, .i32⟩
  | 96 => ⟨S3, .i32⟩
  | 97 => ⟨S3, .i32⟩
  | 98 => ⟨S_, .i32⟩
  | 99 => ⟨S3, .i32⟩
  | 100 => ⟨S3, .i32⟩
  | 101 => ⟨S3, .i32⟩
  | 102 => ⟨S3, .i32⟩
  | 103 => ⟨S3, .i32⟩
  | 104 => ⟨S_, .i32⟩
  | 105 => ⟨S3, .i32⟩
  | 106 => ⟨S3, .i32⟩
  | 107 => ⟨S_, .i32⟩
  | 108 => ⟨S3, .i32⟩
  | 109 => ⟨S3, .i32⟩
  | 110 => ⟨S3, .i32⟩
  | 111 => ⟨S3, .i32⟩
  | 112 => ⟨S3, .i32⟩
  | 113 => ⟨S3, .i32⟩
  | 114 => ⟨S3, .i32⟩
  | 115 => ⟨S3, .i32⟩
  | 116 => ⟨S_, .i32⟩
  | 117 => ⟨S3, .i32⟩
  | 118 => ⟨S3, .i32⟩
  | 119 => ⟨S3x1, .i32⟩
  | 120 => ⟨S3x1, .i32⟩
  | 121 => ⟨S3x2, .i32⟩
  | 122 => ⟨S1x2, .i32⟩
  | 123 => ⟨S2, .i32⟩
  | 124 => ⟨S1x2, .i32⟩
  | 125 => ⟨S2, .i32⟩
  | 126 => ⟨S1x2, .i32⟩
  | 127 => ⟨S2, .i32⟩
  | _ => ⟨S128x32x8192, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S1x1, .f32⟩
  | 5 => ⟨S1x1, .f32⟩
  | 6 => ⟨S1, .i32⟩
  | 7 => ⟨S_, .i32⟩
  | 8 => ⟨S1, .i32⟩
  | 9 => ⟨S_, .i32⟩
  | 10 => ⟨S128x8192, .i64⟩
  | 11 => ⟨S128x8192, .i64⟩
  | 12 => ⟨S_, .i64⟩
  | 13 => ⟨S128x8192, .i64⟩
  | 14 => ⟨S128x8192, .i64⟩
  | 15 => ⟨S_, .i64⟩
  | 16 => ⟨S128x8192, .i64⟩
  | 17 => ⟨S128x8192, .i64⟩
  | 18 => ⟨S128x8192, .i64⟩
  | 19 => ⟨S_, .i64⟩
  | 20 => ⟨S128x8192, .i64⟩
  | 21 => ⟨S128x8192, .i64⟩
  | 22 => ⟨S128x8192, .i32⟩
  | 23 => ⟨S128x8192, .i32⟩
  | 24 => ⟨S_, .i32⟩
  | 25 => ⟨S_, .i32⟩
  | 26 => ⟨S_, .i32⟩
  | 27 => ⟨S128x8192, .i32⟩
  | 28 => ⟨S128x8192, .i32⟩
  | 29 => ⟨S128x8192, .i32⟩
  | 30 => ⟨S128x8192, .i32⟩
  | 31 => ⟨S128x8192, .i32⟩
  | 32 => ⟨S_, .i32⟩
  | 33 => ⟨S128x8192, .i32⟩
  | 34 => ⟨S128x8192, .i32⟩
  | 35 => ⟨S_, .i32⟩
  | 36 => ⟨S128x8192, .i32⟩
  | 37 => ⟨S128x8192, .i32⟩
  | 38 => ⟨S128x8192, .i32⟩
  | 39 => ⟨S128x8192, .i32⟩
  | 40 => ⟨S128x8192, .i32⟩
  | 41 => ⟨S_, .i32⟩
  | 42 => ⟨S128x8192, .i32⟩
  | 43 => ⟨S128x8192, .i32⟩
  | 44 => ⟨S_, .i32⟩
  | 45 => ⟨S128x8192, .i32⟩
  | 46 => ⟨S128x8192, .i32⟩
  | 47 => ⟨S128x8192, .i32⟩
  | 48 => ⟨S128x8192, .i32⟩
  | 49 => ⟨S128x8192, .i32⟩
  | 50 => ⟨S_, .i32⟩
  | 51 => ⟨S128x8192, .i32⟩
  | 52 => ⟨S128x8192, .i32⟩
  | 53 => ⟨S_, .i32⟩
  | 54 => ⟨S128x8192, .i32⟩
  | 55 => ⟨S128x8192, .i32⟩
  | 56 => ⟨S128x8192, .i32⟩
  | 57 => ⟨S128x8192, .i32⟩
  | 58 => ⟨S128x8192, .i32⟩
  | 59 => ⟨S_, .i32⟩
  | 60 => ⟨S128x8192, .i32⟩
  | 61 => ⟨S128x8192, .i32⟩
  | 62 => ⟨S_, .i32⟩
  | 63 => ⟨S128x8192, .i32⟩
  | 64 => ⟨S128x8192, .i32⟩
  | 65 => ⟨S128x8192, .i32⟩
  | 66 => ⟨S128x8192, .i32⟩
  | 67 => ⟨S128x8192, .i32⟩
  | 68 => ⟨S128x8192, .i32⟩
  | 69 => ⟨S128x8192, .i32⟩
  | 70 => ⟨S128x8192, .i32⟩
  | 71 => ⟨S_, .i32⟩
  | 72 => ⟨S128x8192, .i32⟩
  | 73 => ⟨S128x8192, .i32⟩
  | 74 => ⟨S128x8192, .i32⟩
  | 75 => ⟨S_, .i32⟩
  | 76 => ⟨S128x8192, .i32⟩
  | 77 => ⟨S128x8192, .i32⟩
  | 78 => ⟨S_, .i32⟩
  | 79 => ⟨S128x8192, .i32⟩
  | 80 => ⟨S128x8192, .i32⟩
  | 81 => ⟨S128x8192, .i32⟩
  | 82 => ⟨S128x8192, .i32⟩
  | 83 => ⟨S128x8192, .i32⟩
  | 84 => ⟨S_, .i32⟩
  | 85 => ⟨S128x8192, .i32⟩
  | 86 => ⟨S128x8192, .i32⟩
  | 87 => ⟨S_, .i32⟩
  | 88 => ⟨S128x8192, .i32⟩
  | 89 => ⟨S128x8192, .i32⟩
  | 90 => ⟨S128x8192, .i32⟩
  | 91 => ⟨S128x8192, .i32⟩
  | 92 => ⟨S128x8192, .i32⟩
  | 93 => ⟨S_, .i32⟩
  | 94 => ⟨S128x8192, .i32⟩
  | 95 => ⟨S128x8192, .i32⟩
  | 96 => ⟨S_, .i32⟩
  | 97 => ⟨S128x8192, .i32⟩
  | 98 => ⟨S128x8192, .i32⟩
  | 99 => ⟨S128x8192, .i32⟩
  | 100 => ⟨S128x8192, .i32⟩
  | 101 => ⟨S128x8192, .i32⟩
  | 102 => ⟨S_, .i32⟩
  | 103 => ⟨S128x8192, .i32⟩
  | 104 => ⟨S128x8192, .i32⟩
  | 105 => ⟨S_, .i32⟩
  | 106 => ⟨S128x8192, .i32⟩
  | 107 => ⟨S128x8192, .i32⟩
  | 108 => ⟨S128x8192, .i32⟩
  | 109 => ⟨S128x8192, .i32⟩
  | 110 => ⟨S128x8192, .i32⟩
  | 111 => ⟨S128x8192, .i32⟩
  | 112 => ⟨S128x8192, .i32⟩
  | 113 => ⟨S128x8192, .i32⟩
  | 114 => ⟨S_, .i32⟩
  | 115 => ⟨S128x8192, .i32⟩
  | 116 => ⟨S128x8192, .i32⟩
  | 117 => ⟨S128x8192, .i32⟩
  | 118 => ⟨S_, .i32⟩
  | 119 => ⟨S128x8192, .i32⟩
  | 120 => ⟨S128x8192, .i32⟩
  | 121 => ⟨S_, .i32⟩
  | 122 => ⟨S128x8192, .i32⟩
  | 123 => ⟨S128x8192, .i32⟩
  | 124 => ⟨S128x8192, .i32⟩
  | 125 => ⟨S128x8192, .i32⟩
  | 126 => ⟨S128x8192, .i32⟩
  | 127 => ⟨S_, .i32⟩
  | _ => ⟨S128x32x8192, .f32⟩

abbrev hbmTy0_3 (i : Nat) : BufTy := match i % 128 with
  | 0 => ⟨S128x8192, .i32⟩
  | 1 => ⟨S128x8192, .i32⟩
  | 2 => ⟨S_, .i32⟩
  | 3 => ⟨S128x8192, .i32⟩
  | 4 => ⟨S128x8192, .i32⟩
  | 5 => ⟨S128x8192, .i32⟩
  | 6 => ⟨S128x8192, .i32⟩
  | 7 => ⟨S128x8192, .i32⟩
  | 8 => ⟨S_, .i32⟩
  | 9 => ⟨S128x8192, .i32⟩
  | 10 => ⟨S128x8192, .i32⟩
  | 11 => ⟨S_, .i32⟩
  | 12 => ⟨S128x8192, .i32⟩
  | 13 => ⟨S128x8192, .i32⟩
  | 14 => ⟨S128x8192, .i32⟩
  | 15 => ⟨S128x8192, .i32⟩
  | 16 => ⟨S128x8192, .i32⟩
  | 17 => ⟨S_, .i32⟩
  | 18 => ⟨S128x8192, .i32⟩
  | 19 => ⟨S128x8192, .i32⟩
  | 20 => ⟨S_, .i32⟩
  | 21 => ⟨S128x8192, .i32⟩
  | 22 => ⟨S128x8192, .i32⟩
  | 23 => ⟨S128x8192, .i32⟩
  | 24 => ⟨S128x8192, .i32⟩
  | 25 => ⟨S128x8192, .i32⟩
  | 26 => ⟨S128x8192, .i32⟩
  | 27 => ⟨S128x8192, .i32⟩
  | 28 => ⟨S128x8192, .i32⟩
  | 29 => ⟨S_, .i32⟩
  | 30 => ⟨S128x8192, .i32⟩
  | 31 => ⟨S128x8192, .i32⟩
  | 32 => ⟨S128x8192, .i32⟩
  | 33 => ⟨S_, .i32⟩
  | 34 => ⟨S128x8192, .i32⟩
  | 35 => ⟨S128x8192, .i32⟩
  | 36 => ⟨S_, .i32⟩
  | 37 => ⟨S128x8192, .i32⟩
  | 38 => ⟨S128x8192, .i32⟩
  | 39 => ⟨S128x8192, .i32⟩
  | 40 => ⟨S128x8192, .i32⟩
  | 41 => ⟨S128x8192, .i32⟩
  | 42 => ⟨S_, .i32⟩
  | 43 => ⟨S128x8192, .i32⟩
  | 44 => ⟨S128x8192, .i32⟩
  | 45 => ⟨S_, .i32⟩
  | 46 => ⟨S128x8192, .i32⟩
  | 47 => ⟨S128x8192, .i32⟩
  | 48 => ⟨S128x8192, .i32⟩
  | 49 => ⟨S128x8192, .i32⟩
  | 50 => ⟨S128x8192, .i32⟩
  | 51 => ⟨S_, .i32⟩
  | 52 => ⟨S128x8192, .i32⟩
  | 53 => ⟨S128x8192, .i32⟩
  | 54 => ⟨S_, .i32⟩
  | 55 => ⟨S128x8192, .i32⟩
  | 56 => ⟨S128x8192, .i32⟩
  | 57 => ⟨S128x8192, .i32⟩
  | 58 => ⟨S128x8192, .i32⟩
  | 59 => ⟨S128x8192, .i32⟩
  | 60 => ⟨S_, .i32⟩
  | 61 => ⟨S128x8192, .i32⟩
  | 62 => ⟨S128x8192, .i32⟩
  | 63 => ⟨S_, .i32⟩
  | 64 => ⟨S128x8192, .i32⟩
  | 65 => ⟨S128x8192, .i32⟩
  | 66 => ⟨S128x8192, .i32⟩
  | 67 => ⟨S128x8192, .i32⟩
  | 68 => ⟨S128x8192, .i32⟩
  | 69 => ⟨S128x8192, .i32⟩
  | 70 => ⟨S128x8192, .i32⟩
  | 71 => ⟨S128x8192, .i32⟩
  | 72 => ⟨S_, .i32⟩
  | 73 => ⟨S128x8192, .i32⟩
  | 74 => ⟨S128x8192, .i32⟩
  | 75 => ⟨S128x8192, .i32⟩
  | 76 => ⟨S_, .i32⟩
  | 77 => ⟨S128x8192, .i32⟩
  | 78 => ⟨S128x8192, .i32⟩
  | 79 => ⟨S_, .i32⟩
  | 80 => ⟨S128x8192, .i32⟩
  | 81 => ⟨S128x8192, .i32⟩
  | 82 => ⟨S128x8192, .i32⟩
  | 83 => ⟨S128x8192, .i32⟩
  | 84 => ⟨S128x8192, .i32⟩
  | 85 => ⟨S_, .i32⟩
  | 86 => ⟨S128x8192, .i32⟩
  | 87 => ⟨S128x8192, .i32⟩
  | 88 => ⟨S_, .i32⟩
  | 89 => ⟨S128x8192, .i32⟩
  | 90 => ⟨S128x8192, .i32⟩
  | 91 => ⟨S128x8192, .i32⟩
  | 92 => ⟨S128x8192, .i32⟩
  | 93 => ⟨S128x8192, .i32⟩
  | 94 => ⟨S_, .i32⟩
  | 95 => ⟨S128x8192, .i32⟩
  | 96 => ⟨S128x8192, .i32⟩
  | 97 => ⟨S_, .i32⟩
  | 98 => ⟨S128x8192, .i32⟩
  | 99 => ⟨S128x8192, .i32⟩
  | 100 => ⟨S128x8192, .i32⟩
  | 101 => ⟨S128x8192, .i32⟩
  | 102 => ⟨S128x8192, .i32⟩
  | 103 => ⟨S_, .i32⟩
  | 104 => ⟨S128x8192, .i32⟩
  | 105 => ⟨S128x8192, .i32⟩
  | 106 => ⟨S_, .i32⟩
  | 107 => ⟨S128x8192, .i32⟩
  | 108 => ⟨S128x8192, .i32⟩
  | 109 => ⟨S128x8192, .i32⟩
  | 110 => ⟨S128x8192, .i32⟩
  | 111 => ⟨S128x8192, .i32⟩
  | 112 => ⟨S128x8192, .i32⟩
  | 113 => ⟨S128x8192, .i32⟩
  | 114 => ⟨S128x8192, .i32⟩
  | 115 => ⟨S_, .i32⟩
  | 116 => ⟨S128x8192, .i32⟩
  | 117 => ⟨S128x8192, .i32⟩
  | 118 => ⟨S128x8192, .i32⟩
  | 119 => ⟨S_, .i32⟩
  | 120 => ⟨S128x8192, .i32⟩
  | 121 => ⟨S128x8192, .i32⟩
  | 122 => ⟨S_, .i32⟩
  | 123 => ⟨S128x8192, .i32⟩
  | 124 => ⟨S128x8192, .i32⟩
  | 125 => ⟨S128x8192, .f32⟩
  | 126 => ⟨S_, .f32⟩
  | 127 => ⟨S128x8192, .f32⟩
  | _ => ⟨S128x32x8192, .f32⟩

abbrev hbmTy0_4 (i : Nat) : BufTy := match i % 128 with
  | 0 => ⟨S128x8192, .f32⟩
  | 1 => ⟨S1x1, .f32⟩
  | 2 => ⟨S128x8192, .f32⟩
  | 3 => ⟨S128x8192, .f32⟩
  | 4 => ⟨S128x8192, .f32⟩
  | 5 => ⟨S128x8192, .f32⟩
  | 6 => ⟨S128x8192, .f32⟩
  | 7 => ⟨S128x8192, .f32⟩
  | 8 => ⟨S128x8192, .i32⟩
  | 9 => ⟨S_, .f32⟩
  | 10 => ⟨S_, .i32⟩
  | 11 => ⟨S128, .f32⟩
  | 12 => ⟨S128, .i32⟩
  | 13 => ⟨S_, .f32⟩
  | 14 => ⟨S_, .f32⟩
  | 15 => ⟨S_, .f32⟩
  | 16 => ⟨S1x1x1, .f32⟩
  | 17 => ⟨S1x1x1, .f32⟩
  | 18 => ⟨S1, .i32⟩
  | 19 => ⟨S_, .i32⟩
  | 20 => ⟨S1, .i32⟩
  | 21 => ⟨S_, .i32⟩
  | 22 => ⟨S128x8192x32, .i64⟩
  | 23 => ⟨S128x8192x32, .i64⟩
  | 24 => ⟨S128x8192x32, .i64⟩
  | 25 => ⟨S_, .i64⟩
  | 26 => ⟨S128x8192x32, .i64⟩
  | 27 => ⟨S128x8192x32, .i64⟩
  | 28 => ⟨S_, .i64⟩
  | 29 => ⟨S128x8192x32, .i64⟩
  | 30 => ⟨S128x8192x32, .i64⟩
  | 31 => ⟨S_, .i64⟩
  | 32 => ⟨S128x8192x32, .i64⟩
  | 33 => ⟨S128x8192x32, .i64⟩
  | 34 => ⟨S128x8192x32, .i64⟩
  | 35 => ⟨S128x8192x32, .i64⟩
  | 36 => ⟨S_, .i64⟩
  | 37 => ⟨S128x8192x32, .i64⟩
  | 38 => ⟨S128x8192x32, .i64⟩
  | 39 => ⟨S128x8192x32, .i32⟩
  | 40 => ⟨S128x8192x32, .i32⟩
  | 41 => ⟨S_, .i32⟩
  | 42 => ⟨S_, .i32⟩
  | 43 => ⟨S_, .i32⟩
  | 44 => ⟨S128x8192x32, .i32⟩
  | 45 => ⟨S128x8192x32, .i32⟩
  | 46 => ⟨S128x8192x32, .i32⟩
  | 47 => ⟨S128x8192x32, .i32⟩
  | 48 => ⟨S128x8192x32, .i32⟩
  | 49 => ⟨S_, .i32⟩
  | 50 => ⟨S128x8192x32, .i32⟩
  | 51 => ⟨S128x8192x32, .i32⟩
  | 52 => ⟨S_, .i32⟩
  | 53 => ⟨S128x8192x32, .i32⟩
  | 54 => ⟨S128x8192x32, .i32⟩
  | 55 => ⟨S128x8192x32, .i32⟩
  | 56 => ⟨S128x8192x32, .i32⟩
  | 57 => ⟨S128x8192x32, .i32⟩
  | 58 => ⟨S_, .i32⟩
  | 59 => ⟨S128x8192x32, .i32⟩
  | 60 => ⟨S128x8192x32, .i32⟩
  | 61 => ⟨S_, .i32⟩
  | 62 => ⟨S128x8192x32, .i32⟩
  | 63 => ⟨S128x8192x32, .i32⟩
  | 64 => ⟨S128x8192x32, .i32⟩
  | 65 => ⟨S128x8192x32, .i32⟩
  | 66 => ⟨S128x8192x32, .i32⟩
  | 67 => ⟨S_, .i32⟩
  | 68 => ⟨S128x8192x32, .i32⟩
  | 69 => ⟨S128x8192x32, .i32⟩
  | 70 => ⟨S_, .i32⟩
  | 71 => ⟨S128x8192x32, .i32⟩
  | 72 => ⟨S128x8192x32, .i32⟩
  | 73 => ⟨S128x8192x32, .i32⟩
  | 74 => ⟨S128x8192x32, .i32⟩
  | 75 => ⟨S128x8192x32, .i32⟩
  | 76 => ⟨S_, .i32⟩
  | 77 => ⟨S128x8192x32, .i32⟩
  | 78 => ⟨S128x8192x32, .i32⟩
  | 79 => ⟨S_, .i32⟩
  | 80 => ⟨S128x8192x32, .i32⟩
  | 81 => ⟨S128x8192x32, .i32⟩
  | 82 => ⟨S128x8192x32, .i32⟩
  | 83 => ⟨S128x8192x32, .i32⟩
  | 84 => ⟨S128x8192x32, .i32⟩
  | 85 => ⟨S128x8192x32, .i32⟩
  | 86 => ⟨S128x8192x32, .i32⟩
  | 87 => ⟨S128x8192x32, .i32⟩
  | 88 => ⟨S_, .i32⟩
  | 89 => ⟨S128x8192x32, .i32⟩
  | 90 => ⟨S128x8192x32, .i32⟩
  | 91 => ⟨S128x8192x32, .i32⟩
  | 92 => ⟨S_, .i32⟩
  | 93 => ⟨S128x8192x32, .i32⟩
  | 94 => ⟨S128x8192x32, .i32⟩
  | 95 => ⟨S_, .i32⟩
  | 96 => ⟨S128x8192x32, .i32⟩
  | 97 => ⟨S128x8192x32, .i32⟩
  | 98 => ⟨S128x8192x32, .i32⟩
  | 99 => ⟨S128x8192x32, .i32⟩
  | 100 => ⟨S128x8192x32, .i32⟩
  | 101 => ⟨S_, .i32⟩
  | 102 => ⟨S128x8192x32, .i32⟩
  | 103 => ⟨S128x8192x32, .i32⟩
  | 104 => ⟨S_, .i32⟩
  | 105 => ⟨S128x8192x32, .i32⟩
  | 106 => ⟨S128x8192x32, .i32⟩
  | 107 => ⟨S128x8192x32, .i32⟩
  | 108 => ⟨S128x8192x32, .i32⟩
  | 109 => ⟨S128x8192x32, .i32⟩
  | 110 => ⟨S_, .i32⟩
  | 111 => ⟨S128x8192x32, .i32⟩
  | 112 => ⟨S128x8192x32, .i32⟩
  | 113 => ⟨S_, .i32⟩
  | 114 => ⟨S128x8192x32, .i32⟩
  | 115 => ⟨S128x8192x32, .i32⟩
  | 116 => ⟨S128x8192x32, .i32⟩
  | 117 => ⟨S128x8192x32, .i32⟩
  | 118 => ⟨S128x8192x32, .i32⟩
  | 119 => ⟨S_, .i32⟩
  | 120 => ⟨S128x8192x32, .i32⟩
  | 121 => ⟨S128x8192x32, .i32⟩
  | 122 => ⟨S_, .i32⟩
  | 123 => ⟨S128x8192x32, .i32⟩
  | 124 => ⟨S128x8192x32, .i32⟩
  | 125 => ⟨S128x8192x32, .i32⟩
  | 126 => ⟨S128x8192x32, .i32⟩
  | 127 => ⟨S128x8192x32, .i32⟩
  | _ => ⟨S128x32x8192, .f32⟩

abbrev hbmTy0_5 (i : Nat) : BufTy := match i % 128 with
  | 0 => ⟨S128x8192x32, .i32⟩
  | 1 => ⟨S128x8192x32, .i32⟩
  | 2 => ⟨S128x8192x32, .i32⟩
  | 3 => ⟨S_, .i32⟩
  | 4 => ⟨S128x8192x32, .i32⟩
  | 5 => ⟨S128x8192x32, .i32⟩
  | 6 => ⟨S128x8192x32, .i32⟩
  | 7 => ⟨S_, .i32⟩
  | 8 => ⟨S128x8192x32, .i32⟩
  | 9 => ⟨S128x8192x32, .i32⟩
  | 10 => ⟨S_, .i32⟩
  | 11 => ⟨S128x8192x32, .i32⟩
  | 12 => ⟨S128x8192x32, .i32⟩
  | 13 => ⟨S128x8192x32, .i32⟩
  | 14 => ⟨S128x8192x32, .i32⟩
  | 15 => ⟨S128x8192x32, .i32⟩
  | 16 => ⟨S_, .i32⟩
  | 17 => ⟨S128x8192x32, .i32⟩
  | 18 => ⟨S128x8192x32, .i32⟩
  | 19 => ⟨S_, .i32⟩
  | 20 => ⟨S128x8192x32, .i32⟩
  | 21 => ⟨S128x8192x32, .i32⟩
  | 22 => ⟨S128x8192x32, .i32⟩
  | 23 => ⟨S128x8192x32, .i32⟩
  | 24 => ⟨S128x8192x32, .i32⟩
  | 25 => ⟨S_, .i32⟩
  | 26 => ⟨S128x8192x32, .i32⟩
  | 27 => ⟨S128x8192x32, .i32⟩
  | 28 => ⟨S_, .i32⟩
  | 29 => ⟨S128x8192x32, .i32⟩
  | 30 => ⟨S128x8192x32, .i32⟩
  | 31 => ⟨S128x8192x32, .i32⟩
  | 32 => ⟨S128x8192x32, .i32⟩
  | 33 => ⟨S128x8192x32, .i32⟩
  | 34 => ⟨S_, .i32⟩
  | 35 => ⟨S128x8192x32, .i32⟩
  | 36 => ⟨S128x8192x32, .i32⟩
  | 37 => ⟨S_, .i32⟩
  | 38 => ⟨S128x8192x32, .i32⟩
  | 39 => ⟨S128x8192x32, .i32⟩
  | 40 => ⟨S128x8192x32, .i32⟩
  | 41 => ⟨S128x8192x32, .i32⟩
  | 42 => ⟨S128x8192x32, .i32⟩
  | 43 => ⟨S128x8192x32, .i32⟩
  | 44 => ⟨S128x8192x32, .i32⟩
  | 45 => ⟨S128x8192x32, .i32⟩
  | 46 => ⟨S_, .i32⟩
  | 47 => ⟨S128x8192x32, .i32⟩
  | 48 => ⟨S128x8192x32, .i32⟩
  | 49 => ⟨S128x8192x32, .i32⟩
  | 50 => ⟨S_, .i32⟩
  | 51 => ⟨S128x8192x32, .i32⟩
  | 52 => ⟨S128x8192x32, .i32⟩
  | 53 => ⟨S_, .i32⟩
  | 54 => ⟨S128x8192x32, .i32⟩
  | 55 => ⟨S128x8192x32, .i32⟩
  | 56 => ⟨S128x8192x32, .i32⟩
  | 57 => ⟨S128x8192x32, .i32⟩
  | 58 => ⟨S128x8192x32, .i32⟩
  | 59 => ⟨S_, .i32⟩
  | 60 => ⟨S128x8192x32, .i32⟩
  | 61 => ⟨S128x8192x32, .i32⟩
  | 62 => ⟨S_, .i32⟩
  | 63 => ⟨S128x8192x32, .i32⟩
  | 64 => ⟨S128x8192x32, .i32⟩
  | 65 => ⟨S128x8192x32, .i32⟩
  | 66 => ⟨S128x8192x32, .i32⟩
  | 67 => ⟨S128x8192x32, .i32⟩
  | 68 => ⟨S_, .i32⟩
  | 69 => ⟨S128x8192x32, .i32⟩
  | 70 => ⟨S128x8192x32, .i32⟩
  | 71 => ⟨S_, .i32⟩
  | 72 => ⟨S128x8192x32, .i32⟩
  | 73 => ⟨S128x8192x32, .i32⟩
  | 74 => ⟨S128x8192x32, .i32⟩
  | 75 => ⟨S128x8192x32, .i32⟩
  | 76 => ⟨S128x8192x32, .i32⟩
  | 77 => ⟨S_, .i32⟩
  | 78 => ⟨S128x8192x32, .i32⟩
  | 79 => ⟨S128x8192x32, .i32⟩
  | 80 => ⟨S_, .i32⟩
  | 81 => ⟨S128x8192x32, .i32⟩
  | 82 => ⟨S128x8192x32, .i32⟩
  | 83 => ⟨S128x8192x32, .i32⟩
  | 84 => ⟨S128x8192x32, .i32⟩
  | 85 => ⟨S128x8192x32, .i32⟩
  | 86 => ⟨S128x8192x32, .i32⟩
  | 87 => ⟨S128x8192x32, .i32⟩
  | 88 => ⟨S128x8192x32, .i32⟩
  | 89 => ⟨S_, .i32⟩
  | 90 => ⟨S128x8192x32, .i32⟩
  | 91 => ⟨S128x8192x32, .i32⟩
  | 92 => ⟨S128x8192x32, .i32⟩
  | 93 => ⟨S_, .i32⟩
  | 94 => ⟨S128x8192x32, .i32⟩
  | 95 => ⟨S128x8192x32, .i32⟩
  | 96 => ⟨S_, .i32⟩
  | 97 => ⟨S128x8192x32, .i32⟩
  | 98 => ⟨S128x8192x32, .i32⟩
  | 99 => ⟨S128x8192x32, .i32⟩
  | 100 => ⟨S128x8192x32, .i32⟩
  | 101 => ⟨S128x8192x32, .i32⟩
  | 102 => ⟨S_, .i32⟩
  | 103 => ⟨S128x8192x32, .i32⟩
  | 104 => ⟨S128x8192x32, .i32⟩
  | 105 => ⟨S_, .i32⟩
  | 106 => ⟨S128x8192x32, .i32⟩
  | 107 => ⟨S128x8192x32, .i32⟩
  | 108 => ⟨S128x8192x32, .i32⟩
  | 109 => ⟨S128x8192x32, .i32⟩
  | 110 => ⟨S128x8192x32, .i32⟩
  | 111 => ⟨S_, .i32⟩
  | 112 => ⟨S128x8192x32, .i32⟩
  | 113 => ⟨S128x8192x32, .i32⟩
  | 114 => ⟨S_, .i32⟩
  | 115 => ⟨S128x8192x32, .i32⟩
  | 116 => ⟨S128x8192x32, .i32⟩
  | 117 => ⟨S128x8192x32, .i32⟩
  | 118 => ⟨S128x8192x32, .i32⟩
  | 119 => ⟨S128x8192x32, .i32⟩
  | 120 => ⟨S_, .i32⟩
  | 121 => ⟨S128x8192x32, .i32⟩
  | 122 => ⟨S128x8192x32, .i32⟩
  | 123 => ⟨S_, .i32⟩
  | 124 => ⟨S128x8192x32, .i32⟩
  | 125 => ⟨S128x8192x32, .i32⟩
  | 126 => ⟨S128x8192x32, .i32⟩
  | 127 => ⟨S128x8192x32, .i32⟩
  | _ => ⟨S128x32x8192, .f32⟩

abbrev hbmTy0_6 (i : Nat) : BufTy := match i % 128 with
  | 0 => ⟨S128x8192x32, .i32⟩
  | 1 => ⟨S128x8192x32, .i32⟩
  | 2 => ⟨S128x8192x32, .i32⟩
  | 3 => ⟨S128x8192x32, .i32⟩
  | 4 => ⟨S_, .i32⟩
  | 5 => ⟨S128x8192x32, .i32⟩
  | 6 => ⟨S128x8192x32, .i32⟩
  | 7 => ⟨S128x8192x32, .i32⟩
  | 8 => ⟨S_, .i32⟩
  | 9 => ⟨S128x8192x32, .i32⟩
  | 10 => ⟨S128x8192x32, .i32⟩
  | 11 => ⟨S_, .i32⟩
  | 12 => ⟨S128x8192x32, .i32⟩
  | 13 => ⟨S128x8192x32, .i32⟩
  | 14 => ⟨S128x8192x32, .f32⟩
  | 15 => ⟨S_, .f32⟩
  | 16 => ⟨S128x8192x32, .f32⟩
  | 17 => ⟨S128x8192x32, .f32⟩
  | 18 => ⟨S1x1x1, .f32⟩
  | 19 => ⟨S128x8192x32, .f32⟩
  | 20 => ⟨S128x8192x32, .f32⟩
  | 21 => ⟨S128x8192x32, .f32⟩
  | 22 => ⟨S128x8192x32, .f32⟩
  | 23 => ⟨S128x8192x32, .f32⟩
  | 24 => ⟨S128x8192x32, .f32⟩
  | 25 => ⟨S128x8192x32, .f32⟩
  | 26 => ⟨S128x8192x32, .f32⟩
  | 27 => ⟨S128x8192x32, .f32⟩
  | 28 => ⟨S128x8192x32, .f32⟩
  | 29 => ⟨S128x32x8192, .f32⟩
  | 30 => ⟨S_, .f32⟩
  | 31 => ⟨S_, .f32⟩
  | 32 => ⟨S_, .f32⟩
  | 33 => ⟨S_, .f32⟩
  | 34 => ⟨S1, .f32⟩
  | 35 => ⟨S1, .f32⟩
  | 36 => ⟨S1, .i32⟩
  | 37 => ⟨S_, .i32⟩
  | 38 => ⟨S1, .i32⟩
  | 39 => ⟨S_, .i32⟩
  | 40 => ⟨S128, .i64⟩
  | 41 => ⟨S_, .i64⟩
  | 42 => ⟨S128, .i64⟩
  | 43 => ⟨S128, .i64⟩
  | 44 => ⟨S_, .i64⟩
  | 45 => ⟨S128, .i64⟩
  | 46 => ⟨S128, .i64⟩
  | 47 => ⟨S128, .i32⟩
  | 48 => ⟨S128, .i32⟩
  | 49 => ⟨S_, .i32⟩
  | 50 => ⟨S_, .i32⟩
  | 51 => ⟨S_, .i32⟩
  | 52 => ⟨S128, .i32⟩
  | 53 => ⟨S128, .i32⟩
  | 54 => ⟨S128, .i32⟩
  | 55 => ⟨S128, .i32⟩
  | 56 => ⟨S128, .i32⟩
  | 57 => ⟨S_, .i32⟩
  | 58 => ⟨S128, .i32⟩
  | 59 => ⟨S128, .i32⟩
  | 60 => ⟨S_, .i32⟩
  | 61 => ⟨S128, .i32⟩
  | 62 => ⟨S128, .i32⟩
  | 63 => ⟨S128, .i32⟩
  | 64 => ⟨S128, .i32⟩
  | 65 => ⟨S128, .i32⟩
  | 66 => ⟨S_, .i32⟩
  | 67 => ⟨S128, .i32⟩
  | 68 => ⟨S128, .i32⟩
  | 69 => ⟨S_, .i32⟩
  | 70 => ⟨S128, .i32⟩
  | 71 => ⟨S128, .i32⟩
  | 72 => ⟨S128, .i32⟩
  | 73 => ⟨S128, .i32⟩
  | 74 => ⟨S128, .i32⟩
  | 75 => ⟨S_, .i32⟩
  | 76 => ⟨S128, .i32⟩
  | 77 => ⟨S128, .i32⟩
  | 78 => ⟨S_, .i32⟩
  | 79 => ⟨S128, .i32⟩
  | 80 => ⟨S128, .i32⟩
  | 81 => ⟨S128, .i32⟩
  | 82 => ⟨S128, .i32⟩
  | 83 => ⟨S128, .i32⟩
  | 84 => ⟨S_, .i32⟩
  | 85 => ⟨S128, .i32⟩
  | 86 => ⟨S128, .i32⟩
  | 87 => ⟨S_, .i32⟩
  | 88 => ⟨S128, .i32⟩
  | 89 => ⟨S128, .i32⟩
  | 90 => ⟨S128, .i32⟩
  | 91 => ⟨S128, .i32⟩
  | 92 => ⟨S128, .i32⟩
  | 93 => ⟨S128, .i32⟩
  | 94 => ⟨S128, .i32⟩
  | 95 => ⟨S128, .i32⟩
  | 96 => ⟨S_, .i32⟩
  | 97 => ⟨S128, .i32⟩
  | 98 => ⟨S128, .i32⟩
  | 99 => ⟨S128, .i32⟩
  | 100 => ⟨S_, .i32⟩
  | 101 => ⟨S128, .i32⟩
  | 102 => ⟨S128, .i32⟩
  | 103 => ⟨S_, .i32⟩
  | 104 => ⟨S128, .i32⟩
  | 105 => ⟨S128, .i32⟩
  | 106 => ⟨S128, .i32⟩
  | 107 => ⟨S128, .i32⟩
  | 108 => ⟨S128, .i32⟩
  | 109 => ⟨S_, .i32⟩
  | 110 => ⟨S128, .i32⟩
  | 111 => ⟨S128, .i32⟩
  | 112 => ⟨S_, .i32⟩
  | 113 => ⟨S128, .i32⟩
  | 114 => ⟨S128, .i32⟩
  | 115 => ⟨S128, .i32⟩
  | 116 => ⟨S128, .i32⟩
  | 117 => ⟨S128, .i32⟩
  | 118 => ⟨S_, .i32⟩
  | 119 => ⟨S128, .i32⟩
  | 120 => ⟨S128, .i32⟩
  | 121 => ⟨S_, .i32⟩
  | 122 => ⟨S128, .i32⟩
  | 123 => ⟨S128, .i32⟩
  | 124 => ⟨S128, .i32⟩
  | 125 => ⟨S128, .i32⟩
  | 126 => ⟨S128, .i32⟩
  | 127 => ⟨S_, .i32⟩
  | _ => ⟨S128x32x8192, .f32⟩

abbrev hbmTy0_7 (i : Nat) : BufTy := match i % 128 with
  | 0 => ⟨S128, .i32⟩
  | 1 => ⟨S128, .i32⟩
  | 2 => ⟨S_, .i32⟩
  | 3 => ⟨S128, .i32⟩
  | 4 => ⟨S128, .i32⟩
  | 5 => ⟨S128, .i32⟩
  | 6 => ⟨S128, .i32⟩
  | 7 => ⟨S128, .i32⟩
  | 8 => ⟨S128, .i32⟩
  | 9 => ⟨S128, .i32⟩
  | 10 => ⟨S128, .i32⟩
  | 11 => ⟨S_, .i32⟩
  | 12 => ⟨S128, .i32⟩
  | 13 => ⟨S128, .i32⟩
  | 14 => ⟨S128, .i32⟩
  | 15 => ⟨S_, .i32⟩
  | 16 => ⟨S128, .i32⟩
  | 17 => ⟨S128, .i32⟩
  | 18 => ⟨S_, .i32⟩
  | 19 => ⟨S128, .i32⟩
  | 20 => ⟨S128, .i32⟩
  | 21 => ⟨S128, .i32⟩
  | 22 => ⟨S128, .i32⟩
  | 23 => ⟨S128, .i32⟩
  | 24 => ⟨S_, .i32⟩
  | 25 => ⟨S128, .i32⟩
  | 26 => ⟨S128, .i32⟩
  | 27 => ⟨S_, .i32⟩
  | 28 => ⟨S128, .i32⟩
  | 29 => ⟨S128, .i32⟩
  | 30 => ⟨S128, .i32⟩
  | 31 => ⟨S128, .i32⟩
  | 32 => ⟨S128, .i32⟩
  | 33 => ⟨S_, .i32⟩
  | 34 => ⟨S128, .i32⟩
  | 35 => ⟨S128, .i32⟩
  | 36 => ⟨S_, .i32⟩
  | 37 => ⟨S128, .i32⟩
  | 38 => ⟨S128, .i32⟩
  | 39 => ⟨S128, .i32⟩
  | 40 => ⟨S128, .i32⟩
  | 41 => ⟨S128, .i32⟩
  | 42 => ⟨S_, .i32⟩
  | 43 => ⟨S128, .i32⟩
  | 44 => ⟨S128, .i32⟩
  | 45 => ⟨S_, .i32⟩
  | 46 => ⟨S128, .i32⟩
  | 47 => ⟨S128, .i32⟩
  | 48 => ⟨S128, .i32⟩
  | 49 => ⟨S128, .i32⟩
  | 50 => ⟨S128, .i32⟩
  | 51 => ⟨S128, .i32⟩
  | 52 => ⟨S128, .i32⟩
  | 53 => ⟨S128, .i32⟩
  | 54 => ⟨S_, .i32⟩
  | 55 => ⟨S128, .i32⟩
  | 56 => ⟨S128, .i32⟩
  | 57 => ⟨S128, .i32⟩
  | 58 => ⟨S_, .i32⟩
  | 59 => ⟨S128, .i32⟩
  | 60 => ⟨S128, .i32⟩
  | 61 => ⟨S_, .i32⟩
  | 62 => ⟨S128, .i32⟩
  | 63 => ⟨S128, .i32⟩
  | 64 => ⟨S128, .i32⟩
  | 65 => ⟨S128, .i32⟩
  | 66 => ⟨S128, .i32⟩
  | 67 => ⟨S_, .i32⟩
  | 68 => ⟨S128, .i32⟩
  | 69 => ⟨S128, .i32⟩
  | 70 => ⟨S_, .i32⟩
  | 71 => ⟨S128, .i32⟩
  | 72 => ⟨S128, .i32⟩
  | 73 => ⟨S128, .i32⟩
  | 74 => ⟨S128, .i32⟩
  | 75 => ⟨S128, .i32⟩
  | 76 => ⟨S_, .i32⟩
  | 77 => ⟨S128, .i32⟩
  | 78 => ⟨S128, .i32⟩
  | 79 => ⟨S_, .i32⟩
  | 80 => ⟨S128, .i32⟩
  | 81 => ⟨S128, .i32⟩
  | 82 => ⟨S128, .i32⟩
  | 83 => ⟨S128, .i32⟩
  | 84 => ⟨S128, .i32⟩
  | 85 => ⟨S_, .i32⟩
  | 86 => ⟨S128, .i32⟩
  | 87 => ⟨S128, .i32⟩
  | 88 => ⟨S_, .i32⟩
  | 89 => ⟨S128, .i32⟩
  | 90 => ⟨S128, .i32⟩
  | 91 => ⟨S128, .i32⟩
  | 92 => ⟨S128, .i32⟩
  | 93 => ⟨S128, .i32⟩
  | 94 => ⟨S128, .i32⟩
  | 95 => ⟨S128, .i32⟩
  | 96 => ⟨S128, .i32⟩
  | 97 => ⟨S_, .i32⟩
  | 98 => ⟨S128, .i32⟩
  | 99 => ⟨S128, .i32⟩
  | 100 => ⟨S128, .i32⟩
  | 101 => ⟨S_, .i32⟩
  | 102 => ⟨S128, .i32⟩
  | 103 => ⟨S128, .i32⟩
  | 104 => ⟨S_, .i32⟩
  | 105 => ⟨S128, .i32⟩
  | 106 => ⟨S128, .i32⟩
  | 107 => ⟨S128, .i32⟩
  | 108 => ⟨S128, .i32⟩
  | 109 => ⟨S128, .i32⟩
  | 110 => ⟨S_, .i32⟩
  | 111 => ⟨S128, .i32⟩
  | 112 => ⟨S128, .i32⟩
  | 113 => ⟨S_, .i32⟩
  | 114 => ⟨S128, .i32⟩
  | 115 => ⟨S128, .i32⟩
  | 116 => ⟨S128, .i32⟩
  | 117 => ⟨S128, .i32⟩
  | 118 => ⟨S128, .i32⟩
  | 119 => ⟨S_, .i32⟩
  | 120 => ⟨S128, .i32⟩
  | 121 => ⟨S128, .i32⟩
  | 122 => ⟨S_, .i32⟩
  | 123 => ⟨S128, .i32⟩
  | 124 => ⟨S128, .i32⟩
  | 125 => ⟨S128, .i32⟩
  | 126 => ⟨S128, .i32⟩
  | 127 => ⟨S128, .i32⟩
  | _ => ⟨S128x32x8192, .f32⟩

abbrev hbmTy0_8 (i : Nat) : BufTy := match i % 128 with
  | 0 => ⟨S_, .i32⟩
  | 1 => ⟨S128, .i32⟩
  | 2 => ⟨S128, .i32⟩
  | 3 => ⟨S_, .i32⟩
  | 4 => ⟨S128, .i32⟩
  | 5 => ⟨S128, .i32⟩
  | 6 => ⟨S128, .i32⟩
  | 7 => ⟨S128, .i32⟩
  | 8 => ⟨S128, .i32⟩
  | 9 => ⟨S128, .i32⟩
  | 10 => ⟨S128, .i32⟩
  | 11 => ⟨S128, .i32⟩
  | 12 => ⟨S_, .i32⟩
  | 13 => ⟨S128, .i32⟩
  | 14 => ⟨S128, .i32⟩
  | 15 => ⟨S128, .i32⟩
  | 16 => ⟨S_, .i32⟩
  | 17 => ⟨S128, .i32⟩
  | 18 => ⟨S128, .i32⟩
  | 19 => ⟨S_, .i32⟩
  | 20 => ⟨S128, .i32⟩
  | 21 => ⟨S128, .i32⟩
  | 22 => ⟨S128, .f32⟩
  | 23 => ⟨S_, .f32⟩
  | 24 => ⟨S128, .f32⟩
  | 25 => ⟨S128, .f32⟩
  | 26 => ⟨S1, .f32⟩
  | 27 => ⟨S128, .f32⟩
  | 28 => ⟨S128, .f32⟩
  | 29 => ⟨S128, .f32⟩
  | 30 => ⟨S128, .f32⟩
  | 31 => ⟨S128, .f32⟩
  | 32 => ⟨S128, .f32⟩
  | 33 => ⟨S128, .f32⟩
  | 34 => ⟨S32x8192, .bf16⟩
  | 35 => ⟨S128x32x8192, .f32⟩
  | 36 => ⟨S128, .f32⟩
  | 37 => ⟨S128, .i32⟩
  | 38 => ⟨S_, .i32⟩
  | 39 => ⟨S128, .i32⟩
  | 40 => ⟨S128, .i1⟩
  | 41 => ⟨S128, .i1⟩
  | _ => ⟨S128x32x8192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S128x32x8192, .f32⟩

abbrev bufTy : (tb : Table) → Fin (tcTables nBuf tb) → BufTy
  | .hbm, ⟨i, _⟩ => hbmTy i
  | .local _ .vmem, ⟨0, _⟩ => ⟨S8x32x8192, .f32⟩
  | .local _ .vmem, ⟨1, _⟩ => ⟨S8x32x8192, .f32⟩
  | .local _ .vmem, ⟨2, _⟩ => ⟨S8x32x8192, .f32⟩
  | .local _ .vmem, ⟨3, _⟩ => ⟨S8x32x8192, .f32⟩
  | .local _ .vmem, ⟨4, _⟩ => ⟨S32x8192, .bf16⟩
  | .local _ .vmem, ⟨5, _⟩ => ⟨S8x32x8192, .f32⟩
  | .local _ .vmem, ⟨6, _⟩ => ⟨S8x32x8192, .f32⟩
  | .local _ .smem, ⟨0, _⟩ => ⟨S128, .i32⟩
  | .local _ .smem, ⟨1, _⟩ => ⟨S128, .f32⟩
  | .local _ .smem, ⟨2, _⟩ => ⟨S128, .f32⟩
  | .local _ .smem, ⟨3, _⟩ => ⟨S128, .i32⟩
  | _, _ => ⟨S128x32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c : Ref sig .tc := ⟨.hbm, 17, rfl⟩
abbrev main_call0_v5 : Ref sig .tc := ⟨.hbm, 18, rfl⟩
abbrev main_call0_v6 : Ref sig .tc := ⟨.hbm, 19, rfl⟩
abbrev main_call0_c_0 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_call0_v12 : Ref sig .tc := ⟨.hbm, 247, rfl⟩
abbrev main_call0_v13 : Ref sig .tc := ⟨.hbm, 248, rfl⟩
abbrev main_v7 : Ref sig .tc := ⟨.hbm, 249, rfl⟩
abbrev main_v8 : Ref sig .tc := ⟨.hbm, 250, rfl⟩
abbrev main_v9 : Ref sig .tc := ⟨.hbm, 251, rfl⟩
abbrev main_v10 : Ref sig .tc := ⟨.hbm, 252, rfl⟩
abbrev main_v11 : Ref sig .tc := ⟨.hbm, 253, rfl⟩
abbrev main_v12 : Ref sig .tc := ⟨.hbm, 254, rfl⟩
abbrev main_v13 : Ref sig .tc := ⟨.hbm, 255, rfl⟩
abbrev main_cst : Ref sig .tc := ⟨.hbm, 256, rfl⟩
abbrev main_cst_2 : Ref sig .tc := ⟨.hbm, 257, rfl⟩
abbrev main_call1_v0 : Ref sig .tc := ⟨.hbm, 258, rfl⟩
abbrev main_call1_v1 : Ref sig .tc := ⟨.hbm, 259, rfl⟩
abbrev main_call1_v2 : Ref sig .tc := ⟨.hbm, 260, rfl⟩
abbrev main_call1_v3 : Ref sig .tc := ⟨.hbm, 261, rfl⟩
abbrev main_call1_v4 : Ref sig .tc := ⟨.hbm, 262, rfl⟩
abbrev main_call1_v5 : Ref sig .tc := ⟨.hbm, 263, rfl⟩
abbrev main_call1_v6 : Ref sig .tc := ⟨.hbm, 264, rfl⟩
abbrev main_call1_v7 : Ref sig .tc := ⟨.hbm, 265, rfl⟩
abbrev main_call1_v8 : Ref sig .tc := ⟨.hbm, 266, rfl⟩
abbrev main_call1_v9 : Ref sig .tc := ⟨.hbm, 267, rfl⟩
abbrev main_call1_c : Ref sig .tc := ⟨.hbm, 268, rfl⟩
abbrev main_call1_v10 : Ref sig .tc := ⟨.hbm, 269, rfl⟩
abbrev main_call1_v11 : Ref sig .tc := ⟨.hbm, 270, rfl⟩
abbrev main_call1_c_0 : Ref sig .tc := ⟨.hbm, 271, rfl⟩
abbrev main_call1_v12 : Ref sig .tc := ⟨.hbm, 272, rfl⟩
abbrev main_call1_v13 : Ref sig .tc := ⟨.hbm, 273, rfl⟩
abbrev main_call1_v14 : Ref sig .tc := ⟨.hbm, 274, rfl⟩
abbrev main_call1_c_1 : Ref sig .tc := ⟨.hbm, 275, rfl⟩
abbrev main_call1_v15 : Ref sig .tc := ⟨.hbm, 276, rfl⟩
abbrev main_call1_v16 : Ref sig .tc := ⟨.hbm, 277, rfl⟩
abbrev main_call1_v17 : Ref sig .tc := ⟨.hbm, 278, rfl⟩
abbrev main_call1_v18 : Ref sig .tc := ⟨.hbm, 279, rfl⟩
abbrev main_call1_call0_v0 : Ref sig .tc := ⟨.hbm, 280, rfl⟩
abbrev main_call1_call0_c : Ref sig .tc := ⟨.hbm, 281, rfl⟩
abbrev main_call1_call0_v1 : Ref sig .tc := ⟨.hbm, 282, rfl⟩
abbrev main_call1_call0_v2 : Ref sig .tc := ⟨.hbm, 283, rfl⟩
abbrev main_call1_call0_v3 : Ref sig .tc := ⟨.hbm, 284, rfl⟩
abbrev main_call1_call0_v4 : Ref sig .tc := ⟨.hbm, 285, rfl⟩
abbrev main_call1_call0_v5 : Ref sig .tc := ⟨.hbm, 286, rfl⟩
abbrev main_call1_call0_v6 : Ref sig .tc := ⟨.hbm, 287, rfl⟩
abbrev main_call1_call0_c_0 : Ref sig .tc := ⟨.hbm, 288, rfl⟩
abbrev main_call1_call0_v7 : Ref sig .tc := ⟨.hbm, 289, rfl⟩
abbrev main_call1_call0_v8 : Ref sig .tc := ⟨.hbm, 290, rfl⟩
abbrev main_call1_call0_c_1 : Ref sig .tc := ⟨.hbm, 291, rfl⟩
abbrev main_call1_call0_v9 : Ref sig .tc := ⟨.hbm, 292, rfl⟩
abbrev main_call1_call0_v10 : Ref sig .tc := ⟨.hbm, 293, rfl⟩
abbrev main_call1_call0_v11 : Ref sig .tc := ⟨.hbm, 294, rfl⟩
abbrev main_call1_call0_v12 : Ref sig .tc := ⟨.hbm, 295, rfl⟩
abbrev main_call1_call0_v13 : Ref sig .tc := ⟨.hbm, 296, rfl⟩
abbrev main_call1_call0_c_2 : Ref sig .tc := ⟨.hbm, 297, rfl⟩
abbrev main_call1_call0_v14 : Ref sig .tc := ⟨.hbm, 298, rfl⟩
abbrev main_call1_call0_v15 : Ref sig .tc := ⟨.hbm, 299, rfl⟩
abbrev main_call1_call0_c_3 : Ref sig .tc := ⟨.hbm, 300, rfl⟩
abbrev main_call1_call0_v16 : Ref sig .tc := ⟨.hbm, 301, rfl⟩
abbrev main_call1_call0_v17 : Ref sig .tc := ⟨.hbm, 302, rfl⟩
abbrev main_call1_call0_v18 : Ref sig .tc := ⟨.hbm, 303, rfl⟩
abbrev main_call1_call0_v19 : Ref sig .tc := ⟨.hbm, 304, rfl⟩
abbrev main_call1_call0_v20 : Ref sig .tc := ⟨.hbm, 305, rfl⟩
abbrev main_call1_call0_c_4 : Ref sig .tc := ⟨.hbm, 306, rfl⟩
abbrev main_call1_call0_v21 : Ref sig .tc := ⟨.hbm, 307, rfl⟩
abbrev main_call1_call0_v22 : Ref sig .tc := ⟨.hbm, 308, rfl⟩
abbrev main_call1_call0_c_5 : Ref sig .tc := ⟨.hbm, 309, rfl⟩
abbrev main_call1_call0_v23 : Ref sig .tc := ⟨.hbm, 310, rfl⟩
abbrev main_call1_call0_v24 : Ref sig .tc := ⟨.hbm, 311, rfl⟩
abbrev main_call1_call0_v25 : Ref sig .tc := ⟨.hbm, 312, rfl⟩
abbrev main_call1_call0_v26 : Ref sig .tc := ⟨.hbm, 313, rfl⟩
abbrev main_call1_call0_v27 : Ref sig .tc := ⟨.hbm, 314, rfl⟩
abbrev main_call1_call0_c_6 : Ref sig .tc := ⟨.hbm, 315, rfl⟩
abbrev main_call1_call0_v28 : Ref sig .tc := ⟨.hbm, 316, rfl⟩
abbrev main_call1_call0_v29 : Ref sig .tc := ⟨.hbm, 317, rfl⟩
abbrev main_call1_call0_c_7 : Ref sig .tc := ⟨.hbm, 318, rfl⟩
abbrev main_call1_call0_v30 : Ref sig .tc := ⟨.hbm, 319, rfl⟩
abbrev main_call1_call0_v31 : Ref sig .tc := ⟨.hbm, 320, rfl⟩
abbrev main_call1_call0_v32 : Ref sig .tc := ⟨.hbm, 321, rfl⟩
abbrev main_call1_call0_v33 : Ref sig .tc := ⟨.hbm, 322, rfl⟩
abbrev main_call1_call0_v34 : Ref sig .tc := ⟨.hbm, 323, rfl⟩
abbrev main_call1_call0_v35 : Ref sig .tc := ⟨.hbm, 324, rfl⟩
abbrev main_call1_call0_v36 : Ref sig .tc := ⟨.hbm, 325, rfl⟩
abbrev main_call1_call0_v37 : Ref sig .tc := ⟨.hbm, 326, rfl⟩
abbrev main_call1_call0_c_8 : Ref sig .tc := ⟨.hbm, 327, rfl⟩
abbrev main_call1_call0_v38 : Ref sig .tc := ⟨.hbm, 328, rfl⟩
abbrev main_call1_call0_v39 : Ref sig .tc := ⟨.hbm, 329, rfl⟩
abbrev main_call1_call0_v40 : Ref sig .tc := ⟨.hbm, 330, rfl⟩
abbrev main_call1_call0_c_9 : Ref sig .tc := ⟨.hbm, 331, rfl⟩
abbrev main_call1_call0_v41 : Ref sig .tc := ⟨.hbm, 332, rfl⟩
abbrev main_call1_call0_v42 : Ref sig .tc := ⟨.hbm, 333, rfl⟩
abbrev main_call1_call0_c_10 : Ref sig .tc := ⟨.hbm, 334, rfl⟩
abbrev main_call1_call0_v43 : Ref sig .tc := ⟨.hbm, 335, rfl⟩
abbrev main_call1_call0_v44 : Ref sig .tc := ⟨.hbm, 336, rfl⟩
abbrev main_call1_call0_v45 : Ref sig .tc := ⟨.hbm, 337, rfl⟩
abbrev main_call1_call0_v46 : Ref sig .tc := ⟨.hbm, 338, rfl⟩
abbrev main_call1_call0_v47 : Ref sig .tc := ⟨.hbm, 339, rfl⟩
abbrev main_call1_call0_c_11 : Ref sig .tc := ⟨.hbm, 340, rfl⟩
abbrev main_call1_call0_v48 : Ref sig .tc := ⟨.hbm, 341, rfl⟩
abbrev main_call1_call0_v49 : Ref sig .tc := ⟨.hbm, 342, rfl⟩
abbrev main_call1_call0_c_12 : Ref sig .tc := ⟨.hbm, 343, rfl⟩
abbrev main_call1_call0_v50 : Ref sig .tc := ⟨.hbm, 344, rfl⟩
abbrev main_call1_call0_v51 : Ref sig .tc := ⟨.hbm, 345, rfl⟩
abbrev main_call1_call0_v52 : Ref sig .tc := ⟨.hbm, 346, rfl⟩
abbrev main_call1_call0_v53 : Ref sig .tc := ⟨.hbm, 347, rfl⟩
abbrev main_call1_call0_v54 : Ref sig .tc := ⟨.hbm, 348, rfl⟩
abbrev main_call1_call0_c_13 : Ref sig .tc := ⟨.hbm, 349, rfl⟩
abbrev main_call1_call0_v55 : Ref sig .tc := ⟨.hbm, 350, rfl⟩
abbrev main_call1_call0_v56 : Ref sig .tc := ⟨.hbm, 351, rfl⟩
abbrev main_call1_call0_c_14 : Ref sig .tc := ⟨.hbm, 352, rfl⟩
abbrev main_call1_call0_v57 : Ref sig .tc := ⟨.hbm, 353, rfl⟩
abbrev main_call1_call0_v58 : Ref sig .tc := ⟨.hbm, 354, rfl⟩
abbrev main_call1_call0_v59 : Ref sig .tc := ⟨.hbm, 355, rfl⟩
abbrev main_call1_call0_v60 : Ref sig .tc := ⟨.hbm, 356, rfl⟩
abbrev main_call1_call0_v61 : Ref sig .tc := ⟨.hbm, 357, rfl⟩
abbrev main_call1_call0_c_15 : Ref sig .tc := ⟨.hbm, 358, rfl⟩
abbrev main_call1_call0_v62 : Ref sig .tc := ⟨.hbm, 359, rfl⟩
abbrev main_call1_call0_v63 : Ref sig .tc := ⟨.hbm, 360, rfl⟩
abbrev main_call1_call0_c_16 : Ref sig .tc := ⟨.hbm, 361, rfl⟩
abbrev main_call1_call0_v64 : Ref sig .tc := ⟨.hbm, 362, rfl⟩
abbrev main_call1_call0_v65 : Ref sig .tc := ⟨.hbm, 363, rfl⟩
abbrev main_call1_call0_v66 : Ref sig .tc := ⟨.hbm, 364, rfl⟩
abbrev main_call1_call0_v67 : Ref sig .tc := ⟨.hbm, 365, rfl⟩
abbrev main_call1_call0_v68 : Ref sig .tc := ⟨.hbm, 366, rfl⟩
abbrev main_call1_call0_v69 : Ref sig .tc := ⟨.hbm, 367, rfl⟩
abbrev main_call1_call0_v70 : Ref sig .tc := ⟨.hbm, 368, rfl⟩
abbrev main_call1_call0_v71 : Ref sig .tc := ⟨.hbm, 369, rfl⟩
abbrev main_call1_call0_c_17 : Ref sig .tc := ⟨.hbm, 370, rfl⟩
abbrev main_call1_call0_v72 : Ref sig .tc := ⟨.hbm, 371, rfl⟩
abbrev main_call1_call0_v73 : Ref sig .tc := ⟨.hbm, 372, rfl⟩
abbrev main_call1_call0_v74 : Ref sig .tc := ⟨.hbm, 373, rfl⟩
abbrev main_call1_call0_c_18 : Ref sig .tc := ⟨.hbm, 374, rfl⟩
abbrev main_call1_call0_v75 : Ref sig .tc := ⟨.hbm, 375, rfl⟩
abbrev main_call1_call0_v76 : Ref sig .tc := ⟨.hbm, 376, rfl⟩
abbrev main_call1_call0_c_19 : Ref sig .tc := ⟨.hbm, 377, rfl⟩
abbrev main_call1_call0_v77 : Ref sig .tc := ⟨.hbm, 378, rfl⟩
abbrev main_call1_call0_v78 : Ref sig .tc := ⟨.hbm, 379, rfl⟩
abbrev main_call1_call0_v79 : Ref sig .tc := ⟨.hbm, 380, rfl⟩
abbrev main_call1_call0_v80 : Ref sig .tc := ⟨.hbm, 381, rfl⟩
abbrev main_call1_call0_v81 : Ref sig .tc := ⟨.hbm, 382, rfl⟩
abbrev main_call1_call0_c_20 : Ref sig .tc := ⟨.hbm, 383, rfl⟩
abbrev main_call1_call0_v82 : Ref sig .tc := ⟨.hbm, 384, rfl⟩
abbrev main_call1_call0_v83 : Ref sig .tc := ⟨.hbm, 385, rfl⟩
abbrev main_call1_call0_c_21 : Ref sig .tc := ⟨.hbm, 386, rfl⟩
abbrev main_call1_call0_v84 : Ref sig .tc := ⟨.hbm, 387, rfl⟩
abbrev main_call1_call0_v85 : Ref sig .tc := ⟨.hbm, 388, rfl⟩
abbrev main_call1_call0_v86 : Ref sig .tc := ⟨.hbm, 389, rfl⟩
abbrev main_call1_call0_v87 : Ref sig .tc := ⟨.hbm, 390, rfl⟩
abbrev main_call1_call0_v88 : Ref sig .tc := ⟨.hbm, 391, rfl⟩
abbrev main_call1_call0_c_22 : Ref sig .tc := ⟨.hbm, 392, rfl⟩
abbrev main_call1_call0_v89 : Ref sig .tc := ⟨.hbm, 393, rfl⟩
abbrev main_call1_call0_v90 : Ref sig .tc := ⟨.hbm, 394, rfl⟩
abbrev main_call1_call0_c_23 : Ref sig .tc := ⟨.hbm, 395, rfl⟩
abbrev main_call1_call0_v91 : Ref sig .tc := ⟨.hbm, 396, rfl⟩
abbrev main_call1_call0_v92 : Ref sig .tc := ⟨.hbm, 397, rfl⟩
abbrev main_call1_call0_v93 : Ref sig .tc := ⟨.hbm, 398, rfl⟩
abbrev main_call1_call0_v94 : Ref sig .tc := ⟨.hbm, 399, rfl⟩
abbrev main_call1_call0_v95 : Ref sig .tc := ⟨.hbm, 400, rfl⟩
abbrev main_call1_call0_c_24 : Ref sig .tc := ⟨.hbm, 401, rfl⟩
abbrev main_call1_call0_v96 : Ref sig .tc := ⟨.hbm, 402, rfl⟩
abbrev main_call1_call0_v97 : Ref sig .tc := ⟨.hbm, 403, rfl⟩
abbrev main_call1_call0_c_25 : Ref sig .tc := ⟨.hbm, 404, rfl⟩
abbrev main_call1_call0_v98 : Ref sig .tc := ⟨.hbm, 405, rfl⟩
abbrev main_call1_call0_v99 : Ref sig .tc := ⟨.hbm, 406, rfl⟩
abbrev main_call1_call0_v100 : Ref sig .tc := ⟨.hbm, 407, rfl⟩
abbrev main_call1_call0_v101 : Ref sig .tc := ⟨.hbm, 408, rfl⟩
abbrev main_call1_call0_v102 : Ref sig .tc := ⟨.hbm, 409, rfl⟩
abbrev main_call1_call0_v103 : Ref sig .tc := ⟨.hbm, 410, rfl⟩
abbrev main_call1_call0_v104 : Ref sig .tc := ⟨.hbm, 411, rfl⟩
abbrev main_call1_call0_v105 : Ref sig .tc := ⟨.hbm, 412, rfl⟩
abbrev main_call1_call0_c_26 : Ref sig .tc := ⟨.hbm, 413, rfl⟩
abbrev main_call1_call0_v106 : Ref sig .tc := ⟨.hbm, 414, rfl⟩
abbrev main_call1_call0_v107 : Ref sig .tc := ⟨.hbm, 415, rfl⟩
abbrev main_call1_call0_v108 : Ref sig .tc := ⟨.hbm, 416, rfl⟩
abbrev main_call1_call0_c_27 : Ref sig .tc := ⟨.hbm, 417, rfl⟩
abbrev main_call1_call0_v109 : Ref sig .tc := ⟨.hbm, 418, rfl⟩
abbrev main_call1_call0_v110 : Ref sig .tc := ⟨.hbm, 419, rfl⟩
abbrev main_call1_call0_c_28 : Ref sig .tc := ⟨.hbm, 420, rfl⟩
abbrev main_call1_call0_v111 : Ref sig .tc := ⟨.hbm, 421, rfl⟩
abbrev main_call1_call0_v112 : Ref sig .tc := ⟨.hbm, 422, rfl⟩
abbrev main_call1_call0_v113 : Ref sig .tc := ⟨.hbm, 423, rfl⟩
abbrev main_call1_call0_v114 : Ref sig .tc := ⟨.hbm, 424, rfl⟩
abbrev main_call1_call0_v115 : Ref sig .tc := ⟨.hbm, 425, rfl⟩
abbrev main_call1_call0_c_29 : Ref sig .tc := ⟨.hbm, 426, rfl⟩
abbrev main_call1_call0_v116 : Ref sig .tc := ⟨.hbm, 427, rfl⟩
abbrev main_call1_call0_v117 : Ref sig .tc := ⟨.hbm, 428, rfl⟩
abbrev main_call1_call0_c_30 : Ref sig .tc := ⟨.hbm, 429, rfl⟩
abbrev main_call1_call0_v118 : Ref sig .tc := ⟨.hbm, 430, rfl⟩
abbrev main_call1_call0_v119 : Ref sig .tc := ⟨.hbm, 431, rfl⟩
abbrev main_call1_call0_v120 : Ref sig .tc := ⟨.hbm, 432, rfl⟩
abbrev main_call1_call0_v121 : Ref sig .tc := ⟨.hbm, 433, rfl⟩
abbrev main_call1_call0_v122 : Ref sig .tc := ⟨.hbm, 434, rfl⟩
abbrev main_call1_call0_c_31 : Ref sig .tc := ⟨.hbm, 435, rfl⟩
abbrev main_call1_call0_v123 : Ref sig .tc := ⟨.hbm, 436, rfl⟩
abbrev main_call1_call0_v124 : Ref sig .tc := ⟨.hbm, 437, rfl⟩
abbrev main_call1_call0_c_32 : Ref sig .tc := ⟨.hbm, 438, rfl⟩
abbrev main_call1_call0_v125 : Ref sig .tc := ⟨.hbm, 439, rfl⟩
abbrev main_call1_call0_v126 : Ref sig .tc := ⟨.hbm, 440, rfl⟩
abbrev main_call1_call0_v127 : Ref sig .tc := ⟨.hbm, 441, rfl⟩
abbrev main_call1_call0_v128 : Ref sig .tc := ⟨.hbm, 442, rfl⟩
abbrev main_call1_call0_v129 : Ref sig .tc := ⟨.hbm, 443, rfl⟩
abbrev main_call1_call0_c_33 : Ref sig .tc := ⟨.hbm, 444, rfl⟩
abbrev main_call1_call0_v130 : Ref sig .tc := ⟨.hbm, 445, rfl⟩
abbrev main_call1_call0_v131 : Ref sig .tc := ⟨.hbm, 446, rfl⟩
abbrev main_call1_call0_c_34 : Ref sig .tc := ⟨.hbm, 447, rfl⟩
abbrev main_call1_call0_v132 : Ref sig .tc := ⟨.hbm, 448, rfl⟩
abbrev main_call1_call0_v133 : Ref sig .tc := ⟨.hbm, 449, rfl⟩
abbrev main_call1_call0_v134 : Ref sig .tc := ⟨.hbm, 450, rfl⟩
abbrev main_call1_call0_v135 : Ref sig .tc := ⟨.hbm, 451, rfl⟩
abbrev main_call1_call0_v136 : Ref sig .tc := ⟨.hbm, 452, rfl⟩
abbrev main_call1_call0_v137 : Ref sig .tc := ⟨.hbm, 453, rfl⟩
abbrev main_call1_call0_v138 : Ref sig .tc := ⟨.hbm, 454, rfl⟩
abbrev main_call1_call0_v139 : Ref sig .tc := ⟨.hbm, 455, rfl⟩
abbrev main_call1_call0_c_35 : Ref sig .tc := ⟨.hbm, 456, rfl⟩
abbrev main_call1_call0_v140 : Ref sig .tc := ⟨.hbm, 457, rfl⟩
abbrev main_call1_call0_v141 : Ref sig .tc := ⟨.hbm, 458, rfl⟩
abbrev main_call1_call0_v142 : Ref sig .tc := ⟨.hbm, 459, rfl⟩
abbrev main_call1_call0_c_36 : Ref sig .tc := ⟨.hbm, 460, rfl⟩
abbrev main_call1_call0_v143 : Ref sig .tc := ⟨.hbm, 461, rfl⟩
abbrev main_call1_call0_v144 : Ref sig .tc := ⟨.hbm, 462, rfl⟩
abbrev main_call1_call0_c_37 : Ref sig .tc := ⟨.hbm, 463, rfl⟩
abbrev main_call1_call0_v145 : Ref sig .tc := ⟨.hbm, 464, rfl⟩
abbrev main_call1_call0_v146 : Ref sig .tc := ⟨.hbm, 465, rfl⟩
abbrev main_call1_call0_v147 : Ref sig .tc := ⟨.hbm, 466, rfl⟩
abbrev main_call1_call0_v148 : Ref sig .tc := ⟨.hbm, 467, rfl⟩
abbrev main_call1_call0_v149 : Ref sig .tc := ⟨.hbm, 468, rfl⟩
abbrev main_call1_call0_c_38 : Ref sig .tc := ⟨.hbm, 469, rfl⟩
abbrev main_call1_call0_v150 : Ref sig .tc := ⟨.hbm, 470, rfl⟩
abbrev main_call1_call0_v151 : Ref sig .tc := ⟨.hbm, 471, rfl⟩
abbrev main_call1_call0_c_39 : Ref sig .tc := ⟨.hbm, 472, rfl⟩
abbrev main_call1_call0_v152 : Ref sig .tc := ⟨.hbm, 473, rfl⟩
abbrev main_call1_call0_v153 : Ref sig .tc := ⟨.hbm, 474, rfl⟩
abbrev main_call1_call0_v154 : Ref sig .tc := ⟨.hbm, 475, rfl⟩
abbrev main_call1_call0_v155 : Ref sig .tc := ⟨.hbm, 476, rfl⟩
abbrev main_call1_call0_v156 : Ref sig .tc := ⟨.hbm, 477, rfl⟩
abbrev main_call1_call0_c_40 : Ref sig .tc := ⟨.hbm, 478, rfl⟩
abbrev main_call1_call0_v157 : Ref sig .tc := ⟨.hbm, 479, rfl⟩
abbrev main_call1_call0_v158 : Ref sig .tc := ⟨.hbm, 480, rfl⟩
abbrev main_call1_call0_c_41 : Ref sig .tc := ⟨.hbm, 481, rfl⟩
abbrev main_call1_call0_v159 : Ref sig .tc := ⟨.hbm, 482, rfl⟩
abbrev main_call1_call0_v160 : Ref sig .tc := ⟨.hbm, 483, rfl⟩
abbrev main_call1_call0_v161 : Ref sig .tc := ⟨.hbm, 484, rfl⟩
abbrev main_call1_call0_v162 : Ref sig .tc := ⟨.hbm, 485, rfl⟩
abbrev main_call1_call0_v163 : Ref sig .tc := ⟨.hbm, 486, rfl⟩
abbrev main_call1_call0_c_42 : Ref sig .tc := ⟨.hbm, 487, rfl⟩
abbrev main_call1_call0_v164 : Ref sig .tc := ⟨.hbm, 488, rfl⟩
abbrev main_call1_call0_v165 : Ref sig .tc := ⟨.hbm, 489, rfl⟩
abbrev main_call1_call0_c_43 : Ref sig .tc := ⟨.hbm, 490, rfl⟩
abbrev main_call1_call0_v166 : Ref sig .tc := ⟨.hbm, 491, rfl⟩
abbrev main_call1_call0_v167 : Ref sig .tc := ⟨.hbm, 492, rfl⟩
abbrev main_call1_call0_v168 : Ref sig .tc := ⟨.hbm, 493, rfl⟩
abbrev main_call1_call0_v169 : Ref sig .tc := ⟨.hbm, 494, rfl⟩
abbrev main_call1_call0_v170 : Ref sig .tc := ⟨.hbm, 495, rfl⟩
abbrev main_call1_v19_0 : Ref sig .tc := ⟨.hbm, 496, rfl⟩
abbrev main_call1_call0_v172 : Ref sig .tc := ⟨.hbm, 497, rfl⟩
abbrev main_call1_call0_v173 : Ref sig .tc := ⟨.hbm, 498, rfl⟩
abbrev main_call1_call0_c_44 : Ref sig .tc := ⟨.hbm, 499, rfl⟩
abbrev main_call1_call0_v174 : Ref sig .tc := ⟨.hbm, 500, rfl⟩
abbrev main_call1_v19_1 : Ref sig .tc := ⟨.hbm, 501, rfl⟩
abbrev main_call1_v20 : Ref sig .tc := ⟨.hbm, 502, rfl⟩
abbrev main_call1_c_2 : Ref sig .tc := ⟨.hbm, 503, rfl⟩
abbrev main_call1_v21 : Ref sig .tc := ⟨.hbm, 504, rfl⟩
abbrev main_call1_v22 : Ref sig .tc := ⟨.hbm, 505, rfl⟩
abbrev main_call1_c_3 : Ref sig .tc := ⟨.hbm, 506, rfl⟩
abbrev main_call1_v23 : Ref sig .tc := ⟨.hbm, 507, rfl⟩
abbrev main_call1_v24 : Ref sig .tc := ⟨.hbm, 508, rfl⟩
abbrev main_call1_v25 : Ref sig .tc := ⟨.hbm, 509, rfl⟩
abbrev main_call1_cst : Ref sig .tc := ⟨.hbm, 510, rfl⟩
abbrev main_call1_v26 : Ref sig .tc := ⟨.hbm, 511, rfl⟩
abbrev main_call1_v27 : Ref sig .tc := ⟨.hbm, 512, rfl⟩
abbrev main_call1_v28 : Ref sig .tc := ⟨.hbm, 513, rfl⟩
abbrev main_call1_v29 : Ref sig .tc := ⟨.hbm, 514, rfl⟩
abbrev main_call1_v30 : Ref sig .tc := ⟨.hbm, 515, rfl⟩
abbrev main_call1_v31 : Ref sig .tc := ⟨.hbm, 516, rfl⟩
abbrev main_call1_v32 : Ref sig .tc := ⟨.hbm, 517, rfl⟩
abbrev main_call1_v33 : Ref sig .tc := ⟨.hbm, 518, rfl⟩
abbrev main_v14 : Ref sig .tc := ⟨.hbm, 519, rfl⟩
abbrev main_call2_v0 : Ref sig .tc := ⟨.hbm, 520, rfl⟩
abbrev main_call2_cst : Ref sig .tc := ⟨.hbm, 521, rfl⟩
abbrev main_call2_c : Ref sig .tc := ⟨.hbm, 522, rfl⟩
abbrev main_call2_v1_0 : Ref sig .tc := ⟨.hbm, 523, rfl⟩
abbrev main_v15 : Ref sig .tc := ⟨.hbm, 524, rfl⟩
abbrev main_call3_cst : Ref sig .tc := ⟨.hbm, 525, rfl⟩
abbrev main_call3_cst_0 : Ref sig .tc := ⟨.hbm, 526, rfl⟩
abbrev main_call3_call0_v0 : Ref sig .tc := ⟨.hbm, 527, rfl⟩
abbrev main_call3_call0_v1 : Ref sig .tc := ⟨.hbm, 528, rfl⟩
abbrev main_call3_call0_v2 : Ref sig .tc := ⟨.hbm, 529, rfl⟩
abbrev main_call3_call0_v3 : Ref sig .tc := ⟨.hbm, 530, rfl⟩
abbrev main_call3_call0_v4 : Ref sig .tc := ⟨.hbm, 531, rfl⟩
abbrev main_call3_call0_v5 : Ref sig .tc := ⟨.hbm, 532, rfl⟩
abbrev main_call3_call0_v6 : Ref sig .tc := ⟨.hbm, 533, rfl⟩
abbrev main_call3_call0_v7 : Ref sig .tc := ⟨.hbm, 534, rfl⟩
abbrev main_call3_call0_v8 : Ref sig .tc := ⟨.hbm, 535, rfl⟩
abbrev main_call3_call0_v9 : Ref sig .tc := ⟨.hbm, 536, rfl⟩
abbrev main_call3_call0_c : Ref sig .tc := ⟨.hbm, 537, rfl⟩
abbrev main_call3_call0_v10 : Ref sig .tc := ⟨.hbm, 538, rfl⟩
abbrev main_call3_call0_v11 : Ref sig .tc := ⟨.hbm, 539, rfl⟩
abbrev main_call3_call0_c_0 : Ref sig .tc := ⟨.hbm, 540, rfl⟩
abbrev main_call3_call0_v12 : Ref sig .tc := ⟨.hbm, 541, rfl⟩
abbrev main_call3_call0_v13 : Ref sig .tc := ⟨.hbm, 542, rfl⟩
abbrev main_call3_call0_c_1 : Ref sig .tc := ⟨.hbm, 543, rfl⟩
abbrev main_call3_call0_v14 : Ref sig .tc := ⟨.hbm, 544, rfl⟩
abbrev main_call3_call0_v15 : Ref sig .tc := ⟨.hbm, 545, rfl⟩
abbrev main_call3_call0_v16 : Ref sig .tc := ⟨.hbm, 546, rfl⟩
abbrev main_call3_call0_v17 : Ref sig .tc := ⟨.hbm, 547, rfl⟩
abbrev main_call3_call0_c_2 : Ref sig .tc := ⟨.hbm, 548, rfl⟩
abbrev main_call3_call0_v18 : Ref sig .tc := ⟨.hbm, 549, rfl⟩
abbrev main_call3_call0_v19 : Ref sig .tc := ⟨.hbm, 550, rfl⟩
abbrev main_call3_call0_v20 : Ref sig .tc := ⟨.hbm, 551, rfl⟩
abbrev main_call3_call0_v21 : Ref sig .tc := ⟨.hbm, 552, rfl⟩
abbrev main_call3_call0_call0_v0 : Ref sig .tc := ⟨.hbm, 553, rfl⟩
abbrev main_call3_call0_call0_c : Ref sig .tc := ⟨.hbm, 554, rfl⟩
abbrev main_call3_call0_call0_v1 : Ref sig .tc := ⟨.hbm, 555, rfl⟩
abbrev main_call3_call0_call0_v2 : Ref sig .tc := ⟨.hbm, 556, rfl⟩
abbrev main_call3_call0_call0_v3 : Ref sig .tc := ⟨.hbm, 557, rfl⟩
abbrev main_call3_call0_call0_v4 : Ref sig .tc := ⟨.hbm, 558, rfl⟩
abbrev main_call3_call0_call0_v5 : Ref sig .tc := ⟨.hbm, 559, rfl⟩
abbrev main_call3_call0_call0_v6 : Ref sig .tc := ⟨.hbm, 560, rfl⟩
abbrev main_call3_call0_call0_c_0 : Ref sig .tc := ⟨.hbm, 561, rfl⟩
abbrev main_call3_call0_call0_v7 : Ref sig .tc := ⟨.hbm, 562, rfl⟩
abbrev main_call3_call0_call0_v8 : Ref sig .tc := ⟨.hbm, 563, rfl⟩
abbrev main_call3_call0_call0_c_1 : Ref sig .tc := ⟨.hbm, 564, rfl⟩
abbrev main_call3_call0_call0_v9 : Ref sig .tc := ⟨.hbm, 565, rfl⟩
abbrev main_call3_call0_call0_v10 : Ref sig .tc := ⟨.hbm, 566, rfl⟩
abbrev main_call3_call0_call0_v11 : Ref sig .tc := ⟨.hbm, 567, rfl⟩
abbrev main_call3_call0_call0_v12 : Ref sig .tc := ⟨.hbm, 568, rfl⟩
abbrev main_call3_call0_call0_v13 : Ref sig .tc := ⟨.hbm, 569, rfl⟩
abbrev main_call3_call0_call0_c_2 : Ref sig .tc := ⟨.hbm, 570, rfl⟩
abbrev main_call3_call0_call0_v14 : Ref sig .tc := ⟨.hbm, 571, rfl⟩
abbrev main_call3_call0_call0_v15 : Ref sig .tc := ⟨.hbm, 572, rfl⟩
abbrev main_call3_call0_call0_c_3 : Ref sig .tc := ⟨.hbm, 573, rfl⟩
abbrev main_call3_call0_call0_v16 : Ref sig .tc := ⟨.hbm, 574, rfl⟩
abbrev main_call3_call0_call0_v17 : Ref sig .tc := ⟨.hbm, 575, rfl⟩
abbrev main_call3_call0_call0_v18 : Ref sig .tc := ⟨.hbm, 576, rfl⟩
abbrev main_call3_call0_call0_v19 : Ref sig .tc := ⟨.hbm, 577, rfl⟩
abbrev main_call3_call0_call0_v20 : Ref sig .tc := ⟨.hbm, 578, rfl⟩
abbrev main_call3_call0_call0_c_4 : Ref sig .tc := ⟨.hbm, 579, rfl⟩
abbrev main_call3_call0_call0_v21 : Ref sig .tc := ⟨.hbm, 580, rfl⟩
abbrev main_call3_call0_call0_v22 : Ref sig .tc := ⟨.hbm, 581, rfl⟩
abbrev main_call3_call0_call0_c_5 : Ref sig .tc := ⟨.hbm, 582, rfl⟩
abbrev main_call3_call0_call0_v23 : Ref sig .tc := ⟨.hbm, 583, rfl⟩
abbrev main_call3_call0_call0_v24 : Ref sig .tc := ⟨.hbm, 584, rfl⟩
abbrev main_call3_call0_call0_v25 : Ref sig .tc := ⟨.hbm, 585, rfl⟩
abbrev main_call3_call0_call0_v26 : Ref sig .tc := ⟨.hbm, 586, rfl⟩
abbrev main_call3_call0_call0_v27 : Ref sig .tc := ⟨.hbm, 587, rfl⟩
abbrev main_call3_call0_call0_c_6 : Ref sig .tc := ⟨.hbm, 588, rfl⟩
abbrev main_call3_call0_call0_v28 : Ref sig .tc := ⟨.hbm, 589, rfl⟩
abbrev main_call3_call0_call0_v29 : Ref sig .tc := ⟨.hbm, 590, rfl⟩
abbrev main_call3_call0_call0_c_7 : Ref sig .tc := ⟨.hbm, 591, rfl⟩
abbrev main_call3_call0_call0_v30 : Ref sig .tc := ⟨.hbm, 592, rfl⟩
abbrev main_call3_call0_call0_v31 : Ref sig .tc := ⟨.hbm, 593, rfl⟩
abbrev main_call3_call0_call0_v32 : Ref sig .tc := ⟨.hbm, 594, rfl⟩
abbrev main_call3_call0_call0_v33 : Ref sig .tc := ⟨.hbm, 595, rfl⟩
abbrev main_call3_call0_call0_v34 : Ref sig .tc := ⟨.hbm, 596, rfl⟩
abbrev main_call3_call0_call0_v35 : Ref sig .tc := ⟨.hbm, 597, rfl⟩
abbrev main_call3_call0_call0_v36 : Ref sig .tc := ⟨.hbm, 598, rfl⟩
abbrev main_call3_call0_call0_v37 : Ref sig .tc := ⟨.hbm, 599, rfl⟩
abbrev main_call3_call0_call0_c_8 : Ref sig .tc := ⟨.hbm, 600, rfl⟩
abbrev main_call3_call0_call0_v38 : Ref sig .tc := ⟨.hbm, 601, rfl⟩
abbrev main_call3_call0_call0_v39 : Ref sig .tc := ⟨.hbm, 602, rfl⟩
abbrev main_call3_call0_call0_v40 : Ref sig .tc := ⟨.hbm, 603, rfl⟩
abbrev main_call3_call0_call0_c_9 : Ref sig .tc := ⟨.hbm, 604, rfl⟩
abbrev main_call3_call0_call0_v41 : Ref sig .tc := ⟨.hbm, 605, rfl⟩
abbrev main_call3_call0_call0_v42 : Ref sig .tc := ⟨.hbm, 606, rfl⟩
abbrev main_call3_call0_call0_c_10 : Ref sig .tc := ⟨.hbm, 607, rfl⟩
abbrev main_call3_call0_call0_v43 : Ref sig .tc := ⟨.hbm, 608, rfl⟩
abbrev main_call3_call0_call0_v44 : Ref sig .tc := ⟨.hbm, 609, rfl⟩
abbrev main_call3_call0_call0_v45 : Ref sig .tc := ⟨.hbm, 610, rfl⟩
abbrev main_call3_call0_call0_v46 : Ref sig .tc := ⟨.hbm, 611, rfl⟩
abbrev main_call3_call0_call0_v47 : Ref sig .tc := ⟨.hbm, 612, rfl⟩
abbrev main_call3_call0_call0_c_11 : Ref sig .tc := ⟨.hbm, 613, rfl⟩
abbrev main_call3_call0_call0_v48 : Ref sig .tc := ⟨.hbm, 614, rfl⟩
abbrev main_call3_call0_call0_v49 : Ref sig .tc := ⟨.hbm, 615, rfl⟩
abbrev main_call3_call0_call0_c_12 : Ref sig .tc := ⟨.hbm, 616, rfl⟩
abbrev main_call3_call0_call0_v50 : Ref sig .tc := ⟨.hbm, 617, rfl⟩
abbrev main_call3_call0_call0_v51 : Ref sig .tc := ⟨.hbm, 618, rfl⟩
abbrev main_call3_call0_call0_v52 : Ref sig .tc := ⟨.hbm, 619, rfl⟩
abbrev main_call3_call0_call0_v53 : Ref sig .tc := ⟨.hbm, 620, rfl⟩
abbrev main_call3_call0_call0_v54 : Ref sig .tc := ⟨.hbm, 621, rfl⟩
abbrev main_call3_call0_call0_c_13 : Ref sig .tc := ⟨.hbm, 622, rfl⟩
abbrev main_call3_call0_call0_v55 : Ref sig .tc := ⟨.hbm, 623, rfl⟩
abbrev main_call3_call0_call0_v56 : Ref sig .tc := ⟨.hbm, 624, rfl⟩
abbrev main_call3_call0_call0_c_14 : Ref sig .tc := ⟨.hbm, 625, rfl⟩
abbrev main_call3_call0_call0_v57 : Ref sig .tc := ⟨.hbm, 626, rfl⟩
abbrev main_call3_call0_call0_v58 : Ref sig .tc := ⟨.hbm, 627, rfl⟩
abbrev main_call3_call0_call0_v59 : Ref sig .tc := ⟨.hbm, 628, rfl⟩
abbrev main_call3_call0_call0_v60 : Ref sig .tc := ⟨.hbm, 629, rfl⟩
abbrev main_call3_call0_call0_v61 : Ref sig .tc := ⟨.hbm, 630, rfl⟩
abbrev main_call3_call0_call0_c_15 : Ref sig .tc := ⟨.hbm, 631, rfl⟩
abbrev main_call3_call0_call0_v62 : Ref sig .tc := ⟨.hbm, 632, rfl⟩
abbrev main_call3_call0_call0_v63 : Ref sig .tc := ⟨.hbm, 633, rfl⟩
abbrev main_call3_call0_call0_c_16 : Ref sig .tc := ⟨.hbm, 634, rfl⟩
abbrev main_call3_call0_call0_v64 : Ref sig .tc := ⟨.hbm, 635, rfl⟩
abbrev main_call3_call0_call0_v65 : Ref sig .tc := ⟨.hbm, 636, rfl⟩
abbrev main_call3_call0_call0_v66 : Ref sig .tc := ⟨.hbm, 637, rfl⟩
abbrev main_call3_call0_call0_v67 : Ref sig .tc := ⟨.hbm, 638, rfl⟩
abbrev main_call3_call0_call0_v68 : Ref sig .tc := ⟨.hbm, 639, rfl⟩
abbrev main_call3_call0_call0_v69 : Ref sig .tc := ⟨.hbm, 640, rfl⟩
abbrev main_call3_call0_call0_v70 : Ref sig .tc := ⟨.hbm, 641, rfl⟩
abbrev main_call3_call0_call0_v71 : Ref sig .tc := ⟨.hbm, 642, rfl⟩
abbrev main_call3_call0_call0_c_17 : Ref sig .tc := ⟨.hbm, 643, rfl⟩
abbrev main_call3_call0_call0_v72 : Ref sig .tc := ⟨.hbm, 644, rfl⟩
abbrev main_call3_call0_call0_v73 : Ref sig .tc := ⟨.hbm, 645, rfl⟩
abbrev main_call3_call0_call0_v74 : Ref sig .tc := ⟨.hbm, 646, rfl⟩
abbrev main_call3_call0_call0_c_18 : Ref sig .tc := ⟨.hbm, 647, rfl⟩
abbrev main_call3_call0_call0_v75 : Ref sig .tc := ⟨.hbm, 648, rfl⟩
abbrev main_call3_call0_call0_v76 : Ref sig .tc := ⟨.hbm, 649, rfl⟩
abbrev main_call3_call0_call0_c_19 : Ref sig .tc := ⟨.hbm, 650, rfl⟩
abbrev main_call3_call0_call0_v77 : Ref sig .tc := ⟨.hbm, 651, rfl⟩
abbrev main_call3_call0_call0_v78 : Ref sig .tc := ⟨.hbm, 652, rfl⟩
abbrev main_call3_call0_call0_v79 : Ref sig .tc := ⟨.hbm, 653, rfl⟩
abbrev main_call3_call0_call0_v80 : Ref sig .tc := ⟨.hbm, 654, rfl⟩
abbrev main_call3_call0_call0_v81 : Ref sig .tc := ⟨.hbm, 655, rfl⟩
abbrev main_call3_call0_call0_c_20 : Ref sig .tc := ⟨.hbm, 656, rfl⟩
abbrev main_call3_call0_call0_v82 : Ref sig .tc := ⟨.hbm, 657, rfl⟩
abbrev main_call3_call0_call0_v83 : Ref sig .tc := ⟨.hbm, 658, rfl⟩
abbrev main_call3_call0_call0_c_21 : Ref sig .tc := ⟨.hbm, 659, rfl⟩
abbrev main_call3_call0_call0_v84 : Ref sig .tc := ⟨.hbm, 660, rfl⟩
abbrev main_call3_call0_call0_v85 : Ref sig .tc := ⟨.hbm, 661, rfl⟩
abbrev main_call3_call0_call0_v86 : Ref sig .tc := ⟨.hbm, 662, rfl⟩
abbrev main_call3_call0_call0_v87 : Ref sig .tc := ⟨.hbm, 663, rfl⟩
abbrev main_call3_call0_call0_v88 : Ref sig .tc := ⟨.hbm, 664, rfl⟩
abbrev main_call3_call0_call0_c_22 : Ref sig .tc := ⟨.hbm, 665, rfl⟩
abbrev main_call3_call0_call0_v89 : Ref sig .tc := ⟨.hbm, 666, rfl⟩
abbrev main_call3_call0_call0_v90 : Ref sig .tc := ⟨.hbm, 667, rfl⟩
abbrev main_call3_call0_call0_c_23 : Ref sig .tc := ⟨.hbm, 668, rfl⟩
abbrev main_call3_call0_call0_v91 : Ref sig .tc := ⟨.hbm, 669, rfl⟩
abbrev main_call3_call0_call0_v92 : Ref sig .tc := ⟨.hbm, 670, rfl⟩
abbrev main_call3_call0_call0_v93 : Ref sig .tc := ⟨.hbm, 671, rfl⟩
abbrev main_call3_call0_call0_v94 : Ref sig .tc := ⟨.hbm, 672, rfl⟩
abbrev main_call3_call0_call0_v95 : Ref sig .tc := ⟨.hbm, 673, rfl⟩
abbrev main_call3_call0_call0_c_24 : Ref sig .tc := ⟨.hbm, 674, rfl⟩
abbrev main_call3_call0_call0_v96 : Ref sig .tc := ⟨.hbm, 675, rfl⟩
abbrev main_call3_call0_call0_v97 : Ref sig .tc := ⟨.hbm, 676, rfl⟩
abbrev main_call3_call0_call0_c_25 : Ref sig .tc := ⟨.hbm, 677, rfl⟩
abbrev main_call3_call0_call0_v98 : Ref sig .tc := ⟨.hbm, 678, rfl⟩
abbrev main_call3_call0_call0_v99 : Ref sig .tc := ⟨.hbm, 679, rfl⟩
abbrev main_call3_call0_call0_v100 : Ref sig .tc := ⟨.hbm, 680, rfl⟩
abbrev main_call3_call0_call0_v101 : Ref sig .tc := ⟨.hbm, 681, rfl⟩
abbrev main_call3_call0_call0_v102 : Ref sig .tc := ⟨.hbm, 682, rfl⟩
abbrev main_call3_call0_call0_v103 : Ref sig .tc := ⟨.hbm, 683, rfl⟩
abbrev main_call3_call0_call0_v104 : Ref sig .tc := ⟨.hbm, 684, rfl⟩
abbrev main_call3_call0_call0_v105 : Ref sig .tc := ⟨.hbm, 685, rfl⟩
abbrev main_call3_call0_call0_c_26 : Ref sig .tc := ⟨.hbm, 686, rfl⟩
abbrev main_call3_call0_call0_v106 : Ref sig .tc := ⟨.hbm, 687, rfl⟩
abbrev main_call3_call0_call0_v107 : Ref sig .tc := ⟨.hbm, 688, rfl⟩
abbrev main_call3_call0_call0_v108 : Ref sig .tc := ⟨.hbm, 689, rfl⟩
abbrev main_call3_call0_call0_c_27 : Ref sig .tc := ⟨.hbm, 690, rfl⟩
abbrev main_call3_call0_call0_v109 : Ref sig .tc := ⟨.hbm, 691, rfl⟩
abbrev main_call3_call0_call0_v110 : Ref sig .tc := ⟨.hbm, 692, rfl⟩
abbrev main_call3_call0_call0_c_28 : Ref sig .tc := ⟨.hbm, 693, rfl⟩
abbrev main_call3_call0_call0_v111 : Ref sig .tc := ⟨.hbm, 694, rfl⟩
abbrev main_call3_call0_call0_v112 : Ref sig .tc := ⟨.hbm, 695, rfl⟩
abbrev main_call3_call0_call0_v113 : Ref sig .tc := ⟨.hbm, 696, rfl⟩
abbrev main_call3_call0_call0_v114 : Ref sig .tc := ⟨.hbm, 697, rfl⟩
abbrev main_call3_call0_call0_v115 : Ref sig .tc := ⟨.hbm, 698, rfl⟩
abbrev main_call3_call0_call0_c_29 : Ref sig .tc := ⟨.hbm, 699, rfl⟩
abbrev main_call3_call0_call0_v116 : Ref sig .tc := ⟨.hbm, 700, rfl⟩
abbrev main_call3_call0_call0_v117 : Ref sig .tc := ⟨.hbm, 701, rfl⟩
abbrev main_call3_call0_call0_c_30 : Ref sig .tc := ⟨.hbm, 702, rfl⟩
abbrev main_call3_call0_call0_v118 : Ref sig .tc := ⟨.hbm, 703, rfl⟩
abbrev main_call3_call0_call0_v119 : Ref sig .tc := ⟨.hbm, 704, rfl⟩
abbrev main_call3_call0_call0_v120 : Ref sig .tc := ⟨.hbm, 705, rfl⟩
abbrev main_call3_call0_call0_v121 : Ref sig .tc := ⟨.hbm, 706, rfl⟩
abbrev main_call3_call0_call0_v122 : Ref sig .tc := ⟨.hbm, 707, rfl⟩
abbrev main_call3_call0_call0_c_31 : Ref sig .tc := ⟨.hbm, 708, rfl⟩
abbrev main_call3_call0_call0_v123 : Ref sig .tc := ⟨.hbm, 709, rfl⟩
abbrev main_call3_call0_call0_v124 : Ref sig .tc := ⟨.hbm, 710, rfl⟩
abbrev main_call3_call0_call0_c_32 : Ref sig .tc := ⟨.hbm, 711, rfl⟩
abbrev main_call3_call0_call0_v125 : Ref sig .tc := ⟨.hbm, 712, rfl⟩
abbrev main_call3_call0_call0_v126 : Ref sig .tc := ⟨.hbm, 713, rfl⟩
abbrev main_call3_call0_call0_v127 : Ref sig .tc := ⟨.hbm, 714, rfl⟩
abbrev main_call3_call0_call0_v128 : Ref sig .tc := ⟨.hbm, 715, rfl⟩
abbrev main_call3_call0_call0_v129 : Ref sig .tc := ⟨.hbm, 716, rfl⟩
abbrev main_call3_call0_call0_c_33 : Ref sig .tc := ⟨.hbm, 717, rfl⟩
abbrev main_call3_call0_call0_v130 : Ref sig .tc := ⟨.hbm, 718, rfl⟩
abbrev main_call3_call0_call0_v131 : Ref sig .tc := ⟨.hbm, 719, rfl⟩
abbrev main_call3_call0_call0_c_34 : Ref sig .tc := ⟨.hbm, 720, rfl⟩
abbrev main_call3_call0_call0_v132 : Ref sig .tc := ⟨.hbm, 721, rfl⟩
abbrev main_call3_call0_call0_v133 : Ref sig .tc := ⟨.hbm, 722, rfl⟩
abbrev main_call3_call0_call0_v134 : Ref sig .tc := ⟨.hbm, 723, rfl⟩
abbrev main_call3_call0_call0_v135 : Ref sig .tc := ⟨.hbm, 724, rfl⟩
abbrev main_call3_call0_call0_v136 : Ref sig .tc := ⟨.hbm, 725, rfl⟩
abbrev main_call3_call0_call0_v137 : Ref sig .tc := ⟨.hbm, 726, rfl⟩
abbrev main_call3_call0_call0_v138 : Ref sig .tc := ⟨.hbm, 727, rfl⟩
abbrev main_call3_call0_call0_v139 : Ref sig .tc := ⟨.hbm, 728, rfl⟩
abbrev main_call3_call0_call0_c_35 : Ref sig .tc := ⟨.hbm, 729, rfl⟩
abbrev main_call3_call0_call0_v140 : Ref sig .tc := ⟨.hbm, 730, rfl⟩
abbrev main_call3_call0_call0_v141 : Ref sig .tc := ⟨.hbm, 731, rfl⟩
abbrev main_call3_call0_call0_v142 : Ref sig .tc := ⟨.hbm, 732, rfl⟩
abbrev main_call3_call0_call0_c_36 : Ref sig .tc := ⟨.hbm, 733, rfl⟩
abbrev main_call3_call0_call0_v143 : Ref sig .tc := ⟨.hbm, 734, rfl⟩
abbrev main_call3_call0_call0_v144 : Ref sig .tc := ⟨.hbm, 735, rfl⟩
abbrev main_call3_call0_call0_c_37 : Ref sig .tc := ⟨.hbm, 736, rfl⟩
abbrev main_call3_call0_call0_v145 : Ref sig .tc := ⟨.hbm, 737, rfl⟩
abbrev main_call3_call0_call0_v146 : Ref sig .tc := ⟨.hbm, 738, rfl⟩
abbrev main_call3_call0_call0_v147 : Ref sig .tc := ⟨.hbm, 739, rfl⟩
abbrev main_call3_call0_call0_v148 : Ref sig .tc := ⟨.hbm, 740, rfl⟩
abbrev main_call3_call0_call0_v149 : Ref sig .tc := ⟨.hbm, 741, rfl⟩
abbrev main_call3_call0_call0_c_38 : Ref sig .tc := ⟨.hbm, 742, rfl⟩
abbrev main_call3_call0_call0_v150 : Ref sig .tc := ⟨.hbm, 743, rfl⟩
abbrev main_call3_call0_call0_v151 : Ref sig .tc := ⟨.hbm, 744, rfl⟩
abbrev main_call3_call0_call0_c_39 : Ref sig .tc := ⟨.hbm, 745, rfl⟩
abbrev main_call3_call0_call0_v152 : Ref sig .tc := ⟨.hbm, 746, rfl⟩
abbrev main_call3_call0_call0_v153 : Ref sig .tc := ⟨.hbm, 747, rfl⟩
abbrev main_call3_call0_call0_v154 : Ref sig .tc := ⟨.hbm, 748, rfl⟩
abbrev main_call3_call0_call0_v155 : Ref sig .tc := ⟨.hbm, 749, rfl⟩
abbrev main_call3_call0_call0_v156 : Ref sig .tc := ⟨.hbm, 750, rfl⟩
abbrev main_call3_call0_call0_c_40 : Ref sig .tc := ⟨.hbm, 751, rfl⟩
abbrev main_call3_call0_call0_v157 : Ref sig .tc := ⟨.hbm, 752, rfl⟩
abbrev main_call3_call0_call0_v158 : Ref sig .tc := ⟨.hbm, 753, rfl⟩
abbrev main_call3_call0_call0_c_41 : Ref sig .tc := ⟨.hbm, 754, rfl⟩
abbrev main_call3_call0_call0_v159 : Ref sig .tc := ⟨.hbm, 755, rfl⟩
abbrev main_call3_call0_call0_v160 : Ref sig .tc := ⟨.hbm, 756, rfl⟩
abbrev main_call3_call0_call0_v161 : Ref sig .tc := ⟨.hbm, 757, rfl⟩
abbrev main_call3_call0_call0_v162 : Ref sig .tc := ⟨.hbm, 758, rfl⟩
abbrev main_call3_call0_call0_v163 : Ref sig .tc := ⟨.hbm, 759, rfl⟩
abbrev main_call3_call0_call0_c_42 : Ref sig .tc := ⟨.hbm, 760, rfl⟩
abbrev main_call3_call0_call0_v164 : Ref sig .tc := ⟨.hbm, 761, rfl⟩
abbrev main_call3_call0_call0_v165 : Ref sig .tc := ⟨.hbm, 762, rfl⟩
abbrev main_call3_call0_call0_c_43 : Ref sig .tc := ⟨.hbm, 763, rfl⟩
abbrev main_call3_call0_call0_v166 : Ref sig .tc := ⟨.hbm, 764, rfl⟩
abbrev main_call3_call0_call0_v167 : Ref sig .tc := ⟨.hbm, 765, rfl⟩
abbrev main_call3_call0_call0_v168 : Ref sig .tc := ⟨.hbm, 766, rfl⟩
abbrev main_call3_call0_call0_v169 : Ref sig .tc := ⟨.hbm, 767, rfl⟩
abbrev main_call3_call0_call0_v170 : Ref sig .tc := ⟨.hbm, 768, rfl⟩
abbrev main_call3_call0_v22_0 : Ref sig .tc := ⟨.hbm, 769, rfl⟩
abbrev main_call3_call0_call0_v172 : Ref sig .tc := ⟨.hbm, 770, rfl⟩
abbrev main_call3_call0_call0_v173 : Ref sig .tc := ⟨.hbm, 771, rfl⟩
abbrev main_call3_call0_call0_c_44 : Ref sig .tc := ⟨.hbm, 772, rfl⟩
abbrev main_call3_call0_call0_v174 : Ref sig .tc := ⟨.hbm, 773, rfl⟩
abbrev main_call3_call0_v22_1 : Ref sig .tc := ⟨.hbm, 774, rfl⟩
abbrev main_call3_call0_v23 : Ref sig .tc := ⟨.hbm, 775, rfl⟩
abbrev main_call3_call0_c_3 : Ref sig .tc := ⟨.hbm, 776, rfl⟩
abbrev main_call3_call0_v24 : Ref sig .tc := ⟨.hbm, 777, rfl⟩
abbrev main_call3_call0_v25 : Ref sig .tc := ⟨.hbm, 778, rfl⟩
abbrev main_call3_call0_c_4 : Ref sig .tc := ⟨.hbm, 779, rfl⟩
abbrev main_call3_call0_v26 : Ref sig .tc := ⟨.hbm, 780, rfl⟩
abbrev main_call3_call0_v27 : Ref sig .tc := ⟨.hbm, 781, rfl⟩
abbrev main_call3_call0_v28 : Ref sig .tc := ⟨.hbm, 782, rfl⟩
abbrev main_call3_call0_cst : Ref sig .tc := ⟨.hbm, 783, rfl⟩
abbrev main_call3_call0_v29 : Ref sig .tc := ⟨.hbm, 784, rfl⟩
abbrev main_call3_call0_v30 : Ref sig .tc := ⟨.hbm, 785, rfl⟩
abbrev main_call3_call0_v31 : Ref sig .tc := ⟨.hbm, 786, rfl⟩
abbrev main_call3_call0_v32 : Ref sig .tc := ⟨.hbm, 787, rfl⟩
abbrev main_call3_call0_v33 : Ref sig .tc := ⟨.hbm, 788, rfl⟩
abbrev main_call3_call0_v34 : Ref sig .tc := ⟨.hbm, 789, rfl⟩
abbrev main_call3_call0_v35 : Ref sig .tc := ⟨.hbm, 790, rfl⟩
abbrev main_call3_call0_v36 : Ref sig .tc := ⟨.hbm, 791, rfl⟩
abbrev main_call3_v0 : Ref sig .tc := ⟨.hbm, 792, rfl⟩
abbrev main_call3_v1 : Ref sig .tc := ⟨.hbm, 793, rfl⟩
abbrev main_call3_v2 : Ref sig .tc := ⟨.hbm, 794, rfl⟩
abbrev main_call3_v3 : Ref sig .tc := ⟨.hbm, 795, rfl⟩
abbrev main_v16 : Ref sig .tc := ⟨.hbm, 796, rfl⟩
abbrev main_v17 : Ref sig .tc := ⟨.hbm, 797, rfl⟩
abbrev main_cst_3 : Ref sig .tc := ⟨.hbm, 798, rfl⟩
abbrev main_cst_4 : Ref sig .tc := ⟨.hbm, 799, rfl⟩
abbrev main_call4_v0 : Ref sig .tc := ⟨.hbm, 800, rfl⟩
abbrev main_call4_v1 : Ref sig .tc := ⟨.hbm, 801, rfl⟩
abbrev main_call4_v2 : Ref sig .tc := ⟨.hbm, 802, rfl⟩
abbrev main_call4_v3 : Ref sig .tc := ⟨.hbm, 803, rfl⟩
abbrev main_call4_v4 : Ref sig .tc := ⟨.hbm, 804, rfl⟩
abbrev main_call4_v5 : Ref sig .tc := ⟨.hbm, 805, rfl⟩
abbrev main_call4_v6 : Ref sig .tc := ⟨.hbm, 806, rfl⟩
abbrev main_call4_v7 : Ref sig .tc := ⟨.hbm, 807, rfl⟩
abbrev main_call4_v8 : Ref sig .tc := ⟨.hbm, 808, rfl⟩
abbrev main_call4_c : Ref sig .tc := ⟨.hbm, 809, rfl⟩
abbrev main_call4_v9 : Ref sig .tc := ⟨.hbm, 810, rfl⟩
abbrev main_call4_v10 : Ref sig .tc := ⟨.hbm, 811, rfl⟩
abbrev main_call4_c_0 : Ref sig .tc := ⟨.hbm, 812, rfl⟩
abbrev main_call4_v11 : Ref sig .tc := ⟨.hbm, 813, rfl⟩
abbrev main_call4_v12 : Ref sig .tc := ⟨.hbm, 814, rfl⟩
abbrev main_call4_v13 : Ref sig .tc := ⟨.hbm, 815, rfl⟩
abbrev main_call4_v14 : Ref sig .tc := ⟨.hbm, 816, rfl⟩
abbrev main_call4_call0_v0 : Ref sig .tc := ⟨.hbm, 817, rfl⟩
abbrev main_call4_call0_c : Ref sig .tc := ⟨.hbm, 818, rfl⟩
abbrev main_call4_call0_v1 : Ref sig .tc := ⟨.hbm, 819, rfl⟩
abbrev main_call4_call0_v2 : Ref sig .tc := ⟨.hbm, 820, rfl⟩
abbrev main_call4_call0_v3 : Ref sig .tc := ⟨.hbm, 821, rfl⟩
abbrev main_call4_call0_v4 : Ref sig .tc := ⟨.hbm, 822, rfl⟩
abbrev main_call4_call0_v5 : Ref sig .tc := ⟨.hbm, 823, rfl⟩
abbrev main_call4_call0_v6 : Ref sig .tc := ⟨.hbm, 824, rfl⟩
abbrev main_call4_call0_c_0 : Ref sig .tc := ⟨.hbm, 825, rfl⟩
abbrev main_call4_call0_v7 : Ref sig .tc := ⟨.hbm, 826, rfl⟩
abbrev main_call4_call0_v8 : Ref sig .tc := ⟨.hbm, 827, rfl⟩
abbrev main_call4_call0_c_1 : Ref sig .tc := ⟨.hbm, 828, rfl⟩
abbrev main_call4_call0_v9 : Ref sig .tc := ⟨.hbm, 829, rfl⟩
abbrev main_call4_call0_v10 : Ref sig .tc := ⟨.hbm, 830, rfl⟩
abbrev main_call4_call0_v11 : Ref sig .tc := ⟨.hbm, 831, rfl⟩
abbrev main_call4_call0_v12 : Ref sig .tc := ⟨.hbm, 832, rfl⟩
abbrev main_call4_call0_v13 : Ref sig .tc := ⟨.hbm, 833, rfl⟩
abbrev main_call4_call0_c_2 : Ref sig .tc := ⟨.hbm, 834, rfl⟩
abbrev main_call4_call0_v14 : Ref sig .tc := ⟨.hbm, 835, rfl⟩
abbrev main_call4_call0_v15 : Ref sig .tc := ⟨.hbm, 836, rfl⟩
abbrev main_call4_call0_c_3 : Ref sig .tc := ⟨.hbm, 837, rfl⟩
abbrev main_call4_call0_v16 : Ref sig .tc := ⟨.hbm, 838, rfl⟩
abbrev main_call4_call0_v17 : Ref sig .tc := ⟨.hbm, 839, rfl⟩
abbrev main_call4_call0_v18 : Ref sig .tc := ⟨.hbm, 840, rfl⟩
abbrev main_call4_call0_v19 : Ref sig .tc := ⟨.hbm, 841, rfl⟩
abbrev main_call4_call0_v20 : Ref sig .tc := ⟨.hbm, 842, rfl⟩
abbrev main_call4_call0_c_4 : Ref sig .tc := ⟨.hbm, 843, rfl⟩
abbrev main_call4_call0_v21 : Ref sig .tc := ⟨.hbm, 844, rfl⟩
abbrev main_call4_call0_v22 : Ref sig .tc := ⟨.hbm, 845, rfl⟩
abbrev main_call4_call0_c_5 : Ref sig .tc := ⟨.hbm, 846, rfl⟩
abbrev main_call4_call0_v23 : Ref sig .tc := ⟨.hbm, 847, rfl⟩
abbrev main_call4_call0_v24 : Ref sig .tc := ⟨.hbm, 848, rfl⟩
abbrev main_call4_call0_v25 : Ref sig .tc := ⟨.hbm, 849, rfl⟩
abbrev main_call4_call0_v26 : Ref sig .tc := ⟨.hbm, 850, rfl⟩
abbrev main_call4_call0_v27 : Ref sig .tc := ⟨.hbm, 851, rfl⟩
abbrev main_call4_call0_c_6 : Ref sig .tc := ⟨.hbm, 852, rfl⟩
abbrev main_call4_call0_v28 : Ref sig .tc := ⟨.hbm, 853, rfl⟩
abbrev main_call4_call0_v29 : Ref sig .tc := ⟨.hbm, 854, rfl⟩
abbrev main_call4_call0_c_7 : Ref sig .tc := ⟨.hbm, 855, rfl⟩
abbrev main_call4_call0_v30 : Ref sig .tc := ⟨.hbm, 856, rfl⟩
abbrev main_call4_call0_v31 : Ref sig .tc := ⟨.hbm, 857, rfl⟩
abbrev main_call4_call0_v32 : Ref sig .tc := ⟨.hbm, 858, rfl⟩
abbrev main_call4_call0_v33 : Ref sig .tc := ⟨.hbm, 859, rfl⟩
abbrev main_call4_call0_v34 : Ref sig .tc := ⟨.hbm, 860, rfl⟩
abbrev main_call4_call0_v35 : Ref sig .tc := ⟨.hbm, 861, rfl⟩
abbrev main_call4_call0_v36 : Ref sig .tc := ⟨.hbm, 862, rfl⟩
abbrev main_call4_call0_v37 : Ref sig .tc := ⟨.hbm, 863, rfl⟩
abbrev main_call4_call0_c_8 : Ref sig .tc := ⟨.hbm, 864, rfl⟩
abbrev main_call4_call0_v38 : Ref sig .tc := ⟨.hbm, 865, rfl⟩
abbrev main_call4_call0_v39 : Ref sig .tc := ⟨.hbm, 866, rfl⟩
abbrev main_call4_call0_v40 : Ref sig .tc := ⟨.hbm, 867, rfl⟩
abbrev main_call4_call0_c_9 : Ref sig .tc := ⟨.hbm, 868, rfl⟩
abbrev main_call4_call0_v41 : Ref sig .tc := ⟨.hbm, 869, rfl⟩
abbrev main_call4_call0_v42 : Ref sig .tc := ⟨.hbm, 870, rfl⟩
abbrev main_call4_call0_c_10 : Ref sig .tc := ⟨.hbm, 871, rfl⟩
abbrev main_call4_call0_v43 : Ref sig .tc := ⟨.hbm, 872, rfl⟩
abbrev main_call4_call0_v44 : Ref sig .tc := ⟨.hbm, 873, rfl⟩
abbrev main_call4_call0_v45 : Ref sig .tc := ⟨.hbm, 874, rfl⟩
abbrev main_call4_call0_v46 : Ref sig .tc := ⟨.hbm, 875, rfl⟩
abbrev main_call4_call0_v47 : Ref sig .tc := ⟨.hbm, 876, rfl⟩
abbrev main_call4_call0_c_11 : Ref sig .tc := ⟨.hbm, 877, rfl⟩
abbrev main_call4_call0_v48 : Ref sig .tc := ⟨.hbm, 878, rfl⟩
abbrev main_call4_call0_v49 : Ref sig .tc := ⟨.hbm, 879, rfl⟩
abbrev main_call4_call0_c_12 : Ref sig .tc := ⟨.hbm, 880, rfl⟩
abbrev main_call4_call0_v50 : Ref sig .tc := ⟨.hbm, 881, rfl⟩
abbrev main_call4_call0_v51 : Ref sig .tc := ⟨.hbm, 882, rfl⟩
abbrev main_call4_call0_v52 : Ref sig .tc := ⟨.hbm, 883, rfl⟩
abbrev main_call4_call0_v53 : Ref sig .tc := ⟨.hbm, 884, rfl⟩
abbrev main_call4_call0_v54 : Ref sig .tc := ⟨.hbm, 885, rfl⟩
abbrev main_call4_call0_c_13 : Ref sig .tc := ⟨.hbm, 886, rfl⟩
abbrev main_call4_call0_v55 : Ref sig .tc := ⟨.hbm, 887, rfl⟩
abbrev main_call4_call0_v56 : Ref sig .tc := ⟨.hbm, 888, rfl⟩
abbrev main_call4_call0_c_14 : Ref sig .tc := ⟨.hbm, 889, rfl⟩
abbrev main_call4_call0_v57 : Ref sig .tc := ⟨.hbm, 890, rfl⟩
abbrev main_call4_call0_v58 : Ref sig .tc := ⟨.hbm, 891, rfl⟩
abbrev main_call4_call0_v59 : Ref sig .tc := ⟨.hbm, 892, rfl⟩
abbrev main_call4_call0_v60 : Ref sig .tc := ⟨.hbm, 893, rfl⟩
abbrev main_call4_call0_v61 : Ref sig .tc := ⟨.hbm, 894, rfl⟩
abbrev main_call4_call0_c_15 : Ref sig .tc := ⟨.hbm, 895, rfl⟩
abbrev main_call4_call0_v62 : Ref sig .tc := ⟨.hbm, 896, rfl⟩
abbrev main_call4_call0_v63 : Ref sig .tc := ⟨.hbm, 897, rfl⟩
abbrev main_call4_call0_c_16 : Ref sig .tc := ⟨.hbm, 898, rfl⟩
abbrev main_call4_call0_v64 : Ref sig .tc := ⟨.hbm, 899, rfl⟩
abbrev main_call4_call0_v65 : Ref sig .tc := ⟨.hbm, 900, rfl⟩
abbrev main_call4_call0_v66 : Ref sig .tc := ⟨.hbm, 901, rfl⟩
abbrev main_call4_call0_v67 : Ref sig .tc := ⟨.hbm, 902, rfl⟩
abbrev main_call4_call0_v68 : Ref sig .tc := ⟨.hbm, 903, rfl⟩
abbrev main_call4_call0_v69 : Ref sig .tc := ⟨.hbm, 904, rfl⟩
abbrev main_call4_call0_v70 : Ref sig .tc := ⟨.hbm, 905, rfl⟩
abbrev main_call4_call0_v71 : Ref sig .tc := ⟨.hbm, 906, rfl⟩
abbrev main_call4_call0_c_17 : Ref sig .tc := ⟨.hbm, 907, rfl⟩
abbrev main_call4_call0_v72 : Ref sig .tc := ⟨.hbm, 908, rfl⟩
abbrev main_call4_call0_v73 : Ref sig .tc := ⟨.hbm, 909, rfl⟩
abbrev main_call4_call0_v74 : Ref sig .tc := ⟨.hbm, 910, rfl⟩
abbrev main_call4_call0_c_18 : Ref sig .tc := ⟨.hbm, 911, rfl⟩
abbrev main_call4_call0_v75 : Ref sig .tc := ⟨.hbm, 912, rfl⟩
abbrev main_call4_call0_v76 : Ref sig .tc := ⟨.hbm, 913, rfl⟩
abbrev main_call4_call0_c_19 : Ref sig .tc := ⟨.hbm, 914, rfl⟩
abbrev main_call4_call0_v77 : Ref sig .tc := ⟨.hbm, 915, rfl⟩
abbrev main_call4_call0_v78 : Ref sig .tc := ⟨.hbm, 916, rfl⟩
abbrev main_call4_call0_v79 : Ref sig .tc := ⟨.hbm, 917, rfl⟩
abbrev main_call4_call0_v80 : Ref sig .tc := ⟨.hbm, 918, rfl⟩
abbrev main_call4_call0_v81 : Ref sig .tc := ⟨.hbm, 919, rfl⟩
abbrev main_call4_call0_c_20 : Ref sig .tc := ⟨.hbm, 920, rfl⟩
abbrev main_call4_call0_v82 : Ref sig .tc := ⟨.hbm, 921, rfl⟩
abbrev main_call4_call0_v83 : Ref sig .tc := ⟨.hbm, 922, rfl⟩
abbrev main_call4_call0_c_21 : Ref sig .tc := ⟨.hbm, 923, rfl⟩
abbrev main_call4_call0_v84 : Ref sig .tc := ⟨.hbm, 924, rfl⟩
abbrev main_call4_call0_v85 : Ref sig .tc := ⟨.hbm, 925, rfl⟩
abbrev main_call4_call0_v86 : Ref sig .tc := ⟨.hbm, 926, rfl⟩
abbrev main_call4_call0_v87 : Ref sig .tc := ⟨.hbm, 927, rfl⟩
abbrev main_call4_call0_v88 : Ref sig .tc := ⟨.hbm, 928, rfl⟩
abbrev main_call4_call0_c_22 : Ref sig .tc := ⟨.hbm, 929, rfl⟩
abbrev main_call4_call0_v89 : Ref sig .tc := ⟨.hbm, 930, rfl⟩
abbrev main_call4_call0_v90 : Ref sig .tc := ⟨.hbm, 931, rfl⟩
abbrev main_call4_call0_c_23 : Ref sig .tc := ⟨.hbm, 932, rfl⟩
abbrev main_call4_call0_v91 : Ref sig .tc := ⟨.hbm, 933, rfl⟩
abbrev main_call4_call0_v92 : Ref sig .tc := ⟨.hbm, 934, rfl⟩
abbrev main_call4_call0_v93 : Ref sig .tc := ⟨.hbm, 935, rfl⟩
abbrev main_call4_call0_v94 : Ref sig .tc := ⟨.hbm, 936, rfl⟩
abbrev main_call4_call0_v95 : Ref sig .tc := ⟨.hbm, 937, rfl⟩
abbrev main_call4_call0_c_24 : Ref sig .tc := ⟨.hbm, 938, rfl⟩
abbrev main_call4_call0_v96 : Ref sig .tc := ⟨.hbm, 939, rfl⟩
abbrev main_call4_call0_v97 : Ref sig .tc := ⟨.hbm, 940, rfl⟩
abbrev main_call4_call0_c_25 : Ref sig .tc := ⟨.hbm, 941, rfl⟩
abbrev main_call4_call0_v98 : Ref sig .tc := ⟨.hbm, 942, rfl⟩
abbrev main_call4_call0_v99 : Ref sig .tc := ⟨.hbm, 943, rfl⟩
abbrev main_call4_call0_v100 : Ref sig .tc := ⟨.hbm, 944, rfl⟩
abbrev main_call4_call0_v101 : Ref sig .tc := ⟨.hbm, 945, rfl⟩
abbrev main_call4_call0_v102 : Ref sig .tc := ⟨.hbm, 946, rfl⟩
abbrev main_call4_call0_v103 : Ref sig .tc := ⟨.hbm, 947, rfl⟩
abbrev main_call4_call0_v104 : Ref sig .tc := ⟨.hbm, 948, rfl⟩
abbrev main_call4_call0_v105 : Ref sig .tc := ⟨.hbm, 949, rfl⟩
abbrev main_call4_call0_c_26 : Ref sig .tc := ⟨.hbm, 950, rfl⟩
abbrev main_call4_call0_v106 : Ref sig .tc := ⟨.hbm, 951, rfl⟩
abbrev main_call4_call0_v107 : Ref sig .tc := ⟨.hbm, 952, rfl⟩
abbrev main_call4_call0_v108 : Ref sig .tc := ⟨.hbm, 953, rfl⟩
abbrev main_call4_call0_c_27 : Ref sig .tc := ⟨.hbm, 954, rfl⟩
abbrev main_call4_call0_v109 : Ref sig .tc := ⟨.hbm, 955, rfl⟩
abbrev main_call4_call0_v110 : Ref sig .tc := ⟨.hbm, 956, rfl⟩
abbrev main_call4_call0_c_28 : Ref sig .tc := ⟨.hbm, 957, rfl⟩
abbrev main_call4_call0_v111 : Ref sig .tc := ⟨.hbm, 958, rfl⟩
abbrev main_call4_call0_v112 : Ref sig .tc := ⟨.hbm, 959, rfl⟩
abbrev main_call4_call0_v113 : Ref sig .tc := ⟨.hbm, 960, rfl⟩
abbrev main_call4_call0_v114 : Ref sig .tc := ⟨.hbm, 961, rfl⟩
abbrev main_call4_call0_v115 : Ref sig .tc := ⟨.hbm, 962, rfl⟩
abbrev main_call4_call0_c_29 : Ref sig .tc := ⟨.hbm, 963, rfl⟩
abbrev main_call4_call0_v116 : Ref sig .tc := ⟨.hbm, 964, rfl⟩
abbrev main_call4_call0_v117 : Ref sig .tc := ⟨.hbm, 965, rfl⟩
abbrev main_call4_call0_c_30 : Ref sig .tc := ⟨.hbm, 966, rfl⟩
abbrev main_call4_call0_v118 : Ref sig .tc := ⟨.hbm, 967, rfl⟩
abbrev main_call4_call0_v119 : Ref sig .tc := ⟨.hbm, 968, rfl⟩
abbrev main_call4_call0_v120 : Ref sig .tc := ⟨.hbm, 969, rfl⟩
abbrev main_call4_call0_v121 : Ref sig .tc := ⟨.hbm, 970, rfl⟩
abbrev main_call4_call0_v122 : Ref sig .tc := ⟨.hbm, 971, rfl⟩
abbrev main_call4_call0_c_31 : Ref sig .tc := ⟨.hbm, 972, rfl⟩
abbrev main_call4_call0_v123 : Ref sig .tc := ⟨.hbm, 973, rfl⟩
abbrev main_call4_call0_v124 : Ref sig .tc := ⟨.hbm, 974, rfl⟩
abbrev main_call4_call0_c_32 : Ref sig .tc := ⟨.hbm, 975, rfl⟩
abbrev main_call4_call0_v125 : Ref sig .tc := ⟨.hbm, 976, rfl⟩
abbrev main_call4_call0_v126 : Ref sig .tc := ⟨.hbm, 977, rfl⟩
abbrev main_call4_call0_v127 : Ref sig .tc := ⟨.hbm, 978, rfl⟩
abbrev main_call4_call0_v128 : Ref sig .tc := ⟨.hbm, 979, rfl⟩
abbrev main_call4_call0_v129 : Ref sig .tc := ⟨.hbm, 980, rfl⟩
abbrev main_call4_call0_c_33 : Ref sig .tc := ⟨.hbm, 981, rfl⟩
abbrev main_call4_call0_v130 : Ref sig .tc := ⟨.hbm, 982, rfl⟩
abbrev main_call4_call0_v131 : Ref sig .tc := ⟨.hbm, 983, rfl⟩
abbrev main_call4_call0_c_34 : Ref sig .tc := ⟨.hbm, 984, rfl⟩
abbrev main_call4_call0_v132 : Ref sig .tc := ⟨.hbm, 985, rfl⟩
abbrev main_call4_call0_v133 : Ref sig .tc := ⟨.hbm, 986, rfl⟩
abbrev main_call4_call0_v134 : Ref sig .tc := ⟨.hbm, 987, rfl⟩
abbrev main_call4_call0_v135 : Ref sig .tc := ⟨.hbm, 988, rfl⟩
abbrev main_call4_call0_v136 : Ref sig .tc := ⟨.hbm, 989, rfl⟩
abbrev main_call4_call0_v137 : Ref sig .tc := ⟨.hbm, 990, rfl⟩
abbrev main_call4_call0_v138 : Ref sig .tc := ⟨.hbm, 991, rfl⟩
abbrev main_call4_call0_v139 : Ref sig .tc := ⟨.hbm, 992, rfl⟩
abbrev main_call4_call0_c_35 : Ref sig .tc := ⟨.hbm, 993, rfl⟩
abbrev main_call4_call0_v140 : Ref sig .tc := ⟨.hbm, 994, rfl⟩
abbrev main_call4_call0_v141 : Ref sig .tc := ⟨.hbm, 995, rfl⟩
abbrev main_call4_call0_v142 : Ref sig .tc := ⟨.hbm, 996, rfl⟩
abbrev main_call4_call0_c_36 : Ref sig .tc := ⟨.hbm, 997, rfl⟩
abbrev main_call4_call0_v143 : Ref sig .tc := ⟨.hbm, 998, rfl⟩
abbrev main_call4_call0_v144 : Ref sig .tc := ⟨.hbm, 999, rfl⟩
abbrev main_call4_call0_c_37 : Ref sig .tc := ⟨.hbm, 1000, rfl⟩
abbrev main_call4_call0_v145 : Ref sig .tc := ⟨.hbm, 1001, rfl⟩
abbrev main_call4_call0_v146 : Ref sig .tc := ⟨.hbm, 1002, rfl⟩
abbrev main_call4_call0_v147 : Ref sig .tc := ⟨.hbm, 1003, rfl⟩
abbrev main_call4_call0_v148 : Ref sig .tc := ⟨.hbm, 1004, rfl⟩
abbrev main_call4_call0_v149 : Ref sig .tc := ⟨.hbm, 1005, rfl⟩
abbrev main_call4_call0_c_38 : Ref sig .tc := ⟨.hbm, 1006, rfl⟩
abbrev main_call4_call0_v150 : Ref sig .tc := ⟨.hbm, 1007, rfl⟩
abbrev main_call4_call0_v151 : Ref sig .tc := ⟨.hbm, 1008, rfl⟩
abbrev main_call4_call0_c_39 : Ref sig .tc := ⟨.hbm, 1009, rfl⟩
abbrev main_call4_call0_v152 : Ref sig .tc := ⟨.hbm, 1010, rfl⟩
abbrev main_call4_call0_v153 : Ref sig .tc := ⟨.hbm, 1011, rfl⟩
abbrev main_call4_call0_v154 : Ref sig .tc := ⟨.hbm, 1012, rfl⟩
abbrev main_call4_call0_v155 : Ref sig .tc := ⟨.hbm, 1013, rfl⟩
abbrev main_call4_call0_v156 : Ref sig .tc := ⟨.hbm, 1014, rfl⟩
abbrev main_call4_call0_c_40 : Ref sig .tc := ⟨.hbm, 1015, rfl⟩
abbrev main_call4_call0_v157 : Ref sig .tc := ⟨.hbm, 1016, rfl⟩
abbrev main_call4_call0_v158 : Ref sig .tc := ⟨.hbm, 1017, rfl⟩
abbrev main_call4_call0_c_41 : Ref sig .tc := ⟨.hbm, 1018, rfl⟩
abbrev main_call4_call0_v159 : Ref sig .tc := ⟨.hbm, 1019, rfl⟩
abbrev main_call4_call0_v160 : Ref sig .tc := ⟨.hbm, 1020, rfl⟩
abbrev main_call4_call0_v161 : Ref sig .tc := ⟨.hbm, 1021, rfl⟩
abbrev main_call4_call0_v162 : Ref sig .tc := ⟨.hbm, 1022, rfl⟩
abbrev main_call4_call0_v163 : Ref sig .tc := ⟨.hbm, 1023, rfl⟩
abbrev main_call4_call0_c_42 : Ref sig .tc := ⟨.hbm, 1024, rfl⟩
abbrev main_call4_call0_v164 : Ref sig .tc := ⟨.hbm, 1025, rfl⟩
abbrev main_call4_call0_v165 : Ref sig .tc := ⟨.hbm, 1026, rfl⟩
abbrev main_call4_call0_c_43 : Ref sig .tc := ⟨.hbm, 1027, rfl⟩
abbrev main_call4_call0_v166 : Ref sig .tc := ⟨.hbm, 1028, rfl⟩
abbrev main_call4_call0_v167 : Ref sig .tc := ⟨.hbm, 1029, rfl⟩
abbrev main_call4_call0_v168 : Ref sig .tc := ⟨.hbm, 1030, rfl⟩
abbrev main_call4_call0_v169 : Ref sig .tc := ⟨.hbm, 1031, rfl⟩
abbrev main_call4_call0_v170 : Ref sig .tc := ⟨.hbm, 1032, rfl⟩
abbrev main_call4_v15_0 : Ref sig .tc := ⟨.hbm, 1033, rfl⟩
abbrev main_call4_call0_v172 : Ref sig .tc := ⟨.hbm, 1034, rfl⟩
abbrev main_call4_call0_v173 : Ref sig .tc := ⟨.hbm, 1035, rfl⟩
abbrev main_call4_call0_c_44 : Ref sig .tc := ⟨.hbm, 1036, rfl⟩
abbrev main_call4_call0_v174 : Ref sig .tc := ⟨.hbm, 1037, rfl⟩
abbrev main_call4_v15_1 : Ref sig .tc := ⟨.hbm, 1038, rfl⟩
abbrev main_call4_v16 : Ref sig .tc := ⟨.hbm, 1039, rfl⟩
abbrev main_call4_c_1 : Ref sig .tc := ⟨.hbm, 1040, rfl⟩
abbrev main_call4_v17 : Ref sig .tc := ⟨.hbm, 1041, rfl⟩
abbrev main_call4_v18 : Ref sig .tc := ⟨.hbm, 1042, rfl⟩
abbrev main_call4_c_2 : Ref sig .tc := ⟨.hbm, 1043, rfl⟩
abbrev main_call4_v19 : Ref sig .tc := ⟨.hbm, 1044, rfl⟩
abbrev main_call4_v20 : Ref sig .tc := ⟨.hbm, 1045, rfl⟩
abbrev main_call4_v21 : Ref sig .tc := ⟨.hbm, 1046, rfl⟩
abbrev main_call4_cst : Ref sig .tc := ⟨.hbm, 1047, rfl⟩
abbrev main_call4_v22 : Ref sig .tc := ⟨.hbm, 1048, rfl⟩
abbrev main_call4_v23 : Ref sig .tc := ⟨.hbm, 1049, rfl⟩
abbrev main_call4_v24 : Ref sig .tc := ⟨.hbm, 1050, rfl⟩
abbrev main_call4_v25 : Ref sig .tc := ⟨.hbm, 1051, rfl⟩
abbrev main_call4_v26 : Ref sig .tc := ⟨.hbm, 1052, rfl⟩
abbrev main_call4_v27 : Ref sig .tc := ⟨.hbm, 1053, rfl⟩
abbrev main_call4_v28 : Ref sig .tc := ⟨.hbm, 1054, rfl⟩
abbrev main_call4_v29 : Ref sig .tc := ⟨.hbm, 1055, rfl⟩
abbrev main_v18 : Ref sig .tc := ⟨.hbm, 1056, rfl⟩
abbrev main_v19 : Ref sig .tc := ⟨.hbm, 1057, rfl⟩
abbrev main_v20 : Ref sig .tc := ⟨.hbm, 1058, rfl⟩
abbrev main_v21_0 : Ref sig .tc := ⟨.hbm, 1059, rfl⟩
abbrev main_v21_1 : Ref sig .tc := ⟨.hbm, 1060, rfl⟩
abbrev main_v21_2 : Ref sig .tc := ⟨.hbm, 1061, rfl⟩
abbrev main_c_5 : Ref sig .tc := ⟨.hbm, 1062, rfl⟩
abbrev main_v22 : Ref sig .tc := ⟨.hbm, 1063, rfl⟩
abbrev main_v23 : Ref sig .tc := ⟨.hbm, 1064, rfl⟩
abbrev main_v24 : Ref sig .tc := ⟨.hbm, 1065, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg0_0 : Ref sig .tc := ⟨.smem, 0, rfl⟩
abbrev cc0_stg1_0 : Ref sig .tc := ⟨.smem, 1, rfl⟩
abbrev cc0_stg6_0 : Ref sig .tc := ⟨.smem, 2, rfl⟩
abbrev cc0_stg7_0 : Ref sig .tc := ⟨.smem, 3, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def k0_off1 (i : grid0.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v8 : Index := Scalar.indexCast v1
  ![v8.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x32x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x32x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S128x32x8192 : Shape := ⟨3, ![128, 32, 8192]⟩
abbrev S32x8192 : Shape := ⟨2, ![32, 8192]⟩
abbrev S_ : Shape := ⟨0, ![]⟩
abbrev S1 : Shape := ⟨1, ![1]⟩
abbrev S2 : Shape := ⟨1, ![2]⟩
abbrev S3 : Shape := ⟨1, ![3]⟩
abbrev S3x1 : Shape := ⟨2, ![3, 1]⟩
abbrev S3x2 : Shape := ⟨2, ![3, 2]⟩
abbrev S1x2 : Shape := ⟨2, ![1, 2]⟩
abbrev S1x1 : Shape := ⟨2, ![1, 1]⟩
abbrev S128x8192 : Shape := ⟨2, ![128, 8192]⟩
abbrev S1x1x1 : Shape := ⟨3, ![1, 1, 1]⟩
abbrev S128x8192x32 : Shape := ⟨3, ![128, 8192, 32]⟩
abbrev S128 : Shape := ⟨1, ![128]⟩
abbrev S128x1 : Shape := ⟨2, ![128, 1]⟩
abbrev S128x1x1 : Shape := ⟨3, ![128, 1, 1]⟩
abbrev S128x1x2 : Shape := ⟨3, ![128, 1, 2]⟩
abbrev S128x1x8192 : Shape := ⟨3, ![128, 1, 8192]⟩
abbrev S128x8192x1 : Shape := ⟨3, ![128, 8192, 1]⟩
abbrev S1x1x32 : Shape := ⟨3, ![1, 1, 32]⟩

abbrev nBuf : Space → Nat
  | .hbm => 1115
  | .vmem => 0
  | .smem => 0
  | _ => 0

abbrev hbmTy0_0 (i : Nat) : BufTy := match i % 128 with
  | 0 => ⟨S128x32x8192, .f32⟩
  | 1 => ⟨S32x8192, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S1, .i32⟩
  | 13 => ⟨S_, .i32⟩
  | 14 => ⟨S1, .i32⟩
  | 15 => ⟨S_, .i32⟩
  | 16 => ⟨S3, .i64⟩
  | 17 => ⟨S_, .i64⟩
  | 18 => ⟨S3, .i64⟩
  | 19 => ⟨S3, .i64⟩
  | 20 => ⟨S_, .i64⟩
  | 21 => ⟨S3, .i64⟩
  | 22 => ⟨S3, .i64⟩
  | 23 => ⟨S3, .i32⟩
  | 24 => ⟨S3, .i32⟩
  | 25 => ⟨S_, .i32⟩
  | 26 => ⟨S_, .i32⟩
  | 27 => ⟨S_, .i32⟩
  | 28 => ⟨S3, .i32⟩
  | 29 => ⟨S3, .i32⟩
  | 30 => ⟨S3, .i32⟩
  | 31 => ⟨S3, .i32⟩
  | 32 => ⟨S3, .i32⟩
  | 33 => ⟨S_, .i32⟩
  | 34 => ⟨S3, .i32⟩
  | 35 => ⟨S3, .i32⟩
  | 36 => ⟨S_, .i32⟩
  | 37 => ⟨S3, .i32⟩
  | 38 => ⟨S3, .i32⟩
  | 39 => ⟨S3, .i32⟩
  | 40 => ⟨S3, .i32⟩
  | 41 => ⟨S3, .i32⟩
  | 42 => ⟨S_, .i32⟩
  | 43 => ⟨S3, .i32⟩
  | 44 => ⟨S3, .i32⟩
  | 45 => ⟨S_, .i32⟩
  | 46 => ⟨S3, .i32⟩
  | 47 => ⟨S3, .i32⟩
  | 48 => ⟨S3, .i32⟩
  | 49 => ⟨S3, .i32⟩
  | 50 => ⟨S3, .i32⟩
  | 51 => ⟨S_, .i32⟩
  | 52 => ⟨S3, .i32⟩
  | 53 => ⟨S3, .i32⟩
  | 54 => ⟨S_, .i32⟩
  | 55 => ⟨S3, .i32⟩
  | 56 => ⟨S3, .i32⟩
  | 57 => ⟨S3, .i32⟩
  | 58 => ⟨S3, .i32⟩
  | 59 => ⟨S3, .i32⟩
  | 60 => ⟨S_, .i32⟩
  | 61 => ⟨S3, .i32⟩
  | 62 => ⟨S3, .i32⟩
  | 63 => ⟨S_, .i32⟩
  | 64 => ⟨S3, .i32⟩
  | 65 => ⟨S3, .i32⟩
  | 66 => ⟨S3, .i32⟩
  | 67 => ⟨S3, .i32⟩
  | 68 => ⟨S3, .i32⟩
  | 69 => ⟨S3, .i32⟩
  | 70 => ⟨S3, .i32⟩
  | 71 => ⟨S3, .i32⟩
  | 72 => ⟨S_, .i32⟩
  | 73 => ⟨S3, .i32⟩
  | 74 => ⟨S3, .i32⟩
  | 75 => ⟨S3, .i32⟩
  | 76 => ⟨S_, .i32⟩
  | 77 => ⟨S3, .i32⟩
  | 78 => ⟨S3, .i32⟩
  | 79 => ⟨S_, .i32⟩
  | 80 => ⟨S3, .i32⟩
  | 81 => ⟨S3, .i32⟩
  | 82 => ⟨S3, .i32⟩
  | 83 => ⟨S3, .i32⟩
  | 84 => ⟨S3, .i32⟩
  | 85 => ⟨S_, .i32⟩
  | 86 => ⟨S3, .i32⟩
  | 87 => ⟨S3, .i32⟩
  | 88 => ⟨S_, .i32⟩
  | 89 => ⟨S3, .i32⟩
  | 90 => ⟨S3, .i32⟩
  | 91 => ⟨S3, .i32⟩
  | 92 => ⟨S3, .i32⟩
  | 93 => ⟨S3, .i32⟩
  | 94 => ⟨S_, .i32⟩
  | 95 => ⟨S3, .i32⟩
  | 96 => ⟨S3, .i32⟩
  | 97 => ⟨S_, .i32⟩
  | 98 => ⟨S3, .i32⟩
  | 99 => ⟨S3, .i32⟩
  | 100 => ⟨S3, .i32⟩
  | 101 => ⟨S3, .i32⟩
  | 102 => ⟨S3, .i32⟩
  | 103 => ⟨S_, .i32⟩
  | 104 => ⟨S3, .i32⟩
  | 105 => ⟨S3, .i32⟩
  | 106 => ⟨S_, .i32⟩
  | 107 => ⟨S3, .i32⟩
  | 108 => ⟨S3, .i32⟩
  | 109 => ⟨S3, .i32⟩
  | 110 => ⟨S3, .i32⟩
  | 111 => ⟨S3, .i32⟩
  | 112 => ⟨S3, .i32⟩
  | 113 => ⟨S3, .i32⟩
  | 114 => ⟨S3, .i32⟩
  | 115 => ⟨S_, .i32⟩
  | 116 => ⟨S3, .i32⟩
  | 117 => ⟨S3, .i32⟩
  | 118 => ⟨S3, .i32⟩
  | 119 => ⟨S_, .i32⟩
  | 120 => ⟨S3, .i32⟩
  | 121 => ⟨S3, .i32⟩
  | 122 => ⟨S_, .i32⟩
  | 123 => ⟨S3, .i32⟩
  | 124 => ⟨S3, .i32⟩
  | 125 => ⟨S3, .i32⟩
  | 126 => ⟨S3, .i32⟩
  | 127 => ⟨S3, .i32⟩
  | _ => ⟨S128x32x8192, .f32⟩

abbrev hbmTy0_1 (i : Nat) : BufTy := match i % 128 with
  | 0 => ⟨S_, .i32⟩
  | 1 => ⟨S3, .i32⟩
  | 2 => ⟨S3, .i32⟩
  | 3 => ⟨S_, .i32⟩
  | 4 => ⟨S3, .i32⟩
  | 5 => ⟨S3, .i32⟩
  | 6 => ⟨S3, .i32⟩
  | 7 => ⟨S3, .i32⟩
  | 8 => ⟨S3, .i32⟩
  | 9 => ⟨S_, .i32⟩
  | 10 => ⟨S3, .i32⟩
  | 11 => ⟨S3, .i32⟩
  | 12 => ⟨S_, .i32⟩
  | 13 => ⟨S3, .i32⟩
  | 14 => ⟨S3, .i32⟩
  | 15 => ⟨S3, .i32⟩
  | 16 => ⟨S3, .i32⟩
  | 17 => ⟨S3, .i32⟩
  | 18 => ⟨S_, .i32⟩
  | 19 => ⟨S3, .i32⟩
  | 20 => ⟨S3, .i32⟩
  | 21 => ⟨S_, .i32⟩
  | 22 => ⟨S3, .i32⟩
  | 23 => ⟨S3, .i32⟩
  | 24 => ⟨S3, .i32⟩
  | 25 => ⟨S3, .i32⟩
  | 26 => ⟨S3, .i32⟩
  | 27 => ⟨S3, .i32⟩
  | 28 => ⟨S3, .i32⟩
  | 29 => ⟨S3, .i32⟩
  | 30 => ⟨S_, .i32⟩
  | 31 => ⟨S3, .i32⟩
  | 32 => ⟨S3, .i32⟩
  | 33 => ⟨S3, .i32⟩
  | 34 => ⟨S_, .i32⟩
  | 35 => ⟨S3, .i32⟩
  | 36 => ⟨S3, .i32⟩
  | 37 => ⟨S_, .i32⟩
  | 38 => ⟨S3, .i32⟩
  | 39 => ⟨S3, .i32⟩
  | 40 => ⟨S3, .i32⟩
  | 41 => ⟨S3, .i32⟩
  | 42 => ⟨S3, .i32⟩
  | 43 => ⟨S_, .i32⟩
  | 44 => ⟨S3, .i32⟩
  | 45 => ⟨S3, .i32⟩
  | 46 => ⟨S_, .i32⟩
  | 47 => ⟨S3, .i32⟩
  | 48 => ⟨S3, .i32⟩
  | 49 => ⟨S3, .i32⟩
  | 50 => ⟨S3, .i32⟩
  | 51 => ⟨S3, .i32⟩
  | 52 => ⟨S_, .i32⟩
  | 53 => ⟨S3, .i32⟩
  | 54 => ⟨S3, .i32⟩
  | 55 => ⟨S_, .i32⟩
  | 56 => ⟨S3, .i32⟩
  | 57 => ⟨S3, .i32⟩
  | 58 => ⟨S3, .i32⟩
  | 59 => ⟨S3, .i32⟩
  | 60 => ⟨S3, .i32⟩
  | 61 => ⟨S_, .i32⟩
  | 62 => ⟨S3, .i32⟩
  | 63 => ⟨S3, .i32⟩
  | 64 => ⟨S_, .i32⟩
  | 65 => ⟨S3, .i32⟩
  | 66 => ⟨S3, .i32⟩
  | 67 => ⟨S3, .i32⟩
  | 68 => ⟨S3, .i32⟩
  | 69 => ⟨S3, .i32⟩
  | 70 => ⟨S3, .i32⟩
  | 71 => ⟨S3, .i32⟩
  | 72 => ⟨S3, .i32⟩
  | 73 => ⟨S_, .i32⟩
  | 74 => ⟨S3, .i32⟩
  | 75 => ⟨S3, .i32⟩
  | 76 => ⟨S3, .i32⟩
  | 77 => ⟨S_, .i32⟩
  | 78 => ⟨S3, .i32⟩
  | 79 => ⟨S3, .i32⟩
  | 80 => ⟨S_, .i32⟩
  | 81 => ⟨S3, .i32⟩
  | 82 => ⟨S3, .i32⟩
  | 83 => ⟨S3, .i32⟩
  | 84 => ⟨S3, .i32⟩
  | 85 => ⟨S3, .i32⟩
  | 86 => ⟨S_, .i32⟩
  | 87 => ⟨S3, .i32⟩
  | 88 => ⟨S3, .i32⟩
  | 89 => ⟨S_, .i32⟩
  | 90 => ⟨S3, .i32⟩
  | 91 => ⟨S3, .i32⟩
  | 92 => ⟨S3, .i32⟩
  | 93 => ⟨S3, .i32⟩
  | 94 => ⟨S3, .i32⟩
  | 95 => ⟨S_, .i32⟩
  | 96 => ⟨S3, .i32⟩
  | 97 => ⟨S3, .i32⟩
  | 98 => ⟨S_, .i32⟩
  | 99 => ⟨S3, .i32⟩
  | 100 => ⟨S3, .i32⟩
  | 101 => ⟨S3, .i32⟩
  | 102 => ⟨S3, .i32⟩
  | 103 => ⟨S3, .i32⟩
  | 104 => ⟨S_, .i32⟩
  | 105 => ⟨S3, .i32⟩
  | 106 => ⟨S3, .i32⟩
  | 107 => ⟨S_, .i32⟩
  | 108 => ⟨S3, .i32⟩
  | 109 => ⟨S3, .i32⟩
  | 110 => ⟨S3, .i32⟩
  | 111 => ⟨S3, .i32⟩
  | 112 => ⟨S3, .i32⟩
  | 113 => ⟨S3, .i32⟩
  | 114 => ⟨S3, .i32⟩
  | 115 => ⟨S3, .i32⟩
  | 116 => ⟨S_, .i32⟩
  | 117 => ⟨S3, .i32⟩
  | 118 => ⟨S3, .i32⟩
  | 119 => ⟨S3x1, .i32⟩
  | 120 => ⟨S3x1, .i32⟩
  | 121 => ⟨S3x2, .i32⟩
  | 122 => ⟨S1x2, .i32⟩
  | 123 => ⟨S2, .i32⟩
  | 124 => ⟨S1x2, .i32⟩
  | 125 => ⟨S2, .i32⟩
  | 126 => ⟨S1x2, .i32⟩
  | 127 => ⟨S2, .i32⟩
  | _ => ⟨S128x32x8192, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S1x1, .f32⟩
  | 5 => ⟨S1x1, .f32⟩
  | 6 => ⟨S1, .i32⟩
  | 7 => ⟨S_, .i32⟩
  | 8 => ⟨S1, .i32⟩
  | 9 => ⟨S_, .i32⟩
  | 10 => ⟨S128x8192, .i64⟩
  | 11 => ⟨S128x8192, .i64⟩
  | 12 => ⟨S_, .i64⟩
  | 13 => ⟨S128x8192, .i64⟩
  | 14 => ⟨S128x8192, .i64⟩
  | 15 => ⟨S_, .i64⟩
  | 16 => ⟨S128x8192, .i64⟩
  | 17 => ⟨S128x8192, .i64⟩
  | 18 => ⟨S128x8192, .i64⟩
  | 19 => ⟨S_, .i64⟩
  | 20 => ⟨S128x8192, .i64⟩
  | 21 => ⟨S128x8192, .i64⟩
  | 22 => ⟨S128x8192, .i32⟩
  | 23 => ⟨S128x8192, .i32⟩
  | 24 => ⟨S_, .i32⟩
  | 25 => ⟨S_, .i32⟩
  | 26 => ⟨S_, .i32⟩
  | 27 => ⟨S128x8192, .i32⟩
  | 28 => ⟨S128x8192, .i32⟩
  | 29 => ⟨S128x8192, .i32⟩
  | 30 => ⟨S128x8192, .i32⟩
  | 31 => ⟨S128x8192, .i32⟩
  | 32 => ⟨S_, .i32⟩
  | 33 => ⟨S128x8192, .i32⟩
  | 34 => ⟨S128x8192, .i32⟩
  | 35 => ⟨S_, .i32⟩
  | 36 => ⟨S128x8192, .i32⟩
  | 37 => ⟨S128x8192, .i32⟩
  | 38 => ⟨S128x8192, .i32⟩
  | 39 => ⟨S128x8192, .i32⟩
  | 40 => ⟨S128x8192, .i32⟩
  | 41 => ⟨S_, .i32⟩
  | 42 => ⟨S128x8192, .i32⟩
  | 43 => ⟨S128x8192, .i32⟩
  | 44 => ⟨S_, .i32⟩
  | 45 => ⟨S128x8192, .i32⟩
  | 46 => ⟨S128x8192, .i32⟩
  | 47 => ⟨S128x8192, .i32⟩
  | 48 => ⟨S128x8192, .i32⟩
  | 49 => ⟨S128x8192, .i32⟩
  | 50 => ⟨S_, .i32⟩
  | 51 => ⟨S128x8192, .i32⟩
  | 52 => ⟨S128x8192, .i32⟩
  | 53 => ⟨S_, .i32⟩
  | 54 => ⟨S128x8192, .i32⟩
  | 55 => ⟨S128x8192, .i32⟩
  | 56 => ⟨S128x8192, .i32⟩
  | 57 => ⟨S128x8192, .i32⟩
  | 58 => ⟨S128x8192, .i32⟩
  | 59 => ⟨S_, .i32⟩
  | 60 => ⟨S128x8192, .i32⟩
  | 61 => ⟨S128x8192, .i32⟩
  | 62 => ⟨S_, .i32⟩
  | 63 => ⟨S128x8192, .i32⟩
  | 64 => ⟨S128x8192, .i32⟩
  | 65 => ⟨S128x8192, .i32⟩
  | 66 => ⟨S128x8192, .i32⟩
  | 67 => ⟨S128x8192, .i32⟩
  | 68 => ⟨S128x8192, .i32⟩
  | 69 => ⟨S128x8192, .i32⟩
  | 70 => ⟨S128x8192, .i32⟩
  | 71 => ⟨S_, .i32⟩
  | 72 => ⟨S128x8192, .i32⟩
  | 73 => ⟨S128x8192, .i32⟩
  | 74 => ⟨S128x8192, .i32⟩
  | 75 => ⟨S_, .i32⟩
  | 76 => ⟨S128x8192, .i32⟩
  | 77 => ⟨S128x8192, .i32⟩
  | 78 => ⟨S_, .i32⟩
  | 79 => ⟨S128x8192, .i32⟩
  | 80 => ⟨S128x8192, .i32⟩
  | 81 => ⟨S128x8192, .i32⟩
  | 82 => ⟨S128x8192, .i32⟩
  | 83 => ⟨S128x8192, .i32⟩
  | 84 => ⟨S_, .i32⟩
  | 85 => ⟨S128x8192, .i32⟩
  | 86 => ⟨S128x8192, .i32⟩
  | 87 => ⟨S_, .i32⟩
  | 88 => ⟨S128x8192, .i32⟩
  | 89 => ⟨S128x8192, .i32⟩
  | 90 => ⟨S128x8192, .i32⟩
  | 91 => ⟨S128x8192, .i32⟩
  | 92 => ⟨S128x8192, .i32⟩
  | 93 => ⟨S_, .i32⟩
  | 94 => ⟨S128x8192, .i32⟩
  | 95 => ⟨S128x8192, .i32⟩
  | 96 => ⟨S_, .i32⟩
  | 97 => ⟨S128x8192, .i32⟩
  | 98 => ⟨S128x8192, .i32⟩
  | 99 => ⟨S128x8192, .i32⟩
  | 100 => ⟨S128x8192, .i32⟩
  | 101 => ⟨S128x8192, .i32⟩
  | 102 => ⟨S_, .i32⟩
  | 103 => ⟨S128x8192, .i32⟩
  | 104 => ⟨S128x8192, .i32⟩
  | 105 => ⟨S_, .i32⟩
  | 106 => ⟨S128x8192, .i32⟩
  | 107 => ⟨S128x8192, .i32⟩
  | 108 => ⟨S128x8192, .i32⟩
  | 109 => ⟨S128x8192, .i32⟩
  | 110 => ⟨S128x8192, .i32⟩
  | 111 => ⟨S128x8192, .i32⟩
  | 112 => ⟨S128x8192, .i32⟩
  | 113 => ⟨S128x8192, .i32⟩
  | 114 => ⟨S_, .i32⟩
  | 115 => ⟨S128x8192, .i32⟩
  | 116 => ⟨S128x8192, .i32⟩
  | 117 => ⟨S128x8192, .i32⟩
  | 118 => ⟨S_, .i32⟩
  | 119 => ⟨S128x8192, .i32⟩
  | 120 => ⟨S128x8192, .i32⟩
  | 121 => ⟨S_, .i32⟩
  | 122 => ⟨S128x8192, .i32⟩
  | 123 => ⟨S128x8192, .i32⟩
  | 124 => ⟨S128x8192, .i32⟩
  | 125 => ⟨S128x8192, .i32⟩
  | 126 => ⟨S128x8192, .i32⟩
  | 127 => ⟨S_, .i32⟩
  | _ => ⟨S128x32x8192, .f32⟩

abbrev hbmTy0_3 (i : Nat) : BufTy := match i % 128 with
  | 0 => ⟨S128x8192, .i32⟩
  | 1 => ⟨S128x8192, .i32⟩
  | 2 => ⟨S_, .i32⟩
  | 3 => ⟨S128x8192, .i32⟩
  | 4 => ⟨S128x8192, .i32⟩
  | 5 => ⟨S128x8192, .i32⟩
  | 6 => ⟨S128x8192, .i32⟩
  | 7 => ⟨S128x8192, .i32⟩
  | 8 => ⟨S_, .i32⟩
  | 9 => ⟨S128x8192, .i32⟩
  | 10 => ⟨S128x8192, .i32⟩
  | 11 => ⟨S_, .i32⟩
  | 12 => ⟨S128x8192, .i32⟩
  | 13 => ⟨S128x8192, .i32⟩
  | 14 => ⟨S128x8192, .i32⟩
  | 15 => ⟨S128x8192, .i32⟩
  | 16 => ⟨S128x8192, .i32⟩
  | 17 => ⟨S_, .i32⟩
  | 18 => ⟨S128x8192, .i32⟩
  | 19 => ⟨S128x8192, .i32⟩
  | 20 => ⟨S_, .i32⟩
  | 21 => ⟨S128x8192, .i32⟩
  | 22 => ⟨S128x8192, .i32⟩
  | 23 => ⟨S128x8192, .i32⟩
  | 24 => ⟨S128x8192, .i32⟩
  | 25 => ⟨S128x8192, .i32⟩
  | 26 => ⟨S128x8192, .i32⟩
  | 27 => ⟨S128x8192, .i32⟩
  | 28 => ⟨S128x8192, .i32⟩
  | 29 => ⟨S_, .i32⟩
  | 30 => ⟨S128x8192, .i32⟩
  | 31 => ⟨S128x8192, .i32⟩
  | 32 => ⟨S128x8192, .i32⟩
  | 33 => ⟨S_, .i32⟩
  | 34 => ⟨S128x8192, .i32⟩
  | 35 => ⟨S128x8192, .i32⟩
  | 36 => ⟨S_, .i32⟩
  | 37 => ⟨S128x8192, .i32⟩
  | 38 => ⟨S128x8192, .i32⟩
  | 39 => ⟨S128x8192, .i32⟩
  | 40 => ⟨S128x8192, .i32⟩
  | 41 => ⟨S128x8192, .i32⟩
  | 42 => ⟨S_, .i32⟩
  | 43 => ⟨S128x8192, .i32⟩
  | 44 => ⟨S128x8192, .i32⟩
  | 45 => ⟨S_, .i32⟩
  | 46 => ⟨S128x8192, .i32⟩
  | 47 => ⟨S128x8192, .i32⟩
  | 48 => ⟨S128x8192, .i32⟩
  | 49 => ⟨S128x8192, .i32⟩
  | 50 => ⟨S128x8192, .i32⟩
  | 51 => ⟨S_, .i32⟩
  | 52 => ⟨S128x8192, .i32⟩
  | 53 => ⟨S128x8192, .i32⟩
  | 54 => ⟨S_, .i32⟩
  | 55 => ⟨S128x8192, .i32⟩
  | 56 => ⟨S128x8192, .i32⟩
  | 57 => ⟨S128x8192, .i32⟩
  | 58 => ⟨S128x8192, .i32⟩
  | 59 => ⟨S128x8192, .i32⟩
  | 60 => ⟨S_, .i32⟩
  | 61 => ⟨S128x8192, .i32⟩
  | 62 => ⟨S128x8192, .i32⟩
  | 63 => ⟨S_, .i32⟩
  | 64 => ⟨S128x8192, .i32⟩
  | 65 => ⟨S128x8192, .i32⟩
  | 66 => ⟨S128x8192, .i32⟩
  | 67 => ⟨S128x8192, .i32⟩
  | 68 => ⟨S128x8192, .i32⟩
  | 69 => ⟨S128x8192, .i32⟩
  | 70 => ⟨S128x8192, .i32⟩
  | 71 => ⟨S128x8192, .i32⟩
  | 72 => ⟨S_, .i32⟩
  | 73 => ⟨S128x8192, .i32⟩
  | 74 => ⟨S128x8192, .i32⟩
  | 75 => ⟨S128x8192, .i32⟩
  | 76 => ⟨S_, .i32⟩
  | 77 => ⟨S128x8192, .i32⟩
  | 78 => ⟨S128x8192, .i32⟩
  | 79 => ⟨S_, .i32⟩
  | 80 => ⟨S128x8192, .i32⟩
  | 81 => ⟨S128x8192, .i32⟩
  | 82 => ⟨S128x8192, .i32⟩
  | 83 => ⟨S128x8192, .i32⟩
  | 84 => ⟨S128x8192, .i32⟩
  | 85 => ⟨S_, .i32⟩
  | 86 => ⟨S128x8192, .i32⟩
  | 87 => ⟨S128x8192, .i32⟩
  | 88 => ⟨S_, .i32⟩
  | 89 => ⟨S128x8192, .i32⟩
  | 90 => ⟨S128x8192, .i32⟩
  | 91 => ⟨S128x8192, .i32⟩
  | 92 => ⟨S128x8192, .i32⟩
  | 93 => ⟨S128x8192, .i32⟩
  | 94 => ⟨S_, .i32⟩
  | 95 => ⟨S128x8192, .i32⟩
  | 96 => ⟨S128x8192, .i32⟩
  | 97 => ⟨S_, .i32⟩
  | 98 => ⟨S128x8192, .i32⟩
  | 99 => ⟨S128x8192, .i32⟩
  | 100 => ⟨S128x8192, .i32⟩
  | 101 => ⟨S128x8192, .i32⟩
  | 102 => ⟨S128x8192, .i32⟩
  | 103 => ⟨S_, .i32⟩
  | 104 => ⟨S128x8192, .i32⟩
  | 105 => ⟨S128x8192, .i32⟩
  | 106 => ⟨S_, .i32⟩
  | 107 => ⟨S128x8192, .i32⟩
  | 108 => ⟨S128x8192, .i32⟩
  | 109 => ⟨S128x8192, .i32⟩
  | 110 => ⟨S128x8192, .i32⟩
  | 111 => ⟨S128x8192, .i32⟩
  | 112 => ⟨S128x8192, .i32⟩
  | 113 => ⟨S128x8192, .i32⟩
  | 114 => ⟨S128x8192, .i32⟩
  | 115 => ⟨S_, .i32⟩
  | 116 => ⟨S128x8192, .i32⟩
  | 117 => ⟨S128x8192, .i32⟩
  | 118 => ⟨S128x8192, .i32⟩
  | 119 => ⟨S_, .i32⟩
  | 120 => ⟨S128x8192, .i32⟩
  | 121 => ⟨S128x8192, .i32⟩
  | 122 => ⟨S_, .i32⟩
  | 123 => ⟨S128x8192, .i32⟩
  | 124 => ⟨S128x8192, .i32⟩
  | 125 => ⟨S128x8192, .f32⟩
  | 126 => ⟨S_, .f32⟩
  | 127 => ⟨S128x8192, .f32⟩
  | _ => ⟨S128x32x8192, .f32⟩

abbrev hbmTy0_4 (i : Nat) : BufTy := match i % 128 with
  | 0 => ⟨S128x8192, .f32⟩
  | 1 => ⟨S1x1, .f32⟩
  | 2 => ⟨S128x8192, .f32⟩
  | 3 => ⟨S128x8192, .f32⟩
  | 4 => ⟨S128x8192, .f32⟩
  | 5 => ⟨S128x8192, .f32⟩
  | 6 => ⟨S128x8192, .f32⟩
  | 7 => ⟨S128x8192, .f32⟩
  | 8 => ⟨S_, .f32⟩
  | 9 => ⟨S_, .f32⟩
  | 10 => ⟨S_, .f32⟩
  | 11 => ⟨S1x1x1, .f32⟩
  | 12 => ⟨S1x1x1, .f32⟩
  | 13 => ⟨S1, .i32⟩
  | 14 => ⟨S_, .i32⟩
  | 15 => ⟨S1, .i32⟩
  | 16 => ⟨S_, .i32⟩
  | 17 => ⟨S128x8192x32, .i64⟩
  | 18 => ⟨S128x8192x32, .i64⟩
  | 19 => ⟨S128x8192x32, .i64⟩
  | 20 => ⟨S_, .i64⟩
  | 21 => ⟨S128x8192x32, .i64⟩
  | 22 => ⟨S128x8192x32, .i64⟩
  | 23 => ⟨S_, .i64⟩
  | 24 => ⟨S128x8192x32, .i64⟩
  | 25 => ⟨S128x8192x32, .i64⟩
  | 26 => ⟨S_, .i64⟩
  | 27 => ⟨S128x8192x32, .i64⟩
  | 28 => ⟨S128x8192x32, .i64⟩
  | 29 => ⟨S128x8192x32, .i64⟩
  | 30 => ⟨S128x8192x32, .i64⟩
  | 31 => ⟨S_, .i64⟩
  | 32 => ⟨S128x8192x32, .i64⟩
  | 33 => ⟨S128x8192x32, .i64⟩
  | 34 => ⟨S128x8192x32, .i32⟩
  | 35 => ⟨S128x8192x32, .i32⟩
  | 36 => ⟨S_, .i32⟩
  | 37 => ⟨S_, .i32⟩
  | 38 => ⟨S_, .i32⟩
  | 39 => ⟨S128x8192x32, .i32⟩
  | 40 => ⟨S128x8192x32, .i32⟩
  | 41 => ⟨S128x8192x32, .i32⟩
  | 42 => ⟨S128x8192x32, .i32⟩
  | 43 => ⟨S128x8192x32, .i32⟩
  | 44 => ⟨S_, .i32⟩
  | 45 => ⟨S128x8192x32, .i32⟩
  | 46 => ⟨S128x8192x32, .i32⟩
  | 47 => ⟨S_, .i32⟩
  | 48 => ⟨S128x8192x32, .i32⟩
  | 49 => ⟨S128x8192x32, .i32⟩
  | 50 => ⟨S128x8192x32, .i32⟩
  | 51 => ⟨S128x8192x32, .i32⟩
  | 52 => ⟨S128x8192x32, .i32⟩
  | 53 => ⟨S_, .i32⟩
  | 54 => ⟨S128x8192x32, .i32⟩
  | 55 => ⟨S128x8192x32, .i32⟩
  | 56 => ⟨S_, .i32⟩
  | 57 => ⟨S128x8192x32, .i32⟩
  | 58 => ⟨S128x8192x32, .i32⟩
  | 59 => ⟨S128x8192x32, .i32⟩
  | 60 => ⟨S128x8192x32, .i32⟩
  | 61 => ⟨S128x8192x32, .i32⟩
  | 62 => ⟨S_, .i32⟩
  | 63 => ⟨S128x8192x32, .i32⟩
  | 64 => ⟨S128x8192x32, .i32⟩
  | 65 => ⟨S_, .i32⟩
  | 66 => ⟨S128x8192x32, .i32⟩
  | 67 => ⟨S128x8192x32, .i32⟩
  | 68 => ⟨S128x8192x32, .i32⟩
  | 69 => ⟨S128x8192x32, .i32⟩
  | 70 => ⟨S128x8192x32, .i32⟩
  | 71 => ⟨S_, .i32⟩
  | 72 => ⟨S128x8192x32, .i32⟩
  | 73 => ⟨S128x8192x32, .i32⟩
  | 74 => ⟨S_, .i32⟩
  | 75 => ⟨S128x8192x32, .i32⟩
  | 76 => ⟨S128x8192x32, .i32⟩
  | 77 => ⟨S128x8192x32, .i32⟩
  | 78 => ⟨S128x8192x32, .i32⟩
  | 79 => ⟨S128x8192x32, .i32⟩
  | 80 => ⟨S128x8192x32, .i32⟩
  | 81 => ⟨S128x8192x32, .i32⟩
  | 82 => ⟨S128x8192x32, .i32⟩
  | 83 => ⟨S_, .i32⟩
  | 84 => ⟨S128x8192x32, .i32⟩
  | 85 => ⟨S128x8192x32, .i32⟩
  | 86 => ⟨S128x8192x32, .i32⟩
  | 87 => ⟨S_, .i32⟩
  | 88 => ⟨S128x8192x32, .i32⟩
  | 89 => ⟨S128x8192x32, .i32⟩
  | 90 => ⟨S_, .i32⟩
  | 91 => ⟨S128x8192x32, .i32⟩
  | 92 => ⟨S128x8192x32, .i32⟩
  | 93 => ⟨S128x8192x32, .i32⟩
  | 94 => ⟨S128x8192x32, .i32⟩
  | 95 => ⟨S128x8192x32, .i32⟩
  | 96 => ⟨S_, .i32⟩
  | 97 => ⟨S128x8192x32, .i32⟩
  | 98 => ⟨S128x8192x32, .i32⟩
  | 99 => ⟨S_, .i32⟩
  | 100 => ⟨S128x8192x32, .i32⟩
  | 101 => ⟨S128x8192x32, .i32⟩
  | 102 => ⟨S128x8192x32, .i32⟩
  | 103 => ⟨S128x8192x32, .i32⟩
  | 104 => ⟨S128x8192x32, .i32⟩
  | 105 => ⟨S_, .i32⟩
  | 106 => ⟨S128x8192x32, .i32⟩
  | 107 => ⟨S128x8192x32, .i32⟩
  | 108 => ⟨S_, .i32⟩
  | 109 => ⟨S128x8192x32, .i32⟩
  | 110 => ⟨S128x8192x32, .i32⟩
  | 111 => ⟨S128x8192x32, .i32⟩
  | 112 => ⟨S128x8192x32, .i32⟩
  | 113 => ⟨S128x8192x32, .i32⟩
  | 114 => ⟨S_, .i32⟩
  | 115 => ⟨S128x8192x32, .i32⟩
  | 116 => ⟨S128x8192x32, .i32⟩
  | 117 => ⟨S_, .i32⟩
  | 118 => ⟨S128x8192x32, .i32⟩
  | 119 => ⟨S128x8192x32, .i32⟩
  | 120 => ⟨S128x8192x32, .i32⟩
  | 121 => ⟨S128x8192x32, .i32⟩
  | 122 => ⟨S128x8192x32, .i32⟩
  | 123 => ⟨S128x8192x32, .i32⟩
  | 124 => ⟨S128x8192x32, .i32⟩
  | 125 => ⟨S128x8192x32, .i32⟩
  | 126 => ⟨S_, .i32⟩
  | 127 => ⟨S128x8192x32, .i32⟩
  | _ => ⟨S128x32x8192, .f32⟩

abbrev hbmTy0_5 (i : Nat) : BufTy := match i % 128 with
  | 0 => ⟨S128x8192x32, .i32⟩
  | 1 => ⟨S128x8192x32, .i32⟩
  | 2 => ⟨S_, .i32⟩
  | 3 => ⟨S128x8192x32, .i32⟩
  | 4 => ⟨S128x8192x32, .i32⟩
  | 5 => ⟨S_, .i32⟩
  | 6 => ⟨S128x8192x32, .i32⟩
  | 7 => ⟨S128x8192x32, .i32⟩
  | 8 => ⟨S128x8192x32, .i32⟩
  | 9 => ⟨S128x8192x32, .i32⟩
  | 10 => ⟨S128x8192x32, .i32⟩
  | 11 => ⟨S_, .i32⟩
  | 12 => ⟨S128x8192x32, .i32⟩
  | 13 => ⟨S128x8192x32, .i32⟩
  | 14 => ⟨S_, .i32⟩
  | 15 => ⟨S128x8192x32, .i32⟩
  | 16 => ⟨S128x8192x32, .i32⟩
  | 17 => ⟨S128x8192x32, .i32⟩
  | 18 => ⟨S128x8192x32, .i32⟩
  | 19 => ⟨S128x8192x32, .i32⟩
  | 20 => ⟨S_, .i32⟩
  | 21 => ⟨S128x8192x32, .i32⟩
  | 22 => ⟨S128x8192x32, .i32⟩
  | 23 => ⟨S_, .i32⟩
  | 24 => ⟨S128x8192x32, .i32⟩
  | 25 => ⟨S128x8192x32, .i32⟩
  | 26 => ⟨S128x8192x32, .i32⟩
  | 27 => ⟨S128x8192x32, .i32⟩
  | 28 => ⟨S128x8192x32, .i32⟩
  | 29 => ⟨S_, .i32⟩
  | 30 => ⟨S128x8192x32, .i32⟩
  | 31 => ⟨S128x8192x32, .i32⟩
  | 32 => ⟨S_, .i32⟩
  | 33 => ⟨S128x8192x32, .i32⟩
  | 34 => ⟨S128x8192x32, .i32⟩
  | 35 => ⟨S128x8192x32, .i32⟩
  | 36 => ⟨S128x8192x32, .i32⟩
  | 37 => ⟨S128x8192x32, .i32⟩
  | 38 => ⟨S128x8192x32, .i32⟩
  | 39 => ⟨S128x8192x32, .i32⟩
  | 40 => ⟨S128x8192x32, .i32⟩
  | 41 => ⟨S_, .i32⟩
  | 42 => ⟨S128x8192x32, .i32⟩
  | 43 => ⟨S128x8192x32, .i32⟩
  | 44 => ⟨S128x8192x32, .i32⟩
  | 45 => ⟨S_, .i32⟩
  | 46 => ⟨S128x8192x32, .i32⟩
  | 47 => ⟨S128x8192x32, .i32⟩
  | 48 => ⟨S_, .i32⟩
  | 49 => ⟨S128x8192x32, .i32⟩
  | 50 => ⟨S128x8192x32, .i32⟩
  | 51 => ⟨S128x8192x32, .i32⟩
  | 52 => ⟨S128x8192x32, .i32⟩
  | 53 => ⟨S128x8192x32, .i32⟩
  | 54 => ⟨S_, .i32⟩
  | 55 => ⟨S128x8192x32, .i32⟩
  | 56 => ⟨S128x8192x32, .i32⟩
  | 57 => ⟨S_, .i32⟩
  | 58 => ⟨S128x8192x32, .i32⟩
  | 59 => ⟨S128x8192x32, .i32⟩
  | 60 => ⟨S128x8192x32, .i32⟩
  | 61 => ⟨S128x8192x32, .i32⟩
  | 62 => ⟨S128x8192x32, .i32⟩
  | 63 => ⟨S_, .i32⟩
  | 64 => ⟨S128x8192x32, .i32⟩
  | 65 => ⟨S128x8192x32, .i32⟩
  | 66 => ⟨S_, .i32⟩
  | 67 => ⟨S128x8192x32, .i32⟩
  | 68 => ⟨S128x8192x32, .i32⟩
  | 69 => ⟨S128x8192x32, .i32⟩
  | 70 => ⟨S128x8192x32, .i32⟩
  | 71 => ⟨S128x8192x32, .i32⟩
  | 72 => ⟨S_, .i32⟩
  | 73 => ⟨S128x8192x32, .i32⟩
  | 74 => ⟨S128x8192x32, .i32⟩
  | 75 => ⟨S_, .i32⟩
  | 76 => ⟨S128x8192x32, .i32⟩
  | 77 => ⟨S128x8192x32, .i32⟩
  | 78 => ⟨S128x8192x32, .i32⟩
  | 79 => ⟨S128x8192x32, .i32⟩
  | 80 => ⟨S128x8192x32, .i32⟩
  | 81 => ⟨S128x8192x32, .i32⟩
  | 82 => ⟨S128x8192x32, .i32⟩
  | 83 => ⟨S128x8192x32, .i32⟩
  | 84 => ⟨S_, .i32⟩
  | 85 => ⟨S128x8192x32, .i32⟩
  | 86 => ⟨S128x8192x32, .i32⟩
  | 87 => ⟨S128x8192x32, .i32⟩
  | 88 => ⟨S_, .i32⟩
  | 89 => ⟨S128x8192x32, .i32⟩
  | 90 => ⟨S128x8192x32, .i32⟩
  | 91 => ⟨S_, .i32⟩
  | 92 => ⟨S128x8192x32, .i32⟩
  | 93 => ⟨S128x8192x32, .i32⟩
  | 94 => ⟨S128x8192x32, .i32⟩
  | 95 => ⟨S128x8192x32, .i32⟩
  | 96 => ⟨S128x8192x32, .i32⟩
  | 97 => ⟨S_, .i32⟩
  | 98 => ⟨S128x8192x32, .i32⟩
  | 99 => ⟨S128x8192x32, .i32⟩
  | 100 => ⟨S_, .i32⟩
  | 101 => ⟨S128x8192x32, .i32⟩
  | 102 => ⟨S128x8192x32, .i32⟩
  | 103 => ⟨S128x8192x32, .i32⟩
  | 104 => ⟨S128x8192x32, .i32⟩
  | 105 => ⟨S128x8192x32, .i32⟩
  | 106 => ⟨S_, .i32⟩
  | 107 => ⟨S128x8192x32, .i32⟩
  | 108 => ⟨S128x8192x32, .i32⟩
  | 109 => ⟨S_, .i32⟩
  | 110 => ⟨S128x8192x32, .i32⟩
  | 111 => ⟨S128x8192x32, .i32⟩
  | 112 => ⟨S128x8192x32, .i32⟩
  | 113 => ⟨S128x8192x32, .i32⟩
  | 114 => ⟨S128x8192x32, .i32⟩
  | 115 => ⟨S_, .i32⟩
  | 116 => ⟨S128x8192x32, .i32⟩
  | 117 => ⟨S128x8192x32, .i32⟩
  | 118 => ⟨S_, .i32⟩
  | 119 => ⟨S128x8192x32, .i32⟩
  | 120 => ⟨S128x8192x32, .i32⟩
  | 121 => ⟨S128x8192x32, .i32⟩
  | 122 => ⟨S128x8192x32, .i32⟩
  | 123 => ⟨S128x8192x32, .i32⟩
  | 124 => ⟨S128x8192x32, .i32⟩
  | 125 => ⟨S128x8192x32, .i32⟩
  | 126 => ⟨S128x8192x32, .i32⟩
  | 127 => ⟨S_, .i32⟩
  | _ => ⟨S128x32x8192, .f32⟩

abbrev hbmTy0_6 (i : Nat) : BufTy := match i % 128 with
  | 0 => ⟨S128x8192x32, .i32⟩
  | 1 => ⟨S128x8192x32, .i32⟩
  | 2 => ⟨S128x8192x32, .i32⟩
  | 3 => ⟨S_, .i32⟩
  | 4 => ⟨S128x8192x32, .i32⟩
  | 5 => ⟨S128x8192x32, .i32⟩
  | 6 => ⟨S_, .i32⟩
  | 7 => ⟨S128x8192x32, .i32⟩
  | 8 => ⟨S128x8192x32, .i32⟩
  | 9 => ⟨S128x8192x32, .f32⟩
  | 10 => ⟨S_, .f32⟩
  | 11 => ⟨S128x8192x32, .f32⟩
  | 12 => ⟨S128x8192x32, .f32⟩
  | 13 => ⟨S1x1x1, .f32⟩
  | 14 => ⟨S128x8192x32, .f32⟩
  | 15 => ⟨S128x8192x32, .f32⟩
  | 16 => ⟨S128x8192x32, .f32⟩
  | 17 => ⟨S128x8192x32, .f32⟩
  | 18 => ⟨S128x8192x32, .f32⟩
  | 19 => ⟨S128x8192x32, .f32⟩
  | 20 => ⟨S128x8192x32, .f32⟩
  | 21 => ⟨S128x8192x32, .f32⟩
  | 22 => ⟨S128x8192x32, .f32⟩
  | 23 => ⟨S128x8192x32, .f32⟩
  | 24 => ⟨S_, .f32⟩
  | 25 => ⟨S_, .f32⟩
  | 26 => ⟨S_, .f32⟩
  | 27 => ⟨S_, .f32⟩
  | 28 => ⟨S1, .f32⟩
  | 29 => ⟨S1, .f32⟩
  | 30 => ⟨S1, .i32⟩
  | 31 => ⟨S_, .i32⟩
  | 32 => ⟨S1, .i32⟩
  | 33 => ⟨S_, .i32⟩
  | 34 => ⟨S128, .i64⟩
  | 35 => ⟨S_, .i64⟩
  | 36 => ⟨S128, .i64⟩
  | 37 => ⟨S128, .i64⟩
  | 38 => ⟨S_, .i64⟩
  | 39 => ⟨S128, .i64⟩
  | 40 => ⟨S128, .i64⟩
  | 41 => ⟨S128, .i32⟩
  | 42 => ⟨S128, .i32⟩
  | 43 => ⟨S_, .i32⟩
  | 44 => ⟨S_, .i32⟩
  | 45 => ⟨S_, .i32⟩
  | 46 => ⟨S128, .i32⟩
  | 47 => ⟨S128, .i32⟩
  | 48 => ⟨S128, .i32⟩
  | 49 => ⟨S128, .i32⟩
  | 50 => ⟨S128, .i32⟩
  | 51 => ⟨S_, .i32⟩
  | 52 => ⟨S128, .i32⟩
  | 53 => ⟨S128, .i32⟩
  | 54 => ⟨S_, .i32⟩
  | 55 => ⟨S128, .i32⟩
  | 56 => ⟨S128, .i32⟩
  | 57 => ⟨S128, .i32⟩
  | 58 => ⟨S128, .i32⟩
  | 59 => ⟨S128, .i32⟩
  | 60 => ⟨S_, .i32⟩
  | 61 => ⟨S128, .i32⟩
  | 62 => ⟨S128, .i32⟩
  | 63 => ⟨S_, .i32⟩
  | 64 => ⟨S128, .i32⟩
  | 65 => ⟨S128, .i32⟩
  | 66 => ⟨S128, .i32⟩
  | 67 => ⟨S128, .i32⟩
  | 68 => ⟨S128, .i32⟩
  | 69 => ⟨S_, .i32⟩
  | 70 => ⟨S128, .i32⟩
  | 71 => ⟨S128, .i32⟩
  | 72 => ⟨S_, .i32⟩
  | 73 => ⟨S128, .i32⟩
  | 74 => ⟨S128, .i32⟩
  | 75 => ⟨S128, .i32⟩
  | 76 => ⟨S128, .i32⟩
  | 77 => ⟨S128, .i32⟩
  | 78 => ⟨S_, .i32⟩
  | 79 => ⟨S128, .i32⟩
  | 80 => ⟨S128, .i32⟩
  | 81 => ⟨S_, .i32⟩
  | 82 => ⟨S128, .i32⟩
  | 83 => ⟨S128, .i32⟩
  | 84 => ⟨S128, .i32⟩
  | 85 => ⟨S128, .i32⟩
  | 86 => ⟨S128, .i32⟩
  | 87 => ⟨S128, .i32⟩
  | 88 => ⟨S128, .i32⟩
  | 89 => ⟨S128, .i32⟩
  | 90 => ⟨S_, .i32⟩
  | 91 => ⟨S128, .i32⟩
  | 92 => ⟨S128, .i32⟩
  | 93 => ⟨S128, .i32⟩
  | 94 => ⟨S_, .i32⟩
  | 95 => ⟨S128, .i32⟩
  | 96 => ⟨S128, .i32⟩
  | 97 => ⟨S_, .i32⟩
  | 98 => ⟨S128, .i32⟩
  | 99 => ⟨S128, .i32⟩
  | 100 => ⟨S128, .i32⟩
  | 101 => ⟨S128, .i32⟩
  | 102 => ⟨S128, .i32⟩
  | 103 => ⟨S_, .i32⟩
  | 104 => ⟨S128, .i32⟩
  | 105 => ⟨S128, .i32⟩
  | 106 => ⟨S_, .i32⟩
  | 107 => ⟨S128, .i32⟩
  | 108 => ⟨S128, .i32⟩
  | 109 => ⟨S128, .i32⟩
  | 110 => ⟨S128, .i32⟩
  | 111 => ⟨S128, .i32⟩
  | 112 => ⟨S_, .i32⟩
  | 113 => ⟨S128, .i32⟩
  | 114 => ⟨S128, .i32⟩
  | 115 => ⟨S_, .i32⟩
  | 116 => ⟨S128, .i32⟩
  | 117 => ⟨S128, .i32⟩
  | 118 => ⟨S128, .i32⟩
  | 119 => ⟨S128, .i32⟩
  | 120 => ⟨S128, .i32⟩
  | 121 => ⟨S_, .i32⟩
  | 122 => ⟨S128, .i32⟩
  | 123 => ⟨S128, .i32⟩
  | 124 => ⟨S_, .i32⟩
  | 125 => ⟨S128, .i32⟩
  | 126 => ⟨S128, .i32⟩
  | 127 => ⟨S128, .i32⟩
  | _ => ⟨S128x32x8192, .f32⟩

abbrev hbmTy0_7 (i : Nat) : BufTy := match i % 128 with
  | 0 => ⟨S128, .i32⟩
  | 1 => ⟨S128, .i32⟩
  | 2 => ⟨S128, .i32⟩
  | 3 => ⟨S128, .i32⟩
  | 4 => ⟨S128, .i32⟩
  | 5 => ⟨S_, .i32⟩
  | 6 => ⟨S128, .i32⟩
  | 7 => ⟨S128, .i32⟩
  | 8 => ⟨S128, .i32⟩
  | 9 => ⟨S_, .i32⟩
  | 10 => ⟨S128, .i32⟩
  | 11 => ⟨S128, .i32⟩
  | 12 => ⟨S_, .i32⟩
  | 13 => ⟨S128, .i32⟩
  | 14 => ⟨S128, .i32⟩
  | 15 => ⟨S128, .i32⟩
  | 16 => ⟨S128, .i32⟩
  | 17 => ⟨S128, .i32⟩
  | 18 => ⟨S_, .i32⟩
  | 19 => ⟨S128, .i32⟩
  | 20 => ⟨S128, .i32⟩
  | 21 => ⟨S_, .i32⟩
  | 22 => ⟨S128, .i32⟩
  | 23 => ⟨S128, .i32⟩
  | 24 => ⟨S128, .i32⟩
  | 25 => ⟨S128, .i32⟩
  | 26 => ⟨S128, .i32⟩
  | 27 => ⟨S_, .i32⟩
  | 28 => ⟨S128, .i32⟩
  | 29 => ⟨S128, .i32⟩
  | 30 => ⟨S_, .i32⟩
  | 31 => ⟨S128, .i32⟩
  | 32 => ⟨S128, .i32⟩
  | 33 => ⟨S128, .i32⟩
  | 34 => ⟨S128, .i32⟩
  | 35 => ⟨S128, .i32⟩
  | 36 => ⟨S_, .i32⟩
  | 37 => ⟨S128, .i32⟩
  | 38 => ⟨S128, .i32⟩
  | 39 => ⟨S_, .i32⟩
  | 40 => ⟨S128, .i32⟩
  | 41 => ⟨S128, .i32⟩
  | 42 => ⟨S128, .i32⟩
  | 43 => ⟨S128, .i32⟩
  | 44 => ⟨S128, .i32⟩
  | 45 => ⟨S128, .i32⟩
  | 46 => ⟨S128, .i32⟩
  | 47 => ⟨S128, .i32⟩
  | 48 => ⟨S_, .i32⟩
  | 49 => ⟨S128, .i32⟩
  | 50 => ⟨S128, .i32⟩
  | 51 => ⟨S128, .i32⟩
  | 52 => ⟨S_, .i32⟩
  | 53 => ⟨S128, .i32⟩
  | 54 => ⟨S128, .i32⟩
  | 55 => ⟨S_, .i32⟩
  | 56 => ⟨S128, .i32⟩
  | 57 => ⟨S128, .i32⟩
  | 58 => ⟨S128, .i32⟩
  | 59 => ⟨S128, .i32⟩
  | 60 => ⟨S128, .i32⟩
  | 61 => ⟨S_, .i32⟩
  | 62 => ⟨S128, .i32⟩
  | 63 => ⟨S128, .i32⟩
  | 64 => ⟨S_, .i32⟩
  | 65 => ⟨S128, .i32⟩
  | 66 => ⟨S128, .i32⟩
  | 67 => ⟨S128, .i32⟩
  | 68 => ⟨S128, .i32⟩
  | 69 => ⟨S128, .i32⟩
  | 70 => ⟨S_, .i32⟩
  | 71 => ⟨S128, .i32⟩
  | 72 => ⟨S128, .i32⟩
  | 73 => ⟨S_, .i32⟩
  | 74 => ⟨S128, .i32⟩
  | 75 => ⟨S128, .i32⟩
  | 76 => ⟨S128, .i32⟩
  | 77 => ⟨S128, .i32⟩
  | 78 => ⟨S128, .i32⟩
  | 79 => ⟨S_, .i32⟩
  | 80 => ⟨S128, .i32⟩
  | 81 => ⟨S128, .i32⟩
  | 82 => ⟨S_, .i32⟩
  | 83 => ⟨S128, .i32⟩
  | 84 => ⟨S128, .i32⟩
  | 85 => ⟨S128, .i32⟩
  | 86 => ⟨S128, .i32⟩
  | 87 => ⟨S128, .i32⟩
  | 88 => ⟨S128, .i32⟩
  | 89 => ⟨S128, .i32⟩
  | 90 => ⟨S128, .i32⟩
  | 91 => ⟨S_, .i32⟩
  | 92 => ⟨S128, .i32⟩
  | 93 => ⟨S128, .i32⟩
  | 94 => ⟨S128, .i32⟩
  | 95 => ⟨S_, .i32⟩
  | 96 => ⟨S128, .i32⟩
  | 97 => ⟨S128, .i32⟩
  | 98 => ⟨S_, .i32⟩
  | 99 => ⟨S128, .i32⟩
  | 100 => ⟨S128, .i32⟩
  | 101 => ⟨S128, .i32⟩
  | 102 => ⟨S128, .i32⟩
  | 103 => ⟨S128, .i32⟩
  | 104 => ⟨S_, .i32⟩
  | 105 => ⟨S128, .i32⟩
  | 106 => ⟨S128, .i32⟩
  | 107 => ⟨S_, .i32⟩
  | 108 => ⟨S128, .i32⟩
  | 109 => ⟨S128, .i32⟩
  | 110 => ⟨S128, .i32⟩
  | 111 => ⟨S128, .i32⟩
  | 112 => ⟨S128, .i32⟩
  | 113 => ⟨S_, .i32⟩
  | 114 => ⟨S128, .i32⟩
  | 115 => ⟨S128, .i32⟩
  | 116 => ⟨S_, .i32⟩
  | 117 => ⟨S128, .i32⟩
  | 118 => ⟨S128, .i32⟩
  | 119 => ⟨S128, .i32⟩
  | 120 => ⟨S128, .i32⟩
  | 121 => ⟨S128, .i32⟩
  | 122 => ⟨S_, .i32⟩
  | 123 => ⟨S128, .i32⟩
  | 124 => ⟨S128, .i32⟩
  | 125 => ⟨S_, .i32⟩
  | 126 => ⟨S128, .i32⟩
  | 127 => ⟨S128, .i32⟩
  | _ => ⟨S128x32x8192, .f32⟩

abbrev hbmTy0_8 (i : Nat) : BufTy := match i % 128 with
  | 0 => ⟨S128, .i32⟩
  | 1 => ⟨S128, .i32⟩
  | 2 => ⟨S128, .i32⟩
  | 3 => ⟨S128, .i32⟩
  | 4 => ⟨S128, .i32⟩
  | 5 => ⟨S128, .i32⟩
  | 6 => ⟨S_, .i32⟩
  | 7 => ⟨S128, .i32⟩
  | 8 => ⟨S128, .i32⟩
  | 9 => ⟨S128, .i32⟩
  | 10 => ⟨S_, .i32⟩
  | 11 => ⟨S128, .i32⟩
  | 12 => ⟨S128, .i32⟩
  | 13 => ⟨S_, .i32⟩
  | 14 => ⟨S128, .i32⟩
  | 15 => ⟨S128, .i32⟩
  | 16 => ⟨S128, .f32⟩
  | 17 => ⟨S_, .f32⟩
  | 18 => ⟨S128, .f32⟩
  | 19 => ⟨S128, .f32⟩
  | 20 => ⟨S1, .f32⟩
  | 21 => ⟨S128, .f32⟩
  | 22 => ⟨S128, .f32⟩
  | 23 => ⟨S128, .f32⟩
  | 24 => ⟨S128, .f32⟩
  | 25 => ⟨S128, .f32⟩
  | 26 => ⟨S128, .f32⟩
  | 27 => ⟨S128, .f32⟩
  | 28 => ⟨S128, .f32⟩
  | 29 => ⟨S_, .f32⟩
  | 30 => ⟨S128x32x8192, .f32⟩
  | 31 => ⟨S128x32x8192, .f32⟩
  | 32 => ⟨S128x8192, .i32⟩
  | 33 => ⟨S128x8192, .f32⟩
  | 34 => ⟨S128x8192, .i32⟩
  | 35 => ⟨S128x1, .i32⟩
  | 36 => ⟨S128, .i32⟩
  | 37 => ⟨S128x1, .i32⟩
  | 38 => ⟨S_, .f32⟩
  | 39 => ⟨S128x8192, .f32⟩
  | 40 => ⟨S_, .i32⟩
  | 41 => ⟨S128x1, .i32⟩
  | 42 => ⟨S128x1, .i1⟩
  | 43 => ⟨S_, .i32⟩
  | 44 => ⟨S128x1, .i32⟩
  | 45 => ⟨S128x1, .i32⟩
  | 46 => ⟨S128x1, .i32⟩
  | 47 => ⟨S_, .i32⟩
  | 48 => ⟨S128x1, .i32⟩
  | 49 => ⟨S128x1, .i1⟩
  | 50 => ⟨S_, .i32⟩
  | 51 => ⟨S128x1, .i32⟩
  | 52 => ⟨S128x1, .i32⟩
  | 53 => ⟨S128x1, .i32⟩
  | 54 => ⟨S128x1x1, .i32⟩
  | 55 => ⟨S128x1x1, .i32⟩
  | 56 => ⟨S128x1x2, .i32⟩
  | 57 => ⟨S_, .f32⟩
  | 58 => ⟨S128x1, .f32⟩
  | 59 => ⟨S128x8192, .f32⟩
  | 60 => ⟨S128x1x8192, .f32⟩
  | 61 => ⟨S128x32x8192, .f32⟩
  | 62 => ⟨S128x32x8192, .f32⟩
  | 63 => ⟨S128x8192x32, .f32⟩
  | 64 => ⟨S128x8192x32, .f32⟩
  | 65 => ⟨S_, .f32⟩
  | 66 => ⟨S128x8192x32, .f32⟩
  | 67 => ⟨S128x8192x32, .f32⟩
  | 68 => ⟨S128x8192x32, .f32⟩
  | 69 => ⟨S128x8192x32, .i32⟩
  | 70 => ⟨S_, .f32⟩
  | 71 => ⟨S_, .i32⟩
  | 72 => ⟨S128x8192, .f32⟩
  | 73 => ⟨S128x8192, .i32⟩
  | 74 => ⟨S128x8192x1, .i32⟩
  | 75 => ⟨S1x1x32, .i32⟩
  | 76 => ⟨S128x8192x32, .i32⟩
  | 77 => ⟨S128x8192x32, .i32⟩
  | 78 => ⟨S128x8192x32, .i1⟩
  | 79 => ⟨S128x8192x32, .f32⟩
  | 80 => ⟨S128x32x8192, .f32⟩
  | 81 => ⟨S128, .f32⟩
  | 82 => ⟨S128, .f32⟩
  | 83 => ⟨S_, .f32⟩
  | 84 => ⟨S128, .f32⟩
  | 85 => ⟨S128, .f32⟩
  | 86 => ⟨S128, .i1⟩
  | 87 => ⟨S128x1x1, .i1⟩
  | 88 => ⟨S128x32x8192, .i1⟩
  | 89 => ⟨S128x32x8192, .f32⟩
  | 90 => ⟨S128, .f32⟩
  | _ => ⟨S128x32x8192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S128x32x8192, .f32⟩

abbrev bufTy : (tb : Table) → Fin (tcTables nBuf tb) → BufTy
  | .hbm, ⟨i, _⟩ => hbmTy i
  | _, _ => ⟨S128x32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c : Ref sig .tc := ⟨.hbm, 17, rfl⟩
abbrev main_call0_v5 : Ref sig .tc := ⟨.hbm, 18, rfl⟩
abbrev main_call0_v6 : Ref sig .tc := ⟨.hbm, 19, rfl⟩
abbrev main_call0_c_0 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_c_0 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_c_1 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_v12 : Ref sig .tc := ⟨.hbm, 40, rfl⟩
abbrev main_call0_call0_v13 : Ref sig .tc := ⟨.hbm, 41, rfl⟩
abbrev main_call0_call0_c_2 : Ref sig .tc := ⟨.hbm, 42, rfl⟩
abbrev main_call0_call0_v14 : Ref sig .tc := ⟨.hbm, 43, rfl⟩
abbrev main_call0_call0_v15 : Ref sig .tc := ⟨.hbm, 44, rfl⟩
abbrev main_call0_call0_c_3 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_c_4 : Ref sig .tc := ⟨.hbm, 51, rfl⟩
abbrev main_call0_call0_v21 : Ref sig .tc := ⟨.hbm, 52, rfl⟩
abbrev main_call0_call0_v22 : Ref sig .tc := ⟨.hbm, 53, rfl⟩
abbrev main_call0_call0_c_5 : Ref sig .tc := ⟨.hbm, 54, rfl⟩
abbrev main_call0_call0_v23 : Ref sig .tc := ⟨.hbm, 55, rfl⟩
abbrev main_call0_call0_v24 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_v27 : Ref sig .tc := ⟨.hbm, 59, rfl⟩
abbrev main_call0_call0_c_6 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_c_7 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_v32 : Ref sig .tc := ⟨.hbm, 66, rfl⟩
abbrev main_call0_call0_v33 : Ref sig .tc := ⟨.hbm, 67, rfl⟩
abbrev main_call0_call0_v34 : Ref sig .tc := ⟨.hbm, 68, rfl⟩
abbrev main_call0_call0_v35 : Ref sig .tc := ⟨.hbm, 69, rfl⟩
abbrev main_call0_call0_v36 : Ref sig .tc := ⟨.hbm, 70, rfl⟩
abbrev main_call0_call0_v37 : Ref sig .tc := ⟨.hbm, 71, rfl⟩
abbrev main_call0_call0_c_8 : Ref sig .tc := ⟨.hbm, 72, rfl⟩
abbrev main_call0_call0_v38 : Ref sig .tc := ⟨.hbm, 73, rfl⟩
abbrev main_call0_call0_v39 : Ref sig .tc := ⟨.hbm, 74, rfl⟩
abbrev main_call0_call0_v40 : Ref sig .tc := ⟨.hbm, 75, rfl⟩
abbrev main_call0_call0_c_9 : Ref sig .tc := ⟨.hbm, 76, rfl⟩
abbrev main_call0_call0_v41 : Ref sig .tc := ⟨.hbm, 77, rfl⟩
abbrev main_call0_call0_v42 : Ref sig .tc := ⟨.hbm, 78, rfl⟩
abbrev main_call0_call0_c_10 : Ref sig .tc := ⟨.hbm, 79, rfl⟩
abbrev main_call0_call0_v43 : Ref sig .tc := ⟨.hbm, 80, rfl⟩
abbrev main_call0_call0_v44 : Ref sig .tc := ⟨.hbm, 81, rfl⟩
abbrev main_call0_call0_v45 : Ref sig .tc := ⟨.hbm, 82, rfl⟩
abbrev main_call0_call0_v46 : Ref sig .tc := ⟨.hbm, 83, rfl⟩
abbrev main_call0_call0_v47 : Ref sig .tc := ⟨.hbm, 84, rfl⟩
abbrev main_call0_call0_c_11 : Ref sig .tc := ⟨.hbm, 85, rfl⟩
abbrev main_call0_call0_v48 : Ref sig .tc := ⟨.hbm, 86, rfl⟩
abbrev main_call0_call0_v49 : Ref sig .tc := ⟨.hbm, 87, rfl⟩
abbrev main_call0_call0_c_12 : Ref sig .tc := ⟨.hbm, 88, rfl⟩
abbrev main_call0_call0_v50 : Ref sig .tc := ⟨.hbm, 89, rfl⟩
abbrev main_call0_call0_v51 : Ref sig .tc := ⟨.hbm, 90, rfl⟩
abbrev main_call0_call0_v52 : Ref sig .tc := ⟨.hbm, 91, rfl⟩
abbrev main_call0_call0_v53 : Ref sig .tc := ⟨.hbm, 92, rfl⟩
abbrev main_call0_call0_v54 : Ref sig .tc := ⟨.hbm, 93, rfl⟩
abbrev main_call0_call0_c_13 : Ref sig .tc := ⟨.hbm, 94, rfl⟩
abbrev main_call0_call0_v55 : Ref sig .tc := ⟨.hbm, 95, rfl⟩
abbrev main_call0_call0_v56 : Ref sig .tc := ⟨.hbm, 96, rfl⟩
abbrev main_call0_call0_c_14 : Ref sig .tc := ⟨.hbm, 97, rfl⟩
abbrev main_call0_call0_v57 : Ref sig .tc := ⟨.hbm, 98, rfl⟩
abbrev main_call0_call0_v58 : Ref sig .tc := ⟨.hbm, 99, rfl⟩
abbrev main_call0_call0_v59 : Ref sig .tc := ⟨.hbm, 100, rfl⟩
abbrev main_call0_call0_v60 : Ref sig .tc := ⟨.hbm, 101, rfl⟩
abbrev main_call0_call0_v61 : Ref sig .tc := ⟨.hbm, 102, rfl⟩
abbrev main_call0_call0_c_15 : Ref sig .tc := ⟨.hbm, 103, rfl⟩
abbrev main_call0_call0_v62 : Ref sig .tc := ⟨.hbm, 104, rfl⟩
abbrev main_call0_call0_v63 : Ref sig .tc := ⟨.hbm, 105, rfl⟩
abbrev main_call0_call0_c_16 : Ref sig .tc := ⟨.hbm, 106, rfl⟩
abbrev main_call0_call0_v64 : Ref sig .tc := ⟨.hbm, 107, rfl⟩
abbrev main_call0_call0_v65 : Ref sig .tc := ⟨.hbm, 108, rfl⟩
abbrev main_call0_call0_v66 : Ref sig .tc := ⟨.hbm, 109, rfl⟩
abbrev main_call0_call0_v67 : Ref sig .tc := ⟨.hbm, 110, rfl⟩
abbrev main_call0_call0_v68 : Ref sig .tc := ⟨.hbm, 111, rfl⟩
abbrev main_call0_call0_v69 : Ref sig .tc := ⟨.hbm, 112, rfl⟩
abbrev main_call0_call0_v70 : Ref sig .tc := ⟨.hbm, 113, rfl⟩
abbrev main_call0_call0_v71 : Ref sig .tc := ⟨.hbm, 114, rfl⟩
abbrev main_call0_call0_c_17 : Ref sig .tc := ⟨.hbm, 115, rfl⟩
abbrev main_call0_call0_v72 : Ref sig .tc := ⟨.hbm, 116, rfl⟩
abbrev main_call0_call0_v73 : Ref sig .tc := ⟨.hbm, 117, rfl⟩
abbrev main_call0_call0_v74 : Ref sig .tc := ⟨.hbm, 118, rfl⟩
abbrev main_call0_call0_c_18 : Ref sig .tc := ⟨.hbm, 119, rfl⟩
abbrev main_call0_call0_v75 : Ref sig .tc := ⟨.hbm, 120, rfl⟩
abbrev main_call0_call0_v76 : Ref sig .tc := ⟨.hbm, 121, rfl⟩
abbrev main_call0_call0_c_19 : Ref sig .tc := ⟨.hbm, 122, rfl⟩
abbrev main_call0_call0_v77 : Ref sig .tc := ⟨.hbm, 123, rfl⟩
abbrev main_call0_call0_v78 : Ref sig .tc := ⟨.hbm, 124, rfl⟩
abbrev main_call0_call0_v79 : Ref sig .tc := ⟨.hbm, 125, rfl⟩
abbrev main_call0_call0_v80 : Ref sig .tc := ⟨.hbm, 126, rfl⟩
abbrev main_call0_call0_v81 : Ref sig .tc := ⟨.hbm, 127, rfl⟩
abbrev main_call0_call0_c_20 : Ref sig .tc := ⟨.hbm, 128, rfl⟩
abbrev main_call0_call0_v82 : Ref sig .tc := ⟨.hbm, 129, rfl⟩
abbrev main_call0_call0_v83 : Ref sig .tc := ⟨.hbm, 130, rfl⟩
abbrev main_call0_call0_c_21 : Ref sig .tc := ⟨.hbm, 131, rfl⟩
abbrev main_call0_call0_v84 : Ref sig .tc := ⟨.hbm, 132, rfl⟩
abbrev main_call0_call0_v85 : Ref sig .tc := ⟨.hbm, 133, rfl⟩
abbrev main_call0_call0_v86 : Ref sig .tc := ⟨.hbm, 134, rfl⟩
abbrev main_call0_call0_v87 : Ref sig .tc := ⟨.hbm, 135, rfl⟩
abbrev main_call0_call0_v88 : Ref sig .tc := ⟨.hbm, 136, rfl⟩
abbrev main_call0_call0_c_22 : Ref sig .tc := ⟨.hbm, 137, rfl⟩
abbrev main_call0_call0_v89 : Ref sig .tc := ⟨.hbm, 138, rfl⟩
abbrev main_call0_call0_v90 : Ref sig .tc := ⟨.hbm, 139, rfl⟩
abbrev main_call0_call0_c_23 : Ref sig .tc := ⟨.hbm, 140, rfl⟩
abbrev main_call0_call0_v91 : Ref sig .tc := ⟨.hbm, 141, rfl⟩
abbrev main_call0_call0_v92 : Ref sig .tc := ⟨.hbm, 142, rfl⟩
abbrev main_call0_call0_v93 : Ref sig .tc := ⟨.hbm, 143, rfl⟩
abbrev main_call0_call0_v94 : Ref sig .tc := ⟨.hbm, 144, rfl⟩
abbrev main_call0_call0_v95 : Ref sig .tc := ⟨.hbm, 145, rfl⟩
abbrev main_call0_call0_c_24 : Ref sig .tc := ⟨.hbm, 146, rfl⟩
abbrev main_call0_call0_v96 : Ref sig .tc := ⟨.hbm, 147, rfl⟩
abbrev main_call0_call0_v97 : Ref sig .tc := ⟨.hbm, 148, rfl⟩
abbrev main_call0_call0_c_25 : Ref sig .tc := ⟨.hbm, 149, rfl⟩
abbrev main_call0_call0_v98 : Ref sig .tc := ⟨.hbm, 150, rfl⟩
abbrev main_call0_call0_v99 : Ref sig .tc := ⟨.hbm, 151, rfl⟩
abbrev main_call0_call0_v100 : Ref sig .tc := ⟨.hbm, 152, rfl⟩
abbrev main_call0_call0_v101 : Ref sig .tc := ⟨.hbm, 153, rfl⟩
abbrev main_call0_call0_v102 : Ref sig .tc := ⟨.hbm, 154, rfl⟩
abbrev main_call0_call0_v103 : Ref sig .tc := ⟨.hbm, 155, rfl⟩
abbrev main_call0_call0_v104 : Ref sig .tc := ⟨.hbm, 156, rfl⟩
abbrev main_call0_call0_v105 : Ref sig .tc := ⟨.hbm, 157, rfl⟩
abbrev main_call0_call0_c_26 : Ref sig .tc := ⟨.hbm, 158, rfl⟩
abbrev main_call0_call0_v106 : Ref sig .tc := ⟨.hbm, 159, rfl⟩
abbrev main_call0_call0_v107 : Ref sig .tc := ⟨.hbm, 160, rfl⟩
abbrev main_call0_call0_v108 : Ref sig .tc := ⟨.hbm, 161, rfl⟩
abbrev main_call0_call0_c_27 : Ref sig .tc := ⟨.hbm, 162, rfl⟩
abbrev main_call0_call0_v109 : Ref sig .tc := ⟨.hbm, 163, rfl⟩
abbrev main_call0_call0_v110 : Ref sig .tc := ⟨.hbm, 164, rfl⟩
abbrev main_call0_call0_c_28 : Ref sig .tc := ⟨.hbm, 165, rfl⟩
abbrev main_call0_call0_v111 : Ref sig .tc := ⟨.hbm, 166, rfl⟩
abbrev main_call0_call0_v112 : Ref sig .tc := ⟨.hbm, 167, rfl⟩
abbrev main_call0_call0_v113 : Ref sig .tc := ⟨.hbm, 168, rfl⟩
abbrev main_call0_call0_v114 : Ref sig .tc := ⟨.hbm, 169, rfl⟩
abbrev main_call0_call0_v115 : Ref sig .tc := ⟨.hbm, 170, rfl⟩
abbrev main_call0_call0_c_29 : Ref sig .tc := ⟨.hbm, 171, rfl⟩
abbrev main_call0_call0_v116 : Ref sig .tc := ⟨.hbm, 172, rfl⟩
abbrev main_call0_call0_v117 : Ref sig .tc := ⟨.hbm, 173, rfl⟩
abbrev main_call0_call0_c_30 : Ref sig .tc := ⟨.hbm, 174, rfl⟩
abbrev main_call0_call0_v118 : Ref sig .tc := ⟨.hbm, 175, rfl⟩
abbrev main_call0_call0_v119 : Ref sig .tc := ⟨.hbm, 176, rfl⟩
abbrev main_call0_call0_v120 : Ref sig .tc := ⟨.hbm, 177, rfl⟩
abbrev main_call0_call0_v121 : Ref sig .tc := ⟨.hbm, 178, rfl⟩
abbrev main_call0_call0_v122 : Ref sig .tc := ⟨.hbm, 179, rfl⟩
abbrev main_call0_call0_c_31 : Ref sig .tc := ⟨.hbm, 180, rfl⟩
abbrev main_call0_call0_v123 : Ref sig .tc := ⟨.hbm, 181, rfl⟩
abbrev main_call0_call0_v124 : Ref sig .tc := ⟨.hbm, 182, rfl⟩
abbrev main_call0_call0_c_32 : Ref sig .tc := ⟨.hbm, 183, rfl⟩
abbrev main_call0_call0_v125 : Ref sig .tc := ⟨.hbm, 184, rfl⟩
abbrev main_call0_call0_v126 : Ref sig .tc := ⟨.hbm, 185, rfl⟩
abbrev main_call0_call0_v127 : Ref sig .tc := ⟨.hbm, 186, rfl⟩
abbrev main_call0_call0_v128 : Ref sig .tc := ⟨.hbm, 187, rfl⟩
abbrev main_call0_call0_v129 : Ref sig .tc := ⟨.hbm, 188, rfl⟩
abbrev main_call0_call0_c_33 : Ref sig .tc := ⟨.hbm, 189, rfl⟩
abbrev main_call0_call0_v130 : Ref sig .tc := ⟨.hbm, 190, rfl⟩
abbrev main_call0_call0_v131 : Ref sig .tc := ⟨.hbm, 191, rfl⟩
abbrev main_call0_call0_c_34 : Ref sig .tc := ⟨.hbm, 192, rfl⟩
abbrev main_call0_call0_v132 : Ref sig .tc := ⟨.hbm, 193, rfl⟩
abbrev main_call0_call0_v133 : Ref sig .tc := ⟨.hbm, 194, rfl⟩
abbrev main_call0_call0_v134 : Ref sig .tc := ⟨.hbm, 195, rfl⟩
abbrev main_call0_call0_v135 : Ref sig .tc := ⟨.hbm, 196, rfl⟩
abbrev main_call0_call0_v136 : Ref sig .tc := ⟨.hbm, 197, rfl⟩
abbrev main_call0_call0_v137 : Ref sig .tc := ⟨.hbm, 198, rfl⟩
abbrev main_call0_call0_v138 : Ref sig .tc := ⟨.hbm, 199, rfl⟩
abbrev main_call0_call0_v139 : Ref sig .tc := ⟨.hbm, 200, rfl⟩
abbrev main_call0_call0_c_35 : Ref sig .tc := ⟨.hbm, 201, rfl⟩
abbrev main_call0_call0_v140 : Ref sig .tc := ⟨.hbm, 202, rfl⟩
abbrev main_call0_call0_v141 : Ref sig .tc := ⟨.hbm, 203, rfl⟩
abbrev main_call0_call0_v142 : Ref sig .tc := ⟨.hbm, 204, rfl⟩
abbrev main_call0_call0_c_36 : Ref sig .tc := ⟨.hbm, 205, rfl⟩
abbrev main_call0_call0_v143 : Ref sig .tc := ⟨.hbm, 206, rfl⟩
abbrev main_call0_call0_v144 : Ref sig .tc := ⟨.hbm, 207, rfl⟩
abbrev main_call0_call0_c_37 : Ref sig .tc := ⟨.hbm, 208, rfl⟩
abbrev main_call0_call0_v145 : Ref sig .tc := ⟨.hbm, 209, rfl⟩
abbrev main_call0_call0_v146 : Ref sig .tc := ⟨.hbm, 210, rfl⟩
abbrev main_call0_call0_v147 : Ref sig .tc := ⟨.hbm, 211, rfl⟩
abbrev main_call0_call0_v148 : Ref sig .tc := ⟨.hbm, 212, rfl⟩
abbrev main_call0_call0_v149 : Ref sig .tc := ⟨.hbm, 213, rfl⟩
abbrev main_call0_call0_c_38 : Ref sig .tc := ⟨.hbm, 214, rfl⟩
abbrev main_call0_call0_v150 : Ref sig .tc := ⟨.hbm, 215, rfl⟩
abbrev main_call0_call0_v151 : Ref sig .tc := ⟨.hbm, 216, rfl⟩
abbrev main_call0_call0_c_39 : Ref sig .tc := ⟨.hbm, 217, rfl⟩
abbrev main_call0_call0_v152 : Ref sig .tc := ⟨.hbm, 218, rfl⟩
abbrev main_call0_call0_v153 : Ref sig .tc := ⟨.hbm, 219, rfl⟩
abbrev main_call0_call0_v154 : Ref sig .tc := ⟨.hbm, 220, rfl⟩
abbrev main_call0_call0_v155 : Ref sig .tc := ⟨.hbm, 221, rfl⟩
abbrev main_call0_call0_v156 : Ref sig .tc := ⟨.hbm, 222, rfl⟩
abbrev main_call0_call0_c_40 : Ref sig .tc := ⟨.hbm, 223, rfl⟩
abbrev main_call0_call0_v157 : Ref sig .tc := ⟨.hbm, 224, rfl⟩
abbrev main_call0_call0_v158 : Ref sig .tc := ⟨.hbm, 225, rfl⟩
abbrev main_call0_call0_c_41 : Ref sig .tc := ⟨.hbm, 226, rfl⟩
abbrev main_call0_call0_v159 : Ref sig .tc := ⟨.hbm, 227, rfl⟩
abbrev main_call0_call0_v160 : Ref sig .tc := ⟨.hbm, 228, rfl⟩
abbrev main_call0_call0_v161 : Ref sig .tc := ⟨.hbm, 229, rfl⟩
abbrev main_call0_call0_v162 : Ref sig .tc := ⟨.hbm, 230, rfl⟩
abbrev main_call0_call0_v163 : Ref sig .tc := ⟨.hbm, 231, rfl⟩
abbrev main_call0_call0_c_42 : Ref sig .tc := ⟨.hbm, 232, rfl⟩
abbrev main_call0_call0_v164 : Ref sig .tc := ⟨.hbm, 233, rfl⟩
abbrev main_call0_call0_v165 : Ref sig .tc := ⟨.hbm, 234, rfl⟩
abbrev main_call0_call0_c_43 : Ref sig .tc := ⟨.hbm, 235, rfl⟩
abbrev main_call0_call0_v166 : Ref sig .tc := ⟨.hbm, 236, rfl⟩
abbrev main_call0_call0_v167 : Ref sig .tc := ⟨.hbm, 237, rfl⟩
abbrev main_call0_call0_v168 : Ref sig .tc := ⟨.hbm, 238, rfl⟩
abbrev main_call0_call0_v169 : Ref sig .tc := ⟨.hbm, 239, rfl⟩
abbrev main_call0_call0_v170 : Ref sig .tc := ⟨.hbm, 240, rfl⟩
abbrev main_call0_v11_0 : Ref sig .tc := ⟨.hbm, 241, rfl⟩
abbrev main_call0_call0_v172 : Ref sig .tc := ⟨.hbm, 242, rfl⟩
abbrev main_call0_call0_v173 : Ref sig .tc := ⟨.hbm, 243, rfl⟩
abbrev main_call0_call0_c_44 : Ref sig .tc := ⟨.hbm, 244, rfl⟩
abbrev main_call0_call0_v174 : Ref sig .tc := ⟨.hbm, 245, rfl⟩
abbrev main_call0_v11_1 : Ref sig .tc := ⟨.hbm, 246, rfl⟩
abbrev main_call0_v12 : Ref sig .tc := ⟨.hbm, 247, rfl⟩
abbrev main_call0_v13 : Ref sig .tc := ⟨.hbm, 248, rfl⟩
abbrev main_v7 : Ref sig .tc := ⟨.hbm, 249, rfl⟩
abbrev main_v8 : Ref sig .tc := ⟨.hbm, 250, rfl⟩
abbrev main_v9 : Ref sig .tc := ⟨.hbm, 251, rfl⟩
abbrev main_v10 : Ref sig .tc := ⟨.hbm, 252, rfl⟩
abbrev main_v11 : Ref sig .tc := ⟨.hbm, 253, rfl⟩
abbrev main_v12 : Ref sig .tc := ⟨.hbm, 254, rfl⟩
abbrev main_v13 : Ref sig .tc := ⟨.hbm, 255, rfl⟩
abbrev main_cst : Ref sig .tc := ⟨.hbm, 256, rfl⟩
abbrev main_cst_2 : Ref sig .tc := ⟨.hbm, 257, rfl⟩
abbrev main_call1_v0 : Ref sig .tc := ⟨.hbm, 258, rfl⟩
abbrev main_call1_v1 : Ref sig .tc := ⟨.hbm, 259, rfl⟩
abbrev main_call1_v2 : Ref sig .tc := ⟨.hbm, 260, rfl⟩
abbrev main_call1_v3 : Ref sig .tc := ⟨.hbm, 261, rfl⟩
abbrev main_call1_v4 : Ref sig .tc := ⟨.hbm, 262, rfl⟩
abbrev main_call1_v5 : Ref sig .tc := ⟨.hbm, 263, rfl⟩
abbrev main_call1_v6 : Ref sig .tc := ⟨.hbm, 264, rfl⟩
abbrev main_call1_v7 : Ref sig .tc := ⟨.hbm, 265, rfl⟩
abbrev main_call1_v8 : Ref sig .tc := ⟨.hbm, 266, rfl⟩
abbrev main_call1_v9 : Ref sig .tc := ⟨.hbm, 267, rfl⟩
abbrev main_call1_c : Ref sig .tc := ⟨.hbm, 268, rfl⟩
abbrev main_call1_v10 : Ref sig .tc := ⟨.hbm, 269, rfl⟩
abbrev main_call1_v11 : Ref sig .tc := ⟨.hbm, 270, rfl⟩
abbrev main_call1_c_0 : Ref sig .tc := ⟨.hbm, 271, rfl⟩
abbrev main_call1_v12 : Ref sig .tc := ⟨.hbm, 272, rfl⟩
abbrev main_call1_v13 : Ref sig .tc := ⟨.hbm, 273, rfl⟩
abbrev main_call1_v14 : Ref sig .tc := ⟨.hbm, 274, rfl⟩
abbrev main_call1_c_1 : Ref sig .tc := ⟨.hbm, 275, rfl⟩
abbrev main_call1_v15 : Ref sig .tc := ⟨.hbm, 276, rfl⟩
abbrev main_call1_v16 : Ref sig .tc := ⟨.hbm, 277, rfl⟩
abbrev main_call1_v17 : Ref sig .tc := ⟨.hbm, 278, rfl⟩
abbrev main_call1_v18 : Ref sig .tc := ⟨.hbm, 279, rfl⟩
abbrev main_call1_call0_v0 : Ref sig .tc := ⟨.hbm, 280, rfl⟩
abbrev main_call1_call0_c : Ref sig .tc := ⟨.hbm, 281, rfl⟩
abbrev main_call1_call0_v1 : Ref sig .tc := ⟨.hbm, 282, rfl⟩
abbrev main_call1_call0_v2 : Ref sig .tc := ⟨.hbm, 283, rfl⟩
abbrev main_call1_call0_v3 : Ref sig .tc := ⟨.hbm, 284, rfl⟩
abbrev main_call1_call0_v4 : Ref sig .tc := ⟨.hbm, 285, rfl⟩
abbrev main_call1_call0_v5 : Ref sig .tc := ⟨.hbm, 286, rfl⟩
abbrev main_call1_call0_v6 : Ref sig .tc := ⟨.hbm, 287, rfl⟩
abbrev main_call1_call0_c_0 : Ref sig .tc := ⟨.hbm, 288, rfl⟩
abbrev main_call1_call0_v7 : Ref sig .tc := ⟨.hbm, 289, rfl⟩
abbrev main_call1_call0_v8 : Ref sig .tc := ⟨.hbm, 290, rfl⟩
abbrev main_call1_call0_c_1 : Ref sig .tc := ⟨.hbm, 291, rfl⟩
abbrev main_call1_call0_v9 : Ref sig .tc := ⟨.hbm, 292, rfl⟩
abbrev main_call1_call0_v10 : Ref sig .tc := ⟨.hbm, 293, rfl⟩
abbrev main_call1_call0_v11 : Ref sig .tc := ⟨.hbm, 294, rfl⟩
abbrev main_call1_call0_v12 : Ref sig .tc := ⟨.hbm, 295, rfl⟩
abbrev main_call1_call0_v13 : Ref sig .tc := ⟨.hbm, 296, rfl⟩
abbrev main_call1_call0_c_2 : Ref sig .tc := ⟨.hbm, 297, rfl⟩
abbrev main_call1_call0_v14 : Ref sig .tc := ⟨.hbm, 298, rfl⟩
abbrev main_call1_call0_v15 : Ref sig .tc := ⟨.hbm, 299, rfl⟩
abbrev main_call1_call0_c_3 : Ref sig .tc := ⟨.hbm, 300, rfl⟩
abbrev main_call1_call0_v16 : Ref sig .tc := ⟨.hbm, 301, rfl⟩
abbrev main_call1_call0_v17 : Ref sig .tc := ⟨.hbm, 302, rfl⟩
abbrev main_call1_call0_v18 : Ref sig .tc := ⟨.hbm, 303, rfl⟩
abbrev main_call1_call0_v19 : Ref sig .tc := ⟨.hbm, 304, rfl⟩
abbrev main_call1_call0_v20 : Ref sig .tc := ⟨.hbm, 305, rfl⟩
abbrev main_call1_call0_c_4 : Ref sig .tc := ⟨.hbm, 306, rfl⟩
abbrev main_call1_call0_v21 : Ref sig .tc := ⟨.hbm, 307, rfl⟩
abbrev main_call1_call0_v22 : Ref sig .tc := ⟨.hbm, 308, rfl⟩
abbrev main_call1_call0_c_5 : Ref sig .tc := ⟨.hbm, 309, rfl⟩
abbrev main_call1_call0_v23 : Ref sig .tc := ⟨.hbm, 310, rfl⟩
abbrev main_call1_call0_v24 : Ref sig .tc := ⟨.hbm, 311, rfl⟩
abbrev main_call1_call0_v25 : Ref sig .tc := ⟨.hbm, 312, rfl⟩
abbrev main_call1_call0_v26 : Ref sig .tc := ⟨.hbm, 313, rfl⟩
abbrev main_call1_call0_v27 : Ref sig .tc := ⟨.hbm, 314, rfl⟩
abbrev main_call1_call0_c_6 : Ref sig .tc := ⟨.hbm, 315, rfl⟩
abbrev main_call1_call0_v28 : Ref sig .tc := ⟨.hbm, 316, rfl⟩
abbrev main_call1_call0_v29 : Ref sig .tc := ⟨.hbm, 317, rfl⟩
abbrev main_call1_call0_c_7 : Ref sig .tc := ⟨.hbm, 318, rfl⟩
abbrev main_call1_call0_v30 : Ref sig .tc := ⟨.hbm, 319, rfl⟩
abbrev main_call1_call0_v31 : Ref sig .tc := ⟨.hbm, 320, rfl⟩
abbrev main_call1_call0_v32 : Ref sig .tc := ⟨.hbm, 321, rfl⟩
abbrev main_call1_call0_v33 : Ref sig .tc := ⟨.hbm, 322, rfl⟩
abbrev main_call1_call0_v34 : Ref sig .tc := ⟨.hbm, 323, rfl⟩
abbrev main_call1_call0_v35 : Ref sig .tc := ⟨.hbm, 324, rfl⟩
abbrev main_call1_call0_v36 : Ref sig .tc := ⟨.hbm, 325, rfl⟩
abbrev main_call1_call0_v37 : Ref sig .tc := ⟨.hbm, 326, rfl⟩
abbrev main_call1_call0_c_8 : Ref sig .tc := ⟨.hbm, 327, rfl⟩
abbrev main_call1_call0_v38 : Ref sig .tc := ⟨.hbm, 328, rfl⟩
abbrev main_call1_call0_v39 : Ref sig .tc := ⟨.hbm, 329, rfl⟩
abbrev main_call1_call0_v40 : Ref sig .tc := ⟨.hbm, 330, rfl⟩
abbrev main_call1_call0_c_9 : Ref sig .tc := ⟨.hbm, 331, rfl⟩
abbrev main_call1_call0_v41 : Ref sig .tc := ⟨.hbm, 332, rfl⟩
abbrev main_call1_call0_v42 : Ref sig .tc := ⟨.hbm, 333, rfl⟩
abbrev main_call1_call0_c_10 : Ref sig .tc := ⟨.hbm, 334, rfl⟩
abbrev main_call1_call0_v43 : Ref sig .tc := ⟨.hbm, 335, rfl⟩
abbrev main_call1_call0_v44 : Ref sig .tc := ⟨.hbm, 336, rfl⟩
abbrev main_call1_call0_v45 : Ref sig .tc := ⟨.hbm, 337, rfl⟩
abbrev main_call1_call0_v46 : Ref sig .tc := ⟨.hbm, 338, rfl⟩
abbrev main_call1_call0_v47 : Ref sig .tc := ⟨.hbm, 339, rfl⟩
abbrev main_call1_call0_c_11 : Ref sig .tc := ⟨.hbm, 340, rfl⟩
abbrev main_call1_call0_v48 : Ref sig .tc := ⟨.hbm, 341, rfl⟩
abbrev main_call1_call0_v49 : Ref sig .tc := ⟨.hbm, 342, rfl⟩
abbrev main_call1_call0_c_12 : Ref sig .tc := ⟨.hbm, 343, rfl⟩
abbrev main_call1_call0_v50 : Ref sig .tc := ⟨.hbm, 344, rfl⟩
abbrev main_call1_call0_v51 : Ref sig .tc := ⟨.hbm, 345, rfl⟩
abbrev main_call1_call0_v52 : Ref sig .tc := ⟨.hbm, 346, rfl⟩
abbrev main_call1_call0_v53 : Ref sig .tc := ⟨.hbm, 347, rfl⟩
abbrev main_call1_call0_v54 : Ref sig .tc := ⟨.hbm, 348, rfl⟩
abbrev main_call1_call0_c_13 : Ref sig .tc := ⟨.hbm, 349, rfl⟩
abbrev main_call1_call0_v55 : Ref sig .tc := ⟨.hbm, 350, rfl⟩
abbrev main_call1_call0_v56 : Ref sig .tc := ⟨.hbm, 351, rfl⟩
abbrev main_call1_call0_c_14 : Ref sig .tc := ⟨.hbm, 352, rfl⟩
abbrev main_call1_call0_v57 : Ref sig .tc := ⟨.hbm, 353, rfl⟩
abbrev main_call1_call0_v58 : Ref sig .tc := ⟨.hbm, 354, rfl⟩
abbrev main_call1_call0_v59 : Ref sig .tc := ⟨.hbm, 355, rfl⟩
abbrev main_call1_call0_v60 : Ref sig .tc := ⟨.hbm, 356, rfl⟩
abbrev main_call1_call0_v61 : Ref sig .tc := ⟨.hbm, 357, rfl⟩
abbrev main_call1_call0_c_15 : Ref sig .tc := ⟨.hbm, 358, rfl⟩
abbrev main_call1_call0_v62 : Ref sig .tc := ⟨.hbm, 359, rfl⟩
abbrev main_call1_call0_v63 : Ref sig .tc := ⟨.hbm, 360, rfl⟩
abbrev main_call1_call0_c_16 : Ref sig .tc := ⟨.hbm, 361, rfl⟩
abbrev main_call1_call0_v64 : Ref sig .tc := ⟨.hbm, 362, rfl⟩
abbrev main_call1_call0_v65 : Ref sig .tc := ⟨.hbm, 363, rfl⟩
abbrev main_call1_call0_v66 : Ref sig .tc := ⟨.hbm, 364, rfl⟩
abbrev main_call1_call0_v67 : Ref sig .tc := ⟨.hbm, 365, rfl⟩
abbrev main_call1_call0_v68 : Ref sig .tc := ⟨.hbm, 366, rfl⟩
abbrev main_call1_call0_v69 : Ref sig .tc := ⟨.hbm, 367, rfl⟩
abbrev main_call1_call0_v70 : Ref sig .tc := ⟨.hbm, 368, rfl⟩
abbrev main_call1_call0_v71 : Ref sig .tc := ⟨.hbm, 369, rfl⟩
abbrev main_call1_call0_c_17 : Ref sig .tc := ⟨.hbm, 370, rfl⟩
abbrev main_call1_call0_v72 : Ref sig .tc := ⟨.hbm, 371, rfl⟩
abbrev main_call1_call0_v73 : Ref sig .tc := ⟨.hbm, 372, rfl⟩
abbrev main_call1_call0_v74 : Ref sig .tc := ⟨.hbm, 373, rfl⟩
abbrev main_call1_call0_c_18 : Ref sig .tc := ⟨.hbm, 374, rfl⟩
abbrev main_call1_call0_v75 : Ref sig .tc := ⟨.hbm, 375, rfl⟩
abbrev main_call1_call0_v76 : Ref sig .tc := ⟨.hbm, 376, rfl⟩
abbrev main_call1_call0_c_19 : Ref sig .tc := ⟨.hbm, 377, rfl⟩
abbrev main_call1_call0_v77 : Ref sig .tc := ⟨.hbm, 378, rfl⟩
abbrev main_call1_call0_v78 : Ref sig .tc := ⟨.hbm, 379, rfl⟩
abbrev main_call1_call0_v79 : Ref sig .tc := ⟨.hbm, 380, rfl⟩
abbrev main_call1_call0_v80 : Ref sig .tc := ⟨.hbm, 381, rfl⟩
abbrev main_call1_call0_v81 : Ref sig .tc := ⟨.hbm, 382, rfl⟩
abbrev main_call1_call0_c_20 : Ref sig .tc := ⟨.hbm, 383, rfl⟩
abbrev main_call1_call0_v82 : Ref sig .tc := ⟨.hbm, 384, rfl⟩
abbrev main_call1_call0_v83 : Ref sig .tc := ⟨.hbm, 385, rfl⟩
abbrev main_call1_call0_c_21 : Ref sig .tc := ⟨.hbm, 386, rfl⟩
abbrev main_call1_call0_v84 : Ref sig .tc := ⟨.hbm, 387, rfl⟩
abbrev main_call1_call0_v85 : Ref sig .tc := ⟨.hbm, 388, rfl⟩
abbrev main_call1_call0_v86 : Ref sig .tc := ⟨.hbm, 389, rfl⟩
abbrev main_call1_call0_v87 : Ref sig .tc := ⟨.hbm, 390, rfl⟩
abbrev main_call1_call0_v88 : Ref sig .tc := ⟨.hbm, 391, rfl⟩
abbrev main_call1_call0_c_22 : Ref sig .tc := ⟨.hbm, 392, rfl⟩
abbrev main_call1_call0_v89 : Ref sig .tc := ⟨.hbm, 393, rfl⟩
abbrev main_call1_call0_v90 : Ref sig .tc := ⟨.hbm, 394, rfl⟩
abbrev main_call1_call0_c_23 : Ref sig .tc := ⟨.hbm, 395, rfl⟩
abbrev main_call1_call0_v91 : Ref sig .tc := ⟨.hbm, 396, rfl⟩
abbrev main_call1_call0_v92 : Ref sig .tc := ⟨.hbm, 397, rfl⟩
abbrev main_call1_call0_v93 : Ref sig .tc := ⟨.hbm, 398, rfl⟩
abbrev main_call1_call0_v94 : Ref sig .tc := ⟨.hbm, 399, rfl⟩
abbrev main_call1_call0_v95 : Ref sig .tc := ⟨.hbm, 400, rfl⟩
abbrev main_call1_call0_c_24 : Ref sig .tc := ⟨.hbm, 401, rfl⟩
abbrev main_call1_call0_v96 : Ref sig .tc := ⟨.hbm, 402, rfl⟩
abbrev main_call1_call0_v97 : Ref sig .tc := ⟨.hbm, 403, rfl⟩
abbrev main_call1_call0_c_25 : Ref sig .tc := ⟨.hbm, 404, rfl⟩
abbrev main_call1_call0_v98 : Ref sig .tc := ⟨.hbm, 405, rfl⟩
abbrev main_call1_call0_v99 : Ref sig .tc := ⟨.hbm, 406, rfl⟩
abbrev main_call1_call0_v100 : Ref sig .tc := ⟨.hbm, 407, rfl⟩
abbrev main_call1_call0_v101 : Ref sig .tc := ⟨.hbm, 408, rfl⟩
abbrev main_call1_call0_v102 : Ref sig .tc := ⟨.hbm, 409, rfl⟩
abbrev main_call1_call0_v103 : Ref sig .tc := ⟨.hbm, 410, rfl⟩
abbrev main_call1_call0_v104 : Ref sig .tc := ⟨.hbm, 411, rfl⟩
abbrev main_call1_call0_v105 : Ref sig .tc := ⟨.hbm, 412, rfl⟩
abbrev main_call1_call0_c_26 : Ref sig .tc := ⟨.hbm, 413, rfl⟩
abbrev main_call1_call0_v106 : Ref sig .tc := ⟨.hbm, 414, rfl⟩
abbrev main_call1_call0_v107 : Ref sig .tc := ⟨.hbm, 415, rfl⟩
abbrev main_call1_call0_v108 : Ref sig .tc := ⟨.hbm, 416, rfl⟩
abbrev main_call1_call0_c_27 : Ref sig .tc := ⟨.hbm, 417, rfl⟩
abbrev main_call1_call0_v109 : Ref sig .tc := ⟨.hbm, 418, rfl⟩
abbrev main_call1_call0_v110 : Ref sig .tc := ⟨.hbm, 419, rfl⟩
abbrev main_call1_call0_c_28 : Ref sig .tc := ⟨.hbm, 420, rfl⟩
abbrev main_call1_call0_v111 : Ref sig .tc := ⟨.hbm, 421, rfl⟩
abbrev main_call1_call0_v112 : Ref sig .tc := ⟨.hbm, 422, rfl⟩
abbrev main_call1_call0_v113 : Ref sig .tc := ⟨.hbm, 423, rfl⟩
abbrev main_call1_call0_v114 : Ref sig .tc := ⟨.hbm, 424, rfl⟩
abbrev main_call1_call0_v115 : Ref sig .tc := ⟨.hbm, 425, rfl⟩
abbrev main_call1_call0_c_29 : Ref sig .tc := ⟨.hbm, 426, rfl⟩
abbrev main_call1_call0_v116 : Ref sig .tc := ⟨.hbm, 427, rfl⟩
abbrev main_call1_call0_v117 : Ref sig .tc := ⟨.hbm, 428, rfl⟩
abbrev main_call1_call0_c_30 : Ref sig .tc := ⟨.hbm, 429, rfl⟩
abbrev main_call1_call0_v118 : Ref sig .tc := ⟨.hbm, 430, rfl⟩
abbrev main_call1_call0_v119 : Ref sig .tc := ⟨.hbm, 431, rfl⟩
abbrev main_call1_call0_v120 : Ref sig .tc := ⟨.hbm, 432, rfl⟩
abbrev main_call1_call0_v121 : Ref sig .tc := ⟨.hbm, 433, rfl⟩
abbrev main_call1_call0_v122 : Ref sig .tc := ⟨.hbm, 434, rfl⟩
abbrev main_call1_call0_c_31 : Ref sig .tc := ⟨.hbm, 435, rfl⟩
abbrev main_call1_call0_v123 : Ref sig .tc := ⟨.hbm, 436, rfl⟩
abbrev main_call1_call0_v124 : Ref sig .tc := ⟨.hbm, 437, rfl⟩
abbrev main_call1_call0_c_32 : Ref sig .tc := ⟨.hbm, 438, rfl⟩
abbrev main_call1_call0_v125 : Ref sig .tc := ⟨.hbm, 439, rfl⟩
abbrev main_call1_call0_v126 : Ref sig .tc := ⟨.hbm, 440, rfl⟩
abbrev main_call1_call0_v127 : Ref sig .tc := ⟨.hbm, 441, rfl⟩
abbrev main_call1_call0_v128 : Ref sig .tc := ⟨.hbm, 442, rfl⟩
abbrev main_call1_call0_v129 : Ref sig .tc := ⟨.hbm, 443, rfl⟩
abbrev main_call1_call0_c_33 : Ref sig .tc := ⟨.hbm, 444, rfl⟩
abbrev main_call1_call0_v130 : Ref sig .tc := ⟨.hbm, 445, rfl⟩
abbrev main_call1_call0_v131 : Ref sig .tc := ⟨.hbm, 446, rfl⟩
abbrev main_call1_call0_c_34 : Ref sig .tc := ⟨.hbm, 447, rfl⟩
abbrev main_call1_call0_v132 : Ref sig .tc := ⟨.hbm, 448, rfl⟩
abbrev main_call1_call0_v133 : Ref sig .tc := ⟨.hbm, 449, rfl⟩
abbrev main_call1_call0_v134 : Ref sig .tc := ⟨.hbm, 450, rfl⟩
abbrev main_call1_call0_v135 : Ref sig .tc := ⟨.hbm, 451, rfl⟩
abbrev main_call1_call0_v136 : Ref sig .tc := ⟨.hbm, 452, rfl⟩
abbrev main_call1_call0_v137 : Ref sig .tc := ⟨.hbm, 453, rfl⟩
abbrev main_call1_call0_v138 : Ref sig .tc := ⟨.hbm, 454, rfl⟩
abbrev main_call1_call0_v139 : Ref sig .tc := ⟨.hbm, 455, rfl⟩
abbrev main_call1_call0_c_35 : Ref sig .tc := ⟨.hbm, 456, rfl⟩
abbrev main_call1_call0_v140 : Ref sig .tc := ⟨.hbm, 457, rfl⟩
abbrev main_call1_call0_v141 : Ref sig .tc := ⟨.hbm, 458, rfl⟩
abbrev main_call1_call0_v142 : Ref sig .tc := ⟨.hbm, 459, rfl⟩
abbrev main_call1_call0_c_36 : Ref sig .tc := ⟨.hbm, 460, rfl⟩
abbrev main_call1_call0_v143 : Ref sig .tc := ⟨.hbm, 461, rfl⟩
abbrev main_call1_call0_v144 : Ref sig .tc := ⟨.hbm, 462, rfl⟩
abbrev main_call1_call0_c_37 : Ref sig .tc := ⟨.hbm, 463, rfl⟩
abbrev main_call1_call0_v145 : Ref sig .tc := ⟨.hbm, 464, rfl⟩
abbrev main_call1_call0_v146 : Ref sig .tc := ⟨.hbm, 465, rfl⟩
abbrev main_call1_call0_v147 : Ref sig .tc := ⟨.hbm, 466, rfl⟩
abbrev main_call1_call0_v148 : Ref sig .tc := ⟨.hbm, 467, rfl⟩
abbrev main_call1_call0_v149 : Ref sig .tc := ⟨.hbm, 468, rfl⟩
abbrev main_call1_call0_c_38 : Ref sig .tc := ⟨.hbm, 469, rfl⟩
abbrev main_call1_call0_v150 : Ref sig .tc := ⟨.hbm, 470, rfl⟩
abbrev main_call1_call0_v151 : Ref sig .tc := ⟨.hbm, 471, rfl⟩
abbrev main_call1_call0_c_39 : Ref sig .tc := ⟨.hbm, 472, rfl⟩
abbrev main_call1_call0_v152 : Ref sig .tc := ⟨.hbm, 473, rfl⟩
abbrev main_call1_call0_v153 : Ref sig .tc := ⟨.hbm, 474, rfl⟩
abbrev main_call1_call0_v154 : Ref sig .tc := ⟨.hbm, 475, rfl⟩
abbrev main_call1_call0_v155 : Ref sig .tc := ⟨.hbm, 476, rfl⟩
abbrev main_call1_call0_v156 : Ref sig .tc := ⟨.hbm, 477, rfl⟩
abbrev main_call1_call0_c_40 : Ref sig .tc := ⟨.hbm, 478, rfl⟩
abbrev main_call1_call0_v157 : Ref sig .tc := ⟨.hbm, 479, rfl⟩
abbrev main_call1_call0_v158 : Ref sig .tc := ⟨.hbm, 480, rfl⟩
abbrev main_call1_call0_c_41 : Ref sig .tc := ⟨.hbm, 481, rfl⟩
abbrev main_call1_call0_v159 : Ref sig .tc := ⟨.hbm, 482, rfl⟩
abbrev main_call1_call0_v160 : Ref sig .tc := ⟨.hbm, 483, rfl⟩
abbrev main_call1_call0_v161 : Ref sig .tc := ⟨.hbm, 484, rfl⟩
abbrev main_call1_call0_v162 : Ref sig .tc := ⟨.hbm, 485, rfl⟩
abbrev main_call1_call0_v163 : Ref sig .tc := ⟨.hbm, 486, rfl⟩
abbrev main_call1_call0_c_42 : Ref sig .tc := ⟨.hbm, 487, rfl⟩
abbrev main_call1_call0_v164 : Ref sig .tc := ⟨.hbm, 488, rfl⟩
abbrev main_call1_call0_v165 : Ref sig .tc := ⟨.hbm, 489, rfl⟩
abbrev main_call1_call0_c_43 : Ref sig .tc := ⟨.hbm, 490, rfl⟩
abbrev main_call1_call0_v166 : Ref sig .tc := ⟨.hbm, 491, rfl⟩
abbrev main_call1_call0_v167 : Ref sig .tc := ⟨.hbm, 492, rfl⟩
abbrev main_call1_call0_v168 : Ref sig .tc := ⟨.hbm, 493, rfl⟩
abbrev main_call1_call0_v169 : Ref sig .tc := ⟨.hbm, 494, rfl⟩
abbrev main_call1_call0_v170 : Ref sig .tc := ⟨.hbm, 495, rfl⟩
abbrev main_call1_v19_0 : Ref sig .tc := ⟨.hbm, 496, rfl⟩
abbrev main_call1_call0_v172 : Ref sig .tc := ⟨.hbm, 497, rfl⟩
abbrev main_call1_call0_v173 : Ref sig .tc := ⟨.hbm, 498, rfl⟩
abbrev main_call1_call0_c_44 : Ref sig .tc := ⟨.hbm, 499, rfl⟩
abbrev main_call1_call0_v174 : Ref sig .tc := ⟨.hbm, 500, rfl⟩
abbrev main_call1_v19_1 : Ref sig .tc := ⟨.hbm, 501, rfl⟩
abbrev main_call1_v20 : Ref sig .tc := ⟨.hbm, 502, rfl⟩
abbrev main_call1_c_2 : Ref sig .tc := ⟨.hbm, 503, rfl⟩
abbrev main_call1_v21 : Ref sig .tc := ⟨.hbm, 504, rfl⟩
abbrev main_call1_v22 : Ref sig .tc := ⟨.hbm, 505, rfl⟩
abbrev main_call1_c_3 : Ref sig .tc := ⟨.hbm, 506, rfl⟩
abbrev main_call1_v23 : Ref sig .tc := ⟨.hbm, 507, rfl⟩
abbrev main_call1_v24 : Ref sig .tc := ⟨.hbm, 508, rfl⟩
abbrev main_call1_v25 : Ref sig .tc := ⟨.hbm, 509, rfl⟩
abbrev main_call1_cst : Ref sig .tc := ⟨.hbm, 510, rfl⟩
abbrev main_call1_v26 : Ref sig .tc := ⟨.hbm, 511, rfl⟩
abbrev main_call1_v27 : Ref sig .tc := ⟨.hbm, 512, rfl⟩
abbrev main_call1_v28 : Ref sig .tc := ⟨.hbm, 513, rfl⟩
abbrev main_call1_v29 : Ref sig .tc := ⟨.hbm, 514, rfl⟩
abbrev main_call1_v30 : Ref sig .tc := ⟨.hbm, 515, rfl⟩
abbrev main_call1_v31 : Ref sig .tc := ⟨.hbm, 516, rfl⟩
abbrev main_call1_v32 : Ref sig .tc := ⟨.hbm, 517, rfl⟩
abbrev main_call1_v33 : Ref sig .tc := ⟨.hbm, 518, rfl⟩
abbrev main_v14 : Ref sig .tc := ⟨.hbm, 519, rfl⟩
abbrev main_call2_cst : Ref sig .tc := ⟨.hbm, 520, rfl⟩
abbrev main_call2_cst_0 : Ref sig .tc := ⟨.hbm, 521, rfl⟩
abbrev main_call2_call0_v0 : Ref sig .tc := ⟨.hbm, 522, rfl⟩
abbrev main_call2_call0_v1 : Ref sig .tc := ⟨.hbm, 523, rfl⟩
abbrev main_call2_call0_v2 : Ref sig .tc := ⟨.hbm, 524, rfl⟩
abbrev main_call2_call0_v3 : Ref sig .tc := ⟨.hbm, 525, rfl⟩
abbrev main_call2_call0_v4 : Ref sig .tc := ⟨.hbm, 526, rfl⟩
abbrev main_call2_call0_v5 : Ref sig .tc := ⟨.hbm, 527, rfl⟩
abbrev main_call2_call0_v6 : Ref sig .tc := ⟨.hbm, 528, rfl⟩
abbrev main_call2_call0_v7 : Ref sig .tc := ⟨.hbm, 529, rfl⟩
abbrev main_call2_call0_v8 : Ref sig .tc := ⟨.hbm, 530, rfl⟩
abbrev main_call2_call0_v9 : Ref sig .tc := ⟨.hbm, 531, rfl⟩
abbrev main_call2_call0_c : Ref sig .tc := ⟨.hbm, 532, rfl⟩
abbrev main_call2_call0_v10 : Ref sig .tc := ⟨.hbm, 533, rfl⟩
abbrev main_call2_call0_v11 : Ref sig .tc := ⟨.hbm, 534, rfl⟩
abbrev main_call2_call0_c_0 : Ref sig .tc := ⟨.hbm, 535, rfl⟩
abbrev main_call2_call0_v12 : Ref sig .tc := ⟨.hbm, 536, rfl⟩
abbrev main_call2_call0_v13 : Ref sig .tc := ⟨.hbm, 537, rfl⟩
abbrev main_call2_call0_c_1 : Ref sig .tc := ⟨.hbm, 538, rfl⟩
abbrev main_call2_call0_v14 : Ref sig .tc := ⟨.hbm, 539, rfl⟩
abbrev main_call2_call0_v15 : Ref sig .tc := ⟨.hbm, 540, rfl⟩
abbrev main_call2_call0_v16 : Ref sig .tc := ⟨.hbm, 541, rfl⟩
abbrev main_call2_call0_v17 : Ref sig .tc := ⟨.hbm, 542, rfl⟩
abbrev main_call2_call0_c_2 : Ref sig .tc := ⟨.hbm, 543, rfl⟩
abbrev main_call2_call0_v18 : Ref sig .tc := ⟨.hbm, 544, rfl⟩
abbrev main_call2_call0_v19 : Ref sig .tc := ⟨.hbm, 545, rfl⟩
abbrev main_call2_call0_v20 : Ref sig .tc := ⟨.hbm, 546, rfl⟩
abbrev main_call2_call0_v21 : Ref sig .tc := ⟨.hbm, 547, rfl⟩
abbrev main_call2_call0_call0_v0 : Ref sig .tc := ⟨.hbm, 548, rfl⟩
abbrev main_call2_call0_call0_c : Ref sig .tc := ⟨.hbm, 549, rfl⟩
abbrev main_call2_call0_call0_v1 : Ref sig .tc := ⟨.hbm, 550, rfl⟩
abbrev main_call2_call0_call0_v2 : Ref sig .tc := ⟨.hbm, 551, rfl⟩
abbrev main_call2_call0_call0_v3 : Ref sig .tc := ⟨.hbm, 552, rfl⟩
abbrev main_call2_call0_call0_v4 : Ref sig .tc := ⟨.hbm, 553, rfl⟩
abbrev main_call2_call0_call0_v5 : Ref sig .tc := ⟨.hbm, 554, rfl⟩
abbrev main_call2_call0_call0_v6 : Ref sig .tc := ⟨.hbm, 555, rfl⟩
abbrev main_call2_call0_call0_c_0 : Ref sig .tc := ⟨.hbm, 556, rfl⟩
abbrev main_call2_call0_call0_v7 : Ref sig .tc := ⟨.hbm, 557, rfl⟩
abbrev main_call2_call0_call0_v8 : Ref sig .tc := ⟨.hbm, 558, rfl⟩
abbrev main_call2_call0_call0_c_1 : Ref sig .tc := ⟨.hbm, 559, rfl⟩
abbrev main_call2_call0_call0_v9 : Ref sig .tc := ⟨.hbm, 560, rfl⟩
abbrev main_call2_call0_call0_v10 : Ref sig .tc := ⟨.hbm, 561, rfl⟩
abbrev main_call2_call0_call0_v11 : Ref sig .tc := ⟨.hbm, 562, rfl⟩
abbrev main_call2_call0_call0_v12 : Ref sig .tc := ⟨.hbm, 563, rfl⟩
abbrev main_call2_call0_call0_v13 : Ref sig .tc := ⟨.hbm, 564, rfl⟩
abbrev main_call2_call0_call0_c_2 : Ref sig .tc := ⟨.hbm, 565, rfl⟩
abbrev main_call2_call0_call0_v14 : Ref sig .tc := ⟨.hbm, 566, rfl⟩
abbrev main_call2_call0_call0_v15 : Ref sig .tc := ⟨.hbm, 567, rfl⟩
abbrev main_call2_call0_call0_c_3 : Ref sig .tc := ⟨.hbm, 568, rfl⟩
abbrev main_call2_call0_call0_v16 : Ref sig .tc := ⟨.hbm, 569, rfl⟩
abbrev main_call2_call0_call0_v17 : Ref sig .tc := ⟨.hbm, 570, rfl⟩
abbrev main_call2_call0_call0_v18 : Ref sig .tc := ⟨.hbm, 571, rfl⟩
abbrev main_call2_call0_call0_v19 : Ref sig .tc := ⟨.hbm, 572, rfl⟩
abbrev main_call2_call0_call0_v20 : Ref sig .tc := ⟨.hbm, 573, rfl⟩
abbrev main_call2_call0_call0_c_4 : Ref sig .tc := ⟨.hbm, 574, rfl⟩
abbrev main_call2_call0_call0_v21 : Ref sig .tc := ⟨.hbm, 575, rfl⟩
abbrev main_call2_call0_call0_v22 : Ref sig .tc := ⟨.hbm, 576, rfl⟩
abbrev main_call2_call0_call0_c_5 : Ref sig .tc := ⟨.hbm, 577, rfl⟩
abbrev main_call2_call0_call0_v23 : Ref sig .tc := ⟨.hbm, 578, rfl⟩
abbrev main_call2_call0_call0_v24 : Ref sig .tc := ⟨.hbm, 579, rfl⟩
abbrev main_call2_call0_call0_v25 : Ref sig .tc := ⟨.hbm, 580, rfl⟩
abbrev main_call2_call0_call0_v26 : Ref sig .tc := ⟨.hbm, 581, rfl⟩
abbrev main_call2_call0_call0_v27 : Ref sig .tc := ⟨.hbm, 582, rfl⟩
abbrev main_call2_call0_call0_c_6 : Ref sig .tc := ⟨.hbm, 583, rfl⟩
abbrev main_call2_call0_call0_v28 : Ref sig .tc := ⟨.hbm, 584, rfl⟩
abbrev main_call2_call0_call0_v29 : Ref sig .tc := ⟨.hbm, 585, rfl⟩
abbrev main_call2_call0_call0_c_7 : Ref sig .tc := ⟨.hbm, 586, rfl⟩
abbrev main_call2_call0_call0_v30 : Ref sig .tc := ⟨.hbm, 587, rfl⟩
abbrev main_call2_call0_call0_v31 : Ref sig .tc := ⟨.hbm, 588, rfl⟩
abbrev main_call2_call0_call0_v32 : Ref sig .tc := ⟨.hbm, 589, rfl⟩
abbrev main_call2_call0_call0_v33 : Ref sig .tc := ⟨.hbm, 590, rfl⟩
abbrev main_call2_call0_call0_v34 : Ref sig .tc := ⟨.hbm, 591, rfl⟩
abbrev main_call2_call0_call0_v35 : Ref sig .tc := ⟨.hbm, 592, rfl⟩
abbrev main_call2_call0_call0_v36 : Ref sig .tc := ⟨.hbm, 593, rfl⟩
abbrev main_call2_call0_call0_v37 : Ref sig .tc := ⟨.hbm, 594, rfl⟩
abbrev main_call2_call0_call0_c_8 : Ref sig .tc := ⟨.hbm, 595, rfl⟩
abbrev main_call2_call0_call0_v38 : Ref sig .tc := ⟨.hbm, 596, rfl⟩
abbrev main_call2_call0_call0_v39 : Ref sig .tc := ⟨.hbm, 597, rfl⟩
abbrev main_call2_call0_call0_v40 : Ref sig .tc := ⟨.hbm, 598, rfl⟩
abbrev main_call2_call0_call0_c_9 : Ref sig .tc := ⟨.hbm, 599, rfl⟩
abbrev main_call2_call0_call0_v41 : Ref sig .tc := ⟨.hbm, 600, rfl⟩
abbrev main_call2_call0_call0_v42 : Ref sig .tc := ⟨.hbm, 601, rfl⟩
abbrev main_call2_call0_call0_c_10 : Ref sig .tc := ⟨.hbm, 602, rfl⟩
abbrev main_call2_call0_call0_v43 : Ref sig .tc := ⟨.hbm, 603, rfl⟩
abbrev main_call2_call0_call0_v44 : Ref sig .tc := ⟨.hbm, 604, rfl⟩
abbrev main_call2_call0_call0_v45 : Ref sig .tc := ⟨.hbm, 605, rfl⟩
abbrev main_call2_call0_call0_v46 : Ref sig .tc := ⟨.hbm, 606, rfl⟩
abbrev main_call2_call0_call0_v47 : Ref sig .tc := ⟨.hbm, 607, rfl⟩
abbrev main_call2_call0_call0_c_11 : Ref sig .tc := ⟨.hbm, 608, rfl⟩
abbrev main_call2_call0_call0_v48 : Ref sig .tc := ⟨.hbm, 609, rfl⟩
abbrev main_call2_call0_call0_v49 : Ref sig .tc := ⟨.hbm, 610, rfl⟩
abbrev main_call2_call0_call0_c_12 : Ref sig .tc := ⟨.hbm, 611, rfl⟩
abbrev main_call2_call0_call0_v50 : Ref sig .tc := ⟨.hbm, 612, rfl⟩
abbrev main_call2_call0_call0_v51 : Ref sig .tc := ⟨.hbm, 613, rfl⟩
abbrev main_call2_call0_call0_v52 : Ref sig .tc := ⟨.hbm, 614, rfl⟩
abbrev main_call2_call0_call0_v53 : Ref sig .tc := ⟨.hbm, 615, rfl⟩
abbrev main_call2_call0_call0_v54 : Ref sig .tc := ⟨.hbm, 616, rfl⟩
abbrev main_call2_call0_call0_c_13 : Ref sig .tc := ⟨.hbm, 617, rfl⟩
abbrev main_call2_call0_call0_v55 : Ref sig .tc := ⟨.hbm, 618, rfl⟩
abbrev main_call2_call0_call0_v56 : Ref sig .tc := ⟨.hbm, 619, rfl⟩
abbrev main_call2_call0_call0_c_14 : Ref sig .tc := ⟨.hbm, 620, rfl⟩
abbrev main_call2_call0_call0_v57 : Ref sig .tc := ⟨.hbm, 621, rfl⟩
abbrev main_call2_call0_call0_v58 : Ref sig .tc := ⟨.hbm, 622, rfl⟩
abbrev main_call2_call0_call0_v59 : Ref sig .tc := ⟨.hbm, 623, rfl⟩
abbrev main_call2_call0_call0_v60 : Ref sig .tc := ⟨.hbm, 624, rfl⟩
abbrev main_call2_call0_call0_v61 : Ref sig .tc := ⟨.hbm, 625, rfl⟩
abbrev main_call2_call0_call0_c_15 : Ref sig .tc := ⟨.hbm, 626, rfl⟩
abbrev main_call2_call0_call0_v62 : Ref sig .tc := ⟨.hbm, 627, rfl⟩
abbrev main_call2_call0_call0_v63 : Ref sig .tc := ⟨.hbm, 628, rfl⟩
abbrev main_call2_call0_call0_c_16 : Ref sig .tc := ⟨.hbm, 629, rfl⟩
abbrev main_call2_call0_call0_v64 : Ref sig .tc := ⟨.hbm, 630, rfl⟩
abbrev main_call2_call0_call0_v65 : Ref sig .tc := ⟨.hbm, 631, rfl⟩
abbrev main_call2_call0_call0_v66 : Ref sig .tc := ⟨.hbm, 632, rfl⟩
abbrev main_call2_call0_call0_v67 : Ref sig .tc := ⟨.hbm, 633, rfl⟩
abbrev main_call2_call0_call0_v68 : Ref sig .tc := ⟨.hbm, 634, rfl⟩
abbrev main_call2_call0_call0_v69 : Ref sig .tc := ⟨.hbm, 635, rfl⟩
abbrev main_call2_call0_call0_v70 : Ref sig .tc := ⟨.hbm, 636, rfl⟩
abbrev main_call2_call0_call0_v71 : Ref sig .tc := ⟨.hbm, 637, rfl⟩
abbrev main_call2_call0_call0_c_17 : Ref sig .tc := ⟨.hbm, 638, rfl⟩
abbrev main_call2_call0_call0_v72 : Ref sig .tc := ⟨.hbm, 639, rfl⟩
abbrev main_call2_call0_call0_v73 : Ref sig .tc := ⟨.hbm, 640, rfl⟩
abbrev main_call2_call0_call0_v74 : Ref sig .tc := ⟨.hbm, 641, rfl⟩
abbrev main_call2_call0_call0_c_18 : Ref sig .tc := ⟨.hbm, 642, rfl⟩
abbrev main_call2_call0_call0_v75 : Ref sig .tc := ⟨.hbm, 643, rfl⟩
abbrev main_call2_call0_call0_v76 : Ref sig .tc := ⟨.hbm, 644, rfl⟩
abbrev main_call2_call0_call0_c_19 : Ref sig .tc := ⟨.hbm, 645, rfl⟩
abbrev main_call2_call0_call0_v77 : Ref sig .tc := ⟨.hbm, 646, rfl⟩
abbrev main_call2_call0_call0_v78 : Ref sig .tc := ⟨.hbm, 647, rfl⟩
abbrev main_call2_call0_call0_v79 : Ref sig .tc := ⟨.hbm, 648, rfl⟩
abbrev main_call2_call0_call0_v80 : Ref sig .tc := ⟨.hbm, 649, rfl⟩
abbrev main_call2_call0_call0_v81 : Ref sig .tc := ⟨.hbm, 650, rfl⟩
abbrev main_call2_call0_call0_c_20 : Ref sig .tc := ⟨.hbm, 651, rfl⟩
abbrev main_call2_call0_call0_v82 : Ref sig .tc := ⟨.hbm, 652, rfl⟩
abbrev main_call2_call0_call0_v83 : Ref sig .tc := ⟨.hbm, 653, rfl⟩
abbrev main_call2_call0_call0_c_21 : Ref sig .tc := ⟨.hbm, 654, rfl⟩
abbrev main_call2_call0_call0_v84 : Ref sig .tc := ⟨.hbm, 655, rfl⟩
abbrev main_call2_call0_call0_v85 : Ref sig .tc := ⟨.hbm, 656, rfl⟩
abbrev main_call2_call0_call0_v86 : Ref sig .tc := ⟨.hbm, 657, rfl⟩
abbrev main_call2_call0_call0_v87 : Ref sig .tc := ⟨.hbm, 658, rfl⟩
abbrev main_call2_call0_call0_v88 : Ref sig .tc := ⟨.hbm, 659, rfl⟩
abbrev main_call2_call0_call0_c_22 : Ref sig .tc := ⟨.hbm, 660, rfl⟩
abbrev main_call2_call0_call0_v89 : Ref sig .tc := ⟨.hbm, 661, rfl⟩
abbrev main_call2_call0_call0_v90 : Ref sig .tc := ⟨.hbm, 662, rfl⟩
abbrev main_call2_call0_call0_c_23 : Ref sig .tc := ⟨.hbm, 663, rfl⟩
abbrev main_call2_call0_call0_v91 : Ref sig .tc := ⟨.hbm, 664, rfl⟩
abbrev main_call2_call0_call0_v92 : Ref sig .tc := ⟨.hbm, 665, rfl⟩
abbrev main_call2_call0_call0_v93 : Ref sig .tc := ⟨.hbm, 666, rfl⟩
abbrev main_call2_call0_call0_v94 : Ref sig .tc := ⟨.hbm, 667, rfl⟩
abbrev main_call2_call0_call0_v95 : Ref sig .tc := ⟨.hbm, 668, rfl⟩
abbrev main_call2_call0_call0_c_24 : Ref sig .tc := ⟨.hbm, 669, rfl⟩
abbrev main_call2_call0_call0_v96 : Ref sig .tc := ⟨.hbm, 670, rfl⟩
abbrev main_call2_call0_call0_v97 : Ref sig .tc := ⟨.hbm, 671, rfl⟩
abbrev main_call2_call0_call0_c_25 : Ref sig .tc := ⟨.hbm, 672, rfl⟩
abbrev main_call2_call0_call0_v98 : Ref sig .tc := ⟨.hbm, 673, rfl⟩
abbrev main_call2_call0_call0_v99 : Ref sig .tc := ⟨.hbm, 674, rfl⟩
abbrev main_call2_call0_call0_v100 : Ref sig .tc := ⟨.hbm, 675, rfl⟩
abbrev main_call2_call0_call0_v101 : Ref sig .tc := ⟨.hbm, 676, rfl⟩
abbrev main_call2_call0_call0_v102 : Ref sig .tc := ⟨.hbm, 677, rfl⟩
abbrev main_call2_call0_call0_v103 : Ref sig .tc := ⟨.hbm, 678, rfl⟩
abbrev main_call2_call0_call0_v104 : Ref sig .tc := ⟨.hbm, 679, rfl⟩
abbrev main_call2_call0_call0_v105 : Ref sig .tc := ⟨.hbm, 680, rfl⟩
abbrev main_call2_call0_call0_c_26 : Ref sig .tc := ⟨.hbm, 681, rfl⟩
abbrev main_call2_call0_call0_v106 : Ref sig .tc := ⟨.hbm, 682, rfl⟩
abbrev main_call2_call0_call0_v107 : Ref sig .tc := ⟨.hbm, 683, rfl⟩
abbrev main_call2_call0_call0_v108 : Ref sig .tc := ⟨.hbm, 684, rfl⟩
abbrev main_call2_call0_call0_c_27 : Ref sig .tc := ⟨.hbm, 685, rfl⟩
abbrev main_call2_call0_call0_v109 : Ref sig .tc := ⟨.hbm, 686, rfl⟩
abbrev main_call2_call0_call0_v110 : Ref sig .tc := ⟨.hbm, 687, rfl⟩
abbrev main_call2_call0_call0_c_28 : Ref sig .tc := ⟨.hbm, 688, rfl⟩
abbrev main_call2_call0_call0_v111 : Ref sig .tc := ⟨.hbm, 689, rfl⟩
abbrev main_call2_call0_call0_v112 : Ref sig .tc := ⟨.hbm, 690, rfl⟩
abbrev main_call2_call0_call0_v113 : Ref sig .tc := ⟨.hbm, 691, rfl⟩
abbrev main_call2_call0_call0_v114 : Ref sig .tc := ⟨.hbm, 692, rfl⟩
abbrev main_call2_call0_call0_v115 : Ref sig .tc := ⟨.hbm, 693, rfl⟩
abbrev main_call2_call0_call0_c_29 : Ref sig .tc := ⟨.hbm, 694, rfl⟩
abbrev main_call2_call0_call0_v116 : Ref sig .tc := ⟨.hbm, 695, rfl⟩
abbrev main_call2_call0_call0_v117 : Ref sig .tc := ⟨.hbm, 696, rfl⟩
abbrev main_call2_call0_call0_c_30 : Ref sig .tc := ⟨.hbm, 697, rfl⟩
abbrev main_call2_call0_call0_v118 : Ref sig .tc := ⟨.hbm, 698, rfl⟩
abbrev main_call2_call0_call0_v119 : Ref sig .tc := ⟨.hbm, 699, rfl⟩
abbrev main_call2_call0_call0_v120 : Ref sig .tc := ⟨.hbm, 700, rfl⟩
abbrev main_call2_call0_call0_v121 : Ref sig .tc := ⟨.hbm, 701, rfl⟩
abbrev main_call2_call0_call0_v122 : Ref sig .tc := ⟨.hbm, 702, rfl⟩
abbrev main_call2_call0_call0_c_31 : Ref sig .tc := ⟨.hbm, 703, rfl⟩
abbrev main_call2_call0_call0_v123 : Ref sig .tc := ⟨.hbm, 704, rfl⟩
abbrev main_call2_call0_call0_v124 : Ref sig .tc := ⟨.hbm, 705, rfl⟩
abbrev main_call2_call0_call0_c_32 : Ref sig .tc := ⟨.hbm, 706, rfl⟩
abbrev main_call2_call0_call0_v125 : Ref sig .tc := ⟨.hbm, 707, rfl⟩
abbrev main_call2_call0_call0_v126 : Ref sig .tc := ⟨.hbm, 708, rfl⟩
abbrev main_call2_call0_call0_v127 : Ref sig .tc := ⟨.hbm, 709, rfl⟩
abbrev main_call2_call0_call0_v128 : Ref sig .tc := ⟨.hbm, 710, rfl⟩
abbrev main_call2_call0_call0_v129 : Ref sig .tc := ⟨.hbm, 711, rfl⟩
abbrev main_call2_call0_call0_c_33 : Ref sig .tc := ⟨.hbm, 712, rfl⟩
abbrev main_call2_call0_call0_v130 : Ref sig .tc := ⟨.hbm, 713, rfl⟩
abbrev main_call2_call0_call0_v131 : Ref sig .tc := ⟨.hbm, 714, rfl⟩
abbrev main_call2_call0_call0_c_34 : Ref sig .tc := ⟨.hbm, 715, rfl⟩
abbrev main_call2_call0_call0_v132 : Ref sig .tc := ⟨.hbm, 716, rfl⟩
abbrev main_call2_call0_call0_v133 : Ref sig .tc := ⟨.hbm, 717, rfl⟩
abbrev main_call2_call0_call0_v134 : Ref sig .tc := ⟨.hbm, 718, rfl⟩
abbrev main_call2_call0_call0_v135 : Ref sig .tc := ⟨.hbm, 719, rfl⟩
abbrev main_call2_call0_call0_v136 : Ref sig .tc := ⟨.hbm, 720, rfl⟩
abbrev main_call2_call0_call0_v137 : Ref sig .tc := ⟨.hbm, 721, rfl⟩
abbrev main_call2_call0_call0_v138 : Ref sig .tc := ⟨.hbm, 722, rfl⟩
abbrev main_call2_call0_call0_v139 : Ref sig .tc := ⟨.hbm, 723, rfl⟩
abbrev main_call2_call0_call0_c_35 : Ref sig .tc := ⟨.hbm, 724, rfl⟩
abbrev main_call2_call0_call0_v140 : Ref sig .tc := ⟨.hbm, 725, rfl⟩
abbrev main_call2_call0_call0_v141 : Ref sig .tc := ⟨.hbm, 726, rfl⟩
abbrev main_call2_call0_call0_v142 : Ref sig .tc := ⟨.hbm, 727, rfl⟩
abbrev main_call2_call0_call0_c_36 : Ref sig .tc := ⟨.hbm, 728, rfl⟩
abbrev main_call2_call0_call0_v143 : Ref sig .tc := ⟨.hbm, 729, rfl⟩
abbrev main_call2_call0_call0_v144 : Ref sig .tc := ⟨.hbm, 730, rfl⟩
abbrev main_call2_call0_call0_c_37 : Ref sig .tc := ⟨.hbm, 731, rfl⟩
abbrev main_call2_call0_call0_v145 : Ref sig .tc := ⟨.hbm, 732, rfl⟩
abbrev main_call2_call0_call0_v146 : Ref sig .tc := ⟨.hbm, 733, rfl⟩
abbrev main_call2_call0_call0_v147 : Ref sig .tc := ⟨.hbm, 734, rfl⟩
abbrev main_call2_call0_call0_v148 : Ref sig .tc := ⟨.hbm, 735, rfl⟩
abbrev main_call2_call0_call0_v149 : Ref sig .tc := ⟨.hbm, 736, rfl⟩
abbrev main_call2_call0_call0_c_38 : Ref sig .tc := ⟨.hbm, 737, rfl⟩
abbrev main_call2_call0_call0_v150 : Ref sig .tc := ⟨.hbm, 738, rfl⟩
abbrev main_call2_call0_call0_v151 : Ref sig .tc := ⟨.hbm, 739, rfl⟩
abbrev main_call2_call0_call0_c_39 : Ref sig .tc := ⟨.hbm, 740, rfl⟩
abbrev main_call2_call0_call0_v152 : Ref sig .tc := ⟨.hbm, 741, rfl⟩
abbrev main_call2_call0_call0_v153 : Ref sig .tc := ⟨.hbm, 742, rfl⟩
abbrev main_call2_call0_call0_v154 : Ref sig .tc := ⟨.hbm, 743, rfl⟩
abbrev main_call2_call0_call0_v155 : Ref sig .tc := ⟨.hbm, 744, rfl⟩
abbrev main_call2_call0_call0_v156 : Ref sig .tc := ⟨.hbm, 745, rfl⟩
abbrev main_call2_call0_call0_c_40 : Ref sig .tc := ⟨.hbm, 746, rfl⟩
abbrev main_call2_call0_call0_v157 : Ref sig .tc := ⟨.hbm, 747, rfl⟩
abbrev main_call2_call0_call0_v158 : Ref sig .tc := ⟨.hbm, 748, rfl⟩
abbrev main_call2_call0_call0_c_41 : Ref sig .tc := ⟨.hbm, 749, rfl⟩
abbrev main_call2_call0_call0_v159 : Ref sig .tc := ⟨.hbm, 750, rfl⟩
abbrev main_call2_call0_call0_v160 : Ref sig .tc := ⟨.hbm, 751, rfl⟩
abbrev main_call2_call0_call0_v161 : Ref sig .tc := ⟨.hbm, 752, rfl⟩
abbrev main_call2_call0_call0_v162 : Ref sig .tc := ⟨.hbm, 753, rfl⟩
abbrev main_call2_call0_call0_v163 : Ref sig .tc := ⟨.hbm, 754, rfl⟩
abbrev main_call2_call0_call0_c_42 : Ref sig .tc := ⟨.hbm, 755, rfl⟩
abbrev main_call2_call0_call0_v164 : Ref sig .tc := ⟨.hbm, 756, rfl⟩
abbrev main_call2_call0_call0_v165 : Ref sig .tc := ⟨.hbm, 757, rfl⟩
abbrev main_call2_call0_call0_c_43 : Ref sig .tc := ⟨.hbm, 758, rfl⟩
abbrev main_call2_call0_call0_v166 : Ref sig .tc := ⟨.hbm, 759, rfl⟩
abbrev main_call2_call0_call0_v167 : Ref sig .tc := ⟨.hbm, 760, rfl⟩
abbrev main_call2_call0_call0_v168 : Ref sig .tc := ⟨.hbm, 761, rfl⟩
abbrev main_call2_call0_call0_v169 : Ref sig .tc := ⟨.hbm, 762, rfl⟩
abbrev main_call2_call0_call0_v170 : Ref sig .tc := ⟨.hbm, 763, rfl⟩
abbrev main_call2_call0_v22_0 : Ref sig .tc := ⟨.hbm, 764, rfl⟩
abbrev main_call2_call0_call0_v172 : Ref sig .tc := ⟨.hbm, 765, rfl⟩
abbrev main_call2_call0_call0_v173 : Ref sig .tc := ⟨.hbm, 766, rfl⟩
abbrev main_call2_call0_call0_c_44 : Ref sig .tc := ⟨.hbm, 767, rfl⟩
abbrev main_call2_call0_call0_v174 : Ref sig .tc := ⟨.hbm, 768, rfl⟩
abbrev main_call2_call0_v22_1 : Ref sig .tc := ⟨.hbm, 769, rfl⟩
abbrev main_call2_call0_v23 : Ref sig .tc := ⟨.hbm, 770, rfl⟩
abbrev main_call2_call0_c_3 : Ref sig .tc := ⟨.hbm, 771, rfl⟩
abbrev main_call2_call0_v24 : Ref sig .tc := ⟨.hbm, 772, rfl⟩
abbrev main_call2_call0_v25 : Ref sig .tc := ⟨.hbm, 773, rfl⟩
abbrev main_call2_call0_c_4 : Ref sig .tc := ⟨.hbm, 774, rfl⟩
abbrev main_call2_call0_v26 : Ref sig .tc := ⟨.hbm, 775, rfl⟩
abbrev main_call2_call0_v27 : Ref sig .tc := ⟨.hbm, 776, rfl⟩
abbrev main_call2_call0_v28 : Ref sig .tc := ⟨.hbm, 777, rfl⟩
abbrev main_call2_call0_cst : Ref sig .tc := ⟨.hbm, 778, rfl⟩
abbrev main_call2_call0_v29 : Ref sig .tc := ⟨.hbm, 779, rfl⟩
abbrev main_call2_call0_v30 : Ref sig .tc := ⟨.hbm, 780, rfl⟩
abbrev main_call2_call0_v31 : Ref sig .tc := ⟨.hbm, 781, rfl⟩
abbrev main_call2_call0_v32 : Ref sig .tc := ⟨.hbm, 782, rfl⟩
abbrev main_call2_call0_v33 : Ref sig .tc := ⟨.hbm, 783, rfl⟩
abbrev main_call2_call0_v34 : Ref sig .tc := ⟨.hbm, 784, rfl⟩
abbrev main_call2_call0_v35 : Ref sig .tc := ⟨.hbm, 785, rfl⟩
abbrev main_call2_call0_v36 : Ref sig .tc := ⟨.hbm, 786, rfl⟩
abbrev main_call2_v0 : Ref sig .tc := ⟨.hbm, 787, rfl⟩
abbrev main_call2_v1 : Ref sig .tc := ⟨.hbm, 788, rfl⟩
abbrev main_call2_v2 : Ref sig .tc := ⟨.hbm, 789, rfl⟩
abbrev main_call2_v3 : Ref sig .tc := ⟨.hbm, 790, rfl⟩
abbrev main_v15 : Ref sig .tc := ⟨.hbm, 791, rfl⟩
abbrev main_cst_3 : Ref sig .tc := ⟨.hbm, 792, rfl⟩
abbrev main_cst_4 : Ref sig .tc := ⟨.hbm, 793, rfl⟩
abbrev main_call3_v0 : Ref sig .tc := ⟨.hbm, 794, rfl⟩
abbrev main_call3_v1 : Ref sig .tc := ⟨.hbm, 795, rfl⟩
abbrev main_call3_v2 : Ref sig .tc := ⟨.hbm, 796, rfl⟩
abbrev main_call3_v3 : Ref sig .tc := ⟨.hbm, 797, rfl⟩
abbrev main_call3_v4 : Ref sig .tc := ⟨.hbm, 798, rfl⟩
abbrev main_call3_v5 : Ref sig .tc := ⟨.hbm, 799, rfl⟩
abbrev main_call3_v6 : Ref sig .tc := ⟨.hbm, 800, rfl⟩
abbrev main_call3_v7 : Ref sig .tc := ⟨.hbm, 801, rfl⟩
abbrev main_call3_v8 : Ref sig .tc := ⟨.hbm, 802, rfl⟩
abbrev main_call3_c : Ref sig .tc := ⟨.hbm, 803, rfl⟩
abbrev main_call3_v9 : Ref sig .tc := ⟨.hbm, 804, rfl⟩
abbrev main_call3_v10 : Ref sig .tc := ⟨.hbm, 805, rfl⟩
abbrev main_call3_c_0 : Ref sig .tc := ⟨.hbm, 806, rfl⟩
abbrev main_call3_v11 : Ref sig .tc := ⟨.hbm, 807, rfl⟩
abbrev main_call3_v12 : Ref sig .tc := ⟨.hbm, 808, rfl⟩
abbrev main_call3_v13 : Ref sig .tc := ⟨.hbm, 809, rfl⟩
abbrev main_call3_v14 : Ref sig .tc := ⟨.hbm, 810, rfl⟩
abbrev main_call3_call0_v0 : Ref sig .tc := ⟨.hbm, 811, rfl⟩
abbrev main_call3_call0_c : Ref sig .tc := ⟨.hbm, 812, rfl⟩
abbrev main_call3_call0_v1 : Ref sig .tc := ⟨.hbm, 813, rfl⟩
abbrev main_call3_call0_v2 : Ref sig .tc := ⟨.hbm, 814, rfl⟩
abbrev main_call3_call0_v3 : Ref sig .tc := ⟨.hbm, 815, rfl⟩
abbrev main_call3_call0_v4 : Ref sig .tc := ⟨.hbm, 816, rfl⟩
abbrev main_call3_call0_v5 : Ref sig .tc := ⟨.hbm, 817, rfl⟩
abbrev main_call3_call0_v6 : Ref sig .tc := ⟨.hbm, 818, rfl⟩
abbrev main_call3_call0_c_0 : Ref sig .tc := ⟨.hbm, 819, rfl⟩
abbrev main_call3_call0_v7 : Ref sig .tc := ⟨.hbm, 820, rfl⟩
abbrev main_call3_call0_v8 : Ref sig .tc := ⟨.hbm, 821, rfl⟩
abbrev main_call3_call0_c_1 : Ref sig .tc := ⟨.hbm, 822, rfl⟩
abbrev main_call3_call0_v9 : Ref sig .tc := ⟨.hbm, 823, rfl⟩
abbrev main_call3_call0_v10 : Ref sig .tc := ⟨.hbm, 824, rfl⟩
abbrev main_call3_call0_v11 : Ref sig .tc := ⟨.hbm, 825, rfl⟩
abbrev main_call3_call0_v12 : Ref sig .tc := ⟨.hbm, 826, rfl⟩
abbrev main_call3_call0_v13 : Ref sig .tc := ⟨.hbm, 827, rfl⟩
abbrev main_call3_call0_c_2 : Ref sig .tc := ⟨.hbm, 828, rfl⟩
abbrev main_call3_call0_v14 : Ref sig .tc := ⟨.hbm, 829, rfl⟩
abbrev main_call3_call0_v15 : Ref sig .tc := ⟨.hbm, 830, rfl⟩
abbrev main_call3_call0_c_3 : Ref sig .tc := ⟨.hbm, 831, rfl⟩
abbrev main_call3_call0_v16 : Ref sig .tc := ⟨.hbm, 832, rfl⟩
abbrev main_call3_call0_v17 : Ref sig .tc := ⟨.hbm, 833, rfl⟩
abbrev main_call3_call0_v18 : Ref sig .tc := ⟨.hbm, 834, rfl⟩
abbrev main_call3_call0_v19 : Ref sig .tc := ⟨.hbm, 835, rfl⟩
abbrev main_call3_call0_v20 : Ref sig .tc := ⟨.hbm, 836, rfl⟩
abbrev main_call3_call0_c_4 : Ref sig .tc := ⟨.hbm, 837, rfl⟩
abbrev main_call3_call0_v21 : Ref sig .tc := ⟨.hbm, 838, rfl⟩
abbrev main_call3_call0_v22 : Ref sig .tc := ⟨.hbm, 839, rfl⟩
abbrev main_call3_call0_c_5 : Ref sig .tc := ⟨.hbm, 840, rfl⟩
abbrev main_call3_call0_v23 : Ref sig .tc := ⟨.hbm, 841, rfl⟩
abbrev main_call3_call0_v24 : Ref sig .tc := ⟨.hbm, 842, rfl⟩
abbrev main_call3_call0_v25 : Ref sig .tc := ⟨.hbm, 843, rfl⟩
abbrev main_call3_call0_v26 : Ref sig .tc := ⟨.hbm, 844, rfl⟩
abbrev main_call3_call0_v27 : Ref sig .tc := ⟨.hbm, 845, rfl⟩
abbrev main_call3_call0_c_6 : Ref sig .tc := ⟨.hbm, 846, rfl⟩
abbrev main_call3_call0_v28 : Ref sig .tc := ⟨.hbm, 847, rfl⟩
abbrev main_call3_call0_v29 : Ref sig .tc := ⟨.hbm, 848, rfl⟩
abbrev main_call3_call0_c_7 : Ref sig .tc := ⟨.hbm, 849, rfl⟩
abbrev main_call3_call0_v30 : Ref sig .tc := ⟨.hbm, 850, rfl⟩
abbrev main_call3_call0_v31 : Ref sig .tc := ⟨.hbm, 851, rfl⟩
abbrev main_call3_call0_v32 : Ref sig .tc := ⟨.hbm, 852, rfl⟩
abbrev main_call3_call0_v33 : Ref sig .tc := ⟨.hbm, 853, rfl⟩
abbrev main_call3_call0_v34 : Ref sig .tc := ⟨.hbm, 854, rfl⟩
abbrev main_call3_call0_v35 : Ref sig .tc := ⟨.hbm, 855, rfl⟩
abbrev main_call3_call0_v36 : Ref sig .tc := ⟨.hbm, 856, rfl⟩
abbrev main_call3_call0_v37 : Ref sig .tc := ⟨.hbm, 857, rfl⟩
abbrev main_call3_call0_c_8 : Ref sig .tc := ⟨.hbm, 858, rfl⟩
abbrev main_call3_call0_v38 : Ref sig .tc := ⟨.hbm, 859, rfl⟩
abbrev main_call3_call0_v39 : Ref sig .tc := ⟨.hbm, 860, rfl⟩
abbrev main_call3_call0_v40 : Ref sig .tc := ⟨.hbm, 861, rfl⟩
abbrev main_call3_call0_c_9 : Ref sig .tc := ⟨.hbm, 862, rfl⟩
abbrev main_call3_call0_v41 : Ref sig .tc := ⟨.hbm, 863, rfl⟩
abbrev main_call3_call0_v42 : Ref sig .tc := ⟨.hbm, 864, rfl⟩
abbrev main_call3_call0_c_10 : Ref sig .tc := ⟨.hbm, 865, rfl⟩
abbrev main_call3_call0_v43 : Ref sig .tc := ⟨.hbm, 866, rfl⟩
abbrev main_call3_call0_v44 : Ref sig .tc := ⟨.hbm, 867, rfl⟩
abbrev main_call3_call0_v45 : Ref sig .tc := ⟨.hbm, 868, rfl⟩
abbrev main_call3_call0_v46 : Ref sig .tc := ⟨.hbm, 869, rfl⟩
abbrev main_call3_call0_v47 : Ref sig .tc := ⟨.hbm, 870, rfl⟩
abbrev main_call3_call0_c_11 : Ref sig .tc := ⟨.hbm, 871, rfl⟩
abbrev main_call3_call0_v48 : Ref sig .tc := ⟨.hbm, 872, rfl⟩
abbrev main_call3_call0_v49 : Ref sig .tc := ⟨.hbm, 873, rfl⟩
abbrev main_call3_call0_c_12 : Ref sig .tc := ⟨.hbm, 874, rfl⟩
abbrev main_call3_call0_v50 : Ref sig .tc := ⟨.hbm, 875, rfl⟩
abbrev main_call3_call0_v51 : Ref sig .tc := ⟨.hbm, 876, rfl⟩
abbrev main_call3_call0_v52 : Ref sig .tc := ⟨.hbm, 877, rfl⟩
abbrev main_call3_call0_v53 : Ref sig .tc := ⟨.hbm, 878, rfl⟩
abbrev main_call3_call0_v54 : Ref sig .tc := ⟨.hbm, 879, rfl⟩
abbrev main_call3_call0_c_13 : Ref sig .tc := ⟨.hbm, 880, rfl⟩
abbrev main_call3_call0_v55 : Ref sig .tc := ⟨.hbm, 881, rfl⟩
abbrev main_call3_call0_v56 : Ref sig .tc := ⟨.hbm, 882, rfl⟩
abbrev main_call3_call0_c_14 : Ref sig .tc := ⟨.hbm, 883, rfl⟩
abbrev main_call3_call0_v57 : Ref sig .tc := ⟨.hbm, 884, rfl⟩
abbrev main_call3_call0_v58 : Ref sig .tc := ⟨.hbm, 885, rfl⟩
abbrev main_call3_call0_v59 : Ref sig .tc := ⟨.hbm, 886, rfl⟩
abbrev main_call3_call0_v60 : Ref sig .tc := ⟨.hbm, 887, rfl⟩
abbrev main_call3_call0_v61 : Ref sig .tc := ⟨.hbm, 888, rfl⟩
abbrev main_call3_call0_c_15 : Ref sig .tc := ⟨.hbm, 889, rfl⟩
abbrev main_call3_call0_v62 : Ref sig .tc := ⟨.hbm, 890, rfl⟩
abbrev main_call3_call0_v63 : Ref sig .tc := ⟨.hbm, 891, rfl⟩
abbrev main_call3_call0_c_16 : Ref sig .tc := ⟨.hbm, 892, rfl⟩
abbrev main_call3_call0_v64 : Ref sig .tc := ⟨.hbm, 893, rfl⟩
abbrev main_call3_call0_v65 : Ref sig .tc := ⟨.hbm, 894, rfl⟩
abbrev main_call3_call0_v66 : Ref sig .tc := ⟨.hbm, 895, rfl⟩
abbrev main_call3_call0_v67 : Ref sig .tc := ⟨.hbm, 896, rfl⟩
abbrev main_call3_call0_v68 : Ref sig .tc := ⟨.hbm, 897, rfl⟩
abbrev main_call3_call0_v69 : Ref sig .tc := ⟨.hbm, 898, rfl⟩
abbrev main_call3_call0_v70 : Ref sig .tc := ⟨.hbm, 899, rfl⟩
abbrev main_call3_call0_v71 : Ref sig .tc := ⟨.hbm, 900, rfl⟩
abbrev main_call3_call0_c_17 : Ref sig .tc := ⟨.hbm, 901, rfl⟩
abbrev main_call3_call0_v72 : Ref sig .tc := ⟨.hbm, 902, rfl⟩
abbrev main_call3_call0_v73 : Ref sig .tc := ⟨.hbm, 903, rfl⟩
abbrev main_call3_call0_v74 : Ref sig .tc := ⟨.hbm, 904, rfl⟩
abbrev main_call3_call0_c_18 : Ref sig .tc := ⟨.hbm, 905, rfl⟩
abbrev main_call3_call0_v75 : Ref sig .tc := ⟨.hbm, 906, rfl⟩
abbrev main_call3_call0_v76 : Ref sig .tc := ⟨.hbm, 907, rfl⟩
abbrev main_call3_call0_c_19 : Ref sig .tc := ⟨.hbm, 908, rfl⟩
abbrev main_call3_call0_v77 : Ref sig .tc := ⟨.hbm, 909, rfl⟩
abbrev main_call3_call0_v78 : Ref sig .tc := ⟨.hbm, 910, rfl⟩
abbrev main_call3_call0_v79 : Ref sig .tc := ⟨.hbm, 911, rfl⟩
abbrev main_call3_call0_v80 : Ref sig .tc := ⟨.hbm, 912, rfl⟩
abbrev main_call3_call0_v81 : Ref sig .tc := ⟨.hbm, 913, rfl⟩
abbrev main_call3_call0_c_20 : Ref sig .tc := ⟨.hbm, 914, rfl⟩
abbrev main_call3_call0_v82 : Ref sig .tc := ⟨.hbm, 915, rfl⟩
abbrev main_call3_call0_v83 : Ref sig .tc := ⟨.hbm, 916, rfl⟩
abbrev main_call3_call0_c_21 : Ref sig .tc := ⟨.hbm, 917, rfl⟩
abbrev main_call3_call0_v84 : Ref sig .tc := ⟨.hbm, 918, rfl⟩
abbrev main_call3_call0_v85 : Ref sig .tc := ⟨.hbm, 919, rfl⟩
abbrev main_call3_call0_v86 : Ref sig .tc := ⟨.hbm, 920, rfl⟩
abbrev main_call3_call0_v87 : Ref sig .tc := ⟨.hbm, 921, rfl⟩
abbrev main_call3_call0_v88 : Ref sig .tc := ⟨.hbm, 922, rfl⟩
abbrev main_call3_call0_c_22 : Ref sig .tc := ⟨.hbm, 923, rfl⟩
abbrev main_call3_call0_v89 : Ref sig .tc := ⟨.hbm, 924, rfl⟩
abbrev main_call3_call0_v90 : Ref sig .tc := ⟨.hbm, 925, rfl⟩
abbrev main_call3_call0_c_23 : Ref sig .tc := ⟨.hbm, 926, rfl⟩
abbrev main_call3_call0_v91 : Ref sig .tc := ⟨.hbm, 927, rfl⟩
abbrev main_call3_call0_v92 : Ref sig .tc := ⟨.hbm, 928, rfl⟩
abbrev main_call3_call0_v93 : Ref sig .tc := ⟨.hbm, 929, rfl⟩
abbrev main_call3_call0_v94 : Ref sig .tc := ⟨.hbm, 930, rfl⟩
abbrev main_call3_call0_v95 : Ref sig .tc := ⟨.hbm, 931, rfl⟩
abbrev main_call3_call0_c_24 : Ref sig .tc := ⟨.hbm, 932, rfl⟩
abbrev main_call3_call0_v96 : Ref sig .tc := ⟨.hbm, 933, rfl⟩
abbrev main_call3_call0_v97 : Ref sig .tc := ⟨.hbm, 934, rfl⟩
abbrev main_call3_call0_c_25 : Ref sig .tc := ⟨.hbm, 935, rfl⟩
abbrev main_call3_call0_v98 : Ref sig .tc := ⟨.hbm, 936, rfl⟩
abbrev main_call3_call0_v99 : Ref sig .tc := ⟨.hbm, 937, rfl⟩
abbrev main_call3_call0_v100 : Ref sig .tc := ⟨.hbm, 938, rfl⟩
abbrev main_call3_call0_v101 : Ref sig .tc := ⟨.hbm, 939, rfl⟩
abbrev main_call3_call0_v102 : Ref sig .tc := ⟨.hbm, 940, rfl⟩
abbrev main_call3_call0_v103 : Ref sig .tc := ⟨.hbm, 941, rfl⟩
abbrev main_call3_call0_v104 : Ref sig .tc := ⟨.hbm, 942, rfl⟩
abbrev main_call3_call0_v105 : Ref sig .tc := ⟨.hbm, 943, rfl⟩
abbrev main_call3_call0_c_26 : Ref sig .tc := ⟨.hbm, 944, rfl⟩
abbrev main_call3_call0_v106 : Ref sig .tc := ⟨.hbm, 945, rfl⟩
abbrev main_call3_call0_v107 : Ref sig .tc := ⟨.hbm, 946, rfl⟩
abbrev main_call3_call0_v108 : Ref sig .tc := ⟨.hbm, 947, rfl⟩
abbrev main_call3_call0_c_27 : Ref sig .tc := ⟨.hbm, 948, rfl⟩
abbrev main_call3_call0_v109 : Ref sig .tc := ⟨.hbm, 949, rfl⟩
abbrev main_call3_call0_v110 : Ref sig .tc := ⟨.hbm, 950, rfl⟩
abbrev main_call3_call0_c_28 : Ref sig .tc := ⟨.hbm, 951, rfl⟩
abbrev main_call3_call0_v111 : Ref sig .tc := ⟨.hbm, 952, rfl⟩
abbrev main_call3_call0_v112 : Ref sig .tc := ⟨.hbm, 953, rfl⟩
abbrev main_call3_call0_v113 : Ref sig .tc := ⟨.hbm, 954, rfl⟩
abbrev main_call3_call0_v114 : Ref sig .tc := ⟨.hbm, 955, rfl⟩
abbrev main_call3_call0_v115 : Ref sig .tc := ⟨.hbm, 956, rfl⟩
abbrev main_call3_call0_c_29 : Ref sig .tc := ⟨.hbm, 957, rfl⟩
abbrev main_call3_call0_v116 : Ref sig .tc := ⟨.hbm, 958, rfl⟩
abbrev main_call3_call0_v117 : Ref sig .tc := ⟨.hbm, 959, rfl⟩
abbrev main_call3_call0_c_30 : Ref sig .tc := ⟨.hbm, 960, rfl⟩
abbrev main_call3_call0_v118 : Ref sig .tc := ⟨.hbm, 961, rfl⟩
abbrev main_call3_call0_v119 : Ref sig .tc := ⟨.hbm, 962, rfl⟩
abbrev main_call3_call0_v120 : Ref sig .tc := ⟨.hbm, 963, rfl⟩
abbrev main_call3_call0_v121 : Ref sig .tc := ⟨.hbm, 964, rfl⟩
abbrev main_call3_call0_v122 : Ref sig .tc := ⟨.hbm, 965, rfl⟩
abbrev main_call3_call0_c_31 : Ref sig .tc := ⟨.hbm, 966, rfl⟩
abbrev main_call3_call0_v123 : Ref sig .tc := ⟨.hbm, 967, rfl⟩
abbrev main_call3_call0_v124 : Ref sig .tc := ⟨.hbm, 968, rfl⟩
abbrev main_call3_call0_c_32 : Ref sig .tc := ⟨.hbm, 969, rfl⟩
abbrev main_call3_call0_v125 : Ref sig .tc := ⟨.hbm, 970, rfl⟩
abbrev main_call3_call0_v126 : Ref sig .tc := ⟨.hbm, 971, rfl⟩
abbrev main_call3_call0_v127 : Ref sig .tc := ⟨.hbm, 972, rfl⟩
abbrev main_call3_call0_v128 : Ref sig .tc := ⟨.hbm, 973, rfl⟩
abbrev main_call3_call0_v129 : Ref sig .tc := ⟨.hbm, 974, rfl⟩
abbrev main_call3_call0_c_33 : Ref sig .tc := ⟨.hbm, 975, rfl⟩
abbrev main_call3_call0_v130 : Ref sig .tc := ⟨.hbm, 976, rfl⟩
abbrev main_call3_call0_v131 : Ref sig .tc := ⟨.hbm, 977, rfl⟩
abbrev main_call3_call0_c_34 : Ref sig .tc := ⟨.hbm, 978, rfl⟩
abbrev main_call3_call0_v132 : Ref sig .tc := ⟨.hbm, 979, rfl⟩
abbrev main_call3_call0_v133 : Ref sig .tc := ⟨.hbm, 980, rfl⟩
abbrev main_call3_call0_v134 : Ref sig .tc := ⟨.hbm, 981, rfl⟩
abbrev main_call3_call0_v135 : Ref sig .tc := ⟨.hbm, 982, rfl⟩
abbrev main_call3_call0_v136 : Ref sig .tc := ⟨.hbm, 983, rfl⟩
abbrev main_call3_call0_v137 : Ref sig .tc := ⟨.hbm, 984, rfl⟩
abbrev main_call3_call0_v138 : Ref sig .tc := ⟨.hbm, 985, rfl⟩
abbrev main_call3_call0_v139 : Ref sig .tc := ⟨.hbm, 986, rfl⟩
abbrev main_call3_call0_c_35 : Ref sig .tc := ⟨.hbm, 987, rfl⟩
abbrev main_call3_call0_v140 : Ref sig .tc := ⟨.hbm, 988, rfl⟩
abbrev main_call3_call0_v141 : Ref sig .tc := ⟨.hbm, 989, rfl⟩
abbrev main_call3_call0_v142 : Ref sig .tc := ⟨.hbm, 990, rfl⟩
abbrev main_call3_call0_c_36 : Ref sig .tc := ⟨.hbm, 991, rfl⟩
abbrev main_call3_call0_v143 : Ref sig .tc := ⟨.hbm, 992, rfl⟩
abbrev main_call3_call0_v144 : Ref sig .tc := ⟨.hbm, 993, rfl⟩
abbrev main_call3_call0_c_37 : Ref sig .tc := ⟨.hbm, 994, rfl⟩
abbrev main_call3_call0_v145 : Ref sig .tc := ⟨.hbm, 995, rfl⟩
abbrev main_call3_call0_v146 : Ref sig .tc := ⟨.hbm, 996, rfl⟩
abbrev main_call3_call0_v147 : Ref sig .tc := ⟨.hbm, 997, rfl⟩
abbrev main_call3_call0_v148 : Ref sig .tc := ⟨.hbm, 998, rfl⟩
abbrev main_call3_call0_v149 : Ref sig .tc := ⟨.hbm, 999, rfl⟩
abbrev main_call3_call0_c_38 : Ref sig .tc := ⟨.hbm, 1000, rfl⟩
abbrev main_call3_call0_v150 : Ref sig .tc := ⟨.hbm, 1001, rfl⟩
abbrev main_call3_call0_v151 : Ref sig .tc := ⟨.hbm, 1002, rfl⟩
abbrev main_call3_call0_c_39 : Ref sig .tc := ⟨.hbm, 1003, rfl⟩
abbrev main_call3_call0_v152 : Ref sig .tc := ⟨.hbm, 1004, rfl⟩
abbrev main_call3_call0_v153 : Ref sig .tc := ⟨.hbm, 1005, rfl⟩
abbrev main_call3_call0_v154 : Ref sig .tc := ⟨.hbm, 1006, rfl⟩
abbrev main_call3_call0_v155 : Ref sig .tc := ⟨.hbm, 1007, rfl⟩
abbrev main_call3_call0_v156 : Ref sig .tc := ⟨.hbm, 1008, rfl⟩
abbrev main_call3_call0_c_40 : Ref sig .tc := ⟨.hbm, 1009, rfl⟩
abbrev main_call3_call0_v157 : Ref sig .tc := ⟨.hbm, 1010, rfl⟩
abbrev main_call3_call0_v158 : Ref sig .tc := ⟨.hbm, 1011, rfl⟩
abbrev main_call3_call0_c_41 : Ref sig .tc := ⟨.hbm, 1012, rfl⟩
abbrev main_call3_call0_v159 : Ref sig .tc := ⟨.hbm, 1013, rfl⟩
abbrev main_call3_call0_v160 : Ref sig .tc := ⟨.hbm, 1014, rfl⟩
abbrev main_call3_call0_v161 : Ref sig .tc := ⟨.hbm, 1015, rfl⟩
abbrev main_call3_call0_v162 : Ref sig .tc := ⟨.hbm, 1016, rfl⟩
abbrev main_call3_call0_v163 : Ref sig .tc := ⟨.hbm, 1017, rfl⟩
abbrev main_call3_call0_c_42 : Ref sig .tc := ⟨.hbm, 1018, rfl⟩
abbrev main_call3_call0_v164 : Ref sig .tc := ⟨.hbm, 1019, rfl⟩
abbrev main_call3_call0_v165 : Ref sig .tc := ⟨.hbm, 1020, rfl⟩
abbrev main_call3_call0_c_43 : Ref sig .tc := ⟨.hbm, 1021, rfl⟩
abbrev main_call3_call0_v166 : Ref sig .tc := ⟨.hbm, 1022, rfl⟩
abbrev main_call3_call0_v167 : Ref sig .tc := ⟨.hbm, 1023, rfl⟩
abbrev main_call3_call0_v168 : Ref sig .tc := ⟨.hbm, 1024, rfl⟩
abbrev main_call3_call0_v169 : Ref sig .tc := ⟨.hbm, 1025, rfl⟩
abbrev main_call3_call0_v170 : Ref sig .tc := ⟨.hbm, 1026, rfl⟩
abbrev main_call3_v15_0 : Ref sig .tc := ⟨.hbm, 1027, rfl⟩
abbrev main_call3_call0_v172 : Ref sig .tc := ⟨.hbm, 1028, rfl⟩
abbrev main_call3_call0_v173 : Ref sig .tc := ⟨.hbm, 1029, rfl⟩
abbrev main_call3_call0_c_44 : Ref sig .tc := ⟨.hbm, 1030, rfl⟩
abbrev main_call3_call0_v174 : Ref sig .tc := ⟨.hbm, 1031, rfl⟩
abbrev main_call3_v15_1 : Ref sig .tc := ⟨.hbm, 1032, rfl⟩
abbrev main_call3_v16 : Ref sig .tc := ⟨.hbm, 1033, rfl⟩
abbrev main_call3_c_1 : Ref sig .tc := ⟨.hbm, 1034, rfl⟩
abbrev main_call3_v17 : Ref sig .tc := ⟨.hbm, 1035, rfl⟩
abbrev main_call3_v18 : Ref sig .tc := ⟨.hbm, 1036, rfl⟩
abbrev main_call3_c_2 : Ref sig .tc := ⟨.hbm, 1037, rfl⟩
abbrev main_call3_v19 : Ref sig .tc := ⟨.hbm, 1038, rfl⟩
abbrev main_call3_v20 : Ref sig .tc := ⟨.hbm, 1039, rfl⟩
abbrev main_call3_v21 : Ref sig .tc := ⟨.hbm, 1040, rfl⟩
abbrev main_call3_cst : Ref sig .tc := ⟨.hbm, 1041, rfl⟩
abbrev main_call3_v22 : Ref sig .tc := ⟨.hbm, 1042, rfl⟩
abbrev main_call3_v23 : Ref sig .tc := ⟨.hbm, 1043, rfl⟩
abbrev main_call3_v24 : Ref sig .tc := ⟨.hbm, 1044, rfl⟩
abbrev main_call3_v25 : Ref sig .tc := ⟨.hbm, 1045, rfl⟩
abbrev main_call3_v26 : Ref sig .tc := ⟨.hbm, 1046, rfl⟩
abbrev main_call3_v27 : Ref sig .tc := ⟨.hbm, 1047, rfl⟩
abbrev main_call3_v28 : Ref sig .tc := ⟨.hbm, 1048, rfl⟩
abbrev main_call3_v29 : Ref sig .tc := ⟨.hbm, 1049, rfl⟩
abbrev main_v16 : Ref sig .tc := ⟨.hbm, 1050, rfl⟩
abbrev main_v17 : Ref sig .tc := ⟨.hbm, 1051, rfl⟩
abbrev main_v18 : Ref sig .tc := ⟨.hbm, 1052, rfl⟩
abbrev main_cst_5 : Ref sig .tc := ⟨.hbm, 1053, rfl⟩
abbrev main_v19 : Ref sig .tc := ⟨.hbm, 1054, rfl⟩
abbrev main_v20 : Ref sig .tc := ⟨.hbm, 1055, rfl⟩
abbrev main_call4_v0 : Ref sig .tc := ⟨.hbm, 1056, rfl⟩
abbrev main_call4_v1_0 : Ref sig .tc := ⟨.hbm, 1057, rfl⟩
abbrev main_v21 : Ref sig .tc := ⟨.hbm, 1058, rfl⟩
abbrev main_v22 : Ref sig .tc := ⟨.hbm, 1059, rfl⟩
abbrev main_v23 : Ref sig .tc := ⟨.hbm, 1060, rfl⟩
abbrev main_v24 : Ref sig .tc := ⟨.hbm, 1061, rfl⟩
abbrev main_cst_6 : Ref sig .tc := ⟨.hbm, 1062, rfl⟩
abbrev main_v25 : Ref sig .tc := ⟨.hbm, 1063, rfl⟩
abbrev main_c_7 : Ref sig .tc := ⟨.hbm, 1064, rfl⟩
abbrev main_v26 : Ref sig .tc := ⟨.hbm, 1065, rfl⟩
abbrev main_v27 : Ref sig .tc := ⟨.hbm, 1066, rfl⟩
abbrev main_c_8 : Ref sig .tc := ⟨.hbm, 1067, rfl⟩
abbrev main_v28 : Ref sig .tc := ⟨.hbm, 1068, rfl⟩
abbrev main_v29 : Ref sig .tc := ⟨.hbm, 1069, rfl⟩
abbrev main_v30 : Ref sig .tc := ⟨.hbm, 1070, rfl⟩
abbrev main_c_9 : Ref sig .tc := ⟨.hbm, 1071, rfl⟩
abbrev main_v31 : Ref sig .tc := ⟨.hbm, 1072, rfl⟩
abbrev main_v32 : Ref sig .tc := ⟨.hbm, 1073, rfl⟩
abbrev main_c_10 : Ref sig .tc := ⟨.hbm, 1074, rfl⟩
abbrev main_v33 : Ref sig .tc := ⟨.hbm, 1075, rfl⟩
abbrev main_v34 : Ref sig .tc := ⟨.hbm, 1076, rfl⟩
abbrev main_v35 : Ref sig .tc := ⟨.hbm, 1077, rfl⟩
abbrev main_v36 : Ref sig .tc := ⟨.hbm, 1078, rfl⟩
abbrev main_v37 : Ref sig .tc := ⟨.hbm, 1079, rfl⟩
abbrev main_v38 : Ref sig .tc := ⟨.hbm, 1080, rfl⟩
abbrev main_cst_11 : Ref sig .tc := ⟨.hbm, 1081, rfl⟩
abbrev main_v39 : Ref sig .tc := ⟨.hbm, 1082, rfl⟩
abbrev main_v40 : Ref sig .tc := ⟨.hbm, 1083, rfl⟩
abbrev main_v41 : Ref sig .tc := ⟨.hbm, 1084, rfl⟩
abbrev main_v42 : Ref sig .tc := ⟨.hbm, 1085, rfl⟩
abbrev main_v43 : Ref sig .tc := ⟨.hbm, 1086, rfl⟩
abbrev main_v44 : Ref sig .tc := ⟨.hbm, 1087, rfl⟩
abbrev main_v45 : Ref sig .tc := ⟨.hbm, 1088, rfl⟩
abbrev main_cst_12 : Ref sig .tc := ⟨.hbm, 1089, rfl⟩
abbrev main_v46 : Ref sig .tc := ⟨.hbm, 1090, rfl⟩
abbrev main_v47 : Ref sig .tc := ⟨.hbm, 1091, rfl⟩
abbrev main_v48 : Ref sig .tc := ⟨.hbm, 1092, rfl⟩
abbrev main_call5_v0 : Ref sig .tc := ⟨.hbm, 1093, rfl⟩
abbrev main_call5_cst : Ref sig .tc := ⟨.hbm, 1094, rfl⟩
abbrev main_call5_c : Ref sig .tc := ⟨.hbm, 1095, rfl⟩
abbrev main_call5_v1_0 : Ref sig .tc := ⟨.hbm, 1096, rfl⟩
abbrev main_v49 : Ref sig .tc := ⟨.hbm, 1097, rfl⟩
abbrev main_call6_v0 : Ref sig .tc := ⟨.hbm, 1098, rfl⟩
abbrev main_call6_v1 : Ref sig .tc := ⟨.hbm, 1099, rfl⟩
abbrev main_call6_v2 : Ref sig .tc := ⟨.hbm, 1100, rfl⟩
abbrev main_call6_v3 : Ref sig .tc := ⟨.hbm, 1101, rfl⟩
abbrev main_call6_v4 : Ref sig .tc := ⟨.hbm, 1102, rfl⟩
abbrev main_v50 : Ref sig .tc := ⟨.hbm, 1103, rfl⟩
abbrev main_v51 : Ref sig .tc := ⟨.hbm, 1104, rfl⟩
abbrev main_v52 : Ref sig .tc := ⟨.hbm, 1105, rfl⟩
abbrev main_v53 : Ref sig .tc := ⟨.hbm, 1106, rfl⟩
abbrev main_cst_13 : Ref sig .tc := ⟨.hbm, 1107, rfl⟩
abbrev main_v54 : Ref sig .tc := ⟨.hbm, 1108, rfl⟩
abbrev main_v55 : Ref sig .tc := ⟨.hbm, 1109, rfl⟩
abbrev main_v56 : Ref sig .tc := ⟨.hbm, 1110, rfl⟩
abbrev main_v57 : Ref sig .tc := ⟨.hbm, 1111, rfl⟩
abbrev main_call7_v0 : Ref sig .tc := ⟨.hbm, 1112, rfl⟩
abbrev main_v58 : Ref sig .tc := ⟨.hbm, 1113, rfl⟩
abbrev main_v59 : Ref sig .tc := ⟨.hbm, 1114, rfl⟩

abbrev nD : Nat := 1
abbrev τ : Topo := Topo.v7x

variable {F : FTy → Type} [FloatOps F]
-- ==== Proof.KernelFrame.lean ====
/- The kernel's frame in bits, over data that hold nothing of the outputs. -/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_c_5, main_v22, main_v23, main_v24}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The arguments after a launch over relational data whose arrays are those the region finds. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePostR.arr_in h c 2 rfl).trans ((hA c 2).trans (V_main_arg0 m c)),
      ((h c).2 main_arg1 (Finset.mem_sdiff.mpr ⟨Pipeline.mem_restRefs_of main_arg1 (by decide) (by decide), by decide⟩)).trans (V_main_arg1 m c)⟩) h

/-! ## The kernel body on any staging memrefs: a subtype the run finds -/

/-- Each window's current staging memref at point `t`, spelled as the pipeline passes it (`bodyAt0`), and its wholeness. -/
abbrev ms0_0 (t : Fin cfg0.N) : Memref sig .tc .smem S128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x32x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x32x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x8192 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x32x8192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S128 .i32 := win0_7.stage (cfg0.slots t 7)
abbrev hs0_7 (t : Fin cfg0.N) : (ms0_7 t).IsWhole := hstage0_7 ((cfg0.slots t 7).cast nbuf0_7)

-- (the run's proof term is large: checking it walks past the default budget)
set_option maxHeartbeats 1000000 in
/-- The body's triple: on whole staging memrefs — the inputs' at their contents,
    the FORGOTTEN outputs' (5, 6, 7) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg1 : Memref sig .tc .smem S128 .i32) (harg1 : arg1.IsWhole) (arg2 : Memref sig .tc .smem S128 .f32) (harg2 : arg2.IsWhole) (arg3 : Memref sig .tc .vmem S8x32x8192 .f32) (harg3 : arg3.IsWhole) (arg4 : Memref sig .tc .vmem S8x32x8192 .f32) (harg4 : arg4.IsWhole) (arg5 : Memref sig .tc .vmem S32x8192 .bf16) (harg5 : arg5.IsWhole) (arg6 : Memref sig .tc .vmem S8x32x8192 .f32) (harg6 : arg6.IsWhole) (arg7 : Memref sig .tc .smem S128 .f32) (harg7 : arg7.IsWhole) (arg8 : Memref sig .tc .smem S128 .i32) (harg8 : arg8.IsWhole)
    (x0 : Vec F S128 .i32) (x1 : Vec F S128 .f32) (x2 : Vec F S8x32x8192 .f32) (x3 : Vec F S8x32x8192 .f32) (x4 : Vec F S32x8192 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0__mh_body i arg1 harg1 arg2 harg2 arg3 harg3 arg4 harg4 arg5 harg5 arg6 harg6 arg7 harg7 arg8 harg8) K := by
    intro E K
    simp only [cc0__mh_body_eq_skeleton]; unfold cc0__mh_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    iexists _, _; isplitr; swap; · iexact H7
    ipureintro; rfl

/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- The launch: the post of `run_main`, and every counter at zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The kernel runs to its end, every input array and every buffer that no later line writes as the region found it. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

set_option maxHeartbeats 1600000 in
/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_rel m ρ (fun c => (dats m 0 c).toRForget forgets0) (A_eq m) (run_main m ρ)

/-- The kernel runs, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Kernel.Gen

end
-- ==== Proof.Chain.lean ====
/- What the kernel makes of one chain, as functions of the chain's rows, its position and its acceptance number. -/
module

public import proofs.«01_k».proof.Proof.Gen.KernelIdeal.Skeleton

@[expose] public section

set_option maxRecDepth 16384

noncomputable section

namespace Cert.KernelIdeal.Gen

open Idealize.ShloMosaic

variable {F : FTy → Type} [FloatOps F]

/-- The energy of a chain's sample. -/
def chainOld (t : Vec F S1x32x8192 .f32) (w : Vec F S32x8192 .bf16) : F .f32 := k0_pay11 (k0_pay8 t w) k0_pay9 k0_pay10

/-- The energy of a chain's proposal. -/
def chainNew (t g : Vec F S1x32x8192 .f32) (w : Vec F S32x8192 .bf16) (p : Elt F .i32) : F .f32 :=
  k0_pay12 (k0_pay5 w) (k0_pay7 t g p)

/-- Whether the proposal is accepted. -/
def chainFlag (t g : Vec F S1x32x8192 .f32) (w : Vec F S32x8192 .bf16) (p : Elt F .i32) (u : Elt F .f32) : BitVec 1 :=
  Scalar.cmpf .ole u (Scalar.subf (chainOld t w) (chainNew t g w p))

/-- A chain's next sample. -/
def chainOut (t g : Vec F S1x32x8192 .f32) (w : Vec F S32x8192 .bf16) (p : Elt F .i32) (u : Elt F .f32) : FVec F S1x32x8192 .f32 :=
  shapeCast S1x32x8192 (Scalar.select (chainFlag t g w p u) (k0_pay6 t g p) (k0_pay4 t)) shapeCasts_S32x8192_S1x32x8192

/-- The next sample's energy. -/
def chainEnergy (t g : Vec F S1x32x8192 .f32) (w : Vec F S32x8192 .bf16) (p : Elt F .i32) (u : Elt F .f32) : F .f32 :=
  Scalar.select (chainFlag t g w p u) (chainNew t g w p) (chainOld t w)

/-- The word that says whether the proposal is accepted. -/
def chainAcc (t g : Vec F S1x32x8192 .f32) (w : Vec F S32x8192 .bf16) (p : Elt F .i32) (u : Elt F .f32) : BitVec 32 :=
  Scalar.select (chainFlag t g w p u) 1#32 0#32

/-- Row `c` of a block of eight. -/
def row (c : Fin 8) (x : Vec F S8x32x8192 .f32) : Vec F S1x32x8192 .f32 := fun y => x (fun a => match a with
  | ⟨0, _⟩ => c
  | ⟨1, _⟩ => y 1
  | ⟨2, _⟩ => y 2)

/-- Number `8 i + c` of a list of 128 numbers. -/
def at8 {e : EltTy} (i : Fin 16) (c : Fin 8) (x : Vec F S128 e) : Elt F e := x (fun a => ⟨8 * i.val + c.val, by fin_cases a; show _ < 128; omega⟩)

/-- The numbers of group `i` replaced by `e`. -/
def put8 {e : EltTy} (i : Fin 16) (v : Fin 8 → Elt F e) (d : Vec F S128 e) : Vec F S128 e := fun y =>
  if (y 0).val / 8 = i.val then v ⟨(y 0).val % 8, Nat.mod_lt _ (by decide)⟩ else d y

end Cert.KernelIdeal.Gen

end
-- ==== Proof.Body.lean ====
/- One grid point of the kernel: what its body leaves in the output buffers. -/
module

public import proofs.«01_k».proof.Proof.Gen.KernelIdeal.Frame
public import proofs.«01_k».proof.Proof.Chain
public import Idealize.ShloMosaic.Lib.CellWrites
public import Idealize.ShloMosaic.Lib.WritesUnit
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### What the body reads -/

theorem off1_val (i : grid0.Coords) (c : Fin 8) : k0_off1 i (BitVec.ofNat 32 c.val) 0 = 8 * (i 0).val + c.val := by
  have hi : (i 0).val < 16 := (i 0).isLt
  have hc := c.isLt
  show (BitVec.ofNat 32 (i 0).val * 8#32 + BitVec.ofNat 32 c.val).toNat = _
  simp only [BitVec.toNat_add, BitVec.toNat_mul, BitVec.toNat_ofNat]
  omega

/-- Row `c` of a block, read out of the buffer that holds the block. -/
theorem read_row {m : Memref sig .tc .vmem S8x32x8192 .f32} (h : m.IsWhole) (x : Vec F S8x32x8192 .f32) (c : Fin 8)
    {inb : ∀ a, (![c.val, 0, 0] : Fin 3 → ℕ) a + S1x32x8192.size a ≤ S8x32x8192.size a} :
    View.readAt (Elt F) m.view (Rect.unit (s := S8x32x8192) ![c.val, 0, 0] S1x32x8192.size inb).toLoadRect (h.unread x) = row c x := by
  funext y
  rw [h.readAt_unread]
  unfold row
  congr 1
  funext a
  have h0 : (y 0).val = 0 := by have : (y 0).val < 1 := (y 0).isLt; omega
  apply Fin.ext
  match a with
  | ⟨0, _⟩ => show c.val + 1 * (y 0).val = c.val; omega
  | ⟨1, _⟩ => show 0 + 1 * (y 1).val = (y 1).val; omega
  | ⟨2, _⟩ => show 0 + 1 * (y 2).val = (y 2).val; omega

/-- The weights, read out of the buffer that holds them. -/
theorem read_all {m : Memref sig .tc .vmem S32x8192 .bf16} (h : m.IsWhole) (x : Vec F S32x8192 .bf16)
    {inb : ∀ a, (![0, 0] : Fin 2 → ℕ) a + S32x8192.size a ≤ S32x8192.size a} :
    View.readAt (Elt F) m.view (Rect.unit (s := S32x8192) ![0, 0] S32x8192.size inb).toLoadRect (h.unread x) = x := by
  funext y
  rw [h.readAt_unread]
  congr 1
  funext a
  apply Fin.ext
  match a with
  | ⟨0, _⟩ => show 0 + 1 * (y 0).val = (y 0).val; omega
  | ⟨1, _⟩ => show 0 + 1 * (y 1).val = (y 1).val; omega

/-- One of the 128 numbers, read out of the buffer that holds them. -/
theorem read_at8 {e : EltTy} {m : Memref sig .tc .smem S128 e} (h : m.IsWhole) (x : Vec F S128 e) (i : grid0.Coords) (c : Fin 8)
    {inb : ∀ a, k0_off1 i (BitVec.ofNat 32 c.val) a + S1.size a ≤ S128.size a} {y : S1.Idx} :
    View.readAt (Elt F) m.view (Rect.unit (s := S128) (k0_off1 i (BitVec.ofNat 32 c.val)) S1.size inb).toLoadRect (h.unread x) y
      = at8 (i 0) c x := by
  rw [h.readAt_unread]
  unfold at8
  congr 1
  funext a
  apply Fin.ext
  have h0 : (y 0).val = 0 := by have : (y 0).val < 1 := (y 0).isLt; omega
  match a with
  | ⟨0, _⟩ => show k0_off1 i (BitVec.ofNat 32 c.val) 0 + 1 * (y 0).val = 8 * (i 0).val + c.val; rw [off1_val]; omega

/-! ### What the body writes -/

/-- The place of an entry of a block inside its row. -/
def inRow (y : S8x32x8192.Idx) : S1x32x8192.Idx := fun a => match a with
  | ⟨0, _⟩ => ⟨0, Nat.one_pos⟩
  | ⟨1, _⟩ => y 1
  | ⟨2, _⟩ => y 2

/-- The block of the eight chains' next samples. -/
def blockOut (i : Fin 16) (x0 : Vec F S128 .i32) (x1 : Vec F S128 .f32) (x2 x3 : Vec F S8x32x8192 .f32) (x4 : Vec F S32x8192 .bf16) :
    Vec F S8x32x8192 .f32 := fun y =>
  chainOut (row (y 0) x2) (row (y 0) x3) x4 (at8 i (y 0) x0) (at8 i (y 0) x1) (inRow y)

/-- The rows of a block lie inside it. -/
theorem row_inb (c : Fin 8) : ∀ a, (![c.val, 0, 0] : Fin 3 → ℕ) a + S1x32x8192.size a ≤ S8x32x8192.size a := by
  have := c.isLt
  intro a
  match a with
  | ⟨0, _⟩ => show c.val + 1 ≤ 8; omega
  | ⟨1, _⟩ => exact le_refl _
  | ⟨2, _⟩ => exact le_refl _

/-- The whole of the weights lies inside them. -/
theorem all_inb : ∀ a, (![0, 0] : Fin 2 → ℕ) a + S32x8192.size a ≤ S32x8192.size a := by
  intro a
  match a with
  | ⟨0, _⟩ => exact le_refl _
  | ⟨1, _⟩ => exact le_refl _

/-- Row `c`, as the body reads it. -/
def rdRow {m : Memref sig .tc .vmem S8x32x8192 .f32} (h : m.IsWhole) (x : Vec F S8x32x8192 .f32) (c : Fin 8) : Vec F S1x32x8192 .f32 :=
  View.readAt (Elt F) m.view (Rect.unit (s := S8x32x8192) ![c.val, 0, 0] S1x32x8192.size (row_inb c)).toLoadRect (h.unread x)

/-- The weights, as the body reads them. -/
def rdAll {m : Memref sig .tc .vmem S32x8192 .bf16} (h : m.IsWhole) (x : Vec F S32x8192 .bf16) : Vec F S32x8192 .bf16 :=
  View.readAt (Elt F) m.view (Rect.unit (s := S32x8192) ![0, 0] S32x8192.size all_inb).toLoadRect (h.unread x)

/-- One number, as the body reads it. -/
def rdAt {e : EltTy} {m : Memref sig .tc .smem S128 e} (h : m.IsWhole) (x : Vec F S128 e) (i : grid0.Coords) (c : Fin 8) : Elt F e :=
  View.readAt (Elt F) m.view (Rect.unit (s := S128) (k0_off1 i (BitVec.ofNat 32 c.val)) S1.size (k0_off1_inb i c)).toLoadRect (h.unread x)
    (Shape.Idx.first (Nat.one_pos))

/-- The read row is the row. -/
theorem rdRow_eq {m : Memref sig .tc .vmem S8x32x8192 .f32} (h : m.IsWhole) (x : Vec F S8x32x8192 .f32) (c : Fin 8) :
    rdRow h x c = row c x := read_row h x c

/-- The read weights are the weights. -/
theorem rdAll_eq {m : Memref sig .tc .vmem S32x8192 .bf16} (h : m.IsWhole) (x : Vec F S32x8192 .bf16) : rdAll h x = x := read_all h x

/-- The read number is the number. -/
theorem rdAt_eq {e : EltTy} {m : Memref sig .tc .smem S128 e} (h : m.IsWhole) (x : Vec F S128 e) (i : grid0.Coords) (c : Fin 8) :
    rdAt h x i c = at8 (i 0) c x := read_at8 h x i c

/-- Eight rows, stored one after another, are the block. -/
theorem read_rows {v : View sig .tc .vmem S8x32x8192 .f32} {f : v.ty.Contents (Elt F)} {i0 i1 i2 i3 i4 i5 i6 i7}
    {w0 w1 w2 w3 w4 w5 w6 w7 : S1x32x8192.Idx → Elt F .f32} (X : Fin 8 → Vec F S1x32x8192 .f32)
    (h0 : w0 = X 0) (h1 : w1 = X 1) (h2 : w2 = X 2) (h3 : w3 = X 3) (h4 : w4 = X 4) (h5 : w5 = X 5) (h6 : w6 = X 6) (h7 : w7 = X 7) :
    v.read (Elt F) (v.writes (Elt F) f
      [⟨Rect.unit (s := S8x32x8192) ![7, 0, 0] S1x32x8192.size i7, w7⟩, ⟨Rect.unit (s := S8x32x8192) ![6, 0, 0] S1x32x8192.size i6, w6⟩,
       ⟨Rect.unit (s := S8x32x8192) ![5, 0, 0] S1x32x8192.size i5, w5⟩, ⟨Rect.unit (s := S8x32x8192) ![4, 0, 0] S1x32x8192.size i4, w4⟩,
       ⟨Rect.unit (s := S8x32x8192) ![3, 0, 0] S1x32x8192.size i3, w3⟩, ⟨Rect.unit (s := S8x32x8192) ![2, 0, 0] S1x32x8192.size i2, w2⟩,
       ⟨Rect.unit (s := S8x32x8192) ![1, 0, 0] S1x32x8192.size i1, w1⟩, ⟨Rect.unit (s := S8x32x8192) ![0, 0, 0] S1x32x8192.size i0, w0⟩])
      = fun y => X (y 0) (inRow y) := by
  subst h0 h1 h2 h3 h4 h5 h6 h7
  have hit : ∀ (k : ℕ) (inb : ∀ a, (![k, 0, 0] : Fin 3 → ℕ) a + S1x32x8192.size a ≤ S8x32x8192.size a) (w : S1x32x8192.Idx → Elt F .f32)
      (L : List (View.Piece (Elt F) S8x32x8192 .f32)) (y : S8x32x8192.Idx), (y 0).val = k →
      v.read (Elt F) (v.writes (Elt F) f (⟨Rect.unit (s := S8x32x8192) ![k, 0, 0] S1x32x8192.size inb, w⟩ :: L)) y = w (inRow y) := by
    intro k inb w L y hy
    refine View.read_writes_cons_unit_of_mem v f inb w L y (inRow y) rfl fun a => ?_
    match a with
    | ⟨0, _⟩ => show (y 0).val = k + 0; omega
    | ⟨1, _⟩ => show (y 1).val = 0 + (y 1).val; omega
    | ⟨2, _⟩ => show (y 2).val = 0 + (y 2).val; omega
  have miss : ∀ (k : ℕ) (inb : ∀ a, (![k, 0, 0] : Fin 3 → ℕ) a + S1x32x8192.size a ≤ S8x32x8192.size a) (w : S1x32x8192.Idx → Elt F .f32)
      (L : List (View.Piece (Elt F) S8x32x8192 .f32)) (y : S8x32x8192.Idx), (y 0).val ≠ k →
      v.read (Elt F) (v.writes (Elt F) f (⟨Rect.unit (s := S8x32x8192) ![k, 0, 0] S1x32x8192.size inb, w⟩ :: L)) y
        = v.read (Elt F) (v.writes (Elt F) f L) y := by
    intro k inb w L y hy
    refine View.read_writes_cons_unit_of_not_mem v f inb w L y rfl 0 ?_
    show (y 0).val < k ∨ k + 1 ≤ (y 0).val
    omega
  have step : ∀ (k : ℕ) (inb : ∀ a, (![k, 0, 0] : Fin 3 → ℕ) a + S1x32x8192.size a ≤ S8x32x8192.size a) (w : S1x32x8192.Idx → Elt F .f32)
      (L : List (View.Piece (Elt F) S8x32x8192 .f32)) (y : S8x32x8192.Idx),
      v.read (Elt F) (v.writes (Elt F) f (⟨Rect.unit (s := S8x32x8192) ![k, 0, 0] S1x32x8192.size inb, w⟩ :: L)) y
        = if (y 0).val = k then w (inRow y) else v.read (Elt F) (v.writes (Elt F) f L) y := by
    intro k inb w L y
    by_cases h : (y 0).val = k
    · rw [if_pos h]; exact hit k inb w L y h
    · rw [if_neg h]; exact miss k inb w L y h
  funext y
  rw [step 7, step 6, step 5, step 4, step 3, step 2, step 1, step 0]
  generalize v.read (Elt F) (v.writes (Elt F) f []) y = z
  generalize inRow y = x
  have key : ∀ b : Fin 8, (if b.val = 7 then X 7 x else if b.val = 6 then X 6 x else if b.val = 5 then X 5 x else if b.val = 4 then X 4 x
      else if b.val = 3 then X 3 x else if b.val = 2 then X 2 x else if b.val = 1 then X 1 x else if b.val = 0 then X 0 x else z) = X b x := by
    intro b
    fin_cases b <;> rfl
  exact key (y 0)

/-- Eight numbers, stored one after another at the places of group `i`. -/
theorem read_cells {e : EltTy} {v : View sig .tc .smem S128 e} {f : v.ty.Contents (Elt F)} (i : grid0.Coords) {i0 i1 i2 i3 i4 i5 i6 i7}
    {w0 w1 w2 w3 w4 w5 w6 w7 : Elt F e} (X : Fin 8 → Elt F e) {d : Vec F S128 e} (hd : v.read (Elt F) f = d)
    (h0 : w0 = X 0) (h1 : w1 = X 1) (h2 : w2 = X 2) (h3 : w3 = X 3) (h4 : w4 = X 4) (h5 : w5 = X 5) (h6 : w6 = X 6) (h7 : w7 = X 7) :
    v.read (Elt F) (v.writes (Elt F) f
      [⟨Rect.unit (s := S128) (k0_off1 i 7#32) ![1] i7, fun _ => w7⟩, ⟨Rect.unit (s := S128) (k0_off1 i 6#32) ![1] i6, fun _ => w6⟩,
       ⟨Rect.unit (s := S128) (k0_off1 i 5#32) ![1] i5, fun _ => w5⟩, ⟨Rect.unit (s := S128) (k0_off1 i 4#32) ![1] i4, fun _ => w4⟩,
       ⟨Rect.unit (s := S128) (k0_off1 i 3#32) ![1] i3, fun _ => w3⟩, ⟨Rect.unit (s := S128) (k0_off1 i 2#32) ![1] i2, fun _ => w2⟩,
       ⟨Rect.unit (s := S128) (k0_off1 i 1#32) ![1] i1, fun _ => w1⟩, ⟨Rect.unit (s := S128) (k0_off1 i 0#32) ![1] i0, fun _ => w0⟩])
      = put8 (i 0) X d := by
  subst h0 h1 h2 h3 h4 h5 h6 h7 hd
  have o : ∀ c : Fin 8, k0_off1 i (BitVec.ofNat 32 c.val) 0 = 8 * (i 0).val + c.val := off1_val i
  funext y
  have e7 := o 7; have e6 := o 6; have e5 := o 5; have e4 := o 4; have e3 := o 3; have e2 := o 2; have e1 := o 1; have e0 := o 0
  simp only [Fin.isValue] at e0 e1 e2 e3 e4 e5 e6 e7
  change k0_off1 i 7#32 0 = 8 * (i 0).val + 7 at e7
  change k0_off1 i 6#32 0 = 8 * (i 0).val + 6 at e6
  change k0_off1 i 5#32 0 = 8 * (i 0).val + 5 at e5
  change k0_off1 i 4#32 0 = 8 * (i 0).val + 4 at e4
  change k0_off1 i 3#32 0 = 8 * (i 0).val + 3 at e3
  change k0_off1 i 2#32 0 = 8 * (i 0).val + 2 at e2
  change k0_off1 i 1#32 0 = 8 * (i 0).val + 1 at e1
  change k0_off1 i 0#32 0 = 8 * (i 0).val + 0 at e0
  simp only [S128, View.read_writes_cons_cell, View.writes_nil, e0, e1, e2, e3, e4, e5, e6, e7]
  unfold put8
  by_cases h : (y 0).val / 8 = (i 0).val
  · rw [if_pos h]
    have hk : ∀ b : Fin 8, (⟨(y 0).val % 8, Nat.mod_lt _ (by decide)⟩ : Fin 8) = b → (y 0).val = 8 * (i 0).val + b.val := by
      intro b hb
      have : (y 0).val % 8 = b.val := congrArg Fin.val hb
      omega
    generalize (⟨(y 0).val % 8, Nat.mod_lt _ (by decide)⟩ : Fin 8) = b at hk ⊢
    have hv := hk b rfl
    rw [hv]
    fin_cases b <;> simp
  · rw [if_neg h, if_neg (by omega), if_neg (by omega), if_neg (by omega), if_neg (by omega), if_neg (by omega), if_neg (by omega),
      if_neg (by omega), if_neg (by omega)]

set_option maxHeartbeats 1000000 in
/-- The body's triple: on whole staging buffers, the inputs' at their contents, the sample block ends at the eight
    chains' next samples, and the two lists of numbers change at the eight chains' places. -/
theorem kernelRun (c : Dev nD) (i : grid0.Coords) (arg1 : Memref sig .tc .smem S128 .i32) (harg1 : arg1.IsWhole) (arg2 : Memref sig .tc .smem S128 .f32) (harg2 : arg2.IsWhole) (arg3 : Memref sig .tc .vmem S8x32x8192 .f32) (harg3 : arg3.IsWhole) (arg4 : Memref sig .tc .vmem S8x32x8192 .f32) (harg4 : arg4.IsWhole) (arg5 : Memref sig .tc .vmem S32x8192 .bf16) (harg5 : arg5.IsWhole) (arg6 : Memref sig .tc .vmem S8x32x8192 .f32) (harg6 : arg6.IsWhole) (arg7 : Memref sig .tc .smem S128 .f32) (harg7 : arg7.IsWhole) (arg8 : Memref sig .tc .smem S128 .i32) (harg8 : arg8.IsWhole)
    (x0 : Vec F S128 .i32) (x1 : Vec F S128 .f32) (x2 : Vec F S8x32x8192 .f32) (x3 : Vec F S8x32x8192 .f32) (x4 : Vec F S32x8192 .bf16)
    (d6 : Vec F S128 .f32) (d7 : Vec F S128 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare d6 ∗ owns (c : Thread nD τ) arg8 fullShare d7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
              ∗ owns (c : Thread nD τ) arg6 fullShare (blockOut (i 0) x0 x1 x2 x3 x4)
              ∗ owns (c : Thread nD τ) arg7 fullShare (put8 (e := .f32) (i 0) (fun b => chainEnergy (row b x2) (row b x3) x4 (at8 (i 0) b x0) (at8 (i 0) b x1)) d6)
              ∗ owns (c : Thread nD τ) arg8 fullShare (put8 (e := .i32) (i 0) (fun b => chainAcc (row b x2) (row b x3) x4 (at8 (i 0) b x0) (at8 (i 0) b x1)) d7)) -∗ K ⟨⟩))
          ⊢ wp frame (wpE (defs₀ (F := F)) Variants.none c none) E (cc0__mh_body i arg1 harg1 arg2 harg2 arg3 harg3 arg4 harg4 arg5 harg5 arg6 harg6 arg7 harg7 arg8 harg8) K := by
    intro E K
    simp only [cc0__mh_body_eq_skeleton]; unfold cc0__mh_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (read_rows (fun b => chainOut (rdRow harg3 x2 b) (rdRow harg4 x3 b) (rdAll harg5 x4) (rdAt harg1 x0 i b) (rdAt harg2 x1 i b)) rfl rfl rfl rfl rfl rfl rfl rfl).trans ?_
      have key : ∀ b : Fin 8, chainOut (rdRow harg3 x2 b) (rdRow harg4 x3 b) (rdAll harg5 x4) (rdAt harg1 x0 i b) (rdAt harg2 x1 i b)
          = chainOut (row b x2) (row b x3) x4 (at8 (i 0) b x0) (at8 (i 0) b x1) := fun b => by
        simp only [rdRow_eq, rdAll_eq, rdAt_eq]
      funext y
      exact congrFun (key (y 0)) (inRow y)
    isplitl [H6]
    · iexists _; isplitr; swap; · iexact H6
      ipureintro
      refine (read_cells (e := .f32) i (fun b => chainEnergy (rdRow harg3 x2 b) (rdRow harg4 x3 b) (rdAll harg5 x4) (rdAt harg1 x0 i b) (rdAt harg2 x1 i b)) hf6 rfl rfl rfl rfl rfl rfl rfl rfl).trans ?_
      simp only [rdRow_eq, rdAll_eq, rdAt_eq]
    iexists _; isplitr; swap; · iexact H7
    ipureintro
    refine (read_cells (e := .i32) i (fun b => chainAcc (rdRow harg3 x2 b) (rdRow harg4 x3 b) (rdAll harg5 x4) (rdAt harg1 x0 i b) (rdAt harg2 x1 i b)) hf7 rfl rfl rfl rfl rfl rfl rfl rfl).trans ?_
    simp only [rdRow_eq, rdAll_eq, rdAt_eq]

end Cert.KernelIdeal.Gen

end
-- ==== Proof.Run.lean ====
/- The pipeline's proof data, relational in the three outputs: what each point leaves, over the arrays the region finds. -/
module

public import proofs.«01_k».proof.Proof.Body
public import Idealize.ShloMosaic.Lib.Pipeline.DatRel
public import Idealize.ShloMosaic.Lib.Pipeline.ArrRel
public import Idealize.ShloMosaic.Lib.Pipeline.ValueKit
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The arrays the region finds -/

/-- The chains' positions. -/
def posK (c : Dev nD) : Vec F S128 .i32 := V m c main_v15
/-- The chains' acceptance numbers. -/
def uK (c : Dev nD) : Vec F S128 .f32 := V m c main_v19
/-- The samples. -/
def thK (c : Dev nD) : Vec F S128x32x8192 .f32 := V m c main_arg0
/-- The noise. -/
def gK (c : Dev nD) : Vec F S128x32x8192 .f32 := V m c main_v17
/-- The weights. -/
def wK (c : Dev nD) : Vec F S32x8192 .bf16 := V m c main_v20

/-- Row `a` of all the chains' rows. -/
def bigRow (a : Fin 128) (x : Vec F S128x32x8192 .f32) : Vec F S1x32x8192 .f32 := fun y => x (fun d => match d with
  | ⟨0, _⟩ => a
  | ⟨1, _⟩ => y 1
  | ⟨2, _⟩ => y 2)

/-- What is made of chain `a` by a function of one chain's data. -/
def ofChain {β : Type} (f : Vec F S1x32x8192 .f32 → Vec F S1x32x8192 .f32 → Vec F S32x8192 .bf16 → Elt F .i32 → Elt F .f32 → β)
    (c : Dev nD) (a : Fin 128) : β :=
  f (bigRow a (thK m c)) (bigRow a (gK m c)) (wK m c) (posK m c (fun d => ⟨a.val, by fin_cases d; exact a.isLt⟩))
    (uK m c (fun d => ⟨a.val, by fin_cases d; exact a.isLt⟩))

/-- The grid's coordinate is the point. -/
theorem coord0 (t : Fin cfg0.N) : ((grid0.coords t) 0).val = t.val :=
  (by decide +kernel : ∀ t : Fin grid0.N, ((grid0.coords t) 0).val = t.val) t

/-- Chain `b` of group `t`. -/
def chainNo (t : Fin cfg0.N) (b : Fin 8) : Fin 128 := ⟨8 * t.val + b.val, by have : t.val < 16 := t.isLt; omega⟩

theorem index2 (t : Fin cfg0.N) : win0_2.index t = ![t.val, 0, 0] :=
  (by decide +kernel : ∀ t : Fin grid0.N, win0_2.index t = ![t.val, 0, 0]) t
theorem index3 (t : Fin cfg0.N) : win0_3.index t = ![t.val, 0, 0] :=
  (by decide +kernel : ∀ t : Fin grid0.N, win0_3.index t = ![t.val, 0, 0]) t
theorem index5 (t : Fin cfg0.N) : win0_5.index t = ![t.val, 0, 0] :=
  (by decide +kernel : ∀ t : Fin grid0.N, win0_5.index t = ![t.val, 0, 0]) t
theorem index0 (t : Fin cfg0.N) : win0_0.index t = ![0] :=
  (by decide +kernel : ∀ t : Fin grid0.N, win0_0.index t = ![0]) t
theorem index1 (t : Fin cfg0.N) : win0_1.index t = ![0] :=
  (by decide +kernel : ∀ t : Fin grid0.N, win0_1.index t = ![0]) t
theorem index4 (t : Fin cfg0.N) : win0_4.index t = ![0, 0] :=
  (by decide +kernel : ∀ t : Fin grid0.N, win0_4.index t = ![0, 0]) t

/-- A row of a block of the samples is the chain's row. -/
theorem row2 (c : Dev nD) (t : Fin cfg0.N) (b : Fin 8) : row b (iblk m c 2 t) = bigRow (chainNo t b) (thK m c) := by
  funext y
  unfold row bigRow thK
  blk_simp [iblk, index2]
  congr 1
  funext a
  apply Fin.ext
  fin_cases a
  · blk_simp [index2]; simp [chainNo]; omega
  · blk_simp [index2]
  · blk_simp [index2]

/-- A row of a block of the noise is the chain's row. -/
theorem row3 (c : Dev nD) (t : Fin cfg0.N) (b : Fin 8) : row b (iblk m c 3 t) = bigRow (chainNo t b) (gK m c) := by
  funext y
  unfold row bigRow gK
  blk_simp [iblk, index3]
  congr 1
  funext a
  apply Fin.ext
  fin_cases a
  · blk_simp [index3]; simp [chainNo]; omega
  · blk_simp [index3]
  · blk_simp [index3]

/-- The weights' block is the weights. -/
theorem blk4 (c : Dev nD) (t : Fin cfg0.N) : iblk m c 4 t = wK m c := by
  funext y
  unfold wK
  blk_simp [iblk, index4]
  congr 1
  funext a
  apply Fin.ext
  fin_cases a
  · blk_simp [index4]
  · blk_simp [index4]

/-- A number of the positions' block is the chain's position. -/
theorem at0 (c : Dev nD) (t : Fin cfg0.N) (b : Fin 8) :
    at8 (e := .i32) ((grid0.coords t) 0) b (iblk m c 0 t) = posK m c (fun d => ⟨(chainNo t b).val, by fin_cases d; exact (chainNo t b).isLt⟩) := by
  unfold at8 posK
  blk_simp [iblk, index0]
  congr 1
  funext a
  apply Fin.ext
  fin_cases a
  blk_simp [index0]; simp [chainNo, coord0]

/-- A number of the acceptance numbers' block is the chain's. -/
theorem at1 (c : Dev nD) (t : Fin cfg0.N) (b : Fin 8) :
    at8 (e := .f32) ((grid0.coords t) 0) b (iblk m c 1 t) = uK m c (fun d => ⟨(chainNo t b).val, by fin_cases d; exact (chainNo t b).isLt⟩) := by
  unfold at8 uK
  blk_simp [iblk, index1]
  congr 1
  funext a
  apply Fin.ext
  fin_cases a
  blk_simp [index1]; simp [chainNo, coord0]

/-- What the body makes of chain `b` of the blocks is what is made of the chain. -/
theorem of_blocks {β : Type} (f : Vec F S1x32x8192 .f32 → Vec F S1x32x8192 .f32 → Vec F S32x8192 .bf16 → Elt F .i32 → Elt F .f32 → β)
    (c : Dev nD) (t : Fin cfg0.N) (b : Fin 8) :
    f (row b (iblk m c 2 t)) (row b (iblk m c 3 t)) (iblk m c 4 t) (at8 (e := .i32) ((grid0.coords t) 0) b (iblk m c 0 t))
      (at8 (e := .f32) ((grid0.coords t) 0) b (iblk m c 1 t)) = ofChain m f c (chainNo t b) := by
  rw [row2, row3, blk4, at0, at1]; rfl

/-! ### What the points leave -/

/-- The next samples, whole. -/
def outG (c : Dev nD) : Vec F S128x32x8192 .f32 := fun y => ofChain m chainOut c (y 0) (fun d => match d with
  | ⟨0, _⟩ => ⟨0, Nat.one_pos⟩
  | ⟨1, _⟩ => y 1
  | ⟨2, _⟩ => y 2)
/-- The energies, whole. -/
def enG (c : Dev nD) : Vec F S128 .f32 := fun y => ofChain m chainEnergy c (y 0)
/-- The acceptance words, whole. -/
def acG (c : Dev nD) : Vec F S128 .i32 := fun y => ofChain m chainAcc c (y 0)

/-- The output windows: what the body leaves there is held to a predicate. -/
def marks : Fin 8 → Bool := fun w => w.val == 5 || w.val == 6 || w.val == 7

/-- What the body leaves at point `t`: the block of next samples, and the two lists right up to the group's end. -/
def leavesAt (c : Dev nD) : (w : Fin cfg0.W) → Fin cfg0.N → ((cfg0.win w).block.Idx → Elt F (cfg0.win w).elt) → Prop
  | ⟨5, _⟩, t, X => ∀ y : S8x32x8192.Idx, X y = ofChain m chainOut c (chainNo t (y 0)) (inRow y)
  | ⟨6, _⟩, t, X => ∀ y : S128.Idx, (y 0).val < 8 * (t.val + 1) → X y = enG m c y
  | ⟨7, _⟩, t, X => ∀ y : S128.Idx, (y 0).val < 8 * (t.val + 1) → X y = acG m c y
  | _, _, _ => True

/-- The proof data: the inputs' buffers at their blocks, the outputs left to `leavesAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The data's arrays are those the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The data the run is made with. -/
abbrev rdat (c : Dev nD) : RDat τ (Elt F) Unit ℕ (UR sig nD τ) ℕ cfg0 c := (dats m 0 c).toRRel marks (leavesAt m c)

/-- What an earlier point left in the list of energies is found there. -/
theorem finds6 (c : Dev nD) (t : Fin cfg0.N) (Y : (cfg0.win 6).block.Idx → Elt F (cfg0.win 6).elt) (h : (rdat m c).Finds 6 t Y)
    (y : S128.Idx) (hy : (y 0).val < 8 * t.val) : Y y = enG m c y := by
  have ht : t.val ≠ 0 := by omega
  rcases ((rdat m c).finds_of_pos (w := 6) rfl ht Y).mp h with hf | hl
  · have := (flush0_6 _).mp hf
    have : t.val < 16 := t.isLt
    dsimp only at *
    omega
  · have := (dats m 0 c).toRRel_leaves (fgt := marks) (Rl := leavesAt m c) (w := 6) rfl hl y (by dsimp only; omega)
    exact this

/-- What an earlier point left in the list of acceptance words is found there. -/
theorem finds7 (c : Dev nD) (t : Fin cfg0.N) (Y : (cfg0.win 7).block.Idx → Elt F (cfg0.win 7).elt) (h : (rdat m c).Finds 7 t Y)
    (y : S128.Idx) (hy : (y 0).val < 8 * t.val) : Y y = acG m c y := by
  have ht : t.val ≠ 0 := by omega
  rcases ((rdat m c).finds_of_pos (w := 7) rfl ht Y).mp h with hf | hl
  · have := (flush0_7 _).mp hf
    have : t.val < 16 := t.isLt
    dsimp only at *
    omega
  · have := (dats m 0 c).toRRel_leaves (fgt := marks) (Rl := leavesAt m c) (w := 7) rfl hl y (by dsimp only; omega)
    exact this

/-- A list right up to group `t`, its group `t` replaced, is right up to the group's end. -/
theorem put8_right {e : EltTy} (t : Fin cfg0.N) (v : Fin 8 → Elt F e) (G d : Vec F S128 e)
    (hv : ∀ (b : Fin 8) (y : S128.Idx), (y 0).val = 8 * t.val + b.val → v b = G y) (hd : ∀ y : S128.Idx, (y 0).val < 8 * t.val → d y = G y)
    (y : S128.Idx) (hy : (y 0).val < 8 * (t.val + 1)) : put8 ((grid0.coords t) 0) v d y = G y := by
  unfold put8
  rw [coord0]
  by_cases h : (y 0).val / 8 = t.val
  · rw [if_pos h]
    exact hv _ y (by dsimp only; omega)
  · rw [if_neg h]
    exact hd y (by omega)

abbrev ms0_0 (t : Fin cfg0.N) : Memref sig .tc .smem S128 .i32 := win0_0.stage (cfg0.slots t 0)
abbrev ms0_1 (t : Fin cfg0.N) : Memref sig .tc .smem S128 .f32 := win0_1.stage (cfg0.slots t 1)
abbrev ms0_2 (t : Fin cfg0.N) : Memref sig .tc .vmem S8x32x8192 .f32 := win0_2.stage (cfg0.slots t 2)
abbrev ms0_3 (t : Fin cfg0.N) : Memref sig .tc .vmem S8x32x8192 .f32 := win0_3.stage (cfg0.slots t 3)
abbrev ms0_4 (t : Fin cfg0.N) : Memref sig .tc .vmem S32x8192 .bf16 := win0_4.stage (cfg0.slots t 4)
abbrev ms0_5 (t : Fin cfg0.N) : Memref sig .tc .vmem S8x32x8192 .f32 := win0_5.stage (cfg0.slots t 5)
abbrev ms0_6 (t : Fin cfg0.N) : Memref sig .tc .smem S128 .f32 := win0_6.stage (cfg0.slots t 6)
abbrev ms0_7 (t : Fin cfg0.N) : Memref sig .tc .smem S128 .i32 := win0_7.stage (cfg0.slots t 7)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ Y, ⌜(rdat m c).Finds 5 t Y⌝ ∗ owns (c : Thread nD τ) (ms0_5 t) fullShare Y)
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ X, ⌜leavesAt m c 5 t X⌝ ∗ owns (c : Thread nD τ) (ms0_5 t) fullShare X)
    ∗ (∃ X, ⌜leavesAt m c 6 t X⌝ ∗ owns (c : Thread nD τ) (ms0_6 t) fullShare X)
    ∗ (∃ X, ⌜leavesAt m c 7 t X⌝ ∗ owns (c : Thread nD τ) (ms0_7 t) fullShare X))

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, -, H5⟩, ⟨%d6, %hd6, H6⟩, ⟨%d7, %hd7, H7⟩⟩
  iapply (kernelRun c (grid0.coords t) _ _ _ _ _ _ _ _ _ _ _ _ _ _ _ _ (iblk m c 0 t) (iblk m c 1 t) (iblk m c 2 t) (iblk m c 3 t) (iblk m c 4 t) d6 d7 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr; swap; · iexact H5
    ipureintro
    intro y
    exact congrFun (of_blocks m chainOut c t (y 0)) (inRow y)
  isplitl [H6]
  · iexists _; isplitr; swap; · iexact H6
    ipureintro
    intro y hy
    refine put8_right (e := .f32) t _ (enG m c) d6 (fun b y hy => ?_) (fun y hy => finds6 m c t d6 hd6 y hy) y hy
    refine (of_blocks m chainEnergy c t b).trans ?_
    unfold enG
    congr 1
    exact Fin.ext hy.symm
  · iexists _; isplitr; swap; · iexact H7
    ipureintro
    intro y hy
    refine put8_right (e := .i32) t _ (acG m c) d7 (fun b y hy => ?_) (fun y hy => finds7 m c t d7 hd7 y hy) y hy
    refine (of_blocks m chainAcc c t b).trans ?_
    unfold acG
    congr 1
    exact Fin.ext hy.symm

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) :
    Pipeline.BodyObligationRel (dats (F := F) m 0 c) (defs₀ (F := F)) Variants.none () Set.univ marks (leavesAt m c) := fun t => by
  rw [bigSep_W0, bigSep_W0, defs₀_row]
  exact sound_body m c t

end Cert.KernelIdeal.Gen

end
-- ==== Proof.Around.lean ====
module

public import Idealize.ShloMosaic.Lib.Pipeline.FrameSuffix
public import Idealize.ShloMosaic.Lib.Pipeline.ArrRel

@[expose] public section

noncomputable section

/-! A region whose outputs are known by a relation, and the lines after it: what the lines make of some contents the
    arrays may hold. -/

namespace Cert.Around

open Idealize.ShloMosaic Idealize.ShloMosaic.TcCoe Idealize.ShloMosaic.Pipeline
open Idealize.SL Idealize.SL.RA
open Idealize.SL.BI (sProp bigSep bigSep_congr bigSep_image_of_injOn)
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀) (p : P) (kit : LaunchFacts (nD := nD) (τ := τ) cfgs p) (defs₀ : Defs nD τ sig Val Λ₀) (𝒱₀ : Variants)

/-- At the end: the arrays hold what the relation allows, and the other buffers what the lines make of some such arrays. -/
def Post (rdat : (c : Dev nD) → RDat τ Val Unit ℕ (UR sig nD τ) ℕ (cfgs p) c) (V₀ : Dev nD → Valuation τ sig Val)
    (opss : List (List (HloOp τ sig Val))) (s : MemSt nD τ sig Val) (c : Dev nD) : Prop :=
  (∀ w, (rdat c).ArrAt w (cfgs p).N (s.mem (((cfgs p).spec w).arr.view.loc (c.tc : Thread nD τ))))
  ∧ ∃ A : (w : Fin (cfgs p).W) → Buf Val (((cfgs p).spec w).arr.view.loc (c.tc : Thread nD τ)),
      (∀ w, (rdat c).ArrAt w (cfgs p).N (A w))
      ∧ ∀ b ∈ restRefs sig (cfgs p).spec, s.mem ((c.tc : Thread nD τ).loc b)
          = StableHlo.after opss.flatten (withArrays (cfgs p).spec c (V₀ c) A) (Proc.devRef .tc b)

omit [Fintype P] [DecidableEq P] in
/-- The buffers behind the arrays, one points-to a window. -/
theorem arrBufs_windows {gr W : Nat} (win : Fin W → WinSpec sig gr) (hinj : Function.Injective (arrRef win)) (c : Dev nD)
    (V : Valuation τ sig Val) (A : (w : Fin W) → Buf Val ((win w).arr.view.loc (c.tc : Thread nD τ))) :
    (arrBufs win c (fun b => withArrays win c V A (Proc.devRef .tc b)) : sProp 𝕄)
      = bigSep Finset.univ fun w => ((c.tc : Thread nD τ).loc (arrRef win w)) ↦{fullShare} A w := by
  unfold arrBufs
  rw [bigSep_image_of_injOn hinj.injOn]
  exact bigSep_congr fun w _ => by dsimp only; rw [withArrays_arr win hinj c V A w]

include kit in
/-- The run of lines, the region and the lines after it, over data that hold some outputs to a predicate. -/
theorem run (rdat : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfgs p).spec w)))
    (hin : ∀ c, ΦA (cfgs p).spec c ⊢ (rdat c).Φ 0) (hout : ∀ c, (rdat c).Φ (Fin.last (cfgs p).N) ⊢ ΦA (cfgs p).spec c) :
    θ_run (Pipeline.defs (fun q => Cfg.toPCfg (Val := Val) (cfgs q)) defs₀) (onTc main) (s₀ m g)
      (fun r => ∀ c, Post cfgs p rdat V₀ opss r.2 c) := by
  classical
  refine RDat.θ_run_region_tail cfgs () kit.cellOf_inj p kit.win (OwnSemFacts.none (cfgs p).spec) emb₁ defs₀ 𝒱₀ rdat m g main
    (fun _ => chain (opss.map StableHlo.seq)) hbody kit.block_pos kit.arr_whole kit.stage_whole hshare howed
    (G := fun _ => iprop(emp)) (u₀ := initOf (cells cfgs kit.cellOf_inj) (launchToks cfgs kit.cellOf_inj)) ?_
    (V := fun c b => V₀ c (Proc.devRef .tc b)) hmain hA
    (X := fun c => iprop(∃ r, prngReg c r)) (Y := fun c => iprop(∃ r, prngReg c r))
    (Z := fun c => unscopedRest (Ix := Unit) (Name := ℕ) (U := UR sig nD τ) (Lvl := ℕ) (cfgs p).spec c (fun b => V₀ c (Proc.devRef .tc b)))
    (Z' := fun c => iprop(∃ A : (w : Fin (cfgs p).W) → Buf Val (((cfgs p).spec w).arr.view.loc (c.tc : Thread nD τ)),
      ⌜∀ w, (rdat c).ArrAt w (cfgs p).N (A w)⌝ ∗ unscopedRest (Ix := Unit) (Name := ℕ) (U := UR sig nD τ) (Lvl := ℕ) (cfgs p).spec c
        (fun b => StableHlo.after opss.flatten (withArrays (cfgs p).spec c (V₀ c) A) (Proc.devRef .tc b))))
    ?_ ?_ ?_ ?_
    (QY := fun c s => ∃ A : (w : Fin (cfgs p).W) → Buf Val (((cfgs p).spec w).arr.view.loc (c.tc : Thread nD τ)),
      (∀ w, (rdat c).ArrAt w (cfgs p).N (A w))
      ∧ ∀ b ∈ restRefs sig (cfgs p).spec, s.mem ((c.tc : Thread nD τ).loc b)
          = StableHlo.after opss.flatten (withArrays (cfgs p).spec c (V₀ c) A) (Proc.devRef .tc b))
    ?_ (fun s h c => h c)
  · iintro Hu; imodintro
    isplitl [Hu]
    · iapply (show (ownU _ : sProp 𝕄) ⊢ BI.own (emb₁ (initOf (cells cfgs kit.cellOf_inj) (launchToks cfgs kit.cellOf_inj))) from .rfl)
      iexact Hu
    · iapply (show (BI.emp : sProp 𝕄) ⊢ bigSep Finset.univ (fun _ : Dev nD => (BI.emp : sProp 𝕄)) from by rw [BI.bigSep_emp_const])
      iempintro
  · intro c
    iintro ⟨HU, -, -, -, Hp, -⟩; imodintro
    isplitl [Hp]; · iexists _; iexact Hp
    iexact HU
  · intro c
    refine Entails.trans ?_ (hin c)
    unfold ΦA
    iintro ⟨Hp, Hr⟩
    isplitl [Hr] <;> iassumption
  · intro c
    refine (hout c).trans ?_
    rw [ownSems0_none]; unfold ΦA
    iintro ⟨Hr, Hp⟩
    isplitl [Hp]; · iexact Hp
    isplitr; · iempintro
    iexact Hr
  · intro c Q'
    iintro ⟨Hk, Hb, Ha, HZ⟩
    ihave Ha' := (BI.bigSep_exists_pi Finset.univ (fun w F => iprop(⌜(rdat c).ArrAt w (cfgs p).N F⌝
        ∗ (((c.tc : Thread nD τ).loc (arrRef (cfgs p).spec w)) ↦{fullShare} F : sProp 𝕄)))) $$ Ha
    icases Ha' with ⟨%A, Ha⟩
    ihave Ha2 := (BI.bigSep_pure_sep Finset.univ (fun w => (rdat c).ArrAt w (cfgs p).N (A w))
        (fun w => (((c.tc : Thread nD τ).loc (arrRef (cfgs p).spec w)) ↦{fullShare} A w : sProp 𝕄))) $$ Ha
    icases Ha2 with ⟨%hA', Ha⟩
    iapply (tail_seqs_bufs (fun q => Cfg.toPCfg (Val := Val) (cfgs q)) defs₀ 𝒱₀ Prefetch.none (cfgs p).spec c (V₀ c) A opss hsub hfresh hkeep Q')
    rw [arrBufs_windows (cfgs p).spec kit.win.arr_inj c (V₀ c) A, unscopedRestP_none, unscopedRestP_none]
    isplitl [Hk]
    · iintro ⟨Ha, Hu⟩
      iapply Hk
      isplitl [Ha]
      · have hex : (bigSep Finset.univ (fun w => (((c.tc : Thread nD τ).loc (arrRef (cfgs p).spec w)) ↦{fullShare} A w : sProp 𝕄)))
            ⊢ bigSep Finset.univ fun w => iprop(∃ F, ⌜(rdat c).ArrAt w (cfgs p).N F⌝
              ∗ (((c.tc : Thread nD τ).loc (arrRef (cfgs p).spec w)) ↦{fullShare} F : sProp 𝕄)) := by
          refine BI.bigSep_mono fun w _ => ?_
          show (((c.tc : Thread nD τ).loc (arrRef (cfgs p).spec w)) ↦{fullShare} A w : sProp 𝕄)
            ⊢ iprop(∃ F, ⌜(rdat c).ArrAt w (cfgs p).N F⌝ ∗ ((c.tc : Thread nD τ).loc (arrRef (cfgs p).spec w)) ↦{fullShare} F)
          iintro H; iexists (A w); isplitr; · ipureintro; exact hA' w (Finset.mem_univ w)
          iexact H
        iapply hex
        iexact Ha
      · iexists A
        isplitr; · ipureintro; exact fun w => hA' w (Finset.mem_univ w)
        iexact Hu
    · isplitl [Hb]; · iexact Hb
      isplitl [Ha]; · iexact Ha
      iexact HZ
  · intro c s'
    iintro ⟨-, HZ, HSI⟩
    icases HZ with ⟨%A, %hA', HZ⟩
    unfold unscopedRest
    ihave HZ' := (pointsTo_read_all (restRefs sig (cfgs p).spec) (fun b => (c.tc : Thread nD τ).loc b)
      (fun b => StableHlo.after opss.flatten (withArrays (cfgs p).spec c (V₀ c) A) (Proc.devRef .tc b)) s') $$ [HZ HSI]
    · isplitl [HZ] <;> iassumption
    icases HZ' with ⟨%hZ, HSI⟩
    imodintro
    isplitr
    · ipureintro; exact ⟨A, hA', hZ⟩
    · iexact HSI

end Cert.Around

end
-- ==== Proof.Launch.lean ====
/- The run of the kernel: what its three results hold, and that it leaves its arguments alone. -/
module

public import proofs.«01_k».proof.Proof.Run
public import proofs.«01_k».proof.Proof.Around

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [∀ e, Nonempty (Elt F e)]

variable (m : (ℓ : Loc nD τ sig) → Buf (Elt F) ℓ) (ρ : Dev nD → PrngReg)

/-- The obligation of the data the run is made with. -/
theorem obligation (c : Dev nD) : (rdat m c).BodyObligation (defs₀ (F := F)) Variants.none () Set.univ :=
  (body_obligation m c).toRRel

set_option backward.isDefEq.respectTransparency.types false in
set_option maxHeartbeats 800000 in
/-- The run, with what the lines after the region compute. -/
theorem run_post : θ_run defs (onTc (τ := τ) (main (F := F))) (s₀ m ρ)
    (fun r => ∀ c, Cert.Around.Post cfgs (0 : Fin 1) (rdat m) (V0 m) [hostOps1] r.2 c) :=
  Cert.Around.run cfgs (0 : Fin 1) launch0 defs₀ Variants.none (rdat m) m ρ main
    (hbody := obligation m) (hshare := fun c w => (dats m 0 c).share_full (fun _ => rfl) w)
    (howed := fun _ _ => rfl) (V₀ := V0 m) (opss := [hostOps1]) (hsub := sfx_sub) (hfresh := sfx_fresh) (hkeep := sfx_keeps)
    (hmain := hmain m Variants.none) (hA := A_eq m) (hin := fun _ => .rfl) (hout := fun _ => .rfl)

/-- The buffers the lines after the region write. -/
def wroteLater : Finset (Ref sig .tc) := {main_c_5, main_v22, main_v23, main_v24}

/-- Those lines write no other buffer. -/
theorem sfx_wrote : ∀ ops ∈ ([hostOps1] : List (List (HloOp τ sig (Elt F)))), ∀ op ∈ ops,
    ∀ b : Ref sig .tc, Proc.devRef .tc b ∈ op.writes → b ∈ wroteLater := by
  intro ops hops op hop
  simp only [List.mem_cons, List.mem_nil_iff, or_false] at hops
  rcases hops with rfl
  simp only [hostOps1, List.mem_cons, List.mem_nil_iff, or_false] at hop
  rcases hop with rfl | rfl | rfl | rfl
  all_goals
    intro b hb
    simp only [StableHlo.nullary_writes, StableHlo.unary_writes, StableHlo.binary_writes, Finset.mem_singleton] at hb
    have := (Proc.devRef_injective _ hb)
    subst this
    decide

set_option backward.isDefEq.respectTransparency.types false in
set_option maxHeartbeats 800000 in
/-- The run, with the semaphores at zero at its end. -/
theorem run_quiet : θ_run defs (onTc (τ := τ) (main (F := F))) (s₀ m ρ)
    (fun r => (Pipeline.RDat.FramePostR (cfgs 0) (rdat m) wroteLater (V m)) r ∧ r.2.sem = fun _ => 0) :=
  Pipeline.RDat.θ_run_frame_around_T_track (Q' := _) cfgs (0 : Fin 1) launch0 defs₀ Variants.none (rdat m) wroteLater m ρ main
    (hbody := obligation m) (hshare := fun c w => (dats m 0 c).share_full (fun _ => rfl) w)
    (howed := fun _ _ => rfl) (V₀ := V0 m) (opss := [hostOps1]) (hsub := sfx_sub) (hfresh := sfx_fresh) (hkeep := sfx_keeps) (hT := sfx_wrote)
    (hmain := hmain m Variants.none) (hA := A_eq m) (hin := fun _ => .rfl) (hout := fun _ => .rfl) (hQ' := fun _ h => h)

/-- From the run's post to the arguments, for any data whose arrays are those the region finds. -/
theorem kept_of (rd : (c : Dev nD) → RDat τ (Elt F) Unit ℕ (UR sig nD τ) ℕ (cfgs 0) c)
    (hA : ∀ c w, (rd c).A w = V m c (Pipeline.arrRef spec0 w))
    (h : θ_run defs (onTc (τ := τ) (main (F := F))) (s₀ m ρ) (Pipeline.RDat.FramePostR (cfgs 0) rd wroteLater (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePostR.arr_in h c 2 rfl).trans ((hA c 2).trans (V_main_arg0 m c)),
      ((h c).2 main_arg1 (Finset.mem_sdiff.mpr ⟨Pipeline.mem_restRefs_of main_arg1 (by decide) (by decide), by decide⟩)).trans (V_main_arg1 m c)⟩) h

/-- The run, its post alone. -/
theorem run_plain : θ_run defs (onTc (τ := τ) (main (F := F))) (s₀ m ρ)
    (Pipeline.RDat.FramePostR (cfgs 0) (rdat m) wroteLater (V m)) :=
  (θ_run defs _ _).mono (fun _ h => h.1) (run_quiet m ρ)

/-- The arrays of relational data made of exact data are the exact data's. -/
theorem A_of_toRRel (c : Dev nD) (d : Dat τ (Elt F) Unit ℕ (UR sig nD τ) ℕ cfg0 c) (fgt : Fin cfg0.W → Bool)
    (Rl : (w : Fin cfg0.W) → Fin cfg0.N → ((cfg0.win w).block.Idx → Elt F (cfg0.win w).elt) → Prop) (w : Fin cfg0.W) :
    (d.toRRel fgt Rl).A w = d.A w := rfl

set_option maxHeartbeats 1000000 in
/-- The arrays of the run's data are those the region finds. -/
theorem rdat_A (c : Dev nD) (w : Fin cfg0.W) : (rdat m c).A w = V m c (Pipeline.arrRef spec0 w) :=
  (A_of_toRRel c (dats m 0 c) marks (leavesAt m c) w).trans (A_eq m c w)

/-- The kernel leaves its arguments as they were. -/
theorem kept_ideal : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  by
  have h := run_plain m ρ
  have hA := rdat_A m
  generalize rdat m = rd at h hA
  exact kept_of m ρ rd hA h

/-- The kernel runs, leaves its arguments as they were and every semaphore at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (kept_ideal m ρ) ((θ_run defs _ _).mono (fun _ h => h.2) (run_quiet m ρ))

end Cert.KernelIdeal.Gen

end
-- ==== Proof.Sim.lean ====
/- Two straight lines of host operations that run the same operations on differently numbered
   buffers leave equal contents in corresponding buffers. The correspondence is a relation between
   buffer numbers; a line is matched against a program one operation at a time. -/
module

public import Idealize.ShloMosaic.Lib.StableHlo.Run

@[expose] public section

noncomputable section

namespace Cert.Sim

open Idealize.ShloMosaic Idealize.ShloMosaic.StableHlo Idealize.SL.Sem

variable {nD : Nat} {τ τ' : Topo} {sig sig' : RefSig} {Val : EltTy → Type} {Λ : Labels}

/-- Two contents families agree on the numbers below `k` that `q` puts in correspondence. -/
def Agree (q : ℕ → ℕ → Bool) (k : ℕ) (V : Valuation τ sig Val) (V' : Valuation τ' sig' Val) : Prop :=
  ∀ (a : Ref sig .tc) (b : Ref sig' .tc), a.space = .hbm → b.space = .hbm → a.idx.val < k →
    q a.idx.val b.idx.val = true → HEq (V (Proc.devRef .tc a)) (V' (Proc.devRef .tc b))

/-- `q` is a one-to-one correspondence. -/
def Inj (q : ℕ → ℕ → Bool) : Prop :=
  ∀ i j i' j', q i j = true → q i' j' = true → (i = i' ↔ j = j')

/-- The buffer `a` read by the line corresponds to the buffer `b` read by the program. -/
structure Src (q : ℕ → ℕ → Bool) (k : ℕ) (a : Ref sig .tc) (b : Ref sig' .tc) : Prop where
  spa : a.space = .hbm
  spb : b.space = .hbm
  lt : (Nat.blt a.idx.val k && q a.idx.val b.idx.val) = true
  ty : a.ty = b.ty

/-- The buffer `a`, number `k`, written by the line corresponds to the buffer `b` written by the program. -/
structure Dst (q : ℕ → ℕ → Bool) (k : ℕ) (a : Ref sig .tc) (b : Ref sig' .tc) : Prop where
  spa : a.space = .hbm
  spb : b.space = .hbm
  eq : a.idx.val = k
  q : q k b.idx.val = true
  ty : a.ty = b.ty

theorem ref_ext {κ : Kind} {a b : Ref sig κ} (h : a.space = b.space) (hi : a.idx.val = b.idx.val) : a = b := by
  obtain ⟨sa, ia, na⟩ := a
  obtain ⟨sb, ib, nb⟩ := b
  dsimp at h hi
  subst h
  obtain rfl := Fin.ext hi
  rfl

theorem heq_app {A A' B B' : Type} {f : A → B} {f' : A' → B'} {x : A} {x' : A'} (hA : A = A') (hB : B = B')
    (hf : HEq f f') (hx : HEq x x') : HEq (f x) (f' x') := by
  subst hA; subst hB; obtain rfl := eq_of_heq hf; obtain rfl := eq_of_heq hx; rfl

theorem heq_app₂ {A A' B B' C C' : Type} {f : A → B → C} {f' : A' → B' → C'} {x : A} {x' : A'} {y : B} {y' : B'}
    (hA : A = A') (hB : B = B') (hC : C = C')
    (hf : HEq f f') (hx : HEq x x') (hy : HEq y y') : HEq (f x y) (f' x' y') := by
  subst hA; subst hB; subst hC; obtain rfl := eq_of_heq hf; obtain rfl := eq_of_heq hx; obtain rfl := eq_of_heq hy; rfl

theorem heq_app₄ {A A' B B' C C' D D' E E' : Type} {f : A → B → C → D → E} {f' : A' → B' → C' → D' → E'}
    {x : A} {x' : A'} {y : B} {y' : B'} {z : C} {z' : C'} {w : D} {w' : D'}
    (hA : A = A') (hB : B = B') (hC : C = C') (hD : D = D') (hE : E = E')
    (hf : HEq f f') (hx : HEq x x') (hy : HEq y y') (hz : HEq z z') (hw : HEq w w') :
    HEq (f x y z w) (f' x' y' z' w') := by
  subst hA; subst hB; subst hC; subst hD; subst hE
  obtain rfl := eq_of_heq hf; obtain rfl := eq_of_heq hx; obtain rfl := eq_of_heq hy; obtain rfl := eq_of_heq hz
  obtain rfl := eq_of_heq hw; rfl

theorem Src.heq {q : ℕ → ℕ → Bool} {k : ℕ} {a : Ref sig .tc} {b : Ref sig' .tc} (h : Src q k a b)
    {V : Valuation τ sig Val} {V' : Valuation τ' sig' Val} (hV : Agree q k V V') :
    HEq (V (Proc.devRef .tc a)) (V' (Proc.devRef .tc b)) :=
  hV a b h.spa h.spb (Nat.blt_eq.mp (Bool.and_eq_true_iff.mp h.lt).1) (Bool.and_eq_true_iff.mp h.lt).2

theorem contents_ty {T U : BufTy} (h : T = U) : T.Contents Val = U.Contents Val := by rw [h]

/-- One operation against one: each writes one buffer, the two correspond, and the values written agree. -/
structure Op1 (q : ℕ → ℕ → Bool) (k : ℕ) (o : HloOp τ sig Val) (o' : HloOp τ' sig' Val) : Prop where
  sub : o'.bufs ⊆ tcRefs τ' sig'
  fresh : o'.fresh = ∅
  agree : ∀ V V', Agree q k V V' → Agree q (k + 1) (o.result V) (o'.result V')

theorem Op1.of {q : ℕ → ℕ → Bool} (hq : Inj q) {k : ℕ} {o : HloOp τ sig Val} {o' : HloOp τ' sig' Val}
    {y : Ref sig .tc} {y' : Ref sig' .tc} (hy : Dst q k y y')
    (ho : o.writes = {Proc.devRef .tc y}) (ho' : o'.writes = {Proc.devRef .tc y'})
    (sub : o'.bufs ⊆ tcRefs τ' sig') (fresh : o'.fresh = ∅)
    (val : ∀ V V', Agree q k V V' → HEq (o.result V (Proc.devRef .tc y)) (o'.result V' (Proc.devRef .tc y'))) :
    Op1 q k o o' := by
  refine ⟨sub, fresh, fun V V' hV a b ha hb hak hab => ?_⟩
  by_cases h : a.idx.val = k
  · obtain rfl : a = y := ref_ext (ha.trans hy.spa.symm) (h.trans hy.eq.symm)
    rw [h] at hab
    obtain rfl : b = y' := ref_ext (hb.trans hy.spb.symm) ((hq _ _ _ _ hab hy.q).mp rfl)
    exact val V V' hV
  · have hne : b.idx.val ≠ y'.idx.val := fun e => h ((hq _ _ _ _ hab hy.q).mpr e)
    rw [o.result_of_not_mem V (by
        rw [ho, Finset.mem_singleton]; exact devRef_ne_of_ne fun e => h (by rw [e]; exact hy.eq)),
      o'.result_of_not_mem V' (by
        rw [ho', Finset.mem_singleton]; exact devRef_ne_of_ne fun e => hne (by rw [e]))]
    exact hV a b ha hb (by omega) hab

section Builders

variable {q : ℕ → ℕ → Bool} {k : ℕ} {x a b c e y : Ref sig .tc} {x' a' b' c' e' y' : Ref sig' .tc}

/-- A constant against the same constant. -/
theorem Op1.nullary (hq : Inj q) {v : y.ty.Contents Val} {v' : y'.ty.Contents Val} {hy hy'} (d : Dst q k y y') (hv : HEq v v') :
    Op1 q k (StableHlo.nullary (τ := τ) y v hy) (StableHlo.nullary (τ := τ') y' v' hy') :=
  .of hq d rfl rfl (nullary_bufs_sub ..) rfl fun V V' _ => by
    rw [nullary_result, nullary_result]; exact hv

/-- The same function of one corresponding operand. -/
theorem Op1.unary (hq : Inj q) {f : x.ty.Contents Val → y.ty.Contents Val} {f' : x'.ty.Contents Val → y'.ty.Contents Val}
    {hx hy hx' hy'} (d : Dst q k y y') (s : Src q k x x') (hf : HEq f f') :
    Op1 q k (StableHlo.unary (τ := τ) x y f hx hy) (StableHlo.unary (τ := τ') x' y' f' hx' hy') :=
  .of hq d rfl rfl (unary_bufs_sub ..) rfl fun V V' hV => by
    rw [unary_result, unary_result]
    exact heq_app (contents_ty s.ty) (contents_ty d.ty) hf (s.heq hV)

/-- The same function of two corresponding operands. -/
theorem Op1.binary (hq : Inj q) {f : a.ty.Contents Val → b.ty.Contents Val → y.ty.Contents Val}
    {f' : a'.ty.Contents Val → b'.ty.Contents Val → y'.ty.Contents Val} {ha hb hy ha' hb' hy'}
    (d : Dst q k y y') (s : Src q k a a') (t : Src q k b b') (hf : HEq f f') :
    Op1 q k (StableHlo.binary (τ := τ) a b y f ha hb hy) (StableHlo.binary (τ := τ') a' b' y' f' ha' hb' hy') :=
  .of hq d rfl rfl (binary_bufs_sub ..) rfl fun V V' hV => by
    rw [binary_result, binary_result]
    exact heq_app₂ (contents_ty s.ty) (contents_ty t.ty) (contents_ty d.ty) hf (s.heq hV) (t.heq hV)

theorem heq_reshape {T T' U U' : BufTy} (hT : T = T') (hU : U = U') {he : T.elt = U.elt} {he' : T'.elt = U'.elt}
    {hn : T.shape.ShapeCasts U.shape} {hn' : T'.shape.ShapeCasts U'.shape} {v : T.Contents Val} {v' : T'.Contents Val}
    (hv : HEq v v') :
    HEq (fun i => he ▸ shapeCast U.shape v hn i : U.Contents Val) (fun i => he' ▸ shapeCast U'.shape v' hn' i : U'.Contents Val) := by
  subst hT; subst hU; obtain rfl := eq_of_heq hv; rfl

/-- A reshape against the same reshape. -/
theorem Op1.reshape (hq : Inj q) {he : x.ty.elt = y.ty.elt} {hn : x.ty.shape.ShapeCasts y.ty.shape}
    {he' : x'.ty.elt = y'.ty.elt} {hn' : x'.ty.shape.ShapeCasts y'.ty.shape} {hx hy hx' hy'}
    (d : Dst q k y y') (s : Src q k x x') :
    Op1 q k (StableHlo.reshape (τ := τ) (Val := Val) x y he hn hx hy) (StableHlo.reshape (τ := τ') x' y' he' hn' hx' hy') :=
  .of hq d rfl rfl (reshape_bufs_sub ..) rfl fun V V' hV => by
    rw [reshape_result, reshape_result]
    exact heq_reshape s.ty d.ty (s.heq hV)

end Builders

/-- The program `p` is a straight line, ending in the operations `t`, whose earlier part keeps agreement
    with the line `l`: from agreement below `k` to agreement below `k'`. -/
def Runs (q : ℕ → ℕ → Bool) (k k' : ℕ) (l : List (HloOp τ sig Val)) (p : Prog (TpuEff nD τ' sig' Val Λ .tc) PUnit)
    (t : List (HloOp τ' sig' Val)) : Prop :=
  ∃ l' : List (HloOp τ' sig' Val), p = seq (l' ++ t) ∧ (∀ o ∈ l', o.bufs ⊆ tcRefs τ' sig' ∧ o.fresh = ∅) ∧
    ∀ V V', Agree q k V V' → Agree q k' (after l V) (after l' V')

section Steps

variable {q : ℕ → ℕ → Bool} {k k₁ k' : ℕ} {l l₂ : List (HloOp τ sig Val)} {t : List (HloOp τ' sig' Val)}

/-- Nothing left of the line: the program is the ending. -/
theorem Runs.done {p : Prog (TpuEff nD τ' sig' Val Λ .tc) PUnit} (h : p = seq t) (hk : k' = k) :
    Runs (τ := τ) (sig := sig) q k k' [] p t :=
  ⟨[], by rw [h]; rfl, fun o ho => (List.not_mem_nil ho).elim, fun _ _ h => by subst hk; exact h⟩

/-- One operation of each, then the rest. -/
theorem Runs.cons {o : HloOp τ sig Val} {o' : HloOp τ' sig' Val} {p : Prog (TpuEff nD τ' sig' Val Λ .tc) PUnit}
    (h : Op1 q k o o') (hk : k₁ = k + 1) (r : Runs q k₁ k' l p t) :
    Runs q k k' (o :: l) ((hlo rfl o' fun _ => .ret (⟨⟩ : PUnit)) >>= fun _ => p) t := by
  obtain ⟨l', hp, hs, ha⟩ := r
  subst hk
  refine ⟨o' :: l', by rw [hp]; rfl, fun x hx => ?_, fun V V' hV => ha _ _ (h.agree V V' hV)⟩
  rcases List.mem_cons.mp hx with rfl | hx
  · exact ⟨h.sub, h.fresh⟩
  · exact hs x hx

/-- One operation of each, the program's last. -/
theorem Runs.last {o : HloOp τ sig Val} {o' : HloOp τ' sig' Val}
    (h : Op1 q k o o') (hk : k' = k + 1) :
    Runs (Λ := Λ) (nD := nD) q k k' [o] (hlo rfl o' fun _ => .ret (⟨⟩ : PUnit)) [] := by
  subst hk
  refine ⟨[o'], ?_, fun x hx => ?_, fun V V' hV => h.agree V V' hV⟩
  · rfl
  · rcases List.mem_cons.mp hx with rfl | hx
    · exact ⟨h.sub, h.fresh⟩
    · exact (List.not_mem_nil hx).elim

/-- An operation of the line that writes buffer `k`, which corresponds to nothing. -/
theorem Runs.skip {o : HloOp τ sig Val} {p : Prog (TpuEff nD τ' sig' Val Λ .tc) PUnit} {y : Ref sig .tc}
    (ho : o.writes = {Proc.devRef .tc y}) (hs : y.space = .hbm) (hy : y.idx.val = k) (hq : ∀ j, q k j = false) (hk : k₁ = k + 1)
    (r : Runs q k₁ k' l p t) : Runs q k k' (o :: l) p t := by
  obtain ⟨l', hp, hsub, ha⟩ := r
  subst hk
  refine ⟨l', hp, hsub, fun V V' hV => ha _ _ fun a b sa sb hak hab => ?_⟩
  have h : a.idx.val ≠ k := fun h => by rw [h, hq] at hab; cases hab
  rw [o.result_of_not_mem V (by
    rw [ho, Finset.mem_singleton]; exact devRef_ne_of_ne fun e => h (by rw [e]; exact hy))]
  exact hV a b sa sb (by omega) hab

/-- A block inside a block, opened. -/
theorem Runs.assoc {A B C : Prog (TpuEff nD τ' sig' Val Λ .tc) PUnit}
    (r : Runs q k k' l (A >>= fun _ => (B >>= fun _ => C)) t) : Runs q k k' l ((A >>= fun _ => B) >>= fun _ => C) t := by
  rw [bind_assoc]; exact r

/-- A block that ends, opened. -/
theorem Runs.pure {C : Prog (TpuEff nD τ' sig' Val Λ .tc) PUnit} (r : Runs q k k' l C t) :
    Runs q k k' l ((Pure.pure (⟨⟩ : PUnit) : Prog (TpuEff nD τ' sig' Val Λ .tc) PUnit) >>= fun _ => C) t := by
  rw [pure_bind]; exact r

theorem after_app {τ : Topo} {sig : RefSig} (l₁ l₂ : List (HloOp τ sig Val)) (V : Valuation τ sig Val) :
    after (l₁ ++ l₂) V = after l₂ (after l₁ V) := by
  induction l₁ generalizing V with
  | nil => rfl
  | cons o l ih => exact ih _

/-- A block of its own against a stretch of the line, then the rest. -/
theorem Runs.append {A B : Prog (TpuEff nD τ' sig' Val Λ .tc) PUnit} (h : Runs q k k₁ l A []) (r : Runs q k₁ k' l₂ B t) :
    Runs q k k' (l ++ l₂) (A >>= fun _ => B) t := by
  obtain ⟨la, hA, hsa, ha⟩ := h
  obtain ⟨lb, hB, hsb, hb⟩ := r
  refine ⟨la ++ lb, ?_, fun x hx => ?_, fun V V' hV => ?_⟩
  · rw [hA, hB, List.append_nil, List.append_assoc, seq_append la]
  · rcases List.mem_append.mp hx with hx | hx
    · exact hsa x hx
    · exact hsb x hx
  · rw [after_app, after_app]; exact hb _ _ (ha _ _ hV)

end Steps

section Matching

variable {q : ℕ → ℕ → Bool} {k k' : ℕ} {l : List (HloOp τ sig Val)} {t : List (HloOp τ' sig' Val)}
  {P : Prog (TpuEff nD τ' sig' Val Λ .tc) PUnit} {x a b y : Ref sig .tc} {x' a' b' y' : Ref sig' .tc}

/-- A constant of each, then the rest. -/
theorem Runs.nullary (hq : Inj q) {v : y.ty.Contents Val} {v' : y'.ty.Contents Val} {hy hy'} (d : Dst q k y y') (hv : HEq v v')
    (r : Runs q (y.idx.val + 1) k' l P t) :
    Runs q k k' (StableHlo.nullary (τ := τ) y v hy :: l)
      ((hlo rfl (StableHlo.nullary (τ := τ') y' v' hy') fun _ => .ret (⟨⟩ : PUnit)) >>= fun _ => P) t :=
  .cons (.nullary hq d hv) (by rw [d.eq]) r

/-- A function of one operand of each, then the rest. -/
theorem Runs.unary (hq : Inj q) {f : x.ty.Contents Val → y.ty.Contents Val} {f' : x'.ty.Contents Val → y'.ty.Contents Val}
    {hx hy hx' hy'} (d : Dst q k y y') (s : Src q k x x') (hf : HEq f f')
    (r : Runs q (y.idx.val + 1) k' l P t) :
    Runs q k k' (StableHlo.unary (τ := τ) x y f hx hy :: l)
      ((hlo rfl (StableHlo.unary (τ := τ') x' y' f' hx' hy') fun _ => .ret (⟨⟩ : PUnit)) >>= fun _ => P) t :=
  .cons (.unary hq d s hf) (by rw [d.eq]) r

/-- A function of two operands of each, then the rest. -/
theorem Runs.binary (hq : Inj q) {f : a.ty.Contents Val → b.ty.Contents Val → y.ty.Contents Val}
    {f' : a'.ty.Contents Val → b'.ty.Contents Val → y'.ty.Contents Val} {ha hb hy ha' hb' hy'}
    (d : Dst q k y y') (s : Src q k a a') (u : Src q k b b') (hf : HEq f f')
    (r : Runs q (y.idx.val + 1) k' l P t) :
    Runs q k k' (StableHlo.binary (τ := τ) a b y f ha hb hy :: l)
      ((hlo rfl (StableHlo.binary (τ := τ') a' b' y' f' ha' hb' hy') fun _ => .ret (⟨⟩ : PUnit)) >>= fun _ => P) t :=
  .cons (.binary hq d s u hf) (by rw [d.eq]) r

/-- A reshape of each, then the rest. -/
theorem Runs.reshape (hq : Inj q) {he : x.ty.elt = y.ty.elt} {hn : x.ty.shape.ShapeCasts y.ty.shape}
    {he' : x'.ty.elt = y'.ty.elt} {hn' : x'.ty.shape.ShapeCasts y'.ty.shape} {hx hy hx' hy'}
    (d : Dst q k y y') (s : Src q k x x')
    (r : Runs q (y.idx.val + 1) k' l P t) :
    Runs q k k' (StableHlo.reshape (τ := τ) (Val := Val) x y he hn hx hy :: l)
      ((hlo rfl (StableHlo.reshape (τ := τ') x' y' he' hn' hx' hy') fun _ => .ret (⟨⟩ : PUnit)) >>= fun _ => P) t :=
  .cons (.reshape hq d s) (by rw [d.eq]) r

end Matching

/-! ### Operations over typed references -/

/-- A typed operand's buffers correspond. -/
structure TSrc (q : ℕ → ℕ → Bool) (k : ℕ) (a : Ref sig .tc) (b : Ref sig' .tc) : Prop where
  spa : a.space = .hbm
  spb : b.space = .hbm
  lt : (Nat.blt a.idx.val k && q a.idx.val b.idx.val) = true

/-- A typed result's buffers correspond. -/
structure TDst (q : ℕ → ℕ → Bool) (k : ℕ) (a : Ref sig .tc) (b : Ref sig' .tc) : Prop where
  spa : a.space = .hbm
  spb : b.space = .hbm
  eq : a.idx.val = k
  q : q k b.idx.val = true

section Typed

variable {q : ℕ → ℕ → Bool} {k k' : ℕ} {l : List (HloOp τ sig Val)} {t : List (HloOp τ' sig' Val)}
  {P : Prog (TpuEff nD τ' sig' Val Λ .tc) PUnit} {X X' A A' B B' Y Y' : BufTy}
  {x : TRef sig X} {a : TRef sig A} {b : TRef sig B} {y : TRef sig Y}
  {x' : TRef sig' X'} {a' : TRef sig' A'} {b' : TRef sig' B'} {y' : TRef sig' Y'}

theorem TDst.dst (d : TDst q k y.ref y'.ref) (hY : Y = Y') : Dst q k y.ref y'.ref :=
  ⟨d.spa, d.spb, d.eq, d.q, y.ty_eq.trans (hY.trans y'.ty_eq.symm)⟩

theorem TSrc.src (d : TSrc q k x.ref x'.ref) (hX : X = X') : Src q k x.ref x'.ref :=
  ⟨d.spa, d.spb, d.lt, x.ty_eq.trans (hX.trans x'.ty_eq.symm)⟩

theorem heq_cast {T T' U U' : Type} (h : T = U) (h' : T' = U') {v : T} {v' : T'} (hv : HEq v v') : HEq (cast h v) (cast h' v') := by
  subst h; subst h'; exact hv

theorem heq_lam {T T' U U' V V' W W' : Type} {f : U → V} {f' : U' → V'} (hU : U = U') (hV : V = V') (hf : HEq f f')
    (c : T = U) (c' : T' = U') (e : V = W) (e' : V' = W') :
    HEq (fun u => cast e (f (cast c u))) (fun u => cast e' (f' (cast c' u))) := by
  subst hU; subst hV; subst c; subst c'; subst e; subst e'; obtain rfl := eq_of_heq hf; rfl

theorem heq_lam₂ {T T' U U' S S' R R' V V' W W' : Type} {f : U → R → V} {f' : U' → R' → V'} (hU : U = U') (hR : R = R')
    (hV : V = V') (hf : HEq f f')
    (c : T = U) (c' : T' = U') (g : S = R) (g' : S' = R') (e : V = W) (e' : V' = W') :
    HEq (fun u s => cast e (f (cast c u) (cast g s))) (fun u s => cast e' (f' (cast c' u) (cast g' s))) := by
  subst hU; subst hV; subst hR; subst c; subst c'; subst e; subst e'; subst g; subst g'; obtain rfl := eq_of_heq hf; rfl

/-- A constant of each, then the rest. -/
theorem Runs.tnullary (hq : Inj q) {v : Y.Contents Val} {v' : Y'.Contents Val} (d : TDst q k y.ref y'.ref) (hY : Y = Y')
    (hv : HEq v v') (r : Runs q (y.ref.idx.val + 1) k' l P t) :
    Runs q k k' (TRef.nullary (τ := τ) y v :: l)
      ((hlo rfl (TRef.nullary (τ := τ') y' v') fun _ => .ret (⟨⟩ : PUnit)) >>= fun _ => P) t :=
  .nullary hq (d.dst hY) (heq_cast _ _ hv) r

/-- A function of one operand of each, then the rest. -/
theorem Runs.tunary (hq : Inj q) {f : X.Contents Val → Y.Contents Val} {f' : X'.Contents Val → Y'.Contents Val}
    (d : TDst q k y.ref y'.ref) (s : TSrc q k x.ref x'.ref) (hY : Y = Y') (hX : X = X') (hf : HEq f f')
    (r : Runs q (y.ref.idx.val + 1) k' l P t) :
    Runs q k k' (TRef.unary (τ := τ) x y f :: l)
      ((hlo rfl (TRef.unary (τ := τ') x' y' f') fun _ => .ret (⟨⟩ : PUnit)) >>= fun _ => P) t :=
  .unary hq (d.dst hY) (s.src hX) (heq_lam (contents_ty hX) (contents_ty hY) hf _ _ _ _) r

/-- A function of two operands of each, then the rest. -/
theorem Runs.tbinary (hq : Inj q) {f : A.Contents Val → B.Contents Val → Y.Contents Val}
    {f' : A'.Contents Val → B'.Contents Val → Y'.Contents Val}
    (d : TDst q k y.ref y'.ref) (s : TSrc q k a.ref a'.ref) (u : TSrc q k b.ref b'.ref) (hY : Y = Y') (hA : A = A') (hB : B = B')
    (hf : HEq f f') (r : Runs q (y.ref.idx.val + 1) k' l P t) :
    Runs q k k' (TRef.binary (τ := τ) a b y f :: l)
      ((hlo rfl (TRef.binary (τ := τ') a' b' y' f') fun _ => .ret (⟨⟩ : PUnit)) >>= fun _ => P) t :=
  .binary hq (d.dst hY) (s.src hA) (u.src hB)
    (heq_lam₂ (contents_ty hA) (contents_ty hB) (contents_ty hY) hf _ _ _ _ _ _) r

/-- A reshape of each, then the rest. -/
theorem Runs.treshape (hq : Inj q) {he : X.elt = Y.elt} {hn : X.shape.ShapeCasts Y.shape}
    {he' : X'.elt = Y'.elt} {hn' : X'.shape.ShapeCasts Y'.shape}
    (d : TDst q k y.ref y'.ref) (s : TSrc q k x.ref x'.ref) (hY : Y = Y') (hX : X = X')
    (r : Runs q (y.ref.idx.val + 1) k' l P t) :
    Runs q k k' (TRef.reshape (τ := τ) (Val := Val) x y he hn :: l)
      ((hlo rfl (TRef.reshape (τ := τ') x' y' he' hn') fun _ => .ret (⟨⟩ : PUnit)) >>= fun _ => P) t :=
  .reshape hq (d.dst hY) (s.src hX) r

end Typed

end Cert.Sim

end
-- ==== Proof.DrawsBase.lean ====
/- The kernel's host part and the reference draw the same random numbers: the operations up to the
   draws are the same, on differently numbered buffers. -/
module

public import proofs.«01_k».proof.Proof.Gen.KernelIdeal.Launch
public import proofs.«01_k».proof.Proof.Gen.ReferenceIdeal
public import proofs.«01_k».proof.Proof.Sim

@[expose] public section

set_option maxRecDepth 16384

noncomputable section

namespace Cert.Draws

open Idealize.ShloMosaic Idealize.ShloMosaic.StableHlo Idealize.SL.Sem Cert.Sim

variable {F : FTy → Type} [FloatOps F]

/-- Which buffer of the reference corresponds to which of the kernel's host part: the same numbers up to the first
    draw, five less up to the second (the kernel finds the smallest position in between), six less after (it also
    transposes). -/
def q (i j : ℕ) : Bool :=
  (Nat.blt i 520 && Nat.beq i j) || (Nat.ble 525 i && Nat.blt i 797 && Nat.beq i (j + 5))
    || (Nat.ble 798 i && Nat.beq i (j + 6))

theorem q_inj : Inj q := by
  intro i j i' j' h h'
  simp only [q, Bool.or_eq_true, Bool.and_eq_true, Nat.blt_eq, Nat.ble_eq, Nat.beq_eq] at h h'
  omega

end Cert.Draws

end
-- ==== Proof.DrawsSplit.lean ====
/- The splitting of the key is the same line of operations on both sides. -/
module

public import proofs.«01_k».proof.Proof.Gen.KernelIdeal.Launch
public import proofs.«01_k».proof.Proof.Gen.ReferenceIdeal
public import proofs.«01_k».proof.Proof.DrawsBase

@[expose] public section

set_option maxRecDepth 16384

noncomputable section

namespace Cert.Draws

open Idealize.ShloMosaic Idealize.ShloMosaic.StableHlo Idealize.SL.Sem Cert.Sim

variable {F : FTy → Type} [FloatOps F]

set_option maxHeartbeats 40000000 in
/-- The splitting of the key is the same line of operations on both sides. -/
theorem runs_split : Runs q 12 250 (Cert.KernelIdeal.Gen.hostOps0_1 (F := F))
    (Cert.ReferenceIdeal.fn_threefry_split.body (F := F) (.of Cert.ReferenceIdeal.main_v6) Cert.ReferenceIdeal.main_call0) [] := by
  delta Cert.ReferenceIdeal.fn_threefry_split.body Cert.ReferenceIdeal.fn_threefry2x32.body Cert.ReferenceIdeal.fn_threefry2x32.body_part0 Cert.ReferenceIdeal.fn_threefry2x32.body_part1 Cert.ReferenceIdeal.fn_threefry2x32.body_part2 Cert.ReferenceIdeal.fn_threefry2x32.body_part3
  repeat' first
    | with_reducible refine Runs.assoc ?_
    | (with_reducible refine Runs.tbinary q_inj ?_ ?_ ?_ ?_ ?_ ?_ ?_ ?_); (exact ⟨rfl, rfl, rfl, rfl⟩); (exact ⟨rfl, rfl, rfl⟩); (exact ⟨rfl, rfl, rfl⟩); (exact rfl); (exact rfl); (exact rfl); (exact HEq.rfl)
    | (with_reducible refine Runs.tunary q_inj ?_ ?_ ?_ ?_ ?_ ?_); (exact ⟨rfl, rfl, rfl, rfl⟩); (exact ⟨rfl, rfl, rfl⟩); (exact rfl); (exact rfl); (exact HEq.rfl)
    | (with_reducible refine Runs.tnullary q_inj ?_ ?_ ?_ ?_); (exact ⟨rfl, rfl, rfl, rfl⟩); (exact rfl); (exact HEq.rfl)
    | (with_reducible refine Runs.treshape q_inj ?_ ?_ ?_ ?_ ?_); (exact ⟨rfl, rfl, rfl, rfl⟩); (exact ⟨rfl, rfl, rfl⟩); (exact rfl); (exact rfl)
    | with_reducible refine Runs.pure ?_
  exact Runs.done rfl rfl

end Cert.Draws

end
-- ==== Proof.DrawsUniform.lean ====
/- The draw over the positions is the same line of operations on both sides. -/
module

public import proofs.«01_k».proof.Proof.Gen.KernelIdeal.Launch
public import proofs.«01_k».proof.Proof.Gen.ReferenceIdeal
public import proofs.«01_k».proof.Proof.DrawsBase

@[expose] public section

set_option maxRecDepth 16384

noncomputable section

namespace Cert.Draws

open Idealize.ShloMosaic Idealize.ShloMosaic.StableHlo Idealize.SL.Sem Cert.Sim

variable {F : FTy → Type} [FloatOps F]

set_option maxHeartbeats 40000000 in
/-- The draw over the positions is the same line of operations on both sides. -/
theorem runs_uniform : Runs q 258 520 (Cert.KernelIdeal.Gen.hostOps0_3 (F := F))
    (Cert.ReferenceIdeal.fn_uniform.body (F := F) (.of Cert.ReferenceIdeal.main_v9) (.of Cert.ReferenceIdeal.main_cst) (.of Cert.ReferenceIdeal.main_cst_2) Cert.ReferenceIdeal.main_call1) [] := by
  delta Cert.ReferenceIdeal.fn_uniform.body Cert.ReferenceIdeal.fn_threefry2x32_0.body Cert.ReferenceIdeal.fn_threefry2x32_0.body_part0 Cert.ReferenceIdeal.fn_threefry2x32_0.body_part1 Cert.ReferenceIdeal.fn_threefry2x32_0.body_part2 Cert.ReferenceIdeal.fn_threefry2x32_0.body_part3
  repeat' first
    | with_reducible refine Runs.assoc ?_
    | (with_reducible refine Runs.tbinary q_inj ?_ ?_ ?_ ?_ ?_ ?_ ?_ ?_); (exact ⟨rfl, rfl, rfl, rfl⟩); (exact ⟨rfl, rfl, rfl⟩); (exact ⟨rfl, rfl, rfl⟩); (exact rfl); (exact rfl); (exact rfl); (exact HEq.rfl)
    | (with_reducible refine Runs.tunary q_inj ?_ ?_ ?_ ?_ ?_ ?_); (exact ⟨rfl, rfl, rfl, rfl⟩); (exact ⟨rfl, rfl, rfl⟩); (exact rfl); (exact rfl); (exact HEq.rfl)
    | (with_reducible refine Runs.tnullary q_inj ?_ ?_ ?_ ?_); (exact ⟨rfl, rfl, rfl, rfl⟩); (exact rfl); (exact HEq.rfl)
    | (with_reducible refine Runs.treshape q_inj ?_ ?_ ?_ ?_ ?_); (exact ⟨rfl, rfl, rfl, rfl⟩); (exact ⟨rfl, rfl, rfl⟩); (exact rfl); (exact rfl)
    | with_reducible refine Runs.pure ?_
  exact Runs.done rfl rfl

end Cert.Draws

end
-- ==== Proof.DrawsGumbel.lean ====
/- The Gumbel draw is the same line of operations on both sides. -/
module

public import proofs.«01_k».proof.Proof.Gen.KernelIdeal.Launch
public import proofs.«01_k».proof.Proof.Gen.ReferenceIdeal
public import proofs.«01_k».proof.Proof.DrawsBase

@[expose] public section

set_option maxRecDepth 16384

noncomputable section

namespace Cert.Draws

open Idealize.ShloMosaic Idealize.ShloMosaic.StableHlo Idealize.SL.Sem Cert.Sim

variable {F : FTy → Type} [FloatOps F]

set_option maxHeartbeats 40000000 in
/-- The Gumbel draw is the same line of operations on both sides. -/
theorem runs_gumbel : Runs q 525 797 (Cert.KernelIdeal.Gen.hostOps0_5 (F := F))
    (Cert.ReferenceIdeal.fn_gumbel.body (F := F) (.of Cert.ReferenceIdeal.main_v11) Cert.ReferenceIdeal.main_call2) [] := by
  delta Cert.ReferenceIdeal.fn_gumbel.body Cert.ReferenceIdeal.fn_uniform_1.body Cert.ReferenceIdeal.fn_threefry2x32_2.body Cert.ReferenceIdeal.fn_threefry2x32_2.body_part0 Cert.ReferenceIdeal.fn_threefry2x32_2.body_part1 Cert.ReferenceIdeal.fn_threefry2x32_2.body_part2 Cert.ReferenceIdeal.fn_threefry2x32_2.body_part3
  repeat' first
    | with_reducible refine Runs.assoc ?_
    | (with_reducible refine Runs.tbinary q_inj ?_ ?_ ?_ ?_ ?_ ?_ ?_ ?_); (exact ⟨rfl, rfl, rfl, rfl⟩); (exact ⟨rfl, rfl, rfl⟩); (exact ⟨rfl, rfl, rfl⟩); (exact rfl); (exact rfl); (exact rfl); (exact HEq.rfl)
    | (with_reducible refine Runs.tunary q_inj ?_ ?_ ?_ ?_ ?_ ?_); (exact ⟨rfl, rfl, rfl, rfl⟩); (exact ⟨rfl, rfl, rfl⟩); (exact rfl); (exact rfl); (exact HEq.rfl)
    | (with_reducible refine Runs.tnullary q_inj ?_ ?_ ?_ ?_); (exact ⟨rfl, rfl, rfl, rfl⟩); (exact rfl); (exact HEq.rfl)
    | (with_reducible refine Runs.treshape q_inj ?_ ?_ ?_ ?_ ?_); (exact ⟨rfl, rfl, rfl, rfl⟩); (exact ⟨rfl, rfl, rfl⟩); (exact rfl); (exact rfl)
    | with_reducible refine Runs.pure ?_
  exact Runs.done rfl rfl

end Cert.Draws

end
-- ==== Proof.DrawsAccept.lean ====
/- The draw of the acceptance numbers is the same line of operations on both sides. -/
module

public import proofs.«01_k».proof.Proof.Gen.KernelIdeal.Launch
public import proofs.«01_k».proof.Proof.Gen.ReferenceIdeal
public import proofs.«01_k».proof.Proof.DrawsBase

@[expose] public section

set_option maxRecDepth 16384

noncomputable section

namespace Cert.Draws

open Idealize.ShloMosaic Idealize.ShloMosaic.StableHlo Idealize.SL.Sem Cert.Sim

variable {F : FTy → Type} [FloatOps F]

set_option maxHeartbeats 40000000 in
/-- The draw of the acceptance numbers is the same line of operations on both sides. -/
theorem runs_accept : Runs q 800 1057 (Cert.KernelIdeal.Gen.hostOps0_7 (F := F))
    (Cert.ReferenceIdeal.fn_uniform_3.body (F := F) (.of Cert.ReferenceIdeal.main_v13) (.of Cert.ReferenceIdeal.main_cst_3) (.of Cert.ReferenceIdeal.main_cst_4) Cert.ReferenceIdeal.main_call3) [] := by
  delta Cert.ReferenceIdeal.fn_uniform_3.body Cert.ReferenceIdeal.fn_threefry2x32_4.body Cert.ReferenceIdeal.fn_threefry2x32_4.body_part0 Cert.ReferenceIdeal.fn_threefry2x32_4.body_part1 Cert.ReferenceIdeal.fn_threefry2x32_4.body_part2 Cert.ReferenceIdeal.fn_threefry2x32_4.body_part3
  repeat' first
    | with_reducible refine Runs.assoc ?_
    | (with_reducible refine Runs.tbinary q_inj ?_ ?_ ?_ ?_ ?_ ?_ ?_ ?_); (exact ⟨rfl, rfl, rfl, rfl⟩); (exact ⟨rfl, rfl, rfl⟩); (exact ⟨rfl, rfl, rfl⟩); (exact rfl); (exact rfl); (exact rfl); (exact HEq.rfl)
    | (with_reducible refine Runs.tunary q_inj ?_ ?_ ?_ ?_ ?_ ?_); (exact ⟨rfl, rfl, rfl, rfl⟩); (exact ⟨rfl, rfl, rfl⟩); (exact rfl); (exact rfl); (exact HEq.rfl)
    | (with_reducible refine Runs.tnullary q_inj ?_ ?_ ?_ ?_); (exact ⟨rfl, rfl, rfl, rfl⟩); (exact rfl); (exact HEq.rfl)
    | (with_reducible refine Runs.treshape q_inj ?_ ?_ ?_ ?_ ?_); (exact ⟨rfl, rfl, rfl, rfl⟩); (exact ⟨rfl, rfl, rfl⟩); (exact rfl); (exact rfl)
    | with_reducible refine Runs.pure ?_
  exact Runs.done rfl rfl

end Cert.Draws

end
-- ==== Proof.Tail.lean ====
/- What the reference does after the random draws, as one list of operations. -/
module

public import proofs.«01_k».proof.Proof.Gen.ReferenceIdeal
public import Idealize.ShloMosaic.Lib.StableHlo.Run

@[expose] public section

set_option maxRecDepth 16384

noncomputable section

namespace Cert.ReferenceIdeal

open Idealize.ShloMosaic Idealize.ShloMosaic.StableHlo Idealize.SL.Sem
open Facts₀

variable {F : FTy → Type} [FloatOps F]

set_option maxHeartbeats 4000000 in
/-- What the reference does after the random draws, in order. -/
def tailOps : List (HloOp τ sig (Elt F)) :=
  [ StableHlo.binary main_arg0 main_arg1 main_v18 ((fun l r => Host.dotGeneral dot_S128x32x8192_S32x8192_S128_12_01_0_n_n_n none l r) : (⟨S128x32x8192, .f32⟩ : BufTy).Contents (Elt F) → (⟨S32x8192, .f32⟩ : BufTy).Contents (Elt F) → (⟨S128, .f32⟩ : BufTy).Contents (Elt F)),
    StableHlo.nullary main_cst_5 (constant S_ .f32 0xC2E60000#32),
    StableHlo.unary main_cst_5 main_v19 (broadcastInDim S128x32x8192 ![] bcast_S_S128x32x8192 : (⟨S_, .f32⟩ : BufTy).Contents (Elt F) → (⟨S128x32x8192, .f32⟩ : BufTy).Contents (Elt F)),
    StableHlo.binary main_arg0 main_v19 main_v20 (mulf : (⟨S128x32x8192, .f32⟩ : BufTy).Contents (Elt F) → (⟨S128x32x8192, .f32⟩ : BufTy).Contents (Elt F) → (⟨S128x32x8192, .f32⟩ : BufTy).Contents (Elt F)),
    StableHlo.TRef.nullary (.of main_call4_v0 : StableHlo.TRef sig ⟨S128x8192, .i32⟩) (iotaInDim S128x8192 32 1),
    StableHlo.TRef.binary (.of main_v14 : StableHlo.TRef sig ⟨S128x8192, .f32⟩) (.of main_call4_v0 : StableHlo.TRef sig ⟨S128x8192, .i32⟩) (.of main_call4_v1_0 : StableHlo.TRef sig ⟨S128x8192, .f32⟩) (fun x y => (Host.sort2 S128x8192 1 comparator_f32_i32_d1 x y).1),
    StableHlo.TRef.binary (.of main_v14 : StableHlo.TRef sig ⟨S128x8192, .f32⟩) (.of main_call4_v0 : StableHlo.TRef sig ⟨S128x8192, .i32⟩) (.of main_v21 : StableHlo.TRef sig ⟨S128x8192, .i32⟩) (fun x y => (Host.sort2 S128x8192 1 comparator_f32_i32_d1 x y).2),
    StableHlo.unary main_v21 main_v22 ((extractStridedSlice S128x1 ![0, 0] · slices_S128x8192_S128x1_0_0) : (⟨S128x8192, .i32⟩ : BufTy).Contents (Elt F) → (⟨S128x1, .i32⟩ : BufTy).Contents (Elt F)),
    StableHlo.nullary main_v23 (iotaInDim S128 32 0),
    StableHlo.unary main_v23 main_v24 (broadcastInDim S128x1 ![0] bcast_S128_S128x1_0 : (⟨S128, .i32⟩ : BufTy).Contents (Elt F) → (⟨S128x1, .i32⟩ : BufTy).Contents (Elt F)),
    StableHlo.nullary main_cst_6 (constant S_ .f32 0x3F800000#32),
    StableHlo.unary main_cst_6 main_v25 (broadcastInDim S128x8192 ![] bcast_S_S128x8192 : (⟨S_, .f32⟩ : BufTy).Contents (Elt F) → (⟨S128x8192, .f32⟩ : BufTy).Contents (Elt F)),
    StableHlo.nullary main_c_7 (constantI S_ 32 0#32),
    StableHlo.unary main_c_7 main_v26 (broadcastInDim S128x1 ![] bcast_S_S128x1 : (⟨S_, .i32⟩ : BufTy).Contents (Elt F) → (⟨S128x1, .i32⟩ : BufTy).Contents (Elt F)),
    StableHlo.binary main_v24 main_v26 main_v27 (cmpi .slt : (⟨S128x1, .i32⟩ : BufTy).Contents (Elt F) → (⟨S128x1, .i32⟩ : BufTy).Contents (Elt F) → (⟨S128x1, .i1⟩ : BufTy).Contents (Elt F)),
    StableHlo.nullary main_c_8 (constantI S_ 32 128#32),
    StableHlo.unary main_c_8 main_v28 (broadcastInDim S128x1 ![] bcast_S_S128x1 : (⟨S_, .i32⟩ : BufTy).Contents (Elt F) → (⟨S128x1, .i32⟩ : BufTy).Contents (Elt F)),
    StableHlo.binary main_v24 main_v28 main_v29 (addi : (⟨S128x1, .i32⟩ : BufTy).Contents (Elt F) → (⟨S128x1, .i32⟩ : BufTy).Contents (Elt F) → (⟨S128x1, .i32⟩ : BufTy).Contents (Elt F)),
    StableHlo.ternary main_v27 main_v29 main_v24 main_v30 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    StableHlo.nullary main_c_9 (constantI S_ 32 0#32),
    StableHlo.unary main_c_9 main_v31 (broadcastInDim S128x1 ![] bcast_S_S128x1 : (⟨S_, .i32⟩ : BufTy).Contents (Elt F) → (⟨S128x1, .i32⟩ : BufTy).Contents (Elt F)),
    StableHlo.binary main_v22 main_v31 main_v32 (cmpi .slt : (⟨S128x1, .i32⟩ : BufTy).Contents (Elt F) → (⟨S128x1, .i32⟩ : BufTy).Contents (Elt F) → (⟨S128x1, .i1⟩ : BufTy).Contents (Elt F)),
    StableHlo.nullary main_c_10 (constantI S_ 32 8192#32),
    StableHlo.unary main_c_10 main_v33 (broadcastInDim S128x1 ![] bcast_S_S128x1 : (⟨S_, .i32⟩ : BufTy).Contents (Elt F) → (⟨S128x1, .i32⟩ : BufTy).Contents (Elt F)),
    StableHlo.binary main_v22 main_v33 main_v34 (addi : (⟨S128x1, .i32⟩ : BufTy).Contents (Elt F) → (⟨S128x1, .i32⟩ : BufTy).Contents (Elt F) → (⟨S128x1, .i32⟩ : BufTy).Contents (Elt F)),
    StableHlo.ternary main_v32 main_v34 main_v22 main_v35 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    StableHlo.unary main_v30 main_v36 (broadcastInDim S128x1x1 ![0, 1] bcast_S128x1_S128x1x1_0_1 : (⟨S128x1, .i32⟩ : BufTy).Contents (Elt F) → (⟨S128x1x1, .i32⟩ : BufTy).Contents (Elt F)),
    StableHlo.unary main_v35 main_v37 (broadcastInDim S128x1x1 ![0, 1] bcast_S128x1_S128x1x1_0_1 : (⟨S128x1, .i32⟩ : BufTy).Contents (Elt F) → (⟨S128x1x1, .i32⟩ : BufTy).Contents (Elt F)),
    StableHlo.binary main_v36 main_v37 main_v38 ((fun a b => concatenate S128x1x2 2 [⟨S128x1x1, a⟩, ⟨S128x1x1, b⟩] concatenates_S128x1x1_S128x1x1_S128x1x2_d2) : (⟨S128x1x1, .i32⟩ : BufTy).Contents (Elt F) → (⟨S128x1x1, .i32⟩ : BufTy).Contents (Elt F) → (⟨S128x1x2, .i32⟩ : BufTy).Contents (Elt F)),
    StableHlo.nullary main_cst_11 (constant S_ .f32 0xBF800000#32),
    StableHlo.unary main_cst_11 main_v39 (broadcastInDim S128x1 ![] bcast_S_S128x1 : (⟨S_, .f32⟩ : BufTy).Contents (Elt F) → (⟨S128x1, .f32⟩ : BufTy).Contents (Elt F)),
    StableHlo.ternary main_v25 main_v38 main_v39 main_v40 ((fun x i u => Host.scatter scatter_S128x8192_S128x1x2_S128x1_n_01_01_2 (fun _ b => b) x i u) : (⟨S128x8192, .f32⟩ : BufTy).Contents (Elt F) → (⟨S128x1x2, .i32⟩ : BufTy).Contents (Elt F) → (⟨S128x1, .f32⟩ : BufTy).Contents (Elt F) → (⟨S128x8192, .f32⟩ : BufTy).Contents (Elt F)),
    StableHlo.unary main_v40 main_v41 (broadcastInDim S128x1x8192 ![0, 2] bcast_S128x8192_S128x1x8192_0_2 : (⟨S128x8192, .f32⟩ : BufTy).Contents (Elt F) → (⟨S128x1x8192, .f32⟩ : BufTy).Contents (Elt F)),
    StableHlo.unary main_v41 main_v42 (broadcastInDim S128x32x8192 ![0, 1, 2] bcast_S128x1x8192_S128x32x8192_0_1_2 : (⟨S128x1x8192, .f32⟩ : BufTy).Contents (Elt F) → (⟨S128x32x8192, .f32⟩ : BufTy).Contents (Elt F)),
    StableHlo.binary main_v20 main_v42 main_v43 (mulf : (⟨S128x32x8192, .f32⟩ : BufTy).Contents (Elt F) → (⟨S128x32x8192, .f32⟩ : BufTy).Contents (Elt F) → (⟨S128x32x8192, .f32⟩ : BufTy).Contents (Elt F)),
    StableHlo.unary main_v43 main_v44 ((transpose S128x8192x32 [0, 2, 1] · transposes_S128x32x8192_S128x8192x32_0_2_1) : (⟨S128x32x8192, .f32⟩ : BufTy).Contents (Elt F) → (⟨S128x8192x32, .f32⟩ : BufTy).Contents (Elt F)),
    StableHlo.unary main_v44 main_v45 (Host.negf : (⟨S128x8192x32, .f32⟩ : BufTy).Contents (Elt F) → (⟨S128x8192x32, .f32⟩ : BufTy).Contents (Elt F)),
    StableHlo.nullary main_cst_12 (constant S_ .f32 0x3F800000#32),
    StableHlo.unary main_cst_12 main_v46 (broadcastInDim S128x8192x32 ![] bcast_S_S128x8192x32 : (⟨S_, .f32⟩ : BufTy).Contents (Elt F) → (⟨S128x8192x32, .f32⟩ : BufTy).Contents (Elt F)),
    StableHlo.binary main_v45 main_v46 main_v47 (Host.divf : (⟨S128x8192x32, .f32⟩ : BufTy).Contents (Elt F) → (⟨S128x8192x32, .f32⟩ : BufTy).Contents (Elt F) → (⟨S128x8192x32, .f32⟩ : BufTy).Contents (Elt F)),
    StableHlo.binary main_v47 main_v15 main_v48 (addf : (⟨S128x8192x32, .f32⟩ : BufTy).Contents (Elt F) → (⟨S128x8192x32, .f32⟩ : BufTy).Contents (Elt F) → (⟨S128x8192x32, .f32⟩ : BufTy).Contents (Elt F)),
    StableHlo.TRef.nullary (.of main_call5_v0 : StableHlo.TRef sig ⟨S128x8192x32, .i32⟩) (iotaInDim S128x8192x32 32 2),
    StableHlo.TRef.nullary (.of main_call5_cst : StableHlo.TRef sig ⟨S_, .f32⟩) (constant S_ .f32 0xFF800000#32),
    StableHlo.TRef.nullary (.of main_call5_c : StableHlo.TRef sig ⟨S_, .i32⟩) (constantI S_ 32 0#32),
    StableHlo.TRef.quaternary (.of main_v48 : StableHlo.TRef sig ⟨S128x8192x32, .f32⟩) (.of main_call5_v0 : StableHlo.TRef sig ⟨S128x8192x32, .i32⟩) (.of main_call5_cst : StableHlo.TRef sig ⟨S_, .f32⟩) (.of main_call5_c : StableHlo.TRef sig ⟨S_, .i32⟩) (.of main_call5_v1_0 : StableHlo.TRef sig ⟨S128x8192, .f32⟩) (fun x y u v j => (Host.argReduce reducer_argmax_f32_i32 x y u v reducesTo_S128x8192x32_S128x8192_d2 h_S_ j).1),
    StableHlo.TRef.quaternary (.of main_v48 : StableHlo.TRef sig ⟨S128x8192x32, .f32⟩) (.of main_call5_v0 : StableHlo.TRef sig ⟨S128x8192x32, .i32⟩) (.of main_call5_cst : StableHlo.TRef sig ⟨S_, .f32⟩) (.of main_call5_c : StableHlo.TRef sig ⟨S_, .i32⟩) (.of main_v49 : StableHlo.TRef sig ⟨S128x8192, .i32⟩) (fun x y u v j => (Host.argReduce reducer_argmax_f32_i32 x y u v reducesTo_S128x8192x32_S128x8192_d2 h_S_ j).2),
    StableHlo.TRef.unary (.of main_v49 : StableHlo.TRef sig ⟨S128x8192, .i32⟩) (.of main_call6_v0 : StableHlo.TRef sig ⟨S128x8192x1, .i32⟩) (broadcastInDim S128x8192x1 ![0, 1] bcast_S128x8192_S128x8192x1_0_1),
    StableHlo.TRef.nullary (.of main_call6_v1 : StableHlo.TRef sig ⟨S1x1x32, .i32⟩) (iotaInDim S1x1x32 32 2),
    StableHlo.TRef.unary (.of main_call6_v0 : StableHlo.TRef sig ⟨S128x8192x1, .i32⟩) (.of main_call6_v2 : StableHlo.TRef sig ⟨S128x8192x32, .i32⟩) (broadcastInDim S128x8192x32 ![0, 1, 2] bcast_S128x8192x1_S128x8192x32_0_1_2),
    StableHlo.TRef.unary (.of main_call6_v1 : StableHlo.TRef sig ⟨S1x1x32, .i32⟩) (.of main_call6_v3 : StableHlo.TRef sig ⟨S128x8192x32, .i32⟩) (broadcastInDim S128x8192x32 ![0, 1, 2] bcast_S1x1x32_S128x8192x32_0_1_2),
    StableHlo.TRef.binary (.of main_call6_v2 : StableHlo.TRef sig ⟨S128x8192x32, .i32⟩) (.of main_call6_v3 : StableHlo.TRef sig ⟨S128x8192x32, .i32⟩) (.of main_call6_v4 : StableHlo.TRef sig ⟨S128x8192x32, .i1⟩) (cmpi .eq),
    StableHlo.TRef.unary (.of main_call6_v4 : StableHlo.TRef sig ⟨S128x8192x32, .i1⟩) (.of main_v50 : StableHlo.TRef sig ⟨S128x8192x32, .f32⟩) (uitofp .f32),
    StableHlo.unary main_v50 main_v51 ((transpose S128x32x8192 [0, 2, 1] · transposes_S128x8192x32_S128x32x8192_0_2_1) : (⟨S128x8192x32, .f32⟩ : BufTy).Contents (Elt F) → (⟨S128x32x8192, .f32⟩ : BufTy).Contents (Elt F)),
    StableHlo.binary main_v51 main_arg1 main_v52 ((fun l r => Host.dotGeneral dot_S128x32x8192_S32x8192_S128_12_01_0_n_n_n none l r) : (⟨S128x32x8192, .f32⟩ : BufTy).Contents (Elt F) → (⟨S32x8192, .f32⟩ : BufTy).Contents (Elt F) → (⟨S128, .f32⟩ : BufTy).Contents (Elt F)),
    StableHlo.binary main_v18 main_v52 main_v53 (subf : (⟨S128, .f32⟩ : BufTy).Contents (Elt F) → (⟨S128, .f32⟩ : BufTy).Contents (Elt F) → (⟨S128, .f32⟩ : BufTy).Contents (Elt F)),
    StableHlo.nullary main_cst_13 (constant S_ .f32 0x3F800000#32),
    StableHlo.unary main_cst_13 main_v54 (broadcastInDim S128 ![] bcast_S_S128 : (⟨S_, .f32⟩ : BufTy).Contents (Elt F) → (⟨S128, .f32⟩ : BufTy).Contents (Elt F)),
    StableHlo.binary main_v53 main_v54 main_v55 (Host.divf : (⟨S128, .f32⟩ : BufTy).Contents (Elt F) → (⟨S128, .f32⟩ : BufTy).Contents (Elt F) → (⟨S128, .f32⟩ : BufTy).Contents (Elt F)),
    StableHlo.binary main_v17 main_v55 main_v56 (cmpf .ole : (⟨S128, .f32⟩ : BufTy).Contents (Elt F) → (⟨S128, .f32⟩ : BufTy).Contents (Elt F) → (⟨S128, .i1⟩ : BufTy).Contents (Elt F)),
    StableHlo.unary main_v56 main_v57 (broadcastInDim S128x1x1 ![0] bcast_S128_S128x1x1_0 : (⟨S128, .i1⟩ : BufTy).Contents (Elt F) → (⟨S128x1x1, .i1⟩ : BufTy).Contents (Elt F)),
    StableHlo.TRef.unary (.of main_v57 : StableHlo.TRef sig ⟨S128x1x1, .i1⟩) (.of main_call7_v0 : StableHlo.TRef sig ⟨S128x32x8192, .i1⟩) (broadcastInDim S128x32x8192 ![0, 1, 2] bcast_S128x1x1_S128x32x8192_0_1_2),
    StableHlo.TRef.ternary (.of main_call7_v0 : StableHlo.TRef sig ⟨S128x32x8192, .i1⟩) (.of main_v51 : StableHlo.TRef sig ⟨S128x32x8192, .f32⟩) (.of main_arg0 : StableHlo.TRef sig ⟨S128x32x8192, .f32⟩) (.of main_v58 : StableHlo.TRef sig ⟨S128x32x8192, .f32⟩) select,
    StableHlo.TRef.ternary (.of main_v56 : StableHlo.TRef sig ⟨S128, .i1⟩) (.of main_v52 : StableHlo.TRef sig ⟨S128, .f32⟩) (.of main_v18 : StableHlo.TRef sig ⟨S128, .f32⟩) (.of main_v59 : StableHlo.TRef sig ⟨S128, .f32⟩) select ]

end Cert.ReferenceIdeal

end
-- ==== Proof.DrawsMain.lean ====
/- The whole line of the draws: the kernel's operations before its region against the reference's first operations. -/
module

public import proofs.«01_k».proof.Proof.Gen.KernelIdeal.Launch
public import proofs.«01_k».proof.Proof.DrawsSplit
public import proofs.«01_k».proof.Proof.DrawsUniform
public import proofs.«01_k».proof.Proof.DrawsGumbel
public import proofs.«01_k».proof.Proof.DrawsAccept
public import proofs.«01_k».proof.Proof.Tail

@[expose] public section

set_option maxRecDepth 16384
set_option pp.maxSteps 150

noncomputable section

namespace Cert.Draws

open Idealize.ShloMosaic Idealize.ShloMosaic.StableHlo Idealize.SL.Sem Cert.Sim

variable {F : FTy → Type} [FloatOps F]

open Cert.KernelIdeal.Gen in
/-- The kernel's operations before its region, up to the logarithm of the acceptance numbers. -/
abbrev kernelOps : List (HloOp Cert.KernelIdeal.τ Cert.KernelIdeal.sig (Elt F)) :=
  hostOps0 ++ (hostOps0_1 ++ (hostOps0_2 ++ (hostOps0_3 ++ (hostOps0_4 ++ (hostOps0_5 ++ (hostOps0_6 ++
    (hostOps0_7 ++ hostOps0_8.take 1)))))))

section Line

variable {nD : ℕ} {τ : Topo} {sig : RefSig} {Val : EltTy → Type} {Λ : Labels} {A B P : Prog (TpuEff nD τ sig Val Λ .tc) PUnit}
  {o : HloOp τ sig Val} {t : List (HloOp τ sig Val)}

/-- An operation and a line are a line. -/
theorem line_cons (h : P = seq t) : ((hlo rfl o fun _ => .ret (⟨⟩ : PUnit)) >>= fun _ => P) = seq (o :: t) := by
  rw [h]; rfl

/-- A block inside a line, opened. -/
theorem line_assoc (h : (A >>= fun _ => (B >>= fun _ => P)) = seq t) : ((A >>= fun _ => B) >>= fun _ => P) = seq t := by
  rw [bind_assoc]; exact h

/-- A block that ends, opened. -/
theorem line_pure (h : P = seq t) : ((Pure.pure (⟨⟩ : PUnit) : Prog (TpuEff nD τ sig Val Λ .tc) PUnit) >>= fun _ => P) = seq t := by
  rw [pure_bind]; exact h

/-- One operation is a line. -/
theorem line_one : (hlo rfl o fun _ => .ret (⟨⟩ : PUnit) : Prog (TpuEff nD τ sig Val Λ .tc) PUnit) = seq [o] := rfl

end Line

/-- Another name for the number of operations done. -/
theorem _root_.Cert.Sim.Runs.start {nD : ℕ} {τ τ' : Topo} {sig sig' : RefSig} {Val : EltTy → Type} {Λ : Labels} {q : ℕ → ℕ → Bool}
    {k k₀ k' : ℕ} {l : List (HloOp τ sig Val)} {t : List (HloOp τ' sig' Val)} {P : Prog (TpuEff nD τ' sig' Val Λ .tc) PUnit}
    (h : k = k₀) (r : Runs q k₀ k' l P t) : Runs q k k' l P t := h ▸ r

section Lists

variable {nD : ℕ} {τ τ' : Topo} {sig sig' : RefSig} {Val : EltTy → Type} {Λ : Labels} {q : ℕ → ℕ → Bool}
    {k k' : ℕ} {l l₂ : List (HloOp τ sig Val)} {o : HloOp τ sig Val} {t : List (HloOp τ' sig' Val)}
    {P : Prog (TpuEff nD τ' sig' Val Λ .tc) PUnit}

/-- The first operation of a stretch, taken out of it. -/
theorem _root_.Cert.Sim.Runs.into (r : Runs q k k' (o :: (l ++ l₂)) P t) : Runs q k k' ((o :: l) ++ l₂) P t := r

/-- A stretch is over. -/
theorem _root_.Cert.Sim.Runs.out (r : Runs q k k' l₂ P t) : Runs q k k' ([] ++ l₂) P t := r

/-- The first operation of a stretch by itself. -/
theorem _root_.Cert.Sim.Runs.first (r : Runs q k k' [o] P t) : Runs q k k' ((o :: l).take 1) P t := r

end Lists

set_option maxHeartbeats 40000000 in
/-- The kernel's operations before its region follow the reference's operations up to the logarithm of the
    acceptance numbers; what the reference has left is `tailOps`. -/
theorem runs_main (d : Dev Cert.ReferenceIdeal.nD) : Runs q 2 1058 (kernelOps (F := F)) (Cert.ReferenceIdeal.main (F := F) d)
    Cert.ReferenceIdeal.tailOps := by
  delta Cert.ReferenceIdeal.main Cert.ReferenceIdeal.main_part0 kernelOps Cert.KernelIdeal.Gen.hostOps0 Cert.KernelIdeal.Gen.hostOps0_2
    Cert.KernelIdeal.Gen.hostOps0_4 Cert.KernelIdeal.Gen.hostOps0_6 Cert.KernelIdeal.Gen.hostOps0_8
  repeat' first
    | with_reducible refine Runs.assoc ?_
    | (with_reducible refine Runs.append runs_split ?_)
    | (with_reducible refine Runs.append runs_uniform ?_)
    | (with_reducible refine Runs.append runs_gumbel ?_)
    | (with_reducible refine Runs.append runs_accept ?_)
    | (refine Runs.start (k₀ := 12) rfl ?_; with_reducible refine Runs.append runs_split ?_)
    | (refine Runs.start (k₀ := 258) rfl ?_; with_reducible refine Runs.append runs_uniform ?_)
    | (refine Runs.start (k₀ := 525) rfl ?_; with_reducible refine Runs.append runs_gumbel ?_)
    | (refine Runs.start (k₀ := 800) rfl ?_; with_reducible refine Runs.append runs_accept ?_)
    | with_reducible refine Runs.into ?_
    | with_reducible refine Runs.out ?_
    | with_reducible refine Runs.first ?_
    | (with_reducible refine Runs.binary q_inj ?_ ?_ ?_ ?_ ?_); (exact ⟨rfl, rfl, rfl, rfl, rfl⟩); (exact ⟨rfl, rfl, rfl, rfl⟩); (exact ⟨rfl, rfl, rfl, rfl⟩); (exact HEq.rfl)
    | (with_reducible refine Runs.unary q_inj ?_ ?_ ?_ ?_); (exact ⟨rfl, rfl, rfl, rfl, rfl⟩); (exact ⟨rfl, rfl, rfl, rfl⟩); (exact HEq.rfl)
    | (with_reducible refine Runs.nullary q_inj ?_ ?_ ?_); (exact ⟨rfl, rfl, rfl, rfl, rfl⟩); (exact HEq.rfl)
    | (with_reducible refine Runs.reshape q_inj ?_ ?_ ?_); (exact ⟨rfl, rfl, rfl, rfl, rfl⟩); (exact ⟨rfl, rfl, rfl, rfl⟩)
    | (refine Runs.skip (k := 520) (y := Cert.KernelIdeal.main_call2_v0) rfl rfl rfl (fun j => rfl) rfl ?_)
    | (refine Runs.skip (k := 521) (y := Cert.KernelIdeal.main_call2_cst) rfl rfl rfl (fun j => rfl) rfl ?_)
    | (refine Runs.skip (k := 522) (y := Cert.KernelIdeal.main_call2_c) rfl rfl rfl (fun j => rfl) rfl ?_)
    | (refine Runs.skip (k := 523) (y := Cert.KernelIdeal.main_call2_v1_0) rfl rfl rfl (fun j => rfl) rfl ?_)
    | (refine Runs.skip (k := 524) (y := Cert.KernelIdeal.main_v15) rfl rfl rfl (fun j => rfl) rfl ?_)
    | (refine Runs.skip (k := 797) (y := Cert.KernelIdeal.main_v17) rfl rfl rfl (fun j => rfl) rfl ?_)
  refine Runs.done ?_ rfl
  delta Cert.ReferenceIdeal.main_part1 Cert.ReferenceIdeal.tailOps Cert.ReferenceIdeal.fn_argsort.body Cert.ReferenceIdeal.fn_argmax.body
    Cert.ReferenceIdeal.fn_one_hot.body Cert.ReferenceIdeal.fn_where.body Cert.ReferenceIdeal.fn_where_5.body
  repeat' first
    | with_reducible refine line_assoc ?_
    | with_reducible refine line_cons ?_
    | with_reducible refine line_pure ?_
    | exact rfl

end Cert.Draws

end
-- ==== Proof.RefRun.lean ====
/- The reference's run: the draws, whose contents are the kernel's, then the operations after them. -/
module

public import proofs.«01_k».proof.Proof.DrawsMain
public import proofs.«01_k».proof.Proof.Gen.KernelIdeal.Frame
public import Idealize.ShloMosaic.Lib.Quiescent
public import Idealize.ShloMosaic.Lib.Claim

@[expose] public section

set_option maxRecDepth 16384

noncomputable section

namespace Cert.Draws

open Idealize.ShloMosaic Idealize.ShloMosaic.TcCoe Idealize.ShloMosaic.StableHlo Idealize.SL.Sem Cert.Sim

variable {F : FTy → Type} [FloatOps F]

local notation "KVal" => Valuation Cert.KernelIdeal.τ Cert.KernelIdeal.sig (Elt F)
local notation "RVal" => Valuation Cert.ReferenceIdeal.τ Cert.ReferenceIdeal.sig (Elt F)

/-- Contents that agree on the arguments agree before the first operation. -/
theorem agree_start (V : KVal) (V' : RVal)
    (h0 : (V (Proc.devRef .tc Cert.KernelIdeal.main_arg0) : Vec F ⟨3, ![128, 32, 8192]⟩ .f32) = V' (Proc.devRef .tc Cert.ReferenceIdeal.main_arg0))
    (h1 : (V (Proc.devRef .tc Cert.KernelIdeal.main_arg1) : Vec F ⟨2, ![32, 8192]⟩ .f32) = V' (Proc.devRef .tc Cert.ReferenceIdeal.main_arg1)) :
    Agree q 2 V V' := by
  intro a b ha hb hk hq
  simp only [q, Bool.or_eq_true, Bool.and_eq_true, Nat.blt_eq, Nat.ble_eq, Nat.beq_eq] at hq
  have hab : a.idx.val = b.idx.val := by omega
  have hc : a.idx.val = 0 ∨ a.idx.val = 1 := by omega
  rcases hc with hc | hc
  · have e : a = Cert.KernelIdeal.main_arg0 := ref_ext (ha.trans rfl) (hc.trans rfl)
    have e' : b = Cert.ReferenceIdeal.main_arg0 := ref_ext (hb.trans rfl) ((hab.symm.trans hc).trans rfl)
    subst e; subst e'; exact heq_of_eq h0
  · have e : a = Cert.KernelIdeal.main_arg1 := ref_ext (ha.trans rfl) (hc.trans rfl)
    have e' : b = Cert.ReferenceIdeal.main_arg1 := ref_ext (hb.trans rfl) ((hab.symm.trans hc).trans rfl)
    subst e; subst e'; exact heq_of_eq h1

/-- The reference's operations up to the draws. -/
def headOps (d : Dev Cert.ReferenceIdeal.nD) : List (HloOp Cert.ReferenceIdeal.τ Cert.ReferenceIdeal.sig (Elt F)) :=
  (runs_main (F := F) d).choose

theorem main_eq (d : Dev Cert.ReferenceIdeal.nD) :
    Cert.ReferenceIdeal.main (F := F) d = seq (headOps d ++ Cert.ReferenceIdeal.tailOps) :=
  (runs_main (F := F) d).choose_spec.1

theorem head_ok (d : Dev Cert.ReferenceIdeal.nD) : ∀ o ∈ headOps (F := F) d, o.bufs ⊆ tcRefs _ _ ∧ o.fresh = ∅ :=
  (runs_main (F := F) d).choose_spec.2.1

theorem head_agree (d : Dev Cert.ReferenceIdeal.nD) (V : KVal) (V' : RVal) (h : Agree q 2 V V') :
    Agree q 1058 (after kernelOps V) (after (headOps d) V') :=
  (runs_main (F := F) d).choose_spec.2.2 V V' h

/-- Corresponding buffers that hold vectors of one type hold the same vector. -/
theorem agree_read {V : KVal} {V' : RVal} (h : Agree q 1058 V V') (a : Ref Cert.KernelIdeal.sig .tc) (b : Ref Cert.ReferenceIdeal.sig .tc)
    (ha : a.space = .hbm) (hb : b.space = .hbm) (hk : (Nat.blt a.idx.val 1058 && q a.idx.val b.idx.val) = true) :
    HEq (V (Proc.devRef .tc a)) (V' (Proc.devRef .tc b)) :=
  h a b ha hb (Nat.blt_eq.mp (Bool.and_eq_true_iff.mp hk).1) (Bool.and_eq_true_iff.mp hk).2

/-- The contents the kernel's region finds are those after `kernelOps` and one more operation. -/
theorem V0_eq (m : (ℓ : Loc Cert.KernelIdeal.nD Cert.KernelIdeal.τ Cert.KernelIdeal.sig) → Buf (Elt F) ℓ) (c : Dev Cert.KernelIdeal.nD) :
    Cert.KernelIdeal.Gen.V0 m c = after (Cert.KernelIdeal.Gen.hostOps0_8.drop 1) (after kernelOps (fun b => m (c, b))) := by
  rw [← after_app]
  unfold Cert.KernelIdeal.Gen.V0 kernelOps
  congr 1

/-- The last operation before the region writes the narrowed weights alone. -/
theorem last_of_ne (W : KVal) (b : Ref Cert.KernelIdeal.sig .tc) (hb : b ≠ Cert.KernelIdeal.main_v20) :
    after (Cert.KernelIdeal.Gen.hostOps0_8.drop 1) W (Proc.devRef .tc b) = W (Proc.devRef .tc b) := by
  refine after_of_forall_not_mem _ _ fun op ho => ?_
  obtain rfl := List.mem_singleton.mp ho
  rw [unary_writes, Finset.mem_singleton]
  exact devRef_ne_of_ne hb

/-- A buffer other than the narrowed weights: what the region finds is what `kernelOps` left. -/
theorem V0_of_ne (m : (ℓ : Loc Cert.KernelIdeal.nD Cert.KernelIdeal.τ Cert.KernelIdeal.sig) → Buf (Elt F) ℓ) (c : Dev Cert.KernelIdeal.nD)
    (b : Ref Cert.KernelIdeal.sig .tc) (hb : b ≠ Cert.KernelIdeal.main_v20) :
    Cert.KernelIdeal.Gen.V0 m c (Proc.devRef .tc b) = after kernelOps (fun b => m (c, b)) (Proc.devRef .tc b) := by
  rw [V0_eq]
  generalize after kernelOps (fun b => m (c, b)) = W
  exact last_of_ne W b hb

theorem tail_sub : (Cert.ReferenceIdeal.tailOps (F := F)).Forall fun op => op.bufs ⊆ tcRefs _ _ :=
    ⟨binary_bufs_sub .., nullary_bufs_sub .., unary_bufs_sub .., binary_bufs_sub .., nullary_bufs_sub .., binary_bufs_sub ..,
    binary_bufs_sub .., unary_bufs_sub .., nullary_bufs_sub .., unary_bufs_sub .., nullary_bufs_sub .., unary_bufs_sub .., nullary_bufs_sub
    .., unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub .., ternary_bufs_sub
    .., unary_bufs_sub .., unary_bufs_sub .., binary_bufs_sub .., nullary_bufs_sub .., unary_bufs_sub .., ternary_bufs_sub ..,
    unary_bufs_sub .., unary_bufs_sub .., binary_bufs_sub .., unary_bufs_sub .., unary_bufs_sub .., nullary_bufs_sub .., unary_bufs_sub ..,
    binary_bufs_sub .., binary_bufs_sub .., nullary_bufs_sub .., nullary_bufs_sub .., nullary_bufs_sub .., quaternary_bufs_sub ..,
    quaternary_bufs_sub .., unary_bufs_sub .., nullary_bufs_sub .., unary_bufs_sub .., unary_bufs_sub .., binary_bufs_sub .., unary_bufs_sub
    .., unary_bufs_sub .., binary_bufs_sub .., binary_bufs_sub .., nullary_bufs_sub .., unary_bufs_sub .., binary_bufs_sub ..,
    binary_bufs_sub .., unary_bufs_sub .., unary_bufs_sub .., ternary_bufs_sub .., ternary_bufs_sub ..⟩

theorem tail_fresh : ∀ op ∈ Cert.ReferenceIdeal.tailOps (F := F), op.fresh = ∅ :=
  List.forall_iff_forall_mem.mp (show (Cert.ReferenceIdeal.tailOps (F := F)).Forall fun op => op.fresh = ∅ from
        ⟨rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩)

/-- The reference's run: every buffer ends at what the operations make of the launch contents. -/
theorem run_ref (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F))) ⟨m, fun _ => 0, ρ⟩ fun r =>
      ∀ (c : Dev Cert.ReferenceIdeal.nD) (b : Ref Cert.ReferenceIdeal.sig .tc), r.2.mem ((c.tc : Thread Cert.ReferenceIdeal.nD Cert.ReferenceIdeal.τ).loc b)
        = after Cert.ReferenceIdeal.tailOps (after (headOps c) (launchContents m c)) (Proc.devRef .tc b) :=
  (θ_run _ _ _).mono (fun r h c b => by rw [h c b, after_app])
    (run_seq (by decide +kernel) (by decide +kernel) Cert.ReferenceIdeal.defs Cert.ReferenceIdeal.main (fun d => headOps d ++ Cert.ReferenceIdeal.tailOps) main_eq
      (fun d => List.forall_append.mpr ⟨List.forall_iff_forall_mem.mpr fun o ho => (head_ok d o ho).1, tail_sub⟩) m ρ
      (fun d op ho => (List.mem_append.mp ho).elim (fun h => (head_ok d op h).2) (tail_fresh op)))

/-! ### The reference leaves its arguments alone -/

/-- An operation keeps a buffer that it does not write. -/
theorem keeps {y b : Ref Cert.ReferenceIdeal.sig .tc} {o : HloOp Cert.ReferenceIdeal.τ Cert.ReferenceIdeal.sig (Elt F)}
    (hw : o.writes = {Proc.devRef .tc y}) (hb : Nat.beq b.idx.val 0 = true ∨ Nat.beq b.idx.val 1 = true)
    (hy : Nat.blt 1 y.idx.val = true := by rfl) : Proc.devRef .tc b ∉ o.writes := by
  rw [hw, Finset.mem_singleton]
  refine devRef_ne_of_ne fun h => ?_
  subst h
  simp only [Nat.beq_eq, Nat.blt_eq] at hb hy
  omega

/-- The operations after the draws write neither argument. -/
theorem tail_keeps (b : Ref Cert.ReferenceIdeal.sig .tc) (hb : Nat.beq b.idx.val 0 = true ∨ Nat.beq b.idx.val 1 = true) (V : RVal) :
    after Cert.ReferenceIdeal.tailOps V (Proc.devRef .tc b) = V (Proc.devRef .tc b) :=
  after_of_forall_not_mem (b := Proc.devRef .tc b) _ _ (List.forall_iff_forall_mem.mp
    (show (Cert.ReferenceIdeal.tailOps (F := F)).Forall fun op => Proc.devRef .tc b ∉ op.writes from ⟨
    keeps (binary_writes ..) hb, keeps (nullary_writes ..) hb, keeps (unary_writes ..) hb, keeps (binary_writes ..) hb, keeps
    (nullary_writes ..) hb, keeps (binary_writes ..) hb, keeps (binary_writes ..) hb, keeps (unary_writes ..) hb, keeps (nullary_writes
    ..) hb, keeps (unary_writes ..) hb, keeps (nullary_writes ..) hb, keeps (unary_writes ..) hb, keeps (nullary_writes ..) hb, keeps
    (unary_writes ..) hb, keeps (binary_writes ..) hb, keeps (nullary_writes ..) hb, keeps (unary_writes ..) hb, keeps (binary_writes
    ..) hb, keeps (ternary_writes ..) hb, keeps (nullary_writes ..) hb, keeps (unary_writes ..) hb, keeps (binary_writes ..) hb, keeps
    (nullary_writes ..) hb, keeps (unary_writes ..) hb, keeps (binary_writes ..) hb, keeps (ternary_writes ..) hb, keeps (unary_writes
    ..) hb, keeps (unary_writes ..) hb, keeps (binary_writes ..) hb, keeps (nullary_writes ..) hb, keeps (unary_writes ..) hb, keeps
    (ternary_writes ..) hb, keeps (unary_writes ..) hb, keeps (unary_writes ..) hb, keeps (binary_writes ..) hb, keeps (unary_writes
    ..) hb, keeps (unary_writes ..) hb, keeps (nullary_writes ..) hb, keeps (unary_writes ..) hb, keeps (binary_writes ..) hb, keeps
    (binary_writes ..) hb, keeps (nullary_writes ..) hb, keeps (nullary_writes ..) hb, keeps (nullary_writes ..) hb, keeps
    (quaternary_writes ..) hb, keeps (quaternary_writes ..) hb, keeps (unary_writes ..) hb, keeps (nullary_writes ..) hb, keeps
    (unary_writes ..) hb, keeps (unary_writes ..) hb, keeps (binary_writes ..) hb, keeps (unary_writes ..) hb, keeps (unary_writes ..)
    hb, keeps (binary_writes ..) hb, keeps (binary_writes ..) hb, keeps (nullary_writes ..) hb, keeps (unary_writes ..) hb, keeps
    (binary_writes ..) hb, keeps (binary_writes ..) hb, keeps (unary_writes ..) hb, keeps (unary_writes ..) hb, keeps (ternary_writes
    ..) hb, keeps (ternary_writes ..) hb⟩))

theorem tail_arg0 (V : RVal) : after Cert.ReferenceIdeal.tailOps V (Proc.devRef .tc Cert.ReferenceIdeal.main_arg0)
    = V (Proc.devRef .tc Cert.ReferenceIdeal.main_arg0) := tail_keeps _ (.inl rfl) V

theorem tail_arg1 (V : RVal) : after Cert.ReferenceIdeal.tailOps V (Proc.devRef .tc Cert.ReferenceIdeal.main_arg1)
    = V (Proc.devRef .tc Cert.ReferenceIdeal.main_arg1) := tail_keeps _ (.inr rfl) V

/-- From equal arguments, the draws of the two agree. -/
theorem draws_agree (m : (ℓ : Loc Cert.KernelIdeal.nD Cert.KernelIdeal.τ Cert.KernelIdeal.sig) → Buf (Elt F) ℓ)
    (d : Dev Cert.KernelIdeal.nD) (V' : RVal)
    (h0 : m ((d.tc : Thread Cert.KernelIdeal.nD Cert.KernelIdeal.τ).loc Cert.KernelIdeal.main_arg0) = V' (Proc.devRef .tc Cert.ReferenceIdeal.main_arg0))
    (h1 : m ((d.tc : Thread Cert.KernelIdeal.nD Cert.KernelIdeal.τ).loc Cert.KernelIdeal.main_arg1) = V' (Proc.devRef .tc Cert.ReferenceIdeal.main_arg1)) :
    Agree q 1058 (after kernelOps (fun b => m (d, b))) (after (headOps (F := F) d) V') :=
  head_agree d _ _ (agree_start _ _ h0 h1)

/-- The draws leave the reference's first argument as it was. -/
theorem head_arg0 (m : (ℓ : Loc Cert.KernelIdeal.nD Cert.KernelIdeal.τ Cert.KernelIdeal.sig) → Buf (Elt F) ℓ)
    (d : Dev Cert.KernelIdeal.nD) (V' : RVal)
    (h0 : m ((d.tc : Thread Cert.KernelIdeal.nD Cert.KernelIdeal.τ).loc Cert.KernelIdeal.main_arg0) = V' (Proc.devRef .tc Cert.ReferenceIdeal.main_arg0))
    (h1 : m ((d.tc : Thread Cert.KernelIdeal.nD Cert.KernelIdeal.τ).loc Cert.KernelIdeal.main_arg1) = V' (Proc.devRef .tc Cert.ReferenceIdeal.main_arg1)) :
    after (headOps d) V' (Proc.devRef .tc Cert.ReferenceIdeal.main_arg0) = V' (Proc.devRef .tc Cert.ReferenceIdeal.main_arg0) := by
  have h := agree_read (draws_agree m d V' h0 h1) Cert.KernelIdeal.main_arg0 Cert.ReferenceIdeal.main_arg0 rfl rfl rfl
  rw [← V0_of_ne m d Cert.KernelIdeal.main_arg0 (by decide)] at h
  exact (eq_of_heq h).symm.trans ((Cert.KernelIdeal.Gen.V_main_arg0 m d).trans h0)

/-- The draws leave the reference's second argument as it was. -/
theorem head_arg1 (m : (ℓ : Loc Cert.KernelIdeal.nD Cert.KernelIdeal.τ Cert.KernelIdeal.sig) → Buf (Elt F) ℓ)
    (d : Dev Cert.KernelIdeal.nD) (V' : RVal)
    (h0 : m ((d.tc : Thread Cert.KernelIdeal.nD Cert.KernelIdeal.τ).loc Cert.KernelIdeal.main_arg0) = V' (Proc.devRef .tc Cert.ReferenceIdeal.main_arg0))
    (h1 : m ((d.tc : Thread Cert.KernelIdeal.nD Cert.KernelIdeal.τ).loc Cert.KernelIdeal.main_arg1) = V' (Proc.devRef .tc Cert.ReferenceIdeal.main_arg1)) :
    after (headOps d) V' (Proc.devRef .tc Cert.ReferenceIdeal.main_arg1) = V' (Proc.devRef .tc Cert.ReferenceIdeal.main_arg1) := by
  have h := agree_read (draws_agree m d V' h0 h1) Cert.KernelIdeal.main_arg1 Cert.ReferenceIdeal.main_arg1 rfl rfl rfl
  rw [← V0_of_ne m d Cert.KernelIdeal.main_arg1 (by decide)] at h
  exact (eq_of_heq h).symm.trans ((Cert.KernelIdeal.Gen.V_main_arg1 m d).trans h1)

/-- Some contents of the kernel's memory that hold given arguments. -/
theorem exists_args [∀ e, Nonempty (Elt F e)] (d : Dev Cert.KernelIdeal.nD) (x0 : Vec F ⟨3, ![128, 32, 8192]⟩ .f32) (x1 : Vec F ⟨2, ![32, 8192]⟩ .f32) :
    ∃ m : (ℓ : Loc Cert.KernelIdeal.nD Cert.KernelIdeal.τ Cert.KernelIdeal.sig) → Buf (Elt F) ℓ,
      m ((d.tc : Thread Cert.KernelIdeal.nD Cert.KernelIdeal.τ).loc Cert.KernelIdeal.main_arg0) = x0
      ∧ m ((d.tc : Thread Cert.KernelIdeal.nD Cert.KernelIdeal.τ).loc Cert.KernelIdeal.main_arg1) = x1 := by
  classical
  let m₀ : (ℓ : Loc Cert.KernelIdeal.nD Cert.KernelIdeal.τ Cert.KernelIdeal.sig) → Buf (Elt F) ℓ := fun ℓ _ => Classical.arbitrary _
  refine ⟨Function.update (Function.update m₀ ((d.tc : Thread Cert.KernelIdeal.nD Cert.KernelIdeal.τ).loc Cert.KernelIdeal.main_arg0) x0)
    ((d.tc : Thread Cert.KernelIdeal.nD Cert.KernelIdeal.τ).loc Cert.KernelIdeal.main_arg1) x1, ?_, ?_⟩
  · rw [Function.update_of_ne, Function.update_self]
    intro h
    exact absurd (congrArg Prod.snd h) (devRef_ne_of_ne (by decide))
  · rw [Function.update_self]

/-- The reference runs, leaves its arguments as they were and every semaphore at zero. -/
theorem frame_ref [∀ e, Nonempty (Elt F e)] (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F))) ⟨m, fun _ => 0, ρ⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0 :=
  (θ_run _ _ _).mono (fun r h => ⟨fun c => by
      obtain ⟨mk, e0, e1⟩ := exists_args (F := F) c (launchContents m c (Proc.devRef .tc Cert.ReferenceIdeal.main_arg0))
        (launchContents m c (Proc.devRef .tc Cert.ReferenceIdeal.main_arg1))
      exact ⟨((h c Cert.ReferenceIdeal.main_arg0).trans (tail_arg0 _)).trans (head_arg0 mk c _ e0 e1),
        ((h c Cert.ReferenceIdeal.main_arg1).trans (tail_arg1 _)).trans (head_arg1 mk c _ e0 e1)⟩,
    sem_eq_zero_of_no_sems (by decide) r.2⟩) (run_ref m ρ)

end Cert.Draws

end
-- ==== Proof.KRes.lean ====
/- What the kernel's three results hold. -/
module

public import proofs.«01_k».proof.Proof.Launch
public import Idealize.ShloMosaic.Lib.Pipeline.ArrRel
public import Idealize.ShloMosaic.Lib.Pointwise
public import Idealize.ShloMosaic.Lib.StableHlo.ReadAt

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.Sem
open Idealize.ShloMosaic.Pipeline (Dat RDat Cfg Window BodyObligation cellOf)

variable {F : FTy → Type} [FloatOps F] [∀ e, Nonempty (Elt F e)]

variable (m : (ℓ : Loc nD τ sig) → Buf (Elt F) ℓ) (ρ : Dev nD → PrngReg)

set_option maxHeartbeats 1000000 in
/-- The array of next samples, whole. -/
theorem whole5 (c : Dev nD) (rd : RDat τ (Elt F) Unit ℕ (UR sig nD τ) ℕ cfg0 c)
    (hL : ∀ t X, rd.Leaves 5 t X → leavesAt m c 5 t X) (G : Vec F S128x32x8192 .f32) (hG : rd.ArrAt 5 cfg0.N G) : G = outG m c := by
  obtain ⟨X, hX, hA⟩ := hG.exists_exact
  have e := hA (Function.update (fun _ _ _ => Classical.arbitrary _) 5 X) fun u _ _ => by rw [Function.update_self]
  rw [e]
  refine Dat.arrAt_eq_of_covers (cfg := cfg0) (c := c) (rd.withAfter (Function.update (fun _ _ _ => Classical.arbitrary _) 5 X)) 5 (outG m c) (by decide +kernel) (fun t hf y => ?_)
  rw [RDat.withAfter_after, Function.update_self]
  have h := hL t _ (hX t t.isLt hf)
  generalize X t = X' at h
  have h' : ∀ y : S8x32x8192.Idx, X' y = ofChain m chainOut c (chainNo t (y 0)) (inRow y) := h
  unfold outG
  blk_simp [index5]
  rw [h']
  have e0 : (win0_5.blk t).view.emb y 0 = chainNo t (y 0) := Fin.ext (by blk_simp [index5]; simp [chainNo]; omega)
  have e1 : (win0_5.blk t).view.emb y 1 = y 1 := Fin.ext (by blk_simp [index5])
  have e2 : (win0_5.blk t).view.emb y 2 = y 2 := Fin.ext (by blk_simp [index5])
  rw [e0]
  generalize ofChain m chainOut c (chainNo t (y 0)) = R
  refine congrArg R (funext fun d => ?_)
  fin_cases d
  · rfl
  · exact e1.symm
  · exact e2.symm

set_option maxHeartbeats 1000000 in
/-- The array of energies, whole. -/
theorem whole6 (c : Dev nD) (rd : RDat τ (Elt F) Unit ℕ (UR sig nD τ) ℕ cfg0 c)
    (hL : ∀ t X, rd.Leaves 6 t X → leavesAt m c 6 t X) (G : Vec F S128 .f32) (hG : rd.ArrAt 6 cfg0.N G) : G = enG m c := by
  have hw : (cfg0.win 6).WholeAt (⟨15, by decide⟩ : Fin cfg0.N) := by decide +kernel
  obtain ⟨X, hX, hj⟩ := hG.emb_eq_of_wholeAt hw
  have h : ∀ y : S128.Idx, (y 0).val < 8 * (15 + 1) → X y = enG m c y := hL _ _ hX
  funext j
  exact (hj j).trans (h j (j 0).isLt)

set_option maxHeartbeats 1000000 in
/-- The array of acceptance words, whole. -/
theorem whole7 (c : Dev nD) (rd : RDat τ (Elt F) Unit ℕ (UR sig nD τ) ℕ cfg0 c)
    (hL : ∀ t X, rd.Leaves 7 t X → leavesAt m c 7 t X) (G : Vec F S128 .i32) (hG : rd.ArrAt 7 cfg0.N G) : G = acG m c := by
  have hw : (cfg0.win 7).WholeAt (⟨15, by decide⟩ : Fin cfg0.N) := by decide +kernel
  obtain ⟨X, hX, hj⟩ := hG.emb_eq_of_wholeAt hw
  have h : ∀ y : S128.Idx, (y 0).val < 8 * (15 + 1) → X y = acG m c y := hL _ _ hX
  funext j
  exact (hj j).trans (h j (j 0).isLt)

/-- The lines after the region say which acceptance words are not zero. -/
theorem tail24 (V : Valuation τ sig (Elt F)) :
    (StableHlo.after ([hostOps1] : List (List (HloOp τ sig (Elt F)))).flatten V (Proc.devRef .tc main_v24) : Vec F S128 .i1)
      = fun y => IntOp.cmpi .ne ((V (Proc.devRef .tc main_v21_2) : Vec F S128 .i32) y) 0#32 := by
  simp only [List.flatten_cons, List.flatten_nil, List.append_nil]
  unfold hostOps1
  after_reads_simp
  rfl

/-- From the run's post to the results, for any data that hold the outputs to `leavesAt`. -/
theorem results_of (rd : (c : Dev nD) → RDat τ (Elt F) Unit ℕ (UR sig nD τ) ℕ (cfgs 0) c)
    (h5 : ∀ c t X, (rd c).Leaves 5 t X → leavesAt m c 5 t X) (h6 : ∀ c t X, (rd c).Leaves 6 t X → leavesAt m c 6 t X)
    (h7 : ∀ c t X, (rd c).Leaves 7 t X → leavesAt m c 7 t X) (V₀ : Dev nD → Valuation τ sig (Elt F))
    (h : θ_run defs (onTc (τ := τ) (main (F := F))) (s₀ m ρ) (fun r => ∀ c, Cert.Around.Post cfgs (0 : Fin 1) rd V₀ [hostOps1] r.2 c)) :
    θ_run defs (onTc (τ := τ) (main (F := F))) ⟨m, fun _ => 0, ρ⟩ (fun r => ∀ c : Dev nD,
      r.2.mem ((c.tc : Thread nD τ).loc main_v21_0) = outG m c
      ∧ r.2.mem ((c.tc : Thread nD τ).loc main_v21_1) = enG m c
      ∧ r.2.mem ((c.tc : Thread nD τ).loc main_v24) = (fun y => IntOp.cmpi .ne (acG m c y) 0#32 : Vec F S128 .i1)) :=
  (θ_run defs _ _).mono (fun r h c => by
    obtain ⟨ha, A, hA, hr⟩ := h c
    refine ⟨whole5 m c (rd c) (h5 c) _ (ha 5), whole6 m c (rd c) (h6 c) _ (ha 6), ?_⟩
    refine (hr main_v24 (Pipeline.mem_restRefs_of main_v24 (by decide) (by decide))).trans ?_
    refine (tail24 _).trans ?_
    have e : (Pipeline.withArrays spec0 c (V₀ c) A (Proc.devRef .tc main_v21_2) : Vec F S128 .i32) = A 7 :=
      Pipeline.withArrays_arr spec0 launch0.win.arr_inj c (V₀ c) A 7
    funext y
    exact congrArg (fun z => IntOp.cmpi .ne z 0#32) (congrFun (e.trans (whole7 m c (rd c) (h7 c) _ (hA 7))) y)) h

/-- What data made of exact data leave at a marked window is held to the predicate. -/
theorem leaves_of (c : Dev nD) (d : Dat τ (Elt F) Unit ℕ (UR sig nD τ) ℕ cfg0 c) (fgt : Fin cfg0.W → Bool)
    (Rl : (w : Fin cfg0.W) → Fin cfg0.N → ((cfg0.win w).block.Idx → Elt F (cfg0.win w).elt) → Prop) (w : Fin cfg0.W) (hw : fgt w = true)
    (t : Fin cfg0.N) (X) (h : (d.toRRel fgt Rl).Leaves w t X) : Rl w t X := d.toRRel_leaves hw h

set_option maxHeartbeats 1000000 in
/-- The kernel's three results. -/
theorem results : θ_run defs (onTc (τ := τ) (main (F := F))) ⟨m, fun _ => 0, ρ⟩ (fun r => ∀ c : Dev nD,
      r.2.mem ((c.tc : Thread nD τ).loc main_v21_0) = outG m c
      ∧ r.2.mem ((c.tc : Thread nD τ).loc main_v21_1) = enG m c
      ∧ r.2.mem ((c.tc : Thread nD τ).loc main_v24) = (fun y => IntOp.cmpi .ne (acG m c y) 0#32 : Vec F S128 .i1)) := by
  have h := run_post m ρ
  have h5 : ∀ c t X, (rdat m c).Leaves 5 t X → leavesAt m c 5 t X := fun c t X => leaves_of c (dats m 0 c) marks (leavesAt m c) 5 rfl t X
  have h6 : ∀ c t X, (rdat m c).Leaves 6 t X → leavesAt m c 6 t X := fun c t X => leaves_of c (dats m 0 c) marks (leavesAt m c) 6 rfl t X
  have h7 : ∀ c t X, (rdat m c).Leaves 7 t X → leavesAt m c 7 t X := fun c t X => leaves_of c (dats m 0 c) marks (leavesAt m c) 7 rfl t X
  generalize rdat m = rd at h h5 h6 h7
  exact results_of m ρ rd h5 h6 h7 (V0 m) h

end Cert.KernelIdeal.Gen
end
-- ==== Proof.First.lean ====
/- The first place where a list of values is greatest, and the two ways of finding it: a fold over pairs and a stable sort. -/
module

public import Idealize.ShloMosaic.Lib.SortFacts
public import Idealize.ShloMosaic.PureOps.Ideal.Laws

@[expose] public section

namespace Cert.First

open Idealize.ShloMosaic

/-- `i` is the first place where `s` is greatest. -/
def IsFirst {α : Type} [LinearOrder α] {n : Nat} (s : Fin n → α) (i : Fin n) : Prop :=
  (∀ j, s j ≤ s i) ∧ ∀ j, j < i → s j < s i

/-- There is one such place. -/
theorem IsFirst.unique {α : Type} [LinearOrder α] {n : Nat} {s : Fin n → α} {i j : Fin n} (hi : IsFirst s i) (hj : IsFirst s j) :
    i = j := by
  rcases lt_trichotomy i j with h | h | h
  · exact absurd (hj.2 i h) (not_lt.mpr (hi.1 j))
  · exact h
  · exact absurd (hi.2 j h) (not_lt.mpr (hj.1 i))

/-- One step of the search: the later pair replaces the earlier unless the earlier is greater, or equal with a smaller number. -/
def step {α : Type} [LinearOrder α] (a b : α × BitVec 32) : α × BitVec 32 :=
  if b.1 < a.1 then a else if a.1 = b.1 ∧ a.2.slt b.2 = true then (b.1, a.2) else b

/-- The order of small words is that of their numbers. -/
theorem slt_ofNat {a b : Nat} (ha : a < 2 ^ 31) (hb : b < 2 ^ 31) :
    (BitVec.ofNat 32 a).slt (BitVec.ofNat 32 b) = true ↔ a < b := by
  have h1 : (BitVec.ofNat 32 a).toInt = (a : Int) := by
    rw [BitVec.toInt_eq_toNat_cond, BitVec.toNat_ofNat]; omega
  have h2 : (BitVec.ofNat 32 b).toInt = (b : Int) := by
    rw [BitVec.toInt_eq_toNat_cond, BitVec.toNat_ofNat]; omega
  rw [BitVec.slt, decide_eq_true_eq, h1, h2]; omega

/-- The search over the first `k + 1` values. -/
theorem fold_prefix {α : Type} [LinearOrder α] {n : Nat} (hn : n < 2 ^ 31) (s : Fin n → α) (z : α) (hz : ∀ j, z ≤ s j) :
    ∀ (k : Nat) (hk : k < n), ∃ i : Fin n, i.val ≤ k ∧ (∀ j : Fin n, j.val ≤ k → s j ≤ s i) ∧ (∀ j : Fin n, j < i → s j < s i)
      ∧ (((List.finRange n).take (k + 1)).map fun j => (s j, BitVec.ofNat 32 j.val)).foldl step (z, 0#32)
        = (s i, BitVec.ofNat 32 i.val) := by
  intro k
  induction k with
  | zero =>
    intro hk
    refine ⟨⟨0, hk⟩, le_refl _, fun j hj => ?_, fun j hj => ?_, ?_⟩
    · have : j = ⟨0, hk⟩ := Fin.ext (by simpa using hj)
      rw [this]
    · exact absurd hj (by simp [Fin.lt_def])
    · rw [List.take_add_one]
      have h0 : (List.finRange n)[0]? = some ⟨0, hk⟩ := by
        rw [List.getElem?_eq_getElem (by simpa using hk)]; simp
      rw [h0]
      simp only [List.take_zero, List.nil_append, Option.toList_some, List.map_cons, List.map_nil, List.foldl_cons, List.foldl_nil]
      unfold step
      rw [if_neg (not_lt.mpr (hz _)), if_neg]
      rintro ⟨-, h⟩
      simp at h
  | succ k ih =>
    intro hk
    obtain ⟨i, hik, hmax, hfirst, hf⟩ := ih (by omega)
    have hk1 : (List.finRange n)[k + 1]? = some ⟨k + 1, hk⟩ := by
      rw [List.getElem?_eq_getElem (by simpa using hk)]; simp
    rw [List.take_add_one, hk1]
    simp only [Option.toList_some, List.map_append, List.map_cons, List.map_nil, List.foldl_append, List.foldl_cons, List.foldl_nil, hf]
    have hslt : (BitVec.ofNat 32 i.val).slt (BitVec.ofNat 32 (k + 1)) = true := (slt_ofNat (by omega) (by omega)).mpr (by omega)
    have hcase : ∀ j : Fin n, j.val ≤ k + 1 → j.val ≤ k ∨ j = ⟨k + 1, hk⟩ := fun j hj => by
      rcases Nat.lt_or_ge k j.val with h | h
      · exact .inr (Fin.ext (by dsimp only; omega))
      · exact .inl h
    by_cases h1 : s ⟨k + 1, hk⟩ < s i
    · refine ⟨i, by omega, fun j hj => ?_, hfirst, ?_⟩
      · rcases hcase j hj with h | rfl
        · exact hmax j h
        · exact h1.le
      · unfold step; rw [if_pos h1]
    · by_cases h2 : s i = s ⟨k + 1, hk⟩
      · refine ⟨i, by omega, fun j hj => ?_, hfirst, ?_⟩
        · rcases hcase j hj with h | rfl
          · exact hmax j h
          · exact h2.ge
        · unfold step; rw [if_neg h1, if_pos ⟨h2, hslt⟩]
          simp only [h2]
      · have h3 : s i < s ⟨k + 1, hk⟩ := lt_of_le_of_ne (not_lt.mp h1) h2
        refine ⟨⟨k + 1, hk⟩, le_refl _, fun j hj => ?_, fun j hj => ?_, ?_⟩
        · rcases hcase j hj with h | rfl
          · exact (hmax j h).trans h3.le
          · exact le_refl _
        · exact (hmax j (by have := Fin.lt_def.mp hj; dsimp only at this; omega)).trans_lt h3
        · unfold step; rw [if_neg h1, if_neg (fun h => h2 h.1)]

/-- The search finds the first place where the values are greatest. -/
theorem fold_first {α : Type} [LinearOrder α] {n : Nat} (h0 : 0 < n) (hn : n < 2 ^ 31) (s : Fin n → α) (z : α) (hz : ∀ j, z ≤ s j) :
    ∃ i : Fin n, IsFirst s i
      ∧ (((List.finRange n)).map fun j => (s j, BitVec.ofNat 32 j.val)).foldl step (z, 0#32) = (s i, BitVec.ofNat 32 i.val) := by
  obtain ⟨i, -, hmax, hfirst, hf⟩ := fold_prefix hn s z hz (n - 1) (by omega)
  refine ⟨i, ⟨fun j => hmax j (by omega), hfirst⟩, ?_⟩
  rw [List.take_of_length_le (by simp; omega)] at hf
  exact hf

/-- The head of a stable sort of an increasing list of places is the first place where the values are greatest. -/
theorem head_stableSort {α : Type} [LinearOrder α] {n : Nat} (s : Fin n → α) (before : Fin n → Fin n → Bool)
    (hb : ∀ a b, before a b = true ↔ s b < s a) :
    ∀ l : List (Fin n), l.Pairwise (· < ·) → l ≠ [] →
      ∃ h t, stableSort before l = h :: t ∧ h ∈ l ∧ (∀ j ∈ l, s j ≤ s h) ∧ ∀ j ∈ l, j < h → s j < s h
  | [], _, h => absurd rfl h
  | [a], _, _ => ⟨a, [], rfl, List.mem_singleton.mpr rfl, fun j hj => by rw [List.mem_singleton.mp hj],
      fun j hj h => by rw [List.mem_singleton.mp hj] at h; exact absurd h (lt_irrefl _)⟩
  | a :: b :: l, hp, _ => by
    obtain ⟨h, t, hs, hm, hmax, hfirst⟩ := head_stableSort s before hb (b :: l) (List.pairwise_cons.mp hp).2 (by simp)
    have hlt : a < h := (List.pairwise_cons.mp hp).1 h hm
    have hall := (List.pairwise_cons.mp hp).1
    rw [stableSort, hs, insertBefore]
    by_cases hba : before h a = true
    · have := (hb h a).mp hba
      rw [if_pos hba]
      refine ⟨h, _, rfl, List.mem_cons_of_mem _ hm, fun j hj => ?_, fun j hj hjh => ?_⟩
      · rcases List.mem_cons.mp hj with rfl | hj
        · exact this.le
        · exact hmax j hj
      · rcases List.mem_cons.mp hj with rfl | hj
        · exact this
        · exact hfirst j hj hjh
    · have : s h ≤ s a := not_lt.mp fun h' => hba ((hb h a).mpr h')
      rw [if_neg hba]
      refine ⟨a, _, rfl, List.mem_cons_self, fun j hj => ?_, fun j hj hjh => ?_⟩
      · rcases List.mem_cons.mp hj with rfl | hj
        · exact le_refl _
        · exact (hmax j hj).trans this
      · rcases List.mem_cons.mp hj with rfl | hj
        · exact absurd hjh (lt_irrefl _)
        · exact absurd (hall j hj) (not_lt.mpr hjh.le)

/-- A stable sort puts the first place where the values are greatest at its head. -/
theorem sortedFrom_zero {α : Type} [LinearOrder α] {n : Nat} (s : Fin n → α) (before : Fin n → Fin n → Bool)
    (hb : ∀ a b, before a b = true ↔ s b < s a) (k : Fin n) (hk : k.val = 0) : IsFirst s (sortedFrom before k) := by
  have hne : List.finRange n ≠ [] := by
    intro h
    have := congrArg List.length h
    rw [List.length_finRange, List.length_nil] at this
    have := k.isLt; omega
  obtain ⟨h, t, hs, hm, hmax, hfirst⟩ := head_stableSort s before hb (List.finRange n) (List.pairwise_lt_finRange n) hne
  have he : sortedFrom before k = h := by
    unfold sortedFrom
    rw [List.get_eq_getElem]
    have hs' : sortPositions n before = h :: t := hs
    simp only [Fin.val_cast, hk]
    simp [hs']
  rw [he]
  exact ⟨fun j => hmax j (List.mem_finRange j), fun j => hfirst j (List.mem_finRange j)⟩

end Cert.First
-- ==== Proof.KVal.lean ====
/- What the kernel makes of one chain, over the extended reals. -/
module

public import proofs.«01_k».proof.Proof.Chain
public import proofs.«01_k».proof.Proof.First
public import Idealize.ShloMosaic.Lib.Pointwise
public import Idealize.ShloMosaic.Lib.IdealHost

@[expose] public section

set_option maxRecDepth 16384

noncomputable section

namespace Cert.First

open Idealize.ShloMosaic

/-- The number 115. -/
def scale : EReal := Ideal.ofBits .f32 0x42E60000#32

/-- The score of a letter: its scaled entry, negated where the position is the chosen one, and its noise. -/
def score (chosen : Prop) [Decidable chosen] (x g : EReal) : EReal := (if chosen then -(x * scale) else x * scale) + g

/-- The least of the values is the one that none goes below. -/
theorem fold_minsi {n : Nat} (f : Fin n → BitVec 32) (b : BitVec 32) (i : Fin n) (hb : (f i).toInt ≤ b.toInt)
    (h : ∀ j, (f i).toInt ≤ (f j).toInt) : (Finset.univ : Finset (Fin n)).fold IntOp.minsi b f = f i := by
  apply BitVec.eq_of_toInt_eq
  have hm : ∀ x y : BitVec 32, (IntOp.minsi x y).toInt = min x.toInt y.toInt := fun x y => by
    simp only [IntOp.minsi, BitVec.slt, decide_eq_true_eq]
    split_ifs <;> omega
  rw [← Finset.fold_hom (op := IntOp.minsi) (op' := min) (m := BitVec.toInt) hm]
  apply le_antisymm
  · exact Finset.fold_min_le _ |>.mpr (.inr ⟨i, Finset.mem_univ _, le_refl _⟩)
  · exact (Finset.le_fold_min _).mpr ⟨hb, fun j _ => h j⟩

/-- The greatest of the values. -/
theorem fold_max {n : Nat} (f : Fin n → EReal) (i : Fin n) (h : ∀ j, f j ≤ f i) :
    (Finset.univ : Finset (Fin n)).fold max ⊥ f = f i := by
  apply le_antisymm
  · exact (Finset.fold_max_le _).mpr ⟨bot_le, fun j _ => h j⟩
  · exact (Finset.le_fold_max _).mpr (.inr ⟨i, Finset.mem_univ _, le_refl _⟩)

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]

/-- A small word read signed is its number. -/
theorem toInt_small {a : Nat} (ha : a < 2 ^ 31) : (BitVec.ofNat 32 a).toInt = (a : Int) := by
  rw [BitVec.toInt_eq_toNat_cond, BitVec.toNat_ofNat]; omega

/-- Small words are equal when their numbers are. -/
theorem ofNat_inj {a b : Nat} (ha : a < 2 ^ 31) (hb : b < 2 ^ 31) : BitVec.ofNat 32 a = BitVec.ofNat 32 b ↔ a = b := by
  constructor
  · intro h
    have := congrArg BitVec.toNat h
    rw [BitVec.toNat_ofNat, BitVec.toNat_ofNat] at this
    omega
  · rintro rfl; rfl

end Cert.First

namespace Cert.KernelIdeal.Gen

open Idealize.ShloMosaic Cert.First

/-- A choice by an equality of words. -/
theorem select_eq {α : Type} (x y : BitVec 32) (a b : α) :
    Scalar.select (IntOp.cmpi .eq x y) a b = if x = y then a else b := by
  by_cases h : x = y
  · simp [Scalar.select, IntOp.cmpi, h]
  · have hb : (x == y) = false := by simpa using h
    simp [Scalar.select, IntOp.cmpi, hb, h]

/-- The trace of a matrix summed as its masked entries. -/
theorem trace_sum (f : Fin 32 → Fin 32 → EReal) :
    (∑ x : Fin 32, ∑ y : Fin 32, Scalar.select (IntOp.cmpi .eq (BitVec.ofNat 32 x.val) (BitVec.ofNat 32 y.val)) (f x y) 0) = ∑ x : Fin 32, f x x := by
  refine Finset.sum_congr rfl fun x _ => ?_
  rw [Finset.sum_eq_single x]
  · rw [select_eq, if_pos rfl]
  · intro y _ hy
    rw [select_eq, if_neg]
    rw [ofNat_inj (by omega) (by omega)]
    exact fun h => hy (Fin.ext h.symm)
  · exact fun h => absurd (Finset.mem_univ _) h

/-- The energy of a chain's sample: the sum of its entries times the weights. -/
theorem chainOld_eq (t : Vec Ideal S1x32x8192 .f32) (w : Vec Ideal S32x8192 .bf16) :
    chainOld t w = ∑ a : Fin 32, ∑ l : Fin 8192, t (ix3 0 a l) * w (ix2 a l) := by
  pointwise [chainOld, k0_pay11, k0_pay8, k0_pay9, k0_pay10, k0_pay4, k0_pay5, dot_S32x8192_S32x8192_S32x32_1_1_0_0_n_n]
  exact trace_sum _

/-- The same of any two matrices. -/
theorem pay12_eq (w v : Vec Ideal S32x8192 .bf16) :
    k0_pay12 (F := Ideal) w v = ∑ a : Fin 32, ∑ l : Fin 8192, v (ix2 a l) * w (ix2 a l) := by
  pointwise [k0_pay12, dot_S32x8192_S32x8192_S32x32_1_1_0_0_n_n]
  exact trace_sum _

/-- The weights as read. -/
theorem pay5_eq (w : Vec Ideal S32x8192 .bf16) (a : Fin 32) (l : Fin 8192) : k0_pay5 w (ix2 a l) = w (ix2 a l) := by
  pointwise [k0_pay5]

/-- The proposal in the narrow format is the proposal. -/
theorem pay7_eq (t g : Vec Ideal S1x32x8192 .f32) (p : Elt Ideal .i32) (a : Fin 32) (l : Fin 8192) :
    k0_pay7 t g p (ix2 a l) = k0_pay6 t g p (ix2 a l) := by
  unfold k0_pay7
  generalize k0_pay6 t g p = v
  pointwise

/-- The energy of a chain's proposal, likewise. -/
theorem chainNew_eq (t g : Vec Ideal S1x32x8192 .f32) (w : Vec Ideal S32x8192 .bf16) (p : Elt Ideal .i32) :
    chainNew t g w p = ∑ a : Fin 32, ∑ l : Fin 8192, k0_pay6 t g p (ix2 a l) * w (ix2 a l) := by
  rw [chainNew, pay12_eq]
  simp only [pay5_eq, pay7_eq]

/-- Whether the proposal is accepted. -/
theorem chainFlag_eq (t g : Vec Ideal S1x32x8192 .f32) (w : Vec Ideal S32x8192 .bf16) (p : Elt Ideal .i32) (u : Elt Ideal .f32) :
    chainFlag t g w p u = BitVec.ofBool (decide ((u : EReal) ≤ chainOld t w - chainNew t g w p)) := rfl

/-- The proposal: one at the first letter with the greatest score, zero at the others. -/
theorem pay6_eq (t g : Vec Ideal S1x32x8192 .f32) (p : Elt Ideal .i32) (a : Fin 32) (l : Fin 8192) (i : Fin 32)
    (hi : IsFirst (fun a => score (BitVec.ofNat 32 l.val = p) (t (ix3 0 a l)) (g (ix3 0 a l))) i) :
    k0_pay6 t g p (ix2 a l) = if a = i then (1 : EReal) else 0 := by
  pointwise [k0_pay6, k0_pay4]
  have hs : ∀ x : Fin 32, Scalar.select (IntOp.cmpi CmpIPredicate.eq (BitVec.ofNat 32 l.val) p)
      (0 - t (ix3 0 x l) * Ideal.ofBits FTy.f32 1122369536#32) (t (ix3 0 x l) * Ideal.ofBits FTy.f32 1122369536#32) + g (ix3 0 x l)
      = score (BitVec.ofNat 32 l.val = p) (t (ix3 0 x l)) (g (ix3 0 x l)) := fun x => by
    rw [select_eq, zero_sub]; rfl
  simp only [hs, ofBits_bot]
  rw [fold_max _ i hi.1]
  have hm := fold_minsi (fun x : Fin 32 => if score (BitVec.ofNat 32 l.val = p) (t (ix3 0 x l)) (g (ix3 0 x l))
      = score (BitVec.ofNat 32 l.val = p) (t (ix3 0 i l)) (g (ix3 0 i l)) then BitVec.ofNat 32 x.val else 32#32) 2147483647#32 i
    (by rw [if_pos rfl, toInt_small (by omega)]; have := i.isLt; simp; omega)
    (fun j => by
      rw [if_pos rfl, toInt_small (by omega)]
      split_ifs with h
      · rw [toInt_small (by omega)]
        have : ¬ j < i := fun hj => absurd h (hi.2 j hj).ne
        have := Fin.le_def.mp (not_lt.mp this)
        omega
      · have := i.isLt
        rw [toInt_small (by omega)]
        show (i.val : Int) ≤ 32
        omega)
  rw [if_pos rfl] at hm
  rw [hm, select_eq]
  simp only [ofNat_inj (show a.val < 2 ^ 31 by omega) (show i.val < 2 ^ 31 by omega), Fin.ext_iff]

/-- A chain's next sample: the proposal if accepted, else the sample. -/
theorem chainOut_eq (t g : Vec Ideal S1x32x8192 .f32) (w : Vec Ideal S32x8192 .bf16) (p : Elt Ideal .i32) (u : Elt Ideal .f32)
    (a : Fin 32) (l : Fin 8192) :
    chainOut t g w p u (ix3 0 a l) = Scalar.select (chainFlag t g w p u) (k0_pay6 t g p (ix2 a l)) (t (ix3 0 a l)) := by
  unfold chainOut
  pointwise [k0_pay4]

end Cert.KernelIdeal.Gen
end
-- ==== Proof.Arg.lean ====
/- The first greatest or least place of a row as the two programs find it. -/
module

public import proofs.«01_k».proof.KernelIdeal
public import proofs.«01_k».proof.ReferenceIdeal
public import proofs.«01_k».proof.Proof.First
public import Idealize.ShloMosaic.Lib.Pointwise

@[expose] public section

set_option maxRecDepth 16384

namespace Cert.First

open Idealize.ShloMosaic

/-- The fiber of a reduction, listed: its places in the order of a map that runs up the row-major positions. -/
theorem fiber_list {α β : Type} {s t : Shape} {axes : List (Fin s.rank)} (h : s.ReducesTo axes t) (j : t.Idx) {n : Nat} (g : Fin n → s.Idx)
    (hg : ∀ k k' : Fin n, k < k' → s.rowMajor (g k) < s.rowMajor (g k')) (hp : ∀ i, h.drop i = j ↔ ∃ k, g k = i)
    (x : s.Idx → α) (y : s.Idx → β) :
    Host.argReduceFiber x y h j = (List.finRange n).map fun k => (x (g k), y (g k)) := by
  have hl : ((List.finRange s.numel).filter fun n => h.drop (s.rowMajor.symm n) = j) = (List.finRange n).map fun k => s.rowMajor (g k) := by
    have h1 : ((List.finRange s.numel).filter fun n => h.drop (s.rowMajor.symm n) = j).Pairwise (· < ·) :=
      (List.pairwise_lt_finRange _).filter _
    have h2 : ((List.finRange n).map fun k => s.rowMajor (g k)).Pairwise (· < ·) := by
      rw [List.pairwise_map]
      exact (List.pairwise_lt_finRange n).imp fun {a b} hab => hg a b hab
    refine List.Perm.eq_of_pairwise (le := (· < ·)) (fun a b _ _ ha hb => absurd ha (lt_asymm hb)) h1 h2 ?_
    rw [List.perm_ext_iff_of_nodup (h1.imp fun h => h.ne) (h2.imp fun h => h.ne)]
    intro a
    simp only [List.mem_filter, List.mem_finRange, true_and, decide_eq_true_eq, List.mem_map, hp]
    exact ⟨fun ⟨k, hk⟩ => ⟨k, by rw [hk]; simp⟩, fun ⟨k, hk⟩ => ⟨k, by rw [← hk]; simp⟩⟩
  rw [Host.argReduceFiber, hl, List.map_map]
  refine List.map_congr_left fun k _ => ?_
  simp

/-- The reference's step of the search for the greatest. -/
theorem argmax_step (a b : EReal × BitVec 32) : ReferenceIdeal.reducer_argmax_f32_i32 (F := Ideal) a b = step a b := by
  obtain ⟨a1, a2⟩ := a
  obtain ⟨b1, b2⟩ := b
  unfold ReferenceIdeal.reducer_argmax_f32_i32 step
  simp only [Ideal.cmpf_def, Ideal.cmp, Scalar.select, IntOp.ori, IntOp.andi, IntOp.cmpi]
  by_cases h1 : b1 < a1
  · by_cases h2 : a1 = b1 <;> by_cases h3 : a2.slt b2 = true <;> simp [h1, h2, h3]
  · by_cases h2 : a1 = b1
    · by_cases h3 : a2.slt b2 = true
      · simp [h2, h3]
      · simp [h2, h3]
    · simp [h1, h2]

/-- The kernel's step of the search for the least. -/
theorem argmin_step (a b : EReal × BitVec 32) :
    KernelIdeal.reducer_argmin_f32_i32 (F := Ideal) a b = step (α := ERealᵒᵈ) a b := by
  obtain ⟨a1, a2⟩ := a
  obtain ⟨b1, b2⟩ := b
  have hs : step (α := ERealᵒᵈ) (a1, a2) (b1, b2)
      = (if a1 < b1 then (a1, a2) else if a1 = b1 ∧ a2.slt b2 = true then (b1, a2) else (b1, b2) : EReal × BitVec 32) := rfl
  refine Eq.trans ?_ hs.symm
  unfold KernelIdeal.reducer_argmin_f32_i32
  simp only [Ideal.cmpf_def, Ideal.cmp, Scalar.select, IntOp.ori, IntOp.andi, IntOp.cmpi]
  by_cases h1 : a1 < b1
  · by_cases h2 : a1 = b1 <;> by_cases h3 : a2.slt b2 = true <;> simp [h1, h2, h3]
  · by_cases h2 : a1 = b1
    · by_cases h3 : a2.slt b2 = true
      · simp [h2, h3]
      · simp [h2, h3]
    · simp [h1, h2]

open ReferenceIdeal in
/-- The letter the reference chooses at a place: the first with the greatest score. -/
theorem argmax_first (x : Vec Ideal S128x8192x32 .f32) (b : Fin 128) (l : Fin 8192) (u : Vec Ideal S_ .f32) (v : Vec Ideal S_ .i32)
    (h : S128x8192x32.ReducesTo [2] S128x8192) (hu : 0 < S_.numel)
    (hu0 : u (Shape.Idx.first hu) = (⊥ : EReal)) (hv0 : v (Shape.Idx.first hu) = 0#32) :
    ∃ i : Fin 32, IsFirst (α := EReal) (fun a => x (ix3 b l a)) i
      ∧ (Host.argReduce (reducer_argmax_f32_i32 (F := Ideal)) x (iotaInDim S128x8192x32 32 2) u v h hu (ix2 b l)).2 = BitVec.ofNat 32 i.val := by
  obtain ⟨i, hi, hf⟩ := fold_first (α := EReal) (n := 32) (by omega) (by omega) (fun a => x (ix3 b l a)) ⊥ (fun _ => bot_le)
  refine ⟨i, hi, ?_⟩
  rw [Ideal.argReduce_eq_reduce2, Host.reduce2_eq_foldl_fiber, hu0, hv0,
    fiber_list h (ix2 b l) (fun k : Fin 32 => ix3 b l k)
      (fun k k' hk => by
        rw [Fin.lt_def, Shape.rowMajor_val_three, Shape.rowMajor_val_three]
        have := Fin.lt_def.mp hk
        show _ + k.val < _ + k'.val
        exact Nat.add_lt_add_left this _)
      (fun i => h.fiber_r3_a2 (ix2 b l) i),
    show (reducer_argmax_f32_i32 (F := Ideal)) = step from funext fun a => funext fun b => argmax_step a b]
  exact congrArg Prod.snd hf

open KernelIdeal in
/-- The position the kernel's program chooses for a chain: the first with the least draw. -/
theorem argmin_first (x : Vec Ideal S128x8192 .f32) (b : Fin 128) (u : Vec Ideal S_ .f32) (v : Vec Ideal S_ .i32)
    (h : S128x8192.ReducesTo [1] S128) (hu : 0 < S_.numel)
    (hu0 : u (Shape.Idx.first hu) = (⊤ : EReal)) (hv0 : v (Shape.Idx.first hu) = 0#32) :
    ∃ i : Fin 8192, IsFirst (α := ERealᵒᵈ) (fun l => x (ix2 b l)) i
      ∧ (Host.argReduce (reducer_argmin_f32_i32 (F := Ideal)) x (iotaInDim S128x8192 32 1) u v h hu (ix1 b)).2 = BitVec.ofNat 32 i.val := by
  obtain ⟨i, hi, hf⟩ := fold_first (α := ERealᵒᵈ) (n := 8192) (by omega) (by omega) (fun l => x (ix2 b l)) (⊤ : EReal) (fun j => le_top (α := EReal) (a := x (ix2 b j)))
  refine ⟨i, hi, ?_⟩
  rw [Ideal.argReduce_eq_reduce2, Host.reduce2_eq_foldl_fiber, hu0, hv0,
    fiber_list h (ix1 b) (fun k : Fin 8192 => ix2 b k)
      (fun k k' hk => by
        rw [Fin.lt_def, Shape.rowMajor_val_two, Shape.rowMajor_val_two]
        have := Fin.lt_def.mp hk
        show _ + k.val < _ + k'.val
        exact Nat.add_lt_add_left this _)
      (fun i => h.fiber_r2_a1 (ix1 b) i),
    show (reducer_argmin_f32_i32 (F := Ideal)) = step (α := ERealᵒᵈ) from funext fun a => funext fun b => argmin_step a b]
  exact congrArg Prod.snd hf

open ReferenceIdeal in
/-- The position the reference chooses for a chain: the first with the least draw. -/
theorem sort_first (x : Vec Ideal S128x8192 .f32) (b : Fin 128) :
    ∃ i : Fin 8192, IsFirst (α := ERealᵒᵈ) (fun l => x (ix2 b l)) i
      ∧ (Host.sort2 S128x8192 1 (comparator_f32_i32_d1 (F := Ideal)) x (iotaInDim S128x8192 32 1)).2 (ix2 b 0) = BitVec.ofNat 32 i.val := by
  have hc : ∀ l r : EReal × BitVec 32, comparator_f32_i32_d1 (F := Ideal) l r = BitVec.ofBool (decide (l.1 < r.1)) := by
    rintro ⟨l, l2⟩ ⟨r, r2⟩
    unfold comparator_f32_i32_d1
    simp only [Ideal.cmpf_def, Ideal.cmpfTotal_def, Ideal.cmp, Scalar.select, CmpDirection.ordered]
    by_cases h1 : l = 0 <;> by_cases h2 : r = 0 <;> simp [h1, h2]
  have ha : ∀ k : Fin 8192, Shape.Idx.along (s := S128x8192) (ix2 b 0) 1 k = ix2 b k := fun k => by
    funext a; fin_cases a <;> rfl
  have hi : ∀ k : Fin 8192, iotaInDim S128x8192 32 1 (Shape.Idx.along (s := S128x8192) (ix2 b 0) 1 k) = BitVec.ofNat 32 k.val := fun k => by
    rw [ha]
    pointwise
  have hx : ∀ k : Fin 8192, x (Shape.Idx.along (s := S128x8192) (ix2 b 0) 1 k) = x (ix2 b k) := fun k => by rw [ha]
  have hs : (Host.sort2 S128x8192 1 (comparator_f32_i32_d1 (F := Ideal)) x (iotaInDim S128x8192 32 1)).2 (ix2 b 0)
      = iotaInDim S128x8192 32 1 (Shape.Idx.along (s := S128x8192) (ix2 b 0) 1 (sortedFrom (fun k k' : Fin 8192 =>
        comparator_f32_i32_d1 (F := Ideal) (x (Shape.Idx.along (s := S128x8192) (ix2 b 0) 1 k), iotaInDim S128x8192 32 1 (Shape.Idx.along (s := S128x8192) (ix2 b 0) 1 k))
          (x (Shape.Idx.along (s := S128x8192) (ix2 b 0) 1 k'), iotaInDim S128x8192 32 1 (Shape.Idx.along (s := S128x8192) (ix2 b 0) 1 k')) == 1#1) (0 : Fin 8192))) := rfl
  have hb : ∀ k k' : Fin 8192, (comparator_f32_i32_d1 (F := Ideal) (x (Shape.Idx.along (s := S128x8192) (ix2 b 0) 1 k), iotaInDim S128x8192 32 1 (Shape.Idx.along (s := S128x8192) (ix2 b 0) 1 k))
          (x (Shape.Idx.along (s := S128x8192) (ix2 b 0) 1 k'), iotaInDim S128x8192 32 1 (Shape.Idx.along (s := S128x8192) (ix2 b 0) 1 k')) == 1#1) = true ↔ x (ix2 b k) < x (ix2 b k') := fun k k' => by
    rw [hc, hx, hx]
    by_cases h : x (ix2 b k) < x (ix2 b k') <;> simp [h]
  generalize hf : (fun k k' : Fin 8192 => comparator_f32_i32_d1 (F := Ideal) (x (Shape.Idx.along (s := S128x8192) (ix2 b 0) 1 k), iotaInDim S128x8192 32 1 (Shape.Idx.along (s := S128x8192) (ix2 b 0) 1 k))
          (x (Shape.Idx.along (s := S128x8192) (ix2 b 0) 1 k'), iotaInDim S128x8192 32 1 (Shape.Idx.along (s := S128x8192) (ix2 b 0) 1 k')) == 1#1) = f at hs
  have hb' : ∀ k k' : Fin 8192, f k k' = true ↔ x (ix2 b k) < x (ix2 b k') := fun k k' => by rw [← hf]; exact hb k k'
  exact ⟨sortedFrom f (0 : Fin 8192), sortedFrom_zero (α := ERealᵒᵈ) (fun l => x (ix2 b l)) f hb' 0 rfl, hs.trans (hi _)⟩

end Cert.First
end
-- ==== Proof.Link.lean ====
/- What the kernel's launch finds in its buffers, over the extended reals. -/
module

public import proofs.«01_k».proof.Proof.KRes
public import proofs.«01_k».proof.Proof.KVal
public import proofs.«01_k».proof.Proof.Arg
public import proofs.«01_k».proof.Proof.RefRun

@[expose] public section

set_option maxRecDepth 16384

noncomputable section

namespace Cert.KernelIdeal.Gen

open Idealize.ShloMosaic Idealize.ShloMosaic.TcCoe Idealize.ShloMosaic.StableHlo

section Keep
variable {F : FTy → Type} [FloatOps F]

set_option maxHeartbeats 40000000 in
/-- The later draws leave the proposal's noise as it is. -/
theorem late_v14 (W : Valuation τ sig (Elt F)) :
    StableHlo.after (List.flatten [hostOps0_5, hostOps0_6, hostOps0_7, hostOps0_8]) W (Proc.devRef .tc main_v14) = W (Proc.devRef .tc main_v14) :=
  StableHlo.after_of_forall_not_mem (b := Proc.devRef .tc main_v14) _ _ (List.forall_iff_forall_mem.mp (by
    simp only [hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- The later draws leave the proposed position as it is. -/
theorem late_v15 (W : Valuation τ sig (Elt F)) :
    StableHlo.after (List.flatten [hostOps0_5, hostOps0_6, hostOps0_7, hostOps0_8]) W (Proc.devRef .tc main_v15) = W (Proc.devRef .tc main_v15) :=
  StableHlo.after_of_forall_not_mem (b := Proc.devRef .tc main_v15) _ _ (List.forall_iff_forall_mem.mp (by
    simp only [hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- The last draws leave the noise as it is. -/
theorem late_v16 (W : Valuation τ sig (Elt F)) :
    StableHlo.after (List.flatten [hostOps0_7, hostOps0_8]) W (Proc.devRef .tc main_v16) = W (Proc.devRef .tc main_v16) :=
  StableHlo.after_of_forall_not_mem (b := Proc.devRef .tc main_v16) _ _ (List.forall_iff_forall_mem.mp (by
    simp only [hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- The last draws leave the reordered noise as it is. -/
theorem late_v17 (W : Valuation τ sig (Elt F)) :
    StableHlo.after (List.flatten [hostOps0_7, hostOps0_8]) W (Proc.devRef .tc main_v17) = W (Proc.devRef .tc main_v17) :=
  StableHlo.after_of_forall_not_mem (b := Proc.devRef .tc main_v17) _ _ (List.forall_iff_forall_mem.mp (by
    simp only [hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Keep

/-- A run of nine lists, cut before the fifth and after it. -/
theorem cut4 {F : FTy → Type} [FloatOps F] (l0 l1 l2 l3 l4 l5 l6 l7 l8 : List (HloOp τ sig (Elt F))) (W : Valuation τ sig (Elt F)) :
    after (List.flatten [l0, l1, l2, l3, l4, l5, l6, l7, l8]) W = after (List.flatten [l5, l6, l7, l8]) (after l4 (after (List.flatten [l0, l1, l2, l3]) W)) := by
  simp only [List.flatten_cons, List.flatten_nil, Cert.Sim.after_app]
  rfl

/-- A run of nine lists, cut before the seventh and after it. -/
theorem cut6 {F : FTy → Type} [FloatOps F] (l0 l1 l2 l3 l4 l5 l6 l7 l8 : List (HloOp τ sig (Elt F))) (W : Valuation τ sig (Elt F)) :
    after (List.flatten [l0, l1, l2, l3, l4, l5, l6, l7, l8]) W = after (List.flatten [l7, l8]) (after l6 (after (List.flatten [l0, l1, l2, l3, l4, l5]) W)) := by
  simp only [List.flatten_cons, List.flatten_nil, Cert.Sim.after_app]
  rfl

/-- The proposal's noise, by chain and position. -/
abbrev dW (W : Valuation τ sig (Elt Ideal)) : Vec Ideal S128x8192 .f32 := W (Proc.devRef .tc main_v14)
/-- The proposed positions, by chain. -/
abbrev pW (W : Valuation τ sig (Elt Ideal)) : Vec Ideal S128 .i32 := W (Proc.devRef .tc main_v15)
/-- The categorical noise, by chain, position and category. -/
abbrev nW (W : Valuation τ sig (Elt Ideal)) : Vec Ideal S128x8192x32 .f32 := W (Proc.devRef .tc main_v16)
/-- The categorical noise, by chain, category and position. -/
abbrev gW (W : Valuation τ sig (Elt Ideal)) : Vec Ideal S128x32x8192 .f32 := W (Proc.devRef .tc main_v17)

/-- Choosing the positions leaves their noise as it is. -/
theorem at4_v14 (W : Valuation τ sig (Elt Ideal)) : dW (after hostOps0_4 W) = dW W :=
  after_of_forall_not_mem (b := Proc.devRef .tc main_v14) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

/-- The positions chosen are those of the least noise. -/
theorem at4_v15 (W : Valuation τ sig (Elt Ideal)) (b : Fin 128) :
    ∃ i : Fin 8192, First.IsFirst (α := ERealᵒᵈ) (fun l => dW W (ix2 b l)) i ∧ pW (after hostOps0_4 W) (ix1 b) = BitVec.ofNat 32 i.val := by
  have h0 : (constant (F := Ideal) S_ .f32 0x7F800000#32) (Shape.Idx.first h_S_) = (⊤ : EReal) := by unfold constant; exact First.ofBits_top
  have h1 : (constantI S_ 32 0#32) (Shape.Idx.first h_S_) = 0#32 := by unfold constantI; rfl
  obtain ⟨i, hi, he⟩ := First.argmin_first (dW W) b _ _ reducesTo_S128x8192_S128_d1 h_S_ h0 h1
  refine ⟨i, hi, Eq.trans ?_ he⟩
  have h : pW (after hostOps0_4 W) = fun j => (Host.argReduce (reducer_argmin_f32_i32 (F := Ideal)) (dW W) (iotaInDim S128x8192 32 1)
      (constant (F := Ideal) S_ .f32 0x7F800000#32) (constantI S_ 32 0#32) reducesTo_S128x8192_S128_d1 h_S_ j).2 := by
    unfold hostOps0_4
    after_reads_at
  exact congrFun h (ix1 b)

/-- The reordering leaves the noise as it is. -/
theorem at6_v16 (W : Valuation τ sig (Elt Ideal)) : nW (after hostOps0_6 W) = nW W :=
  after_of_forall_not_mem (b := Proc.devRef .tc main_v16) _ _ (List.forall_iff_forall_mem.mp (by
    simp only [hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact devRef_ne_of_ne (by decide)))

/-- The reordered noise, entry by entry. -/
theorem at6_v17 (W : Valuation τ sig (Elt Ideal)) (b : Fin 128) (a : Fin 32) (l : Fin 8192) :
    gW (after hostOps0_6 W) (ix3 b a l) = nW W (ix3 b l a) := by
  have h : gW (after hostOps0_6 W) = transpose S128x32x8192 [0, 2, 1] (nW W) transposes_S128x8192x32_S128x32x8192_0_2_1 := by
    unfold hostOps0_6
    after_reads_at
  rw [h]
  generalize nW W = x
  pointwise

variable (m : (ℓ : Loc nD τ sig) → Buf (Elt Ideal) ℓ) (c : Dev nD)

/-- The position a chain flips is that of its least noise. -/
theorem pos_first (b : Fin 128) : ∃ i : Fin 8192, First.IsFirst (α := ERealᵒᵈ) (fun l => dW (V0 m c) (ix2 b l)) i ∧ pW (V0 m c) (ix1 b) = BitVec.ofNat 32 i.val := by
  rw [show V0 m c = _ from cut4 hostOps0 hostOps0_1 hostOps0_2 hostOps0_3 hostOps0_4 hostOps0_5 hostOps0_6 hostOps0_7 hostOps0_8 (fun b => m (c, b))]
  generalize after (List.flatten [hostOps0, hostOps0_1, hostOps0_2, hostOps0_3]) (fun b => m (c, b)) = W
  have e1 : dW (after (List.flatten [hostOps0_5, hostOps0_6, hostOps0_7, hostOps0_8]) (after hostOps0_4 W)) = dW W :=
    (late_v14 _).trans (at4_v14 W)
  have e2 : pW (after (List.flatten [hostOps0_5, hostOps0_6, hostOps0_7, hostOps0_8]) (after hostOps0_4 W)) = pW (after hostOps0_4 W) :=
    late_v15 _
  rw [e1, e2]
  exact at4_v15 W b

/-- The launch finds the categorical noise with its last two axes exchanged. -/
theorem noise_eq (b : Fin 128) (a : Fin 32) (l : Fin 8192) : gW (V0 m c) (ix3 b a l) = nW (V0 m c) (ix3 b l a) := by
  rw [show V0 m c = _ from cut6 hostOps0 hostOps0_1 hostOps0_2 hostOps0_3 hostOps0_4 hostOps0_5 hostOps0_6 hostOps0_7 hostOps0_8 (fun b => m (c, b))]
  generalize after (List.flatten [hostOps0, hostOps0_1, hostOps0_2, hostOps0_3, hostOps0_4, hostOps0_5]) (fun b => m (c, b)) = W
  have e1 : nW (after (List.flatten [hostOps0_7, hostOps0_8]) (after hostOps0_6 W)) = nW W := (late_v16 _).trans (at6_v16 W)
  have e2 : gW (after (List.flatten [hostOps0_7, hostOps0_8]) (after hostOps0_6 W)) = gW (after hostOps0_6 W) := late_v17 _
  rw [e1, e2]
  exact at6_v17 W b a l

/-- The weights, as the launch finds them. -/
abbrev wW (W : Valuation τ sig (Elt Ideal)) : Vec Ideal S32x8192 .bf16 := W (Proc.devRef .tc main_v20)
/-- The weights, as the arguments give them. -/
abbrev aW (W : Valuation τ sig (Elt Ideal)) : Vec Ideal S32x8192 .f32 := W (Proc.devRef .tc main_arg1)

/-- The narrowed weights are the weights. -/
theorem last_v20 (W : Valuation τ sig (Elt Ideal)) (a : Fin 32) (l : Fin 8192) :
    wW (after (hostOps0_8.drop 1) W) (ix2 a l) = aW W (ix2 a l) := by
  have h : wW (after (hostOps0_8.drop 1) W) = truncf (F := Ideal) (s := S32x8192) (φ := .f32) .bf16 (aW W) bitsLt_bf16_f32 := by
    unfold hostOps0_8
    simp only [List.drop]
    after_reads_at
  rw [h]
  generalize aW W = x
  pointwise

/-- The launch finds the weights the arguments give. -/
theorem weights_eq (a : Fin 32) (l : Fin 8192) : wW (V0 m c) (ix2 a l) = aW (V0 m c) (ix2 a l) := by
  have e : aW (V0 m c) = aW (after Cert.Draws.kernelOps (fun b => m (c, b))) := Cert.Draws.V0_of_ne m c main_arg1 (by decide)
  rw [e, Cert.Draws.V0_eq]
  generalize after Cert.Draws.kernelOps (fun b => m (c, b)) = W
  exact last_v20 W a l

end Cert.KernelIdeal.Gen
end
-- ==== Proof.Stages.lean ====
/- The reference's operations after the draws, in four stages. -/
module

public import proofs.«01_k».proof.Proof.Tail

@[expose] public section

set_option maxRecDepth 16384

noncomputable section

namespace Cert.ReferenceIdeal

open Idealize.ShloMosaic Idealize.ShloMosaic.StableHlo Idealize.SL.Sem
open Facts₀

variable {F : FTy → Type} [FloatOps F]

set_option maxHeartbeats 4000000 in
/-- The old energy, the scaled samples, and the chosen positions. -/
def stageA : List (HloOp τ sig (Elt F)) :=
  [ StableHlo.binary main_arg0 main_arg1 main_v18 ((fun l r => Host.dotGeneral dot_S128x32x8192_S32x8192_S128_12_01_0_n_n_n none l r) : (⟨S128x32x8192, .f32⟩ : BufTy).Contents (Elt F) → (⟨S32x8192, .f32⟩ : BufTy).Contents (Elt F) → (⟨S128, .f32⟩ : BufTy).Contents (Elt F)),
    StableHlo.nullary main_cst_5 (constant S_ .f32 0xC2E60000#32),
    StableHlo.unary main_cst_5 main_v19 (broadcastInDim S128x32x8192 ![] bcast_S_S128x32x8192 : (⟨S_, .f32⟩ : BufTy).Contents (Elt F) → (⟨S128x32x8192, .f32⟩ : BufTy).Contents (Elt F)),
    StableHlo.binary main_arg0 main_v19 main_v20 (mulf : (⟨S128x32x8192, .f32⟩ : BufTy).Contents (Elt F) → (⟨S128x32x8192, .f32⟩ : BufTy).Contents (Elt F) → (⟨S128x32x8192, .f32⟩ : BufTy).Contents (Elt F)),
    StableHlo.TRef.nullary (.of main_call4_v0 : StableHlo.TRef sig ⟨S128x8192, .i32⟩) (iotaInDim S128x8192 32 1),
    StableHlo.TRef.binary (.of main_v14 : StableHlo.TRef sig ⟨S128x8192, .f32⟩) (.of main_call4_v0 : StableHlo.TRef sig ⟨S128x8192, .i32⟩) (.of main_call4_v1_0 : StableHlo.TRef sig ⟨S128x8192, .f32⟩) (fun x y => (Host.sort2 S128x8192 1 comparator_f32_i32_d1 x y).1),
    StableHlo.TRef.binary (.of main_v14 : StableHlo.TRef sig ⟨S128x8192, .f32⟩) (.of main_call4_v0 : StableHlo.TRef sig ⟨S128x8192, .i32⟩) (.of main_v21 : StableHlo.TRef sig ⟨S128x8192, .i32⟩) (fun x y => (Host.sort2 S128x8192 1 comparator_f32_i32_d1 x y).2),
    StableHlo.unary main_v21 main_v22 ((extractStridedSlice S128x1 ![0, 0] · slices_S128x8192_S128x1_0_0) : (⟨S128x8192, .i32⟩ : BufTy).Contents (Elt F) → (⟨S128x1, .i32⟩ : BufTy).Contents (Elt F)),
    StableHlo.nullary main_v23 (iotaInDim S128 32 0),
    StableHlo.unary main_v23 main_v24 (broadcastInDim S128x1 ![0] bcast_S128_S128x1_0 : (⟨S128, .i32⟩ : BufTy).Contents (Elt F) → (⟨S128x1, .i32⟩ : BufTy).Contents (Elt F)),
    StableHlo.nullary main_cst_6 (constant S_ .f32 0x3F800000#32),
    StableHlo.unary main_cst_6 main_v25 (broadcastInDim S128x8192 ![] bcast_S_S128x8192 : (⟨S_, .f32⟩ : BufTy).Contents (Elt F) → (⟨S128x8192, .f32⟩ : BufTy).Contents (Elt F)),
    StableHlo.nullary main_c_7 (constantI S_ 32 0#32),
    StableHlo.unary main_c_7 main_v26 (broadcastInDim S128x1 ![] bcast_S_S128x1 : (⟨S_, .i32⟩ : BufTy).Contents (Elt F) → (⟨S128x1, .i32⟩ : BufTy).Contents (Elt F)),
    StableHlo.binary main_v24 main_v26 main_v27 (cmpi .slt : (⟨S128x1, .i32⟩ : BufTy).Contents (Elt F) → (⟨S128x1, .i32⟩ : BufTy).Contents (Elt F) → (⟨S128x1, .i1⟩ : BufTy).Contents (Elt F)),
    StableHlo.nullary main_c_8 (constantI S_ 32 128#32),
    StableHlo.unary main_c_8 main_v28 (broadcastInDim S128x1 ![] bcast_S_S128x1 : (⟨S_, .i32⟩ : BufTy).Contents (Elt F) → (⟨S128x1, .i32⟩ : BufTy).Contents (Elt F)),
    StableHlo.binary main_v24 main_v28 main_v29 (addi : (⟨S128x1, .i32⟩ : BufTy).Contents (Elt F) → (⟨S128x1, .i32⟩ : BufTy).Contents (Elt F) → (⟨S128x1, .i32⟩ : BufTy).Contents (Elt F)),
    StableHlo.ternary main_v27 main_v29 main_v24 main_v30 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    StableHlo.nullary main_c_9 (constantI S_ 32 0#32),
    StableHlo.unary main_c_9 main_v31 (broadcastInDim S128x1 ![] bcast_S_S128x1 : (⟨S_, .i32⟩ : BufTy).Contents (Elt F) → (⟨S128x1, .i32⟩ : BufTy).Contents (Elt F)),
    StableHlo.binary main_v22 main_v31 main_v32 (cmpi .slt : (⟨S128x1, .i32⟩ : BufTy).Contents (Elt F) → (⟨S128x1, .i32⟩ : BufTy).Contents (Elt F) → (⟨S128x1, .i1⟩ : BufTy).Contents (Elt F)),
    StableHlo.nullary main_c_10 (constantI S_ 32 8192#32),
    StableHlo.unary main_c_10 main_v33 (broadcastInDim S128x1 ![] bcast_S_S128x1 : (⟨S_, .i32⟩ : BufTy).Contents (Elt F) → (⟨S128x1, .i32⟩ : BufTy).Contents (Elt F)),
    StableHlo.binary main_v22 main_v33 main_v34 (addi : (⟨S128x1, .i32⟩ : BufTy).Contents (Elt F) → (⟨S128x1, .i32⟩ : BufTy).Contents (Elt F) → (⟨S128x1, .i32⟩ : BufTy).Contents (Elt F)),
    StableHlo.ternary main_v32 main_v34 main_v22 main_v35 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    StableHlo.unary main_v30 main_v36 (broadcastInDim S128x1x1 ![0, 1] bcast_S128x1_S128x1x1_0_1 : (⟨S128x1, .i32⟩ : BufTy).Contents (Elt F) → (⟨S128x1x1, .i32⟩ : BufTy).Contents (Elt F)),
    StableHlo.unary main_v35 main_v37 (broadcastInDim S128x1x1 ![0, 1] bcast_S128x1_S128x1x1_0_1 : (⟨S128x1, .i32⟩ : BufTy).Contents (Elt F) → (⟨S128x1x1, .i32⟩ : BufTy).Contents (Elt F)) ]

set_option maxHeartbeats 4000000 in
/-- The signs. -/
def stageB : List (HloOp τ sig (Elt F)) :=
  [ StableHlo.binary main_v36 main_v37 main_v38 ((fun a b => concatenate S128x1x2 2 [⟨S128x1x1, a⟩, ⟨S128x1x1, b⟩] concatenates_S128x1x1_S128x1x1_S128x1x2_d2) : (⟨S128x1x1, .i32⟩ : BufTy).Contents (Elt F) → (⟨S128x1x1, .i32⟩ : BufTy).Contents (Elt F) → (⟨S128x1x2, .i32⟩ : BufTy).Contents (Elt F)),
    StableHlo.nullary main_cst_11 (constant S_ .f32 0xBF800000#32),
    StableHlo.unary main_cst_11 main_v39 (broadcastInDim S128x1 ![] bcast_S_S128x1 : (⟨S_, .f32⟩ : BufTy).Contents (Elt F) → (⟨S128x1, .f32⟩ : BufTy).Contents (Elt F)),
    StableHlo.ternary main_v25 main_v38 main_v39 main_v40 ((fun x i u => Host.scatter scatter_S128x8192_S128x1x2_S128x1_n_01_01_2 (fun _ b => b) x i u) : (⟨S128x8192, .f32⟩ : BufTy).Contents (Elt F) → (⟨S128x1x2, .i32⟩ : BufTy).Contents (Elt F) → (⟨S128x1, .f32⟩ : BufTy).Contents (Elt F) → (⟨S128x8192, .f32⟩ : BufTy).Contents (Elt F)) ]

set_option maxHeartbeats 4000000 in
/-- The proposal. -/
def stageC : List (HloOp τ sig (Elt F)) :=
  [ StableHlo.unary main_v40 main_v41 (broadcastInDim S128x1x8192 ![0, 2] bcast_S128x8192_S128x1x8192_0_2 : (⟨S128x8192, .f32⟩ : BufTy).Contents (Elt F) → (⟨S128x1x8192, .f32⟩ : BufTy).Contents (Elt F)),
    StableHlo.unary main_v41 main_v42 (broadcastInDim S128x32x8192 ![0, 1, 2] bcast_S128x1x8192_S128x32x8192_0_1_2 : (⟨S128x1x8192, .f32⟩ : BufTy).Contents (Elt F) → (⟨S128x32x8192, .f32⟩ : BufTy).Contents (Elt F)),
    StableHlo.binary main_v20 main_v42 main_v43 (mulf : (⟨S128x32x8192, .f32⟩ : BufTy).Contents (Elt F) → (⟨S128x32x8192, .f32⟩ : BufTy).Contents (Elt F) → (⟨S128x32x8192, .f32⟩ : BufTy).Contents (Elt F)),
    StableHlo.unary main_v43 main_v44 ((transpose S128x8192x32 [0, 2, 1] · transposes_S128x32x8192_S128x8192x32_0_2_1) : (⟨S128x32x8192, .f32⟩ : BufTy).Contents (Elt F) → (⟨S128x8192x32, .f32⟩ : BufTy).Contents (Elt F)),
    StableHlo.unary main_v44 main_v45 (Host.negf : (⟨S128x8192x32, .f32⟩ : BufTy).Contents (Elt F) → (⟨S128x8192x32, .f32⟩ : BufTy).Contents (Elt F)),
    StableHlo.nullary main_cst_12 (constant S_ .f32 0x3F800000#32),
    StableHlo.unary main_cst_12 main_v46 (broadcastInDim S128x8192x32 ![] bcast_S_S128x8192x32 : (⟨S_, .f32⟩ : BufTy).Contents (Elt F) → (⟨S128x8192x32, .f32⟩ : BufTy).Contents (Elt F)),
    StableHlo.binary main_v45 main_v46 main_v47 (Host.divf : (⟨S128x8192x32, .f32⟩ : BufTy).Contents (Elt F) → (⟨S128x8192x32, .f32⟩ : BufTy).Contents (Elt F) → (⟨S128x8192x32, .f32⟩ : BufTy).Contents (Elt F)),
    StableHlo.binary main_v47 main_v15 main_v48 (addf : (⟨S128x8192x32, .f32⟩ : BufTy).Contents (Elt F) → (⟨S128x8192x32, .f32⟩ : BufTy).Contents (Elt F) → (⟨S128x8192x32, .f32⟩ : BufTy).Contents (Elt F)),
    StableHlo.TRef.nullary (.of main_call5_v0 : StableHlo.TRef sig ⟨S128x8192x32, .i32⟩) (iotaInDim S128x8192x32 32 2),
    StableHlo.TRef.nullary (.of main_call5_cst : StableHlo.TRef sig ⟨S_, .f32⟩) (constant S_ .f32 0xFF800000#32),
    StableHlo.TRef.nullary (.of main_call5_c : StableHlo.TRef sig ⟨S_, .i32⟩) (constantI S_ 32 0#32),
    StableHlo.TRef.quaternary (.of main_v48 : StableHlo.TRef sig ⟨S128x8192x32, .f32⟩) (.of main_call5_v0 : StableHlo.TRef sig ⟨S128x8192x32, .i32⟩) (.of main_call5_cst : StableHlo.TRef sig ⟨S_, .f32⟩) (.of main_call5_c : StableHlo.TRef sig ⟨S_, .i32⟩) (.of main_call5_v1_0 : StableHlo.TRef sig ⟨S128x8192, .f32⟩) (fun x y u v j => (Host.argReduce reducer_argmax_f32_i32 x y u v reducesTo_S128x8192x32_S128x8192_d2 h_S_ j).1),
    StableHlo.TRef.quaternary (.of main_v48 : StableHlo.TRef sig ⟨S128x8192x32, .f32⟩) (.of main_call5_v0 : StableHlo.TRef sig ⟨S128x8192x32, .i32⟩) (.of main_call5_cst : StableHlo.TRef sig ⟨S_, .f32⟩) (.of main_call5_c : StableHlo.TRef sig ⟨S_, .i32⟩) (.of main_v49 : StableHlo.TRef sig ⟨S128x8192, .i32⟩) (fun x y u v j => (Host.argReduce reducer_argmax_f32_i32 x y u v reducesTo_S128x8192x32_S128x8192_d2 h_S_ j).2),
    StableHlo.TRef.unary (.of main_v49 : StableHlo.TRef sig ⟨S128x8192, .i32⟩) (.of main_call6_v0 : StableHlo.TRef sig ⟨S128x8192x1, .i32⟩) (broadcastInDim S128x8192x1 ![0, 1] bcast_S128x8192_S128x8192x1_0_1),
    StableHlo.TRef.nullary (.of main_call6_v1 : StableHlo.TRef sig ⟨S1x1x32, .i32⟩) (iotaInDim S1x1x32 32 2),
    StableHlo.TRef.unary (.of main_call6_v0 : StableHlo.TRef sig ⟨S128x8192x1, .i32⟩) (.of main_call6_v2 : StableHlo.TRef sig ⟨S128x8192x32, .i32⟩) (broadcastInDim S128x8192x32 ![0, 1, 2] bcast_S128x8192x1_S128x8192x32_0_1_2),
    StableHlo.TRef.unary (.of main_call6_v1 : StableHlo.TRef sig ⟨S1x1x32, .i32⟩) (.of main_call6_v3 : StableHlo.TRef sig ⟨S128x8192x32, .i32⟩) (broadcastInDim S128x8192x32 ![0, 1, 2] bcast_S1x1x32_S128x8192x32_0_1_2),
    StableHlo.TRef.binary (.of main_call6_v2 : StableHlo.TRef sig ⟨S128x8192x32, .i32⟩) (.of main_call6_v3 : StableHlo.TRef sig ⟨S128x8192x32, .i32⟩) (.of main_call6_v4 : StableHlo.TRef sig ⟨S128x8192x32, .i1⟩) (cmpi .eq),
    StableHlo.TRef.unary (.of main_call6_v4 : StableHlo.TRef sig ⟨S128x8192x32, .i1⟩) (.of main_v50 : StableHlo.TRef sig ⟨S128x8192x32, .f32⟩) (uitofp .f32),
    StableHlo.unary main_v50 main_v51 ((transpose S128x32x8192 [0, 2, 1] · transposes_S128x8192x32_S128x32x8192_0_2_1) : (⟨S128x8192x32, .f32⟩ : BufTy).Contents (Elt F) → (⟨S128x32x8192, .f32⟩ : BufTy).Contents (Elt F)) ]

set_option maxHeartbeats 4000000 in
/-- The new energy and the choice between the two. -/
def stageD : List (HloOp τ sig (Elt F)) :=
  [ StableHlo.binary main_v51 main_arg1 main_v52 ((fun l r => Host.dotGeneral dot_S128x32x8192_S32x8192_S128_12_01_0_n_n_n none l r) : (⟨S128x32x8192, .f32⟩ : BufTy).Contents (Elt F) → (⟨S32x8192, .f32⟩ : BufTy).Contents (Elt F) → (⟨S128, .f32⟩ : BufTy).Contents (Elt F)),
    StableHlo.binary main_v18 main_v52 main_v53 (subf : (⟨S128, .f32⟩ : BufTy).Contents (Elt F) → (⟨S128, .f32⟩ : BufTy).Contents (Elt F) → (⟨S128, .f32⟩ : BufTy).Contents (Elt F)),
    StableHlo.nullary main_cst_13 (constant S_ .f32 0x3F800000#32),
    StableHlo.unary main_cst_13 main_v54 (broadcastInDim S128 ![] bcast_S_S128 : (⟨S_, .f32⟩ : BufTy).Contents (Elt F) → (⟨S128, .f32⟩ : BufTy).Contents (Elt F)),
    StableHlo.binary main_v53 main_v54 main_v55 (Host.divf : (⟨S128, .f32⟩ : BufTy).Contents (Elt F) → (⟨S128, .f32⟩ : BufTy).Contents (Elt F) → (⟨S128, .f32⟩ : BufTy).Contents (Elt F)),
    StableHlo.binary main_v17 main_v55 main_v56 (cmpf .ole : (⟨S128, .f32⟩ : BufTy).Contents (Elt F) → (⟨S128, .f32⟩ : BufTy).Contents (Elt F) → (⟨S128, .i1⟩ : BufTy).Contents (Elt F)),
    StableHlo.unary main_v56 main_v57 (broadcastInDim S128x1x1 ![0] bcast_S128_S128x1x1_0 : (⟨S128, .i1⟩ : BufTy).Contents (Elt F) → (⟨S128x1x1, .i1⟩ : BufTy).Contents (Elt F)),
    StableHlo.TRef.unary (.of main_v57 : StableHlo.TRef sig ⟨S128x1x1, .i1⟩) (.of main_call7_v0 : StableHlo.TRef sig ⟨S128x32x8192, .i1⟩) (broadcastInDim S128x32x8192 ![0, 1, 2] bcast_S128x1x1_S128x32x8192_0_1_2),
    StableHlo.TRef.ternary (.of main_call7_v0 : StableHlo.TRef sig ⟨S128x32x8192, .i1⟩) (.of main_v51 : StableHlo.TRef sig ⟨S128x32x8192, .f32⟩) (.of main_arg0 : StableHlo.TRef sig ⟨S128x32x8192, .f32⟩) (.of main_v58 : StableHlo.TRef sig ⟨S128x32x8192, .f32⟩) select,
    StableHlo.TRef.ternary (.of main_v56 : StableHlo.TRef sig ⟨S128, .i1⟩) (.of main_v52 : StableHlo.TRef sig ⟨S128, .f32⟩) (.of main_v18 : StableHlo.TRef sig ⟨S128, .f32⟩) (.of main_v59 : StableHlo.TRef sig ⟨S128, .f32⟩) select ]

set_option maxHeartbeats 4000000 in
/-- The operations are the four stages, one after another. -/
theorem tail_eq : tailOps (F := F) = stageA ++ (stageB ++ (stageC ++ stageD)) := rfl

end Cert.ReferenceIdeal

end
-- ==== Proof.RVal.lean ====
/- What the reference makes of the draws, over the extended reals. -/
module

public import proofs.«01_k».proof.Proof.Stages
public import proofs.«01_k».proof.Proof.Arg
public import proofs.«01_k».proof.Proof.KVal
public import Idealize.ShloMosaic.Lib.Pointwise
public import Idealize.ShloMosaic.Lib.StableHlo.ReadAt
public import Idealize.ShloMosaic.Lib.IdealHost
public import Idealize.ShloMosaic.Lib.ScatterToDense.RefScatter
public import Idealize.ShloMosaic.Lib.Routing.OpsPair

@[expose] public section

set_option maxRecDepth 16384

noncomputable section

namespace Cert.ReferenceIdeal

open Idealize.ShloMosaic Idealize.ShloMosaic.StableHlo Idealize.SL.Sem

set_option maxHeartbeats 1000000

/-- This stage leaves a value as it was. -/
theorem a_keep_v15 (V : Valuation τ sig (Elt Ideal)) : after stageA V (Proc.devRef .tc main_v15) = V (Proc.devRef .tc main_v15) := by
  unfold stageA
  after_reads_simp

/-- This stage leaves a value as it was. -/
theorem a_keep_v17 (V : Valuation τ sig (Elt Ideal)) : after stageA V (Proc.devRef .tc main_v17) = V (Proc.devRef .tc main_v17) := by
  unfold stageA
  after_reads_simp

/-- This stage leaves a value as it was. -/
theorem a_keep_arg0 (V : Valuation τ sig (Elt Ideal)) : after stageA V (Proc.devRef .tc main_arg0) = V (Proc.devRef .tc main_arg0) := by
  unfold stageA
  after_reads_simp

/-- This stage leaves a value as it was. -/
theorem a_keep_arg1 (V : Valuation τ sig (Elt Ideal)) : after stageA V (Proc.devRef .tc main_arg1) = V (Proc.devRef .tc main_arg1) := by
  unfold stageA
  after_reads_simp

/-- This stage leaves a value as it was. -/
theorem b_keep_v15 (V : Valuation τ sig (Elt Ideal)) : after stageB V (Proc.devRef .tc main_v15) = V (Proc.devRef .tc main_v15) := by
  unfold stageB
  after_reads_simp

/-- This stage leaves a value as it was. -/
theorem b_keep_v17 (V : Valuation τ sig (Elt Ideal)) : after stageB V (Proc.devRef .tc main_v17) = V (Proc.devRef .tc main_v17) := by
  unfold stageB
  after_reads_simp

/-- This stage leaves a value as it was. -/
theorem b_keep_arg0 (V : Valuation τ sig (Elt Ideal)) : after stageB V (Proc.devRef .tc main_arg0) = V (Proc.devRef .tc main_arg0) := by
  unfold stageB
  after_reads_simp

/-- This stage leaves a value as it was. -/
theorem b_keep_arg1 (V : Valuation τ sig (Elt Ideal)) : after stageB V (Proc.devRef .tc main_arg1) = V (Proc.devRef .tc main_arg1) := by
  unfold stageB
  after_reads_simp

/-- This stage leaves a value as it was. -/
theorem b_keep_v18 (V : Valuation τ sig (Elt Ideal)) : after stageB V (Proc.devRef .tc main_v18) = V (Proc.devRef .tc main_v18) := by
  unfold stageB
  after_reads_simp

/-- This stage leaves a value as it was. -/
theorem b_keep_v20 (V : Valuation τ sig (Elt Ideal)) : after stageB V (Proc.devRef .tc main_v20) = V (Proc.devRef .tc main_v20) := by
  unfold stageB
  after_reads_simp

/-- This stage leaves a value as it was. -/
theorem c_keep_v17 (V : Valuation τ sig (Elt Ideal)) : after stageC V (Proc.devRef .tc main_v17) = V (Proc.devRef .tc main_v17) := by
  unfold stageC
  after_reads_simp

/-- This stage leaves a value as it was. -/
theorem c_keep_arg0 (V : Valuation τ sig (Elt Ideal)) : after stageC V (Proc.devRef .tc main_arg0) = V (Proc.devRef .tc main_arg0) := by
  unfold stageC
  after_reads_simp

/-- This stage leaves a value as it was. -/
theorem c_keep_arg1 (V : Valuation τ sig (Elt Ideal)) : after stageC V (Proc.devRef .tc main_arg1) = V (Proc.devRef .tc main_arg1) := by
  unfold stageC
  after_reads_simp

/-- This stage leaves a value as it was. -/
theorem c_keep_v18 (V : Valuation τ sig (Elt Ideal)) : after stageC V (Proc.devRef .tc main_v18) = V (Proc.devRef .tc main_v18) := by
  unfold stageC
  after_reads_simp

/-- The samples. -/
abbrev xV (V : Valuation τ sig (Elt Ideal)) : Vec Ideal S128x32x8192 .f32 := V (Proc.devRef .tc main_arg0)

/-- The weights. -/
abbrev wV (V : Valuation τ sig (Elt Ideal)) : Vec Ideal S32x8192 .f32 := V (Proc.devRef .tc main_arg1)

/-- The position draws. -/
abbrev dV (V : Valuation τ sig (Elt Ideal)) : Vec Ideal S128x8192 .f32 := V (Proc.devRef .tc main_v14)

/-- The noise. -/
abbrev gV (V : Valuation τ sig (Elt Ideal)) : Vec Ideal S128x8192x32 .f32 := V (Proc.devRef .tc main_v15)

/-- The acceptance draws. -/
abbrev uV (V : Valuation τ sig (Elt Ideal)) : Vec Ideal S128 .f32 := V (Proc.devRef .tc main_v17)

/-- The old energies. -/
abbrev oldV (V : Valuation τ sig (Elt Ideal)) : Vec Ideal S128 .f32 := V (Proc.devRef .tc main_v18)

/-- The scaled samples. -/
abbrev scV (V : Valuation τ sig (Elt Ideal)) : Vec Ideal S128x32x8192 .f32 := V (Proc.devRef .tc main_v20)

/-- The ones. -/
abbrev oneV (V : Valuation τ sig (Elt Ideal)) : Vec Ideal S128x8192 .f32 := V (Proc.devRef .tc main_v25)

/-- The chain numbers. -/
abbrev rowV (V : Valuation τ sig (Elt Ideal)) : Vec Ideal S128x1x1 .i32 := V (Proc.devRef .tc main_v36)

/-- The positions. -/
abbrev posV (V : Valuation τ sig (Elt Ideal)) : Vec Ideal S128x1x1 .i32 := V (Proc.devRef .tc main_v37)

/-- The signs. -/
abbrev sgV (V : Valuation τ sig (Elt Ideal)) : Vec Ideal S128x8192 .f32 := V (Proc.devRef .tc main_v40)

/-- The proposals. -/
abbrev newV (V : Valuation τ sig (Elt Ideal)) : Vec Ideal S128x32x8192 .f32 := V (Proc.devRef .tc main_v51)

/-- The acceptances. -/
abbrev accV (V : Valuation τ sig (Elt Ideal)) : Vec Ideal S128 .i1 := V (Proc.devRef .tc main_v56)

/-- The next samples. -/
abbrev outV (V : Valuation τ sig (Elt Ideal)) : Vec Ideal S128x32x8192 .f32 := V (Proc.devRef .tc main_v58)

/-- The next energies. -/
abbrev enV (V : Valuation τ sig (Elt Ideal)) : Vec Ideal S128 .f32 := V (Proc.devRef .tc main_v59)

theorem a18 (V : Valuation τ sig (Elt Ideal)) (b : Fin 128) :
    oldV (after stageA V) (ix1 b) = ∑ a : Fin 32, ∑ l : Fin 8192, xV V (ix3 b a l) * wV V (ix2 a l) := by
  unfold oldV stageA
  after_reads_at

theorem a20 (V : Valuation τ sig (Elt Ideal)) (b : Fin 128) (a : Fin 32) (l : Fin 8192) :
    scV (after stageA V) (ix3 b a l) = xV V (ix3 b a l) * Ideal.ofBits .f32 0xC2E60000#32 := by
  unfold scV stageA
  after_reads_at

theorem a25 (V : Valuation τ sig (Elt Ideal)) (b : Fin 128) (l : Fin 8192) :
    oneV (after stageA V) (ix2 b l) = (1 : EReal) := by
  unfold oneV stageA
  after_reads_at

theorem a36 (V : Valuation τ sig (Elt Ideal)) (b : Fin 128) :
    rowV (after stageA V) (ix3 b 0 0) = BitVec.ofNat 32 b.val := by
  unfold rowV stageA
  after_reads_at
  refine Routing.wrap_of_lt _ _ ?_
  rw [BitVec.toNat_ofNat]
  omega

theorem a37 (V : Valuation τ sig (Elt Ideal)) (b : Fin 128) (p : Fin 8192)
    (hp : First.IsFirst (α := ERealᵒᵈ) (fun l => dV V (ix2 b l)) p) :
    posV (after stageA V) (ix3 b 0 0) = BitVec.ofNat 32 p.val := by
  obtain ⟨i, hi, hw⟩ := First.sort_first (dV V) b
  obtain rfl := hp.unique hi
  unfold posV stageA
  after_reads_at
  refine (Routing.wrap_of_lt _ _ ?_).trans hw
  refine lt_of_eq_of_lt (congrArg BitVec.toNat hw) ?_
  rw [BitVec.toNat_ofNat]
  omega

theorem d58 (V : Valuation τ sig (Elt Ideal)) (b : Fin 128) (a : Fin 32) (l : Fin 8192) :
    outV (after stageD V) (ix3 b a l)
      = if uV V (ix1 b) ≤ Ideal.div (oldV V (ix1 b) - ∑ a : Fin 32, ∑ l : Fin 8192, newV V (ix3 b a l) * wV V (ix2 a l)) 1
        then newV V (ix3 b a l) else xV V (ix3 b a l) := by
  unfold outV stageD
  after_reads_at

theorem d59 (V : Valuation τ sig (Elt Ideal)) (b : Fin 128) :
    enV (after stageD V) (ix1 b)
      = if uV V (ix1 b) ≤ Ideal.div (oldV V (ix1 b) - ∑ a : Fin 32, ∑ l : Fin 8192, newV V (ix3 b a l) * wV V (ix2 a l)) 1
        then ∑ a : Fin 32, ∑ l : Fin 8192, newV V (ix3 b a l) * wV V (ix2 a l) else oldV V (ix1 b) := by
  unfold enV stageD
  after_reads_at

theorem d56 (V : Valuation τ sig (Elt Ideal)) (b : Fin 128) :
    accV (after stageD V) (ix1 b)
      = BitVec.ofBool (decide (uV V (ix1 b) ≤ Ideal.div (oldV V (ix1 b) - ∑ a : Fin 32, ∑ l : Fin 8192, newV V (ix3 b a l) * wV V (ix2 a l)) 1)) := by
  unfold accV stageD
  after_reads_at

end Cert.ReferenceIdeal
end
-- ==== Proof.RSign.lean ====
/- What the reference makes of the draws, over the extended reals. -/
module

public import proofs.«01_k».proof.Proof.Stages
public import proofs.«01_k».proof.Proof.RVal
public import proofs.«01_k».proof.Proof.KVal
public import Idealize.ShloMosaic.Lib.Pointwise
public import Idealize.ShloMosaic.Lib.StableHlo.ReadAt
public import Idealize.ShloMosaic.Lib.IdealHost
public import Idealize.ShloMosaic.Lib.ScatterToDense.RefScatter
public import Idealize.ShloMosaic.Lib.Routing.OpsPair

@[expose] public section

set_option maxRecDepth 16384

noncomputable section

namespace Cert.ReferenceIdeal

open Idealize.ShloMosaic Idealize.ShloMosaic.StableHlo Idealize.SL.Sem

set_option maxHeartbeats 1000000

/-- The signs: minus one at the chosen position, one elsewhere. -/
theorem b40 (V : Valuation τ sig (Elt Ideal)) (b : Fin 128) (l p : Fin 8192) (h1 : ∀ b l, oneV V (ix2 b l) = (1 : EReal))
    (h36 : ∀ b : Fin 128, rowV V (ix3 b 0 0) = BitVec.ofNat 32 b.val) (h37 : posV V (ix3 b 0 0) = BitVec.ofNat 32 p.val) :
    sgV (after stageB V) (ix2 b l) = if l = p then (-1 : EReal) else 1 := by
  have hs : sgV (after stageB V) = Host.scatter scatter_S128x8192_S128x1x2_S128x1_n_01_01_2 (fun _ b => b) (oneV V)
      (concatenate S128x1x2 2 [⟨S128x1x1, rowV V⟩, ⟨S128x1x1, posV V⟩] Facts₀.concatenates_S128x1x1_S128x1x1_S128x1x2_d2)
      (broadcastInDim S128x1 ![] Facts₀.bcast_S_S128x1 (constant (F := Ideal) S_ .f32 0xBF800000#32)) := by
    unfold sgV stageB
    after_reads_simp
    rfl
  rw [hs, ix2_eq_valueIdx]
  have hk0 : ∀ k : Fin 1, k = 0 := fun k => Subsingleton.elim _ _
  have htok : ∀ (i : Fin 128) (k : Fin 1), (concatenate S128x1x2 2 [⟨S128x1x1, rowV V⟩, ⟨S128x1x1, posV V⟩] Facts₀.concatenates_S128x1x1_S128x1x1_S128x1x2_d2)
      (ValueIdx.ix3 i k (0 : Fin 2)) = BitVec.ofNat 32 i.val := fun i k => by
    rw [hk0 k, ← ix3_eq_valueIdx]
    pointwise
    exact h36 i
  have hword : ∀ (i : Fin 128) (k : Fin 1), (concatenate S128x1x2 2 [⟨S128x1x1, rowV V⟩, ⟨S128x1x1, posV V⟩] Facts₀.concatenates_S128x1x1_S128x1x1_S128x1x2_d2)
      (ValueIdx.ix3 i k (1 : Fin 2)) = posV V (ix3 i 0 0) := fun i k => by
    rw [hk0 k, ← ix3_eq_valueIdx]
    pointwise
  have hval : ∀ (i : Fin 128) (k : Fin 1), (broadcastInDim S128x1 ![] Facts₀.bcast_S_S128x1 (constant (F := Ideal) S_ .f32 0xBF800000#32))
      (ValueIdx.ix2 i k) = (-1 : EReal) := fun i k => by
    rw [← ix2_eq_valueIdx]
    pointwise
    simp [Ideal.ofBits, Ideal.ieee, -EReal.coe_mul]
    try norm_num
  refine (ScatterToDense.scatter_eq_GS (T := 128) (C := 8192) (K := 1) scatter_S128x8192_S128x1x2_S128x1_n_01_01_2 rfl rfl rfl (by omega) (by omega)
    (oneV V) _ _ (fun i _ => posV V (ix3 i 0 0)) (fun _ _ => (-1 : EReal)) htok hword hval b l).trans ?_
  rw [ScatterToDense.GS_succ, ScatterToDense.GS_zero, ← ix2_eq_valueIdx, h1, h37, BitVec.toNat_ofNat, Nat.mod_eq_of_lt (by omega)]
  simp only [Fin.ext_iff]

end Cert.ReferenceIdeal
end
-- ==== Proof.RProp.lean ====
/- What the reference makes of the draws, over the extended reals. -/
module

public import proofs.«01_k».proof.Proof.Stages
public import proofs.«01_k».proof.Proof.RVal
public import proofs.«01_k».proof.Proof.KVal
public import Idealize.ShloMosaic.Lib.Pointwise
public import Idealize.ShloMosaic.Lib.StableHlo.ReadAt
public import Idealize.ShloMosaic.Lib.IdealHost
public import Idealize.ShloMosaic.Lib.ScatterToDense.RefScatter
public import Idealize.ShloMosaic.Lib.Routing.OpsPair

@[expose] public section

set_option maxRecDepth 16384

noncomputable section

namespace Cert.ReferenceIdeal

open Idealize.ShloMosaic Idealize.ShloMosaic.StableHlo Idealize.SL.Sem

set_option maxHeartbeats 1000000

/-- The letter chosen at a place, in words. -/
theorem pick (A : Vec Ideal S128x8192x32 .f32) (b : Fin 128) (l : Fin 8192) (i : Fin 32) (hi : First.IsFirst (α := EReal) (fun a => A (ix3 b l a)) i) :
    (Host.argReduce (reducer_argmax_f32_i32 (F := Ideal)) A (iotaInDim S128x8192x32 32 2) (constant (F := Ideal) S_ .f32 0xFF800000#32) (constantI S_ 32 0#32)
      Facts₀.reducesTo_S128x8192x32_S128x8192_d2 Facts₀.h_S_ (ix2 b l)).2 = BitVec.ofNat 32 i.val := by
  have h0 : (constant (F := Ideal) S_ .f32 0xFF800000#32) (Shape.Idx.first Facts₀.h_S_) = (⊥ : EReal) := by
    unfold constant
    exact First.ofBits_bot
  have h1 : (constantI S_ 32 0#32) (Shape.Idx.first Facts₀.h_S_) = 0#32 := by
    unfold constantI
    rfl
  obtain ⟨j, hj, hw⟩ := First.argmax_first A b l (constant (F := Ideal) S_ .f32 0xFF800000#32) (constantI S_ 32 0#32) Facts₀.reducesTo_S128x8192x32_S128x8192_d2 Facts₀.h_S_ h0 h1
  rw [hw, hi.unique hj]

/-- The scores as the reference makes them. -/
def scores (x : Vec Ideal S128x32x8192 .f32) (sg : Vec Ideal S128x8192 .f32) (g : Vec Ideal S128x8192x32 .f32) : Vec Ideal S128x8192x32 .f32 :=
  addf (F := Ideal) (Host.divf (Host.negf (transpose S128x8192x32 [0, 2, 1] (mulf (F := Ideal) x (broadcastInDim S128x32x8192 ![0, 1, 2] Facts₀.bcast_S128x1x8192_S128x32x8192_0_1_2 (broadcastInDim S128x1x8192 ![0, 2] Facts₀.bcast_S128x8192_S128x1x8192_0_2 sg))) Facts₀.transposes_S128x32x8192_S128x8192x32_0_2_1)) (broadcastInDim S128x8192x32 ![] Facts₀.bcast_S_S128x8192x32 (constant (F := Ideal) S_ .f32 0x3F800000#32))) g

/-- A score at an index. -/
theorem scores_apply (x : Vec Ideal S128x32x8192 .f32) (sg : Vec Ideal S128x8192 .f32) (g : Vec Ideal S128x8192x32 .f32) (b : Fin 128) (a : Fin 32) (l : Fin 8192) :
    scores x sg g (ix3 b l a) = Ideal.div (-(x (ix3 b a l) * sg (ix2 b l))) 1 + g (ix3 b l a) := by
  pointwise [scores]

/-- The proposals: one at the first letter with the greatest score, zero at the others. -/
theorem c51 (V : Valuation τ sig (Elt Ideal)) (b : Fin 128) (a : Fin 32) (l : Fin 8192) (i : Fin 32)
    (hi : First.IsFirst (fun a => Ideal.div (-(scV V (ix3 b a l) * sgV V (ix2 b l))) 1 + gV V (ix3 b l a)) i) :
    newV (after stageC V) (ix3 b a l) = if a = i then (1 : EReal) else 0 := by
  have hw := pick (scores (scV V) (sgV V) (gV V)) b l i (by simpa only [scores_apply] using hi)
  obtain ⟨W, hW⟩ : ∃ W : Vec Ideal S128x8192 .i32, W = fun j => (Host.argReduce (reducer_argmax_f32_i32 (F := Ideal)) (scores (scV V) (sgV V) (gV V)) (iotaInDim S128x8192x32 32 2)
      (constant (F := Ideal) S_ .f32 0xFF800000#32) (constantI S_ 32 0#32) Facts₀.reducesTo_S128x8192x32_S128x8192_d2 Facts₀.h_S_ j).2 := ⟨_, rfl⟩
  have hw' : W (ix2 b l) = BitVec.ofNat 32 i.val := by rw [hW]; exact hw
  clear hw
  unfold scores at hW
  unfold newV stageC
  after_reads_simp
  simp -implicitDefEqProofs only [StableHlo.TRef.toBuf, StableHlo.TRef.ofBuf, cast_cast, cast_eq]
  unfold scV sgV gV at hW
  rw [← hW]
  clear hW hi
  have ht : transpose S128x32x8192 [0, 2, 1] (uitofp (F := Ideal) .f32
        (cmpi .eq (broadcastInDim S128x8192x32 ![0, 1, 2] Facts₀.bcast_S128x8192x1_S128x8192x32_0_1_2 (broadcastInDim S128x8192x1 ![0, 1] Facts₀.bcast_S128x8192_S128x8192x1_0_1 W))
          (broadcastInDim S128x8192x32 ![0, 1, 2] Facts₀.bcast_S1x1x32_S128x8192x32_0_1_2 (iotaInDim S1x1x32 32 2))))
      Facts₀.transposes_S128x8192x32_S128x32x8192_0_2_1 (ix3 b a l)
      = FloatOps.uitofp (F := Ideal) .f32 (IntOp.cmpi .eq (W (ix2 b l)) (BitVec.ofNat 32 a.val)) := by
    generalize hR : FloatOps.uitofp (F := Ideal) .f32 (IntOp.cmpi .eq (W (ix2 b l)) (BitVec.ofNat 32 a.val)) = R
    pointwise
    exact hR
  refine ht.trans ?_
  rw [hw']
  have hd : ∀ x : BitVec 1, FloatOps.uitofp (F := Ideal) .f32 x = (if x = 1#1 then (1 : EReal) else 0) := fun x => by
    show ((x.toNat : ℝ) : EReal) = _
    have hx : x = 0#1 ∨ x = 1#1 := by
      revert x; decide
    rcases hx with rfl | rfl <;> simp
  rw [hd]
  by_cases h : a = i
  · rw [h, if_pos rfl, if_pos (by simp [IntOp.cmpi])]
  · have hne : ¬ BitVec.ofNat 32 i.val = BitVec.ofNat 32 a.val := by
      rw [First.ofNat_inj (by omega) (by omega)]
      exact fun h' => h (Fin.ext h'.symm)
    have hb : (BitVec.ofNat 32 i.val == BitVec.ofNat 32 a.val) = false := by simpa using hne
    rw [if_neg h, if_neg]
    simp only [IntOp.cmpi, hb]
    decide

theorem neg115 : Ideal.ofBits .f32 0xC2E60000#32 = -First.scale := by
  unfold First.scale
  simp [Ideal.ofBits, Ideal.ieee, -EReal.coe_mul]
  try norm_num

theorem div_one (x : EReal) : Ideal.div x 1 = x := by
  unfold Ideal.div
  simp

end Cert.ReferenceIdeal
end
-- ==== Proof.RTail.lean ====
/- What the reference makes of the draws, over the extended reals. -/
module

public import proofs.«01_k».proof.Proof.Stages
public import proofs.«01_k».proof.Proof.RSign
public import proofs.«01_k».proof.Proof.RProp
public import proofs.«01_k».proof.Proof.KVal
public import Idealize.ShloMosaic.Lib.Pointwise
public import Idealize.ShloMosaic.Lib.StableHlo.ReadAt
public import Idealize.ShloMosaic.Lib.IdealHost
public import Idealize.ShloMosaic.Lib.ScatterToDense.RefScatter
public import Idealize.ShloMosaic.Lib.Routing.OpsPair

@[expose] public section

set_option maxRecDepth 16384

noncomputable section

namespace Cert.ReferenceIdeal

open Idealize.ShloMosaic Idealize.ShloMosaic.StableHlo Idealize.SL.Sem

set_option maxHeartbeats 1000000

/-- The values the reference ends with: the next samples, their energies and whether each proposal was accepted. -/
theorem tail_values (V : Valuation τ sig (Elt Ideal)) (b : Fin 128) (p : Fin 8192)
    (hp : First.IsFirst (α := ERealᵒᵈ) (fun l => dV V (ix2 b l)) p) (ch : Fin 8192 → Fin 32)
    (hch : ∀ l, First.IsFirst (fun a => First.score (l = p) (xV V (ix3 b a l)) (gV V (ix3 b l a))) (ch l))
    (eo en : EReal) (heo : eo = ∑ a : Fin 32, ∑ l : Fin 8192, xV V (ix3 b a l) * wV V (ix2 a l))
    (hen : en = ∑ a : Fin 32, ∑ l : Fin 8192, (if a = ch l then (1 : EReal) else 0) * wV V (ix2 a l)) :
    (∀ a l, outV (after tailOps V) (ix3 b a l) = if uV V (ix1 b) ≤ eo - en then (if a = ch l then (1 : EReal) else 0) else xV V (ix3 b a l))
    ∧ enV (after tailOps V) (ix1 b) = (if uV V (ix1 b) ≤ eo - en then en else eo)
    ∧ accV (after tailOps V) (ix1 b) = BitVec.ofBool (decide (uV V (ix1 b) ≤ eo - en)) := by
  rw [tail_eq, after_append, after_append, after_append]
  have x1 : xV (after stageC (after stageB (after stageA V))) = xV V :=
    (c_keep_arg0 _).trans ((b_keep_arg0 _).trans (a_keep_arg0 _))
  have w1 : wV (after stageC (after stageB (after stageA V))) = wV V :=
    (c_keep_arg1 _).trans ((b_keep_arg1 _).trans (a_keep_arg1 _))
  have u1 : uV (after stageC (after stageB (after stageA V))) = uV V :=
    (c_keep_v17 _).trans ((b_keep_v17 _).trans (a_keep_v17 _))
  have o1 : oldV (after stageC (after stageB (after stageA V))) (ix1 b) = eo := by
    rw [heo, ← a18]
    exact congrFun ((c_keep_v18 _).trans (b_keep_v18 _)) _
  have sc : ∀ a l, scV (after stageB (after stageA V)) (ix3 b a l) = xV V (ix3 b a l) * -First.scale := fun a l =>
    (congrFun (b_keep_v20 _) _).trans ((a20 V b a l).trans (by rw [neg115]))
  have sg : ∀ l, sgV (after stageB (after stageA V)) (ix2 b l) = if l = p then (-1 : EReal) else 1 := fun l =>
    b40 _ b l p (a25 V) (a36 V) (a37 V b p hp)
  have g1 : gV (after stageB (after stageA V)) = gV V := (b_keep_v15 _).trans (a_keep_v15 _)
  have n1 : ∀ a l, newV (after stageC (after stageB (after stageA V))) (ix3 b a l) = if a = ch l then (1 : EReal) else 0 := fun a l => by
    refine c51 _ b a l (ch l) ?_
    have he : (fun a => Ideal.div (-(scV (after stageB (after stageA V)) (ix3 b a l) * sgV (after stageB (after stageA V)) (ix2 b l))) 1 + gV (after stageB (after stageA V)) (ix3 b l a))
        = fun a => First.score (l = p) (xV V (ix3 b a l)) (gV V (ix3 b l a)) := funext fun a => by
      rw [sc, sg, g1, div_one]
      unfold First.score
      by_cases h : l = p
      · simp only [if_pos h]
        rw [mul_neg, mul_neg, mul_one, neg_neg]
      · simp only [if_neg h]
        rw [mul_neg, mul_one, neg_neg]
    rw [he]
    exact hch l
  generalize after stageC (after stageB (after stageA V)) = V' at *
  have e1 : (∑ a : Fin 32, ∑ l : Fin 8192, newV V' (ix3 b a l) * wV V' (ix2 a l)) = en := by
    rw [hen]
    simp only [n1, w1]
  refine ⟨fun a l => ?_, ?_, ?_⟩
  · rw [d58, e1, o1, u1, div_one, n1, x1]
  · rw [d59, e1, o1, u1, div_one]
  · rw [d56, e1, o1, u1, div_one]

end Cert.ReferenceIdeal
end
-- ==== Proof.Equal.lean ====
/- The kernel's three results are the reference's, over the extended reals. -/
module

public import proofs.«01_k».proof.Proof.Link
public import proofs.«01_k».proof.Proof.RTail

@[expose] public section

set_option maxRecDepth 16384

noncomputable section

namespace Cert.Equal

open Idealize.ShloMosaic Idealize.ShloMosaic.TcCoe Idealize.ShloMosaic.StableHlo Idealize.SL.Sem
open Cert.KernelIdeal (S128 S1x32x8192 S128x32x8192 S128x8192x32 S32x8192 S128x8192)
open Cert.KernelIdeal.Gen

/-- A choice by a decided condition. -/
theorem select_dec {α : Type} (P : Prop) [Decidable P] (a b : α) : Scalar.select (BitVec.ofBool (decide P)) a b = if P then a else b := by
  by_cases h : P <;> simp [Scalar.select, h]

/-- The score depends on the condition only. -/
theorem score_congr {P Q : Prop} [Decidable P] [Decidable Q] (h : P ↔ Q) (x g : EReal) : First.score P x g = First.score Q x g := by
  unfold First.score
  exact congrArg (· + g) (if_congr h rfl rfl)

/-- What the kernel makes of one chain. -/
theorem chain_values (t g : Vec Ideal S1x32x8192 .f32) (w : Vec Ideal S32x8192 .bf16) (q : Elt Ideal .i32) (u : EReal) (p : Fin 8192)
    (hq : q = BitVec.ofNat 32 p.val) (ch : Fin 8192 → Fin 32)
    (hch : ∀ l, First.IsFirst (fun a => First.score (l = p) (t (ix3 0 a l)) (g (ix3 0 a l))) (ch l))
    (eo en : EReal) (heo : eo = ∑ a : Fin 32, ∑ l : Fin 8192, t (ix3 0 a l) * w (ix2 a l))
    (hen : en = ∑ a : Fin 32, ∑ l : Fin 8192, (if a = ch l then (1 : EReal) else 0) * w (ix2 a l)) :
    (∀ a l, chainOut t g w q u (ix3 0 a l) = if u ≤ eo - en then (if a = ch l then (1 : EReal) else 0) else t (ix3 0 a l))
    ∧ chainEnergy t g w q u = (if u ≤ eo - en then en else eo)
    ∧ IntOp.cmpi .ne (chainAcc t g w q u) 0#32 = BitVec.ofBool (decide (u ≤ eo - en)) := by
  have h6 : ∀ (a : Fin 32) (l : Fin 8192), k0_pay6 t g q (ix2 a l) = if a = ch l then (1 : EReal) else 0 := fun a l => by
    refine pay6_eq t g q a l (ch l) ?_
    have e : (fun a => First.score (BitVec.ofNat 32 l.val = q) (t (ix3 0 a l)) (g (ix3 0 a l)))
        = fun a => First.score (l = p) (t (ix3 0 a l)) (g (ix3 0 a l)) := funext fun a => score_congr (by
      rw [hq, First.ofNat_inj (by have := l.isLt; omega) (by have := p.isLt; omega)]
      exact Fin.ext_iff.symm) _ _
    rw [e]
    exact hch l
  have ho : chainOld t w = eo := (chainOld_eq t w).trans heo.symm
  have hn : chainNew t g w q = en := by
    rw [chainNew_eq, hen]
    exact Finset.sum_congr rfl fun a _ => Finset.sum_congr rfl fun l _ => congrArg (· * w (ix2 a l)) (h6 a l)
  have hf : chainFlag t g w q u = BitVec.ofBool (decide (u ≤ eo - en)) := by
    rw [chainFlag_eq, ho, hn]
  refine ⟨fun a l => ?_, ?_, ?_⟩
  · rw [chainOut_eq, hf, select_dec, h6]
  · unfold chainEnergy
    rw [hf, select_dec, ho, hn]
  · unfold chainAcc
    rw [hf, select_dec]
    by_cases h : u ≤ eo - en <;> simp [h, IntOp.cmpi]

/-- A chain's row, entry by entry. -/
theorem bigRow_at (b : Fin 128) (x : Vec Ideal S128x32x8192 .f32) (a : Fin 32) (l : Fin 8192) : bigRow b x (ix3 0 a l) = x (ix3 b a l) := by
  unfold bigRow
  congr 1
  funext d
  fin_cases d <;> rfl

/-- A chain's number as an index. -/
theorem chain_idx (b : Fin 128) : (fun d => ⟨b.val, by fin_cases d; exact b.isLt⟩ : S128.Idx) = ix1 b := by
  funext d
  fin_cases d
  rfl

abbrev MemK := (ℓ : Loc Cert.KernelIdeal.nD Cert.KernelIdeal.τ Cert.KernelIdeal.sig) → Buf (Elt Ideal) ℓ
abbrev MemR := (ℓ : Loc Cert.ReferenceIdeal.nD Cert.ReferenceIdeal.τ Cert.ReferenceIdeal.sig) → Buf (Elt Ideal) ℓ

open Cert.ReferenceIdeal in
/-- From draws and arguments that agree, the results agree, chain by chain. -/
theorem chain_equal (x : Vec Ideal Cert.KernelIdeal.S128x32x8192 .f32) (gK : Vec Ideal Cert.KernelIdeal.S128x32x8192 .f32)
    (wK : Vec Ideal Cert.KernelIdeal.S32x8192 .bf16) (W : Valuation Cert.ReferenceIdeal.τ Cert.ReferenceIdeal.sig (Elt Ideal)) (b : Fin 128) (q : Elt Ideal .i32) (u : EReal)
    (hx : x = xV W) (hg : ∀ a l, gK (ix3 b a l) = gV W (ix3 b l a)) (hw : ∀ a l, wK (ix2 a l) = wV W (ix2 a l))
    (hq : ∃ p : Fin 8192, First.IsFirst (α := ERealᵒᵈ) (fun l => dV W (ix2 b l)) p ∧ q = BitVec.ofNat 32 p.val) (hu : u = uV W (ix1 b)) :
    (∀ a l, chainOut (bigRow b x) (bigRow b gK) wK q u (ix3 0 a l) = outV (after tailOps W) (ix3 b a l))
    ∧ chainEnergy (bigRow b x) (bigRow b gK) wK q u = enV (after tailOps W) (ix1 b)
    ∧ IntOp.cmpi .ne (chainAcc (bigRow b x) (bigRow b gK) wK q u) 0#32 = accV (after tailOps W) (ix1 b) := by
  obtain ⟨p, hp, hq⟩ := hq
  have hex : ∀ l : Fin 8192, ∃ i : Fin 32, First.IsFirst (fun a => First.score (l = p) (xV W (ix3 b a l)) (gV W (ix3 b l a))) i := fun l => by
    obtain ⟨i, hi, -⟩ := First.fold_first (n := 32) (by omega) (by omega)
      (fun a => First.score (l = p) (xV W (ix3 b a l)) (gV W (ix3 b l a))) (⊥ : EReal) (fun j => bot_le)
    exact ⟨i, hi⟩
  choose ch hch using hex
  have hR := tail_values W b p hp ch hch _ _ rfl rfl
  have hK := chain_values (bigRow b x) (bigRow b gK) wK q u p hq ch (fun l => by
    simp only [bigRow_at, hg, hx]
    exact hch l) (∑ a : Fin 32, ∑ l : Fin 8192, xV W (ix3 b a l) * wV W (ix2 a l))
      (∑ a : Fin 32, ∑ l : Fin 8192, (if a = ch l then (1 : EReal) else 0) * wV W (ix2 a l))
      (by simp only [bigRow_at, hw, hx]) (by simp only [hw])
  obtain ⟨r1, r2, r3⟩ := hR
  obtain ⟨k1, k2, k3⟩ := hK
  subst hu
  refine ⟨fun a l => ?_, k2.trans r2.symm, k3.trans r3.symm⟩
  rw [k1, r1, bigRow_at, hx]

/-- Every index of the samples' array is a triple. -/
theorem idx3 (y : S128x32x8192.Idx) : ∃ (b : Fin 128) (a : Fin 32) (l : Fin 8192), y = ix3 b a l :=
  ⟨y 0, y 1, y 2, by funext d; fin_cases d <;> rfl⟩

/-- Every index of a list of chains is a number. -/
theorem idx1 (y : S128.Idx) : ∃ b : Fin 128, y = ix1 b := ⟨y 0, by funext d; fin_cases d; rfl⟩

/-- The next samples at an index. -/
theorem outG_at (m : MemK) (c : Dev Cert.KernelIdeal.nD) (b : Fin 128) (a : Fin 32) (l : Fin 8192) :
    outG m c (ix3 b a l) = chainOut (bigRow b (thK m c)) (bigRow b (Cert.KernelIdeal.Gen.gK m c)) (wK m c) (posK m c (ix1 b)) (uK m c (ix1 b)) (ix3 0 a l) := by
  unfold outG ofChain
  rw [← chain_idx b]
  refine congrArg (chainOut (bigRow b (thK m c)) (bigRow b (gK m c)) (wK m c) (posK m c _) (uK m c _)) ?_
  funext d
  fin_cases d <;> rfl

/-- What is made of a chain, its number as an index. -/
theorem ofChain_at {β : Type} (m : MemK) (f : Vec Ideal S1x32x8192 .f32 → Vec Ideal S1x32x8192 .f32 → Vec Ideal S32x8192 .bf16 → Elt Ideal .i32 → Elt Ideal .f32 → β)
    (c : Dev Cert.KernelIdeal.nD) (b : Fin 128) :
    ofChain m f c b = f (bigRow b (thK m c)) (bigRow b (gK m c)) (wK m c) (posK m c (ix1 b)) (uK m c (ix1 b)) := by
  unfold ofChain
  rw [← chain_idx b]

/-- The energies at an index. -/
theorem enG_at (m : MemK) (c : Dev Cert.KernelIdeal.nD) (b : Fin 128) :
    enG m c (ix1 b) = chainEnergy (bigRow b (thK m c)) (bigRow b (gK m c)) (wK m c) (posK m c (ix1 b)) (uK m c (ix1 b)) :=
  ofChain_at m chainEnergy c b

/-- The acceptance words at an index. -/
theorem acG_at (m : MemK) (c : Dev Cert.KernelIdeal.nD) (b : Fin 128) :
    acG m c (ix1 b) = chainAcc (bigRow b (thK m c)) (bigRow b (gK m c)) (wK m c) (posK m c (ix1 b)) (uK m c (ix1 b)) :=
  ofChain_at m chainAcc c b

open Cert.ReferenceIdeal in
/-- From draws and arguments that agree, the three results are equal. -/
theorem values_equal (m : MemK) (c : Dev Cert.KernelIdeal.nD) (W : Valuation Cert.ReferenceIdeal.τ Cert.ReferenceIdeal.sig (Elt Ideal))
    (hx : thK m c = xV W) (hn : ∀ b a l, gK m c (ix3 b a l) = gV W (ix3 b l a)) (hwk : ∀ a l, wK m c (ix2 a l) = wV W (ix2 a l))
    (hp : ∀ b : Fin 128, ∃ i : Fin 8192, First.IsFirst (α := ERealᵒᵈ) (fun l => dV W (ix2 b l)) i ∧ posK m c (ix1 b) = BitVec.ofNat 32 i.val)
    (hu : uK m c = uV W) :
    outV (after tailOps W) = outG m c
    ∧ enV (after tailOps W) = enG m c
    ∧ accV (after tailOps W) = (fun y => IntOp.cmpi .ne (acG m c y) 0#32 : Vec Ideal Cert.KernelIdeal.S128 .i1) := by
  have hC := fun b : Fin 128 => chain_equal (thK m c) (gK m c) (wK m c) W b (posK m c (ix1 b)) (uK m c (ix1 b)) hx (hn b) hwk (hp b) (congrFun hu (ix1 b))
  refine ⟨funext fun y => ?_, funext fun y => ?_, funext fun y => ?_⟩
  · obtain ⟨b, a, l, rfl⟩ := idx3 y
    exact ((outG_at m c b a l).trans ((hC b).1 a l)).symm
  · obtain ⟨b, rfl⟩ := idx1 y
    exact ((enG_at m c b).trans (hC b).2.1).symm
  · obtain ⟨b, rfl⟩ := idx1 y
    refine Eq.trans (hC b).2.2.symm ?_
    exact (congrArg (fun z => IntOp.cmpi .ne z 0#32) (acG_at m c b)).symm

set_option maxHeartbeats 4000000 in
open Cert.ReferenceIdeal in
/-- The samples the two find are the same. -/
theorem same_x (m : MemK) (c : Dev Cert.KernelIdeal.nD) (V' : Valuation Cert.ReferenceIdeal.τ Cert.ReferenceIdeal.sig (Elt Ideal))
    (h0 : m ((c.tc : Thread Cert.KernelIdeal.nD Cert.KernelIdeal.τ).loc Cert.KernelIdeal.main_arg0) = V' (Proc.devRef .tc Cert.ReferenceIdeal.main_arg0))
    (h1 : m ((c.tc : Thread Cert.KernelIdeal.nD Cert.KernelIdeal.τ).loc Cert.KernelIdeal.main_arg1) = V' (Proc.devRef .tc Cert.ReferenceIdeal.main_arg1)) :
    thK m c = xV (after (Cert.Draws.headOps c) V') :=
  (Cert.KernelIdeal.Gen.V_main_arg0 m c).trans (h0.trans (Cert.Draws.head_arg0 m c V' h0 h1).symm)

set_option maxHeartbeats 4000000 in
open Cert.ReferenceIdeal in
/-- The weights the two find are the same. -/
theorem same_w (m : MemK) (c : Dev Cert.KernelIdeal.nD) (V' : Valuation Cert.ReferenceIdeal.τ Cert.ReferenceIdeal.sig (Elt Ideal))
    (h0 : m ((c.tc : Thread Cert.KernelIdeal.nD Cert.KernelIdeal.τ).loc Cert.KernelIdeal.main_arg0) = V' (Proc.devRef .tc Cert.ReferenceIdeal.main_arg0))
    (h1 : m ((c.tc : Thread Cert.KernelIdeal.nD Cert.KernelIdeal.τ).loc Cert.KernelIdeal.main_arg1) = V' (Proc.devRef .tc Cert.ReferenceIdeal.main_arg1)) :
    aW (V0 m c) = wV (after (Cert.Draws.headOps c) V') :=
  (Cert.KernelIdeal.Gen.V_main_arg1 m c).trans (h1.trans (Cert.Draws.head_arg1 m c V' h0 h1).symm)

set_option maxHeartbeats 4000000 in
open Cert.ReferenceIdeal in
/-- The positions' noise is the same. -/
theorem same_d (m : MemK) (c : Dev Cert.KernelIdeal.nD) (V' : Valuation Cert.ReferenceIdeal.τ Cert.ReferenceIdeal.sig (Elt Ideal))
    (h0 : m ((c.tc : Thread Cert.KernelIdeal.nD Cert.KernelIdeal.τ).loc Cert.KernelIdeal.main_arg0) = V' (Proc.devRef .tc Cert.ReferenceIdeal.main_arg0))
    (h1 : m ((c.tc : Thread Cert.KernelIdeal.nD Cert.KernelIdeal.τ).loc Cert.KernelIdeal.main_arg1) = V' (Proc.devRef .tc Cert.ReferenceIdeal.main_arg1)) :
    dW (V0 m c) = dV (after (Cert.Draws.headOps c) V') := by
  have hA := Cert.Draws.agree_read (Cert.Draws.draws_agree m c V' h0 h1) Cert.KernelIdeal.main_v14 Cert.ReferenceIdeal.main_v14 rfl rfl rfl
  rw [← Cert.Draws.V0_of_ne m c Cert.KernelIdeal.main_v14 (by decide)] at hA
  exact eq_of_heq hA

set_option maxHeartbeats 4000000 in
open Cert.ReferenceIdeal in
/-- The categorical noise is the same. -/
theorem same_g (m : MemK) (c : Dev Cert.KernelIdeal.nD) (V' : Valuation Cert.ReferenceIdeal.τ Cert.ReferenceIdeal.sig (Elt Ideal))
    (h0 : m ((c.tc : Thread Cert.KernelIdeal.nD Cert.KernelIdeal.τ).loc Cert.KernelIdeal.main_arg0) = V' (Proc.devRef .tc Cert.ReferenceIdeal.main_arg0))
    (h1 : m ((c.tc : Thread Cert.KernelIdeal.nD Cert.KernelIdeal.τ).loc Cert.KernelIdeal.main_arg1) = V' (Proc.devRef .tc Cert.ReferenceIdeal.main_arg1)) :
    nW (V0 m c) = gV (after (Cert.Draws.headOps c) V') := by
  have hA := Cert.Draws.agree_read (Cert.Draws.draws_agree m c V' h0 h1) Cert.KernelIdeal.main_v16 Cert.ReferenceIdeal.main_v15 rfl rfl rfl
  rw [← Cert.Draws.V0_of_ne m c Cert.KernelIdeal.main_v16 (by decide)] at hA
  exact eq_of_heq hA

set_option maxHeartbeats 4000000 in
open Cert.ReferenceIdeal in
/-- The acceptance numbers are the same. -/
theorem same_u (m : MemK) (c : Dev Cert.KernelIdeal.nD) (V' : Valuation Cert.ReferenceIdeal.τ Cert.ReferenceIdeal.sig (Elt Ideal))
    (h0 : m ((c.tc : Thread Cert.KernelIdeal.nD Cert.KernelIdeal.τ).loc Cert.KernelIdeal.main_arg0) = V' (Proc.devRef .tc Cert.ReferenceIdeal.main_arg0))
    (h1 : m ((c.tc : Thread Cert.KernelIdeal.nD Cert.KernelIdeal.τ).loc Cert.KernelIdeal.main_arg1) = V' (Proc.devRef .tc Cert.ReferenceIdeal.main_arg1)) :
    uK m c = uV (after (Cert.Draws.headOps c) V') := by
  have hA := Cert.Draws.agree_read (Cert.Draws.draws_agree m c V' h0 h1) Cert.KernelIdeal.main_v19 Cert.ReferenceIdeal.main_v17 rfl rfl rfl
  rw [← Cert.Draws.V0_of_ne m c Cert.KernelIdeal.main_v19 (by decide)] at hA
  exact eq_of_heq hA

set_option maxHeartbeats 4000000 in
open Cert.ReferenceIdeal in
/-- On one device, from equal arguments, the three results are equal. -/
theorem device_equal (m : MemK) (c : Dev Cert.KernelIdeal.nD) (V' : Valuation Cert.ReferenceIdeal.τ Cert.ReferenceIdeal.sig (Elt Ideal))
    (h0 : m ((c.tc : Thread Cert.KernelIdeal.nD Cert.KernelIdeal.τ).loc Cert.KernelIdeal.main_arg0) = V' (Proc.devRef .tc Cert.ReferenceIdeal.main_arg0))
    (h1 : m ((c.tc : Thread Cert.KernelIdeal.nD Cert.KernelIdeal.τ).loc Cert.KernelIdeal.main_arg1) = V' (Proc.devRef .tc Cert.ReferenceIdeal.main_arg1)) :
    outV (after tailOps (after (Cert.Draws.headOps c) V')) = outG m c
    ∧ enV (after tailOps (after (Cert.Draws.headOps c) V')) = enG m c
    ∧ accV (after tailOps (after (Cert.Draws.headOps c) V')) = (fun y => IntOp.cmpi .ne (acG m c y) 0#32 : Vec Ideal Cert.KernelIdeal.S128 .i1) := by
  refine values_equal m c _ (same_x m c V' h0 h1) (fun b a l => ?_) (fun a l => ?_) (fun b => ?_) (same_u m c V' h0 h1)
  · exact (noise_eq m c b a l).trans (congrFun (same_g m c V' h0 h1) (ix3 b l a))
  · exact (weights_eq m c a l).trans (congrFun (same_w m c V' h0 h1) (ix2 a l))
  · rw [← same_d m c V' h0 h1]
    exact pos_first m c b

/-- The kernel and the reference, over the extended reals, from equal arguments, end with equal results. -/
theorem equal (m : MemK) (g : Dev Cert.KernelIdeal.nD → PrngReg) (m' : MemR) (g' : Dev Cert.ReferenceIdeal.nD → PrngReg)
    (h : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  refine ⟨fun c => outG m c, fun c => enG m c, fun c => (fun y => IntOp.cmpi .ne (acG m c y) 0#32 : Vec Ideal Cert.KernelIdeal.S128 .i1), ?_, ?_⟩
  · exact (θ_run _ _ _).mono (fun r hr c => ⟨(hr.1 c).1, (hr.1 c).2.1, (hr.1 c).2.2, (hr.2 c).1, (hr.2 c).2⟩)
      (θ_run_and (results m g) (kept_ideal m g))
  · refine (θ_run _ _ _).mono (fun r hr c => ?_) (Cert.Draws.run_ref m' g')
    have a0 := (h c).1.symm
    have a1 := (h c).2.symm
    have e := device_equal m c (launchContents m' c) a0 a1
    exact ⟨(hr c _).trans e.1, (hr c _).trans e.2.1, (hr c _).trans e.2.2,
      (hr c _).trans ((Cert.Draws.tail_arg0 _).trans (Cert.Draws.head_arg0 m c _ a0 a1)),
      (hr c _).trans ((Cert.Draws.tail_arg1 _).trans (Cert.Draws.head_arg1 m c _ a0 a1))⟩

end Cert.Equal
end
-- ==== Proof.lean ====
/- The claims: the frames of the kernel, of its reading over the reals and of the reference, that reading itself, and the equality of
the kernel's results with the reference's over the reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelFrame
public import proofs.«01_k».proof.Proof.Launch
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The claims, one after the other. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame_ideal m ρ, fun m ρ _ => Cert.Draws.frame_ref m ρ, trivial,
  fun m g m' g' _ h => Cert.Equal.equal m g m' g' h⟩

end Cert.Proof

end
